-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gate_finite [hPre_gate_finite : Cert.Pre_gate_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gate_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gate_finite [hPre_gate_finite : Cert.Pre_gate_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gate_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryRefIdeal (m : (ℓ : Loc Cert.QueryRefIdeal.nD Cert.QueryRefIdeal.τ Cert.QueryRefIdeal.sig) → Buf (Elt Ideal) ℓ) : Prop :=
  True

def Pre_Experts (m : (ℓ : Loc Cert.Experts.nD Cert.Experts.τ Cert.Experts.sig) → Buf (Elt Bits) ℓ) : Prop :=
  True

def Pre_ExpertsIdeal (m : (ℓ : Loc Cert.ExpertsIdeal.nD Cert.ExpertsIdeal.τ Cert.ExpertsIdeal.sig) → Buf (Elt Ideal) ℓ) : Prop :=
  True

def Pre_ExpertsRefIdeal (m : (ℓ : Loc Cert.ExpertsRefIdeal.nD Cert.ExpertsRefIdeal.τ Cert.ExpertsRefIdeal.sig) → Buf (Elt Ideal) ℓ) : Prop :=
  True

def Pre_Route (m : (ℓ : Loc Cert.Route.nD Cert.Route.τ Cert.Route.sig) → Buf (Elt Bits) ℓ) : Prop :=
  True

def Pre_RouteIdeal (m : (ℓ : Loc Cert.RouteIdeal.nD Cert.RouteIdeal.τ Cert.RouteIdeal.sig) → Buf (Elt Ideal) ℓ) : Prop :=
  True

def Pre_RouteIdeal_routing_distinct [hPre_routing_distinct : Cert.Pre_routing_distinct.Facts] (m : (ℓ : Loc Cert.RouteIdeal.nD Cert.RouteIdeal.τ Cert.RouteIdeal.sig) → Buf (Elt Ideal) ℓ) : Prop :=
  ∀ c : Dev Cert.RouteIdeal.nD,
    (Cert.Pre_routing_distinct.fn (F := Ideal) (m ((c.tc : Thread Cert.RouteIdeal.nD Cert.RouteIdeal.τ).loc Cert.RouteIdeal.main_arg0)) (m ((c.tc : Thread Cert.RouteIdeal.nD Cert.RouteIdeal.τ).loc Cert.RouteIdeal.main_arg1))) = (fun _ => 1#1)

def Pre_RouteRefIdeal (m : (ℓ : Loc Cert.RouteRefIdeal.nD Cert.RouteRefIdeal.τ Cert.RouteRefIdeal.sig) → Buf (Elt Ideal) ℓ) : Prop :=
  True

def Pre_RouteRefIdeal_routing_distinct [hPre_routing_distinct : Cert.Pre_routing_distinct.Facts] (m : (ℓ : Loc Cert.RouteRefIdeal.nD Cert.RouteRefIdeal.τ Cert.RouteRefIdeal.sig) → Buf (Elt Ideal) ℓ) : Prop :=
  ∀ c : Dev Cert.RouteRefIdeal.nD,
    (Cert.Pre_routing_distinct.fn (F := Ideal) (m ((c.tc : Thread Cert.RouteRefIdeal.nD Cert.RouteRefIdeal.τ).loc Cert.RouteRefIdeal.main_arg0)) (m ((c.tc : Thread Cert.RouteRefIdeal.nD Cert.RouteRefIdeal.τ).loc Cert.RouteRefIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_gate_finite [hKernelIdeal : Cert.KernelIdeal.Facts] [hPre_gate_finite : Cert.Pre_gate_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gate_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_gate_finite [hReferenceIdeal : Cert.ReferenceIdeal.Facts] [hPre_gate_finite : Cert.Pre_gate_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gate_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1)
      ∧ r.2.mem ((c.tc : Thread Cert.Query.nD Cert.Query.τ).loc Cert.Query.main_arg2) = m ((c.tc : Thread Cert.Query.nD Cert.Query.τ).loc Cert.Query.main_arg2)
      ∧ r.2.mem ((c.tc : Thread Cert.Query.nD Cert.Query.τ).loc Cert.Query.main_arg3) = m ((c.tc : Thread Cert.Query.nD Cert.Query.τ).loc Cert.Query.main_arg3)
      ∧ r.2.mem ((c.tc : Thread Cert.Query.nD Cert.Query.τ).loc Cert.Query.main_arg4) = m ((c.tc : Thread Cert.Query.nD Cert.Query.τ).loc Cert.Query.main_arg4)
      ∧ r.2.mem ((c.tc : Thread Cert.Query.nD Cert.Query.τ).loc Cert.Query.main_arg5) = m ((c.tc : Thread Cert.Query.nD Cert.Query.τ).loc Cert.Query.main_arg5)
      ∧ r.2.mem ((c.tc : Thread Cert.Query.nD Cert.Query.τ).loc Cert.Query.main_arg6) = m ((c.tc : Thread Cert.Query.nD Cert.Query.τ).loc Cert.Query.main_arg6))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
      ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2)
      ∧ r.2.mem ((c.tc : Thread Cert.QueryIdeal.nD Cert.QueryIdeal.τ).loc Cert.QueryIdeal.main_arg3) = m ((c.tc : Thread Cert.QueryIdeal.nD Cert.QueryIdeal.τ).loc Cert.QueryIdeal.main_arg3)
      ∧ r.2.mem ((c.tc : Thread Cert.QueryIdeal.nD Cert.QueryIdeal.τ).loc Cert.QueryIdeal.main_arg4) = m ((c.tc : Thread Cert.QueryIdeal.nD Cert.QueryIdeal.τ).loc Cert.QueryIdeal.main_arg4)
      ∧ r.2.mem ((c.tc : Thread Cert.QueryIdeal.nD Cert.QueryIdeal.τ).loc Cert.QueryIdeal.main_arg5) = m ((c.tc : Thread Cert.QueryIdeal.nD Cert.QueryIdeal.τ).loc Cert.QueryIdeal.main_arg5)
      ∧ r.2.mem ((c.tc : Thread Cert.QueryIdeal.nD Cert.QueryIdeal.τ).loc Cert.QueryIdeal.main_arg6) = m ((c.tc : Thread Cert.QueryIdeal.nD Cert.QueryIdeal.τ).loc Cert.QueryIdeal.main_arg6))
      ∧ r.2.sem = fun _ => 0)

def quiescent_QueryRefIdeal [hQueryRefIdeal : Cert.QueryRefIdeal.Facts] : Prop :=
  ∀ (m : (ℓ : Loc Cert.QueryRefIdeal.nD Cert.QueryRefIdeal.τ Cert.QueryRefIdeal.sig) → Buf (Elt Ideal) ℓ) (g : Dev Cert.QueryRefIdeal.nD → PrngReg), Pre_QueryRefIdeal m →
    θ_run (Cert.QueryRefIdeal.defs (F := Ideal)) (onTc (τ := Cert.QueryRefIdeal.τ) (Cert.QueryRefIdeal.main (F := Ideal))) ⟨m, fun _ => 0, g⟩ (fun r => (∀ c : Dev Cert.QueryRefIdeal.nD,
      r.2.mem ((c.tc : Thread Cert.QueryRefIdeal.nD Cert.QueryRefIdeal.τ).loc Cert.QueryRefIdeal.main_arg0) = m ((c.tc : Thread Cert.QueryRefIdeal.nD Cert.QueryRefIdeal.τ).loc Cert.QueryRefIdeal.main_arg0)
      ∧ r.2.mem ((c.tc : Thread Cert.QueryRefIdeal.nD Cert.QueryRefIdeal.τ).loc Cert.QueryRefIdeal.main_arg1) = m ((c.tc : Thread Cert.QueryRefIdeal.nD Cert.QueryRefIdeal.τ).loc Cert.QueryRefIdeal.main_arg1)
      ∧ r.2.mem ((c.tc : Thread Cert.QueryRefIdeal.nD Cert.QueryRefIdeal.τ).loc Cert.QueryRefIdeal.main_arg2) = m ((c.tc : Thread Cert.QueryRefIdeal.nD Cert.QueryRefIdeal.τ).loc Cert.QueryRefIdeal.main_arg2)
      ∧ r.2.mem ((c.tc : Thread Cert.QueryRefIdeal.nD Cert.QueryRefIdeal.τ).loc Cert.QueryRefIdeal.main_arg3) = m ((c.tc : Thread Cert.QueryRefIdeal.nD Cert.QueryRefIdeal.τ).loc Cert.QueryRefIdeal.main_arg3)
      ∧ r.2.mem ((c.tc : Thread Cert.QueryRefIdeal.nD Cert.QueryRefIdeal.τ).loc Cert.QueryRefIdeal.main_arg4) = m ((c.tc : Thread Cert.QueryRefIdeal.nD Cert.QueryRefIdeal.τ).loc Cert.QueryRefIdeal.main_arg4)
      ∧ r.2.mem ((c.tc : Thread Cert.QueryRefIdeal.nD Cert.QueryRefIdeal.τ).loc Cert.QueryRefIdeal.main_arg5) = m ((c.tc : Thread Cert.QueryRefIdeal.nD Cert.QueryRefIdeal.τ).loc Cert.QueryRefIdeal.main_arg5)
      ∧ r.2.mem ((c.tc : Thread Cert.QueryRefIdeal.nD Cert.QueryRefIdeal.τ).loc Cert.QueryRefIdeal.main_arg6) = m ((c.tc : Thread Cert.QueryRefIdeal.nD Cert.QueryRefIdeal.τ).loc Cert.QueryRefIdeal.main_arg6))
      ∧ r.2.sem = fun _ => 0)

def quiescent_Experts [hExperts : Cert.Experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6)
      ∧ r.2.mem ((c.tc : Thread Cert.Experts.nD Cert.Experts.τ).loc Cert.Experts.main_arg7) = m ((c.tc : Thread Cert.Experts.nD Cert.Experts.τ).loc Cert.Experts.main_arg7)
      ∧ r.2.mem ((c.tc : Thread Cert.Experts.nD Cert.Experts.τ).loc Cert.Experts.main_arg8) = m ((c.tc : Thread Cert.Experts.nD Cert.Experts.τ).loc Cert.Experts.main_arg8)
      ∧ r.2.mem ((c.tc : Thread Cert.Experts.nD Cert.Experts.τ).loc Cert.Experts.main_arg9) = m ((c.tc : Thread Cert.Experts.nD Cert.Experts.τ).loc Cert.Experts.main_arg9))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
      ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8)
      ∧ r.2.mem ((c.tc : Thread Cert.ExpertsIdeal.nD Cert.ExpertsIdeal.τ).loc Cert.ExpertsIdeal.main_arg9) = m ((c.tc : Thread Cert.ExpertsIdeal.nD Cert.ExpertsIdeal.τ).loc Cert.ExpertsIdeal.main_arg9))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6)
      ∧ r.2.mem ((c.tc : Thread Cert.ExpertsRefIdeal.nD Cert.ExpertsRefIdeal.τ).loc Cert.ExpertsRefIdeal.main_arg7) = m ((c.tc : Thread Cert.ExpertsRefIdeal.nD Cert.ExpertsRefIdeal.τ).loc Cert.ExpertsRefIdeal.main_arg7)
      ∧ r.2.mem ((c.tc : Thread Cert.ExpertsRefIdeal.nD Cert.ExpertsRefIdeal.τ).loc Cert.ExpertsRefIdeal.main_arg8) = m ((c.tc : Thread Cert.ExpertsRefIdeal.nD Cert.ExpertsRefIdeal.τ).loc Cert.ExpertsRefIdeal.main_arg8)
      ∧ r.2.mem ((c.tc : Thread Cert.ExpertsRefIdeal.nD Cert.ExpertsRefIdeal.τ).loc Cert.ExpertsRefIdeal.main_arg9) = m ((c.tc : Thread Cert.ExpertsRefIdeal.nD Cert.ExpertsRefIdeal.τ).loc Cert.ExpertsRefIdeal.main_arg9))
      ∧ r.2.sem = fun _ => 0)

def quiescent_Route [hRoute : Cert.Route.Facts] : Prop :=
  ∀ (m : (ℓ : Loc Cert.Route.nD Cert.Route.τ Cert.Route.sig) → Buf (Elt Bits) ℓ) (g : Dev Cert.Route.nD → PrngReg), Pre_Route m →
    θ_run (Cert.Route.defs (F := Bits)) (onTc (τ := Cert.Route.τ) (Cert.Route.main (F := Bits))) ⟨m, fun _ => 0, g⟩ (fun r => (∀ c : Dev Cert.Route.nD,
      r.2.mem ((c.tc : Thread Cert.Route.nD Cert.Route.τ).loc Cert.Route.main_arg0) = m ((c.tc : Thread Cert.Route.nD Cert.Route.τ).loc Cert.Route.main_arg0)
      ∧ r.2.mem ((c.tc : Thread Cert.Route.nD Cert.Route.τ).loc Cert.Route.main_arg1) = m ((c.tc : Thread Cert.Route.nD Cert.Route.τ).loc Cert.Route.main_arg1))
      ∧ r.2.sem = fun _ => 0)

def quiescent_RouteIdeal [hRouteIdeal : Cert.RouteIdeal.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1))
      ∧ r.2.sem = fun _ => 0)

def quiescent_RouteIdeal_pre_routing_distinct [hRouteIdeal : Cert.RouteIdeal.Facts] [hPre_routing_distinct : Cert.Pre_routing_distinct.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal_routing_distinct m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1))
      ∧ r.2.sem = fun _ => 0)

def quiescent_RouteRefIdeal [hRouteRefIdeal : Cert.RouteRefIdeal.Facts] : Prop :=
  ∀ (m : (ℓ : Loc Cert.RouteRefIdeal.nD Cert.RouteRefIdeal.τ Cert.RouteRefIdeal.sig) → Buf (Elt Ideal) ℓ) (g : Dev Cert.RouteRefIdeal.nD → PrngReg), Pre_RouteRefIdeal m →
    θ_run (Cert.RouteRefIdeal.defs (F := Ideal)) (onTc (τ := Cert.RouteRefIdeal.τ) (Cert.RouteRefIdeal.main (F := Ideal))) ⟨m, fun _ => 0, g⟩ (fun r => (∀ c : Dev Cert.RouteRefIdeal.nD,
      r.2.mem ((c.tc : Thread Cert.RouteRefIdeal.nD Cert.RouteRefIdeal.τ).loc Cert.RouteRefIdeal.main_arg0) = m ((c.tc : Thread Cert.RouteRefIdeal.nD Cert.RouteRefIdeal.τ).loc Cert.RouteRefIdeal.main_arg0)
      ∧ r.2.mem ((c.tc : Thread Cert.RouteRefIdeal.nD Cert.RouteRefIdeal.τ).loc Cert.RouteRefIdeal.main_arg1) = m ((c.tc : Thread Cert.RouteRefIdeal.nD Cert.RouteRefIdeal.τ).loc Cert.RouteRefIdeal.main_arg1))
      ∧ r.2.sem = fun _ => 0)

def quiescent_RouteRefIdeal_pre_routing_distinct [hRouteRefIdeal : Cert.RouteRefIdeal.Facts] [hPre_routing_distinct : Cert.Pre_routing_distinct.Facts] : Prop :=
  ∀ (m : (ℓ : Loc Cert.RouteRefIdeal.nD Cert.RouteRefIdeal.τ Cert.RouteRefIdeal.sig) → Buf (Elt Ideal) ℓ) (g : Dev Cert.RouteRefIdeal.nD → PrngReg), Pre_RouteRefIdeal_routing_distinct m →
    θ_run (Cert.RouteRefIdeal.defs (F := Ideal)) (onTc (τ := Cert.RouteRefIdeal.τ) (Cert.RouteRefIdeal.main (F := Ideal))) ⟨m, fun _ => 0, g⟩ (fun r => (∀ c : Dev Cert.RouteRefIdeal.nD,
      r.2.mem ((c.tc : Thread Cert.RouteRefIdeal.nD Cert.RouteRefIdeal.τ).loc Cert.RouteRefIdeal.main_arg0) = m ((c.tc : Thread Cert.RouteRefIdeal.nD Cert.RouteRefIdeal.τ).loc Cert.RouteRefIdeal.main_arg0)
      ∧ r.2.mem ((c.tc : Thread Cert.RouteRefIdeal.nD Cert.RouteRefIdeal.τ).loc Cert.RouteRefIdeal.main_arg1) = m ((c.tc : Thread Cert.RouteRefIdeal.nD Cert.RouteRefIdeal.τ).loc Cert.RouteRefIdeal.main_arg1))
      ∧ r.2.sem = fun _ => 0)

def preserves_Kernel_KernelIdeal : Prop :=
  True

def algebraic_KernelIdeal_ReferenceIdeal_pre_gate_finite [hKernelIdeal : Cert.KernelIdeal.Facts] [hReferenceIdeal : Cert.ReferenceIdeal.Facts] [hPre_gate_finite : Cert.Pre_gate_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gate_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v90_0)) (v1 : (c : Dev Cert.KernelIdeal.nD) → Buf (Elt Ideal) ((c.tc : Thread Cert.KernelIdeal.nD Cert.KernelIdeal.τ).loc Cert.KernelIdeal.main_v90_1)) (v2 : (c : Dev Cert.KernelIdeal.nD) → Buf (Elt Ideal) ((c.tc : Thread Cert.KernelIdeal.nD Cert.KernelIdeal.τ).loc Cert.KernelIdeal.main_v90_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90_0) = v0 c
          ∧ r.2.mem ((c.tc : Thread Cert.KernelIdeal.nD Cert.KernelIdeal.τ).loc Cert.KernelIdeal.main_v90_1) = v1 c
          ∧ r.2.mem ((c.tc : Thread Cert.KernelIdeal.nD Cert.KernelIdeal.τ).loc Cert.KernelIdeal.main_v90_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v256) = v0 c
          ∧ r.2.mem ((c.tc : Thread Cert.ReferenceIdeal.nD Cert.ReferenceIdeal.τ).loc Cert.ReferenceIdeal.main_v149) = v1 c
          ∧ r.2.mem ((c.tc : Thread Cert.ReferenceIdeal.nD Cert.ReferenceIdeal.τ).loc Cert.ReferenceIdeal.main_v234) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v6)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v6) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v17) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Query_QueryIdeal : Prop :=
  True

def algebraic_QueryIdeal_QueryRefIdeal [hQueryIdeal : Cert.QueryIdeal.Facts] [hQueryRefIdeal : Cert.QueryRefIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryRefIdeal.nD Cert.QueryRefIdeal.τ Cert.QueryRefIdeal.sig) → Buf (Elt Ideal) ℓ) (g' : Dev Cert.QueryRefIdeal.nD → PrngReg), Pre_QueryIdeal m →
    (∀ c : Dev Cert.QueryIdeal.nD,
      m' ((c.tc : Thread Cert.QueryRefIdeal.nD Cert.QueryRefIdeal.τ).loc Cert.QueryRefIdeal.main_arg0) = m ((c.tc : Thread Cert.QueryIdeal.nD Cert.QueryIdeal.τ).loc Cert.QueryIdeal.main_arg0)
      ∧ m' ((c.tc : Thread Cert.QueryRefIdeal.nD Cert.QueryRefIdeal.τ).loc Cert.QueryRefIdeal.main_arg1) = m ((c.tc : Thread Cert.QueryIdeal.nD Cert.QueryIdeal.τ).loc Cert.QueryIdeal.main_arg1)
      ∧ m' ((c.tc : Thread Cert.QueryRefIdeal.nD Cert.QueryRefIdeal.τ).loc Cert.QueryRefIdeal.main_arg2) = m ((c.tc : Thread Cert.QueryIdeal.nD Cert.QueryIdeal.τ).loc Cert.QueryIdeal.main_arg2)
      ∧ m' ((c.tc : Thread Cert.QueryRefIdeal.nD Cert.QueryRefIdeal.τ).loc Cert.QueryRefIdeal.main_arg3) = m ((c.tc : Thread Cert.QueryIdeal.nD Cert.QueryIdeal.τ).loc Cert.QueryIdeal.main_arg3)
      ∧ m' ((c.tc : Thread Cert.QueryRefIdeal.nD Cert.QueryRefIdeal.τ).loc Cert.QueryRefIdeal.main_arg4) = m ((c.tc : Thread Cert.QueryIdeal.nD Cert.QueryIdeal.τ).loc Cert.QueryIdeal.main_arg4)
      ∧ m' ((c.tc : Thread Cert.QueryRefIdeal.nD Cert.QueryRefIdeal.τ).loc Cert.QueryRefIdeal.main_arg5) = m ((c.tc : Thread Cert.QueryIdeal.nD Cert.QueryIdeal.τ).loc Cert.QueryIdeal.main_arg5)
      ∧ m' ((c.tc : Thread Cert.QueryRefIdeal.nD Cert.QueryRefIdeal.τ).loc Cert.QueryRefIdeal.main_arg6) = m ((c.tc : Thread Cert.QueryIdeal.nD Cert.QueryIdeal.τ).loc Cert.QueryIdeal.main_arg6)) →
    ∃ (v0 : (c : Dev Cert.QueryIdeal.nD) → Buf (Elt Ideal) ((c.tc : Thread Cert.QueryIdeal.nD Cert.QueryIdeal.τ).loc Cert.QueryIdeal.main_v11_0)) (v1 : (c : Dev Cert.QueryIdeal.nD) → Buf (Elt Ideal) ((c.tc : Thread Cert.QueryIdeal.nD Cert.QueryIdeal.τ).loc Cert.QueryIdeal.main_v11_1)) (v2 : (c : Dev Cert.QueryIdeal.nD) → Buf (Elt Ideal) ((c.tc : Thread Cert.QueryIdeal.nD Cert.QueryIdeal.τ).loc Cert.QueryIdeal.main_v11_2)) (v3 : (c : Dev Cert.QueryIdeal.nD) → Buf (Elt Ideal) ((c.tc : Thread Cert.QueryIdeal.nD Cert.QueryIdeal.τ).loc Cert.QueryIdeal.main_v11_3)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v11_0) = v0 c
          ∧ r.2.mem ((c.tc : Thread Cert.QueryIdeal.nD Cert.QueryIdeal.τ).loc Cert.QueryIdeal.main_v11_1) = v1 c
          ∧ r.2.mem ((c.tc : Thread Cert.QueryIdeal.nD Cert.QueryIdeal.τ).loc Cert.QueryIdeal.main_v11_2) = v2 c
          ∧ r.2.mem ((c.tc : Thread Cert.QueryIdeal.nD Cert.QueryIdeal.τ).loc Cert.QueryIdeal.main_v11_3) = v3 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
          ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2)
          ∧ r.2.mem ((c.tc : Thread Cert.QueryIdeal.nD Cert.QueryIdeal.τ).loc Cert.QueryIdeal.main_arg3) = m ((c.tc : Thread Cert.QueryIdeal.nD Cert.QueryIdeal.τ).loc Cert.QueryIdeal.main_arg3)
          ∧ r.2.mem ((c.tc : Thread Cert.QueryIdeal.nD Cert.QueryIdeal.τ).loc Cert.QueryIdeal.main_arg4) = m ((c.tc : Thread Cert.QueryIdeal.nD Cert.QueryIdeal.τ).loc Cert.QueryIdeal.main_arg4)
          ∧ r.2.mem ((c.tc : Thread Cert.QueryIdeal.nD Cert.QueryIdeal.τ).loc Cert.QueryIdeal.main_arg5) = m ((c.tc : Thread Cert.QueryIdeal.nD Cert.QueryIdeal.τ).loc Cert.QueryIdeal.main_arg5)
          ∧ r.2.mem ((c.tc : Thread Cert.QueryIdeal.nD Cert.QueryIdeal.τ).loc Cert.QueryIdeal.main_arg6) = m ((c.tc : Thread Cert.QueryIdeal.nD Cert.QueryIdeal.τ).loc Cert.QueryIdeal.main_arg6))
      ∧ θ_run (Cert.QueryRefIdeal.defs (F := Ideal)) (onTc (τ := Cert.QueryRefIdeal.τ) (Cert.QueryRefIdeal.main (F := Ideal))) ⟨m', fun _ => 0, g'⟩ (fun r => ∀ c : Dev Cert.QueryRefIdeal.nD,
          r.2.mem ((c.tc : Thread Cert.QueryRefIdeal.nD Cert.QueryRefIdeal.τ).loc Cert.QueryRefIdeal.main_v33) = v0 c
          ∧ r.2.mem ((c.tc : Thread Cert.QueryRefIdeal.nD Cert.QueryRefIdeal.τ).loc Cert.QueryRefIdeal.main_v34) = v1 c
          ∧ r.2.mem ((c.tc : Thread Cert.QueryRefIdeal.nD Cert.QueryRefIdeal.τ).loc Cert.QueryRefIdeal.main_v35) = v2 c
          ∧ r.2.mem ((c.tc : Thread Cert.QueryRefIdeal.nD Cert.QueryRefIdeal.τ).loc Cert.QueryRefIdeal.main_v36) = v3 c
          ∧ r.2.mem ((c.tc : Thread Cert.QueryRefIdeal.nD Cert.QueryRefIdeal.τ).loc Cert.QueryRefIdeal.main_arg0) = m' ((c.tc : Thread Cert.QueryRefIdeal.nD Cert.QueryRefIdeal.τ).loc Cert.QueryRefIdeal.main_arg0)
          ∧ r.2.mem ((c.tc : Thread Cert.QueryRefIdeal.nD Cert.QueryRefIdeal.τ).loc Cert.QueryRefIdeal.main_arg1) = m' ((c.tc : Thread Cert.QueryRefIdeal.nD Cert.QueryRefIdeal.τ).loc Cert.QueryRefIdeal.main_arg1)
          ∧ r.2.mem ((c.tc : Thread Cert.QueryRefIdeal.nD Cert.QueryRefIdeal.τ).loc Cert.QueryRefIdeal.main_arg2) = m' ((c.tc : Thread Cert.QueryRefIdeal.nD Cert.QueryRefIdeal.τ).loc Cert.QueryRefIdeal.main_arg2)
          ∧ r.2.mem ((c.tc : Thread Cert.QueryRefIdeal.nD Cert.QueryRefIdeal.τ).loc Cert.QueryRefIdeal.main_arg3) = m' ((c.tc : Thread Cert.QueryRefIdeal.nD Cert.QueryRefIdeal.τ).loc Cert.QueryRefIdeal.main_arg3)
          ∧ r.2.mem ((c.tc : Thread Cert.QueryRefIdeal.nD Cert.QueryRefIdeal.τ).loc Cert.QueryRefIdeal.main_arg4) = m' ((c.tc : Thread Cert.QueryRefIdeal.nD Cert.QueryRefIdeal.τ).loc Cert.QueryRefIdeal.main_arg4)
          ∧ r.2.mem ((c.tc : Thread Cert.QueryRefIdeal.nD Cert.QueryRefIdeal.τ).loc Cert.QueryRefIdeal.main_arg5) = m' ((c.tc : Thread Cert.QueryRefIdeal.nD Cert.QueryRefIdeal.τ).loc Cert.QueryRefIdeal.main_arg5)
          ∧ r.2.mem ((c.tc : Thread Cert.QueryRefIdeal.nD Cert.QueryRefIdeal.τ).loc Cert.QueryRefIdeal.main_arg6) = m' ((c.tc : Thread Cert.QueryRefIdeal.nD Cert.QueryRefIdeal.τ).loc Cert.QueryRefIdeal.main_arg6))

def preserves_Experts_ExpertsIdeal : Prop :=
  True

def algebraic_ExpertsIdeal_ExpertsRefIdeal [hExpertsIdeal : Cert.ExpertsIdeal.Facts] [hExpertsRefIdeal : Cert.ExpertsRefIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)
      ∧ m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6)
      ∧ m' ((c.tc : Thread Cert.ExpertsRefIdeal.nD Cert.ExpertsRefIdeal.τ).loc Cert.ExpertsRefIdeal.main_arg7) = m ((c.tc : Thread Cert.ExpertsIdeal.nD Cert.ExpertsIdeal.τ).loc Cert.ExpertsIdeal.main_arg7)
      ∧ m' ((c.tc : Thread Cert.ExpertsRefIdeal.nD Cert.ExpertsRefIdeal.τ).loc Cert.ExpertsRefIdeal.main_arg8) = m ((c.tc : Thread Cert.ExpertsIdeal.nD Cert.ExpertsIdeal.τ).loc Cert.ExpertsIdeal.main_arg8)
      ∧ m' ((c.tc : Thread Cert.ExpertsRefIdeal.nD Cert.ExpertsRefIdeal.τ).loc Cert.ExpertsRefIdeal.main_arg9) = m ((c.tc : Thread Cert.ExpertsIdeal.nD Cert.ExpertsIdeal.τ).loc Cert.ExpertsIdeal.main_arg9)) →
    ∃ (v0 : (c : Dev Cert.ExpertsIdeal.nD) → Buf (Elt Ideal) ((c.tc : Thread Cert.ExpertsIdeal.nD Cert.ExpertsIdeal.τ).loc Cert.ExpertsIdeal.main_v6)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v6) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
          ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
          ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8)
          ∧ r.2.mem ((c.tc : Thread Cert.ExpertsIdeal.nD Cert.ExpertsIdeal.τ).loc Cert.ExpertsIdeal.main_arg9) = m ((c.tc : Thread Cert.ExpertsIdeal.nD Cert.ExpertsIdeal.τ).loc Cert.ExpertsIdeal.main_arg9))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v42) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m' ((c.tc : Thread Cert.ExpertsRefIdeal.nD Cert.ExpertsRefIdeal.τ).loc Cert.ExpertsRefIdeal.main_arg6)
          ∧ r.2.mem ((c.tc : Thread Cert.ExpertsRefIdeal.nD Cert.ExpertsRefIdeal.τ).loc Cert.ExpertsRefIdeal.main_arg7) = m' ((c.tc : Thread Cert.ExpertsRefIdeal.nD Cert.ExpertsRefIdeal.τ).loc Cert.ExpertsRefIdeal.main_arg7)
          ∧ r.2.mem ((c.tc : Thread Cert.ExpertsRefIdeal.nD Cert.ExpertsRefIdeal.τ).loc Cert.ExpertsRefIdeal.main_arg8) = m' ((c.tc : Thread Cert.ExpertsRefIdeal.nD Cert.ExpertsRefIdeal.τ).loc Cert.ExpertsRefIdeal.main_arg8)
          ∧ r.2.mem ((c.tc : Thread Cert.ExpertsRefIdeal.nD Cert.ExpertsRefIdeal.τ).loc Cert.ExpertsRefIdeal.main_arg9) = m' ((c.tc : Thread Cert.ExpertsRefIdeal.nD Cert.ExpertsRefIdeal.τ).loc Cert.ExpertsRefIdeal.main_arg9))

def preserves_Route_RouteIdeal : Prop :=
  True

def algebraic_RouteIdeal_RouteRefIdeal_pre_routing_distinct [hRouteIdeal : Cert.RouteIdeal.Facts] [hRouteRefIdeal : Cert.RouteRefIdeal.Facts] [hPre_routing_distinct : Cert.Pre_routing_distinct.Facts] : Prop :=
  ∀ (m : (ℓ : Loc Cert.RouteIdeal.nD Cert.RouteIdeal.τ Cert.RouteIdeal.sig) → Buf (Elt Ideal) ℓ) (g : Dev Cert.RouteIdeal.nD → PrngReg)
    (m' : (ℓ : Loc Cert.RouteRefIdeal.nD Cert.RouteRefIdeal.τ Cert.RouteRefIdeal.sig) → Buf (Elt Ideal) ℓ) (g' : Dev Cert.RouteRefIdeal.nD → PrngReg), Pre_RouteIdeal_routing_distinct m →
    (∀ c : Dev Cert.RouteIdeal.nD,
      m' ((c.tc : Thread Cert.RouteRefIdeal.nD Cert.RouteRefIdeal.τ).loc Cert.RouteRefIdeal.main_arg0) = m ((c.tc : Thread Cert.RouteIdeal.nD Cert.RouteIdeal.τ).loc Cert.RouteIdeal.main_arg0)
      ∧ m' ((c.tc : Thread Cert.RouteRefIdeal.nD Cert.RouteRefIdeal.τ).loc Cert.RouteRefIdeal.main_arg1) = m ((c.tc : Thread Cert.RouteIdeal.nD Cert.RouteIdeal.τ).loc Cert.RouteIdeal.main_arg1)) →
    ∃ (v0 : (c : Dev Cert.RouteIdeal.nD) → Buf (Elt Ideal) ((c.tc : Thread Cert.RouteIdeal.nD Cert.RouteIdeal.τ).loc Cert.RouteIdeal.main_v0_0)) (v1 : (c : Dev Cert.RouteIdeal.nD) → Buf (Elt Ideal) ((c.tc : Thread Cert.RouteIdeal.nD Cert.RouteIdeal.τ).loc Cert.RouteIdeal.main_v0_1)) (v2 : (c : Dev Cert.RouteIdeal.nD) → Buf (Elt Ideal) ((c.tc : Thread Cert.RouteIdeal.nD Cert.RouteIdeal.τ).loc Cert.RouteIdeal.main_v0_2)),
      θ_run (Cert.RouteIdeal.defs (F := Ideal)) (onTc (τ := Cert.RouteIdeal.τ) (Cert.RouteIdeal.main (F := Ideal))) ⟨m, fun _ => 0, g⟩ (fun r => ∀ c : Dev Cert.RouteIdeal.nD,
          r.2.mem ((c.tc : Thread Cert.RouteIdeal.nD Cert.RouteIdeal.τ).loc Cert.RouteIdeal.main_v0_0) = v0 c
          ∧ r.2.mem ((c.tc : Thread Cert.RouteIdeal.nD Cert.RouteIdeal.τ).loc Cert.RouteIdeal.main_v0_1) = v1 c
          ∧ r.2.mem ((c.tc : Thread Cert.RouteIdeal.nD Cert.RouteIdeal.τ).loc Cert.RouteIdeal.main_v0_2) = v2 c
          ∧ r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
          ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1))
      ∧ θ_run (Cert.RouteRefIdeal.defs (F := Ideal)) (onTc (τ := Cert.RouteRefIdeal.τ) (Cert.RouteRefIdeal.main (F := Ideal))) ⟨m', fun _ => 0, g'⟩ (fun r => ∀ c : Dev Cert.RouteRefIdeal.nD,
          r.2.mem ((c.tc : Thread Cert.RouteRefIdeal.nD Cert.RouteRefIdeal.τ).loc Cert.RouteRefIdeal.main_v26) = v0 c
          ∧ r.2.mem ((c.tc : Thread Cert.RouteRefIdeal.nD Cert.RouteRefIdeal.τ).loc Cert.RouteRefIdeal.main_v27) = v1 c
          ∧ r.2.mem ((c.tc : Thread Cert.RouteRefIdeal.nD Cert.RouteRefIdeal.τ).loc Cert.RouteRefIdeal.main_v28) = v2 c
          ∧ r.2.mem ((c.tc : Thread Cert.RouteRefIdeal.nD Cert.RouteRefIdeal.τ).loc Cert.RouteRefIdeal.main_arg0) = m' ((c.tc : Thread Cert.RouteRefIdeal.nD Cert.RouteRefIdeal.τ).loc Cert.RouteRefIdeal.main_arg0)
          ∧ r.2.mem ((c.tc : Thread Cert.RouteRefIdeal.nD Cert.RouteRefIdeal.τ).loc Cert.RouteRefIdeal.main_arg1) = m' ((c.tc : Thread Cert.RouteRefIdeal.nD Cert.RouteRefIdeal.τ).loc Cert.RouteRefIdeal.main_arg1))

def Claim : Prop :=
  ∃ (hKernel : Cert.Kernel.Facts) (hKernelIdeal : Cert.KernelIdeal.Facts) (hReferenceIdeal : Cert.ReferenceIdeal.Facts) (hProj : Cert.Proj.Facts) (hProjIdeal : Cert.ProjIdeal.Facts) (hProjRefIdeal : Cert.ProjRefIdeal.Facts) (hQuery : Cert.Query.Facts) (hQueryIdeal : Cert.QueryIdeal.Facts) (hQueryRefIdeal : Cert.QueryRefIdeal.Facts) (hExperts : Cert.Experts.Facts) (hExpertsIdeal : Cert.ExpertsIdeal.Facts) (hExpertsRefIdeal : Cert.ExpertsRefIdeal.Facts) (hRoute : Cert.Route.Facts) (hRouteIdeal : Cert.RouteIdeal.Facts) (hRouteRefIdeal : Cert.RouteRefIdeal.Facts) (hPre_gate_finite : Cert.Pre_gate_finite.Facts) (hPre_routing_distinct : Cert.Pre_routing_distinct.Facts),
    quiescent_Kernel (hKernel := hKernel)
    ∧ quiescent_KernelIdeal (hKernelIdeal := hKernelIdeal)
    ∧ quiescent_KernelIdeal_pre_gate_finite (hKernelIdeal := hKernelIdeal) (hPre_gate_finite := hPre_gate_finite)
    ∧ quiescent_ReferenceIdeal (hReferenceIdeal := hReferenceIdeal)
    ∧ quiescent_ReferenceIdeal_pre_gate_finite (hReferenceIdeal := hReferenceIdeal) (hPre_gate_finite := hPre_gate_finite)
    ∧ quiescent_Proj (hProj := hProj)
    ∧ quiescent_ProjIdeal (hProjIdeal := hProjIdeal)
    ∧ quiescent_ProjRefIdeal (hProjRefIdeal := hProjRefIdeal)
    ∧ quiescent_Query (hQuery := hQuery)
    ∧ quiescent_QueryIdeal (hQueryIdeal := hQueryIdeal)
    ∧ quiescent_QueryRefIdeal (hQueryRefIdeal := hQueryRefIdeal)
    ∧ quiescent_Experts (hExperts := hExperts)
    ∧ quiescent_ExpertsIdeal (hExpertsIdeal := hExpertsIdeal)
    ∧ quiescent_ExpertsRefIdeal (hExpertsRefIdeal := hExpertsRefIdeal)
    ∧ quiescent_Route (hRoute := hRoute)
    ∧ quiescent_RouteIdeal (hRouteIdeal := hRouteIdeal)
    ∧ quiescent_RouteIdeal_pre_routing_distinct (hRouteIdeal := hRouteIdeal) (hPre_routing_distinct := hPre_routing_distinct)
    ∧ quiescent_RouteRefIdeal (hRouteRefIdeal := hRouteRefIdeal)
    ∧ quiescent_RouteRefIdeal_pre_routing_distinct (hRouteRefIdeal := hRouteRefIdeal) (hPre_routing_distinct := hPre_routing_distinct)
    ∧ preserves_Kernel_KernelIdeal
    ∧ algebraic_KernelIdeal_ReferenceIdeal_pre_gate_finite (hKernelIdeal := hKernelIdeal) (hReferenceIdeal := hReferenceIdeal) (hPre_gate_finite := hPre_gate_finite)
    ∧ preserves_Proj_ProjIdeal
    ∧ algebraic_ProjIdeal_ProjRefIdeal (hProjIdeal := hProjIdeal) (hProjRefIdeal := hProjRefIdeal)
    ∧ preserves_Query_QueryIdeal
    ∧ algebraic_QueryIdeal_QueryRefIdeal (hQueryIdeal := hQueryIdeal) (hQueryRefIdeal := hQueryRefIdeal)
    ∧ preserves_Experts_ExpertsIdeal
    ∧ algebraic_ExpertsIdeal_ExpertsRefIdeal (hExpertsIdeal := hExpertsIdeal) (hExpertsRefIdeal := hExpertsRefIdeal)
    ∧ preserves_Route_RouteIdeal
    ∧ algebraic_RouteIdeal_RouteRefIdeal_pre_routing_distinct (hRouteIdeal := hRouteIdeal) (hRouteRefIdeal := hRouteRefIdeal) (hPre_routing_distinct := hPre_routing_distinct)
-- ==== Pre_gate_finite.lean ====
abbrev S1024x6400 : Shape := ⟨2, ![1024, 6400]⟩
abbrev S1x128x4x128x256 : Shape := ⟨5, ![1, 128, 4, 128, 256]⟩
abbrev S1x16x512 : Shape := ⟨3, ![1, 16, 512]⟩
abbrev S1x512 : Shape := ⟨2, ![1, 512]⟩
abbrev S1x4x256 : Shape := ⟨3, ![1, 4, 256]⟩
abbrev S1024x16 : Shape := ⟨2, ![1024, 16]⟩
abbrev S_ : Shape := ⟨0, ![]⟩

class Facts : Prop where
  slices_S1024x6400_S1024x16_0_6144 : S1024x6400.Slices ![0, 6144] S1024x16
  bcast_S_S1024x16 : S_.BroadcastsInDim S1024x16 (![] : Fin 0 → Fin S1024x16.rank)
  reducesTo_S1024x16_S_d0_1 : S1024x16.ReducesTo [0, 1] S_
  h_S_ : 0 < S_.numel
  bcast_S_S1x16x512 : S_.BroadcastsInDim S1x16x512 (![] : Fin 0 → Fin S1x16x512.rank)
  reducesTo_S1x16x512_S_d0_1_2 : S1x16x512.ReducesTo [0, 1, 2] S_
  bcast_S_S1x512 : S_.BroadcastsInDim S1x512 (![] : Fin 0 → Fin S1x512.rank)
  reducesTo_S1x512_S_d0_1 : S1x512.ReducesTo [0, 1] S_

variable [Facts]

def fn {F : FTy → Type} [FloatOps F] (main_arg0 : FVec F S1024x6400 .f32) (main_arg1 : FVec F S1x128x4x128x256 .f32) (main_arg2 : FVec F S1x128x4x128x256 .f32) (main_arg3 : FVec F S1x16x512 .f32) (main_arg4 : FVec F S1x512 .f32) (main_arg5 : FVec F S1x4x256 .f32) (main_arg6 : FVec F S1x4x256 .f32) (main_arg7 : FVec F S1x4x256 .f32) : IVec S_ 1 :=
  let main_v0 : FVec F S1024x16 .f32 := (extractStridedSlice S1024x16 ![0, 6144] · slices_S1024x6400_S1024x16_0_6144) main_arg0
  let main_v1 : FVec F S1024x16 .f32 := Host.absf main_v0
  let main_cst : FVec F S_ .f32 := constant S_ .f32 0x7F800000#32
  let main_v2 : FVec F S1024x16 .f32 := broadcastInDim S1024x16 ![] bcast_S_S1024x16 main_cst
  let main_v3 : IVec S1024x16 1 := cmpf .olt main_v1 main_v2
  let main_c : IVec S_ 1 := constantI S_ 1 1#1
  let main_v4 : IVec S_ 1 := (fun x v => Host.reduce IntOp.andi x v reducesTo_S1024x16_S_d0_1 h_S_) main_v3 main_c
  let main_v5 : FVec F S1x16x512 .f32 := Host.absf main_arg3
  let main_cst_0 : FVec F S_ .f32 := constant S_ .f32 0x7F800000#32
  let main_v6 : FVec F S1x16x512 .f32 := broadcastInDim S1x16x512 ![] bcast_S_S1x16x512 main_cst_0
  let main_v7 : IVec S1x16x512 1 := cmpf .olt main_v5 main_v6
  let main_c_1 : IVec S_ 1 := constantI S_ 1 1#1
  let main_v8 : IVec S_ 1 := (fun x v => Host.reduce IntOp.andi x v reducesTo_S1x16x512_S_d0_1_2 h_S_) main_v7 main_c_1
  let main_v9 : IVec S_ 1 := andi main_v4 main_v8
  let main_v10 : FVec F S1x512 .f32 := Host.absf main_arg4
  let main_cst_2 : FVec F S_ .f32 := constant S_ .f32 0x7F800000#32
  let main_v11 : FVec F S1x512 .f32 := broadcastInDim S1x512 ![] bcast_S_S1x512 main_cst_2
  let main_v12 : IVec S1x512 1 := cmpf .olt main_v10 main_v11
  let main_c_3 : IVec S_ 1 := constantI S_ 1 1#1
  let main_v13 : IVec S_ 1 := (fun x v => Host.reduce IntOp.andi x v reducesTo_S1x512_S_d0_1 h_S_) main_v12 main_c_3
  let main_v14 : IVec S_ 1 := andi main_v9 main_v13
  main_v14
-- ==== Pre_routing_distinct.lean ====
abbrev S8x128x8192 : Shape := ⟨3, ![8, 128, 8192]⟩
abbrev S8192x8x128 : Shape := ⟨3, ![8192, 8, 128]⟩
abbrev S8192x8x16 : Shape := ⟨3, ![8192, 8, 16]⟩
abbrev S8192x8x16x1 : Shape := ⟨4, ![8192, 8, 16, 1]⟩
abbrev S8192x8x1x16 : Shape := ⟨4, ![8192, 8, 1, 16]⟩
abbrev S8192x8x16x16 : Shape := ⟨4, ![8192, 8, 16, 16]⟩
abbrev S8192x8x256 : Shape := ⟨3, ![8192, 8, 256]⟩
abbrev S8192x8x17 : Shape := ⟨3, ![8192, 8, 17]⟩
abbrev S8192x8x15 : Shape := ⟨3, ![8192, 8, 15]⟩
abbrev S_ : Shape := ⟨0, ![]⟩

class Facts : Prop where
  transposes_S8x128x8192_S8192x8x128_2_0_1 : S8x128x8192.Transposes [2, 0, 1] S8192x8x128
  sliceFits_S8192x8x128_S8192x8x16 : S8192x8x128.Slices (fun _ => 0) S8192x8x16
  bcast_S8192x8x16_S8192x8x16x1_0_1_2 : S8192x8x16.BroadcastsInDim S8192x8x16x1 (![0, 1, 2] : Fin 3 → Fin S8192x8x16x1.rank)
  bcast_S8192x8x16_S8192x8x1x16_0_1_3 : S8192x8x16.BroadcastsInDim S8192x8x1x16 (![0, 1, 3] : Fin 3 → Fin S8192x8x1x16.rank)
  bcast_S8192x8x16x1_S8192x8x16x16_0_1_2_3 : S8192x8x16x1.BroadcastsInDim S8192x8x16x16 (![0, 1, 2, 3] : Fin 4 → Fin S8192x8x16x16.rank)
  bcast_S8192x8x1x16_S8192x8x16x16_0_1_2_3 : S8192x8x1x16.BroadcastsInDim S8192x8x16x16 (![0, 1, 2, 3] : Fin 4 → Fin S8192x8x16x16.rank)
  shapeCasts_S8192x8x16x16_S8192x8x256 : S8192x8x16x16.ShapeCasts S8192x8x256
  sliceFits_S8192x8x256_S8192x8x17 : S8192x8x256.Slices (fun _ => 0) S8192x8x17
  slices_S8192x8x16_S8192x8x15_0_0_0 : S8192x8x16.Slices ![0, 0, 0] S8192x8x15
  slices_S8192x8x16_S8192x8x15_0_0_1 : S8192x8x16.Slices ![0, 0, 1] S8192x8x15
  reducesTo_S8192x8x15_S_d0_1_2 : S8192x8x15.ReducesTo [0, 1, 2] S_
  h_S_ : 0 < S_.numel
  slices_S8192x8x17_S8192x8x16_0_0_0 : S8192x8x17.Slices ![0, 0, 0] S8192x8x16
  slices_S8192x8x17_S8192x8x16_0_0_1 : S8192x8x17.Slices ![0, 0, 1] S8192x8x16
  reducesTo_S8192x8x16_S_d0_1_2 : S8192x8x16.ReducesTo [0, 1, 2] S_

variable [Facts]

def fn_part1 {F : FTy → Type} [FloatOps F] (main_values_2 : FVec F S8192x8x17 .f32) (main_v11 : IVec S_ 1) (main_v15 : IVec S_ 1) : IVec S_ 1 :=
  let main_v16 : IVec S_ 1 := andi main_v11 main_v15
  let main_v17 : FVec F S8192x8x16 .f32 := (extractStridedSlice S8192x8x16 ![0, 0, 0] · slices_S8192x8x17_S8192x8x16_0_0_0) main_values_2
  let main_v18 : FVec F S8192x8x16 .f32 := (extractStridedSlice S8192x8x16 ![0, 0, 1] · slices_S8192x8x17_S8192x8x16_0_0_1) main_values_2
  let main_v19 : IVec S8192x8x16 1 := cmpf .ogt main_v17 main_v18
  let main_c_5 : IVec S_ 1 := constantI S_ 1 1#1
  let main_v20 : IVec S_ 1 := (fun x v => Host.reduce IntOp.andi x v reducesTo_S8192x8x16_S_d0_1_2 h_S_) main_v19 main_c_5
  let main_v21 : IVec S_ 1 := andi main_v16 main_v20
  main_v21

def fn {F : FTy → Type} [FloatOps F] (main_arg0 : FVec F S8x128x8192 .f32) (main_arg1 : FVec F S8x128x8192 .f32) : IVec S_ 1 :=
  let main_v0 : FVec F S8192x8x128 .f32 := (transpose S8192x8x128 [2, 0, 1] · transposes_S8x128x8192_S8192x8x128_2_0_1) main_arg0
  let main_v1 : FVec F S8192x8x128 .f32 := (transpose S8192x8x128 [2, 0, 1] · transposes_S8x128x8192_S8192x8x128_2_0_1) main_arg1
  let main_values : FVec F S8192x8x16 .f32 := (fun x => (Host.topK S8192x8x16 2 (FloatOps.cmpfTotal .gt) x sliceFits_S8192x8x128_S8192x8x16).1) main_v0
  let main_indices : IVec S8192x8x16 32 := (fun x => (Host.topK S8192x8x16 2 (FloatOps.cmpfTotal .gt) x sliceFits_S8192x8x128_S8192x8x16).2) main_v0
  let main_values_0 : FVec F S8192x8x16 .f32 := (fun x => (Host.topK S8192x8x16 2 (FloatOps.cmpfTotal .gt) x sliceFits_S8192x8x128_S8192x8x16).1) main_v1
  let main_indices_1 : IVec S8192x8x16 32 := (fun x => (Host.topK S8192x8x16 2 (FloatOps.cmpfTotal .gt) x sliceFits_S8192x8x128_S8192x8x16).2) main_v1
  let main_v2 : FVec F S8192x8x16x1 .f32 := broadcastInDim S8192x8x16x1 ![0, 1, 2] bcast_S8192x8x16_S8192x8x16x1_0_1_2 main_values
  let main_v3 : FVec F S8192x8x1x16 .f32 := broadcastInDim S8192x8x1x16 ![0, 1, 3] bcast_S8192x8x16_S8192x8x1x16_0_1_3 main_values_0
  let main_v4 : FVec F S8192x8x16x16 .f32 := broadcastInDim S8192x8x16x16 ![0, 1, 2, 3] bcast_S8192x8x16x1_S8192x8x16x16_0_1_2_3 main_v2
  let main_v5 : FVec F S8192x8x16x16 .f32 := broadcastInDim S8192x8x16x16 ![0, 1, 2, 3] bcast_S8192x8x1x16_S8192x8x16x16_0_1_2_3 main_v3
  let main_v6 : FVec F S8192x8x16x16 .f32 := addf main_v4 main_v5
  let main_v7 : FVec F S8192x8x256 .f32 := shapeCast S8192x8x256 main_v6 shapeCasts_S8192x8x16x16_S8192x8x256
  let main_values_2 : FVec F S8192x8x17 .f32 := (fun x => (Host.topK S8192x8x17 2 (FloatOps.cmpfTotal .gt) x sliceFits_S8192x8x256_S8192x8x17).1) main_v7
  let main_indices_3 : IVec S8192x8x17 32 := (fun x => (Host.topK S8192x8x17 2 (FloatOps.cmpfTotal .gt) x sliceFits_S8192x8x256_S8192x8x17).2) main_v7
  let main_v8 : FVec F S8192x8x15 .f32 := (extractStridedSlice S8192x8x15 ![0, 0, 0] · slices_S8192x8x16_S8192x8x15_0_0_0) main_values
  let main_v9 : FVec F S8192x8x15 .f32 := (extractStridedSlice S8192x8x15 ![0, 0, 1] · slices_S8192x8x16_S8192x8x15_0_0_1) main_values
  let main_v10 : IVec S8192x8x15 1 := cmpf .ogt main_v8 main_v9
  let main_c : IVec S_ 1 := constantI S_ 1 1#1
  let main_v11 : IVec S_ 1 := (fun x v => Host.reduce IntOp.andi x v reducesTo_S8192x8x15_S_d0_1_2 h_S_) main_v10 main_c
  let main_v12 : FVec F S8192x8x15 .f32 := (extractStridedSlice S8192x8x15 ![0, 0, 0] · slices_S8192x8x16_S8192x8x15_0_0_0) main_values_0
  let main_v13 : FVec F S8192x8x15 .f32 := (extractStridedSlice S8192x8x15 ![0, 0, 1] · slices_S8192x8x16_S8192x8x15_0_0_1) main_values_0
  let main_v14 : IVec S8192x8x15 1 := cmpf .ogt main_v12 main_v13
  let main_c_4 : IVec S_ 1 := constantI S_ 1 1#1
  let main_v15 : IVec S_ 1 := (fun x v => Host.reduce IntOp.andi x v reducesTo_S8192x8x15_S_d0_1_2 h_S_) main_v14 main_c_4
  fn_part1 (F := F) main_values_2 main_v11 main_v15
-- ==== Kernel.lean ====
abbrev S1024x6400 : Shape := ⟨2, ![1024, 6400]⟩
abbrev S1x128x4x128x256 : Shape := ⟨5, ![1, 128, 4, 128, 256]⟩
abbrev S1x16x512 : Shape := ⟨3, ![1, 16, 512]⟩
abbrev S1x512 : Shape := ⟨2, ![1, 512]⟩
abbrev S1x4x256 : Shape := ⟨3, ![1, 4, 256]⟩
abbrev S64 : Shape := ⟨1, ![64]⟩
abbrev S64x64 : Shape := ⟨2, ![64, 64]⟩
abbrev S512x64 : Shape := ⟨2, ![512, 64]⟩
abbrev S4x64x64 : Shape := ⟨3, ![4, 64, 64]⟩
abbrev S16x512 : Shape := ⟨2, ![16, 512]⟩
abbrev S_ : Shape := ⟨0, ![]⟩
abbrev S128x512 : Shape := ⟨2, ![128, 512]⟩
abbrev S512 : Shape := ⟨1, ![512]⟩
abbrev S4x256 : Shape := ⟨2, ![4, 256]⟩
abbrev S1x1024 : Shape := ⟨2, ![1, 1024]⟩
abbrev S8 : Shape := ⟨1, ![8]⟩
abbrev S1x8 : Shape := ⟨2, ![1, 8]⟩
abbrev S8x8 : Shape := ⟨2, ![8, 8]⟩
abbrev S64x1 : Shape := ⟨2, ![64, 1]⟩
abbrev S1x64 : Shape := ⟨2, ![1, 64]⟩
abbrev S64x128 : Shape := ⟨2, ![64, 128]⟩
abbrev S4 : Shape := ⟨1, ![4]⟩
abbrev S1x64x64 : Shape := ⟨3, ![1, 64, 64]⟩
abbrev S4x1x1 : Shape := ⟨3, ![4, 1, 1]⟩
abbrev S4x1 : Shape := ⟨2, ![4, 1]⟩
abbrev S4x64 : Shape := ⟨2, ![4, 64]⟩
abbrev S4x64x1 : Shape := ⟨3, ![4, 64, 1]⟩
abbrev S4x64x256 : Shape := ⟨3, ![4, 64, 256]⟩
abbrev S4x64x128 : Shape := ⟨3, ![4, 64, 128]⟩
abbrev S4x128x256 : Shape := ⟨3, ![4, 128, 256]⟩
abbrev S128x4x128x256 : Shape := ⟨4, ![128, 4, 128, 256]⟩
abbrev S1024x2048 : Shape := ⟨2, ![1024, 2048]⟩
abbrev S64x6400 : Shape := ⟨2, ![64, 6400]⟩
abbrev S8x4x128x256 : Shape := ⟨4, ![8, 4, 128, 256]⟩
abbrev S64x2048 : Shape := ⟨2, ![64, 2048]⟩
abbrev S64x256 : Shape := ⟨2, ![64, 256]⟩
abbrev S1x64x128 : Shape := ⟨3, ![1, 64, 128]⟩
abbrev S128x64 : Shape := ⟨2, ![128, 64]⟩
abbrev S1x1x128x256 : Shape := ⟨4, ![1, 1, 128, 256]⟩
abbrev S128x256 : Shape := ⟨2, ![128, 256]⟩
abbrev S1x128x256 : Shape := ⟨3, ![1, 128, 256]⟩
abbrev S1x64x256 : Shape := ⟨3, ![1, 64, 256]⟩
abbrev S1x256 : Shape := ⟨2, ![1, 256]⟩
abbrev S64x512 : Shape := ⟨2, ![64, 512]⟩
abbrev S512x256 : Shape := ⟨2, ![512, 256]⟩
abbrev S512x128 : Shape := ⟨2, ![512, 128]⟩
abbrev S1x128 : Shape := ⟨2, ![1, 128]⟩
abbrev S128x128 : Shape := ⟨2, ![128, 128]⟩

abbrev nBuf : Space → Nat
  | .hbm => 123
  | .vmem => 25
  | .smem => 0
  | _ => 0

abbrev bufTy : (tb : Table) → Fin (tcTables nBuf tb) → BufTy
  | .hbm, ⟨0, _⟩ => ⟨S1024x6400, .f32⟩
  | .hbm, ⟨1, _⟩ => ⟨S1x128x4x128x256, .f32⟩
  | .hbm, ⟨2, _⟩ => ⟨S1x128x4x128x256, .f32⟩
  | .hbm, ⟨3, _⟩ => ⟨S1x16x512, .f32⟩
  | .hbm, ⟨4, _⟩ => ⟨S1x512, .f32⟩
  | .hbm, ⟨5, _⟩ => ⟨S1x4x256, .f32⟩
  | .hbm, ⟨6, _⟩ => ⟨S1x4x256, .f32⟩
  | .hbm, ⟨7, _⟩ => ⟨S1x4x256, .f32⟩
  | .hbm, ⟨8, _⟩ => ⟨S64, .f32⟩
  | .hbm, ⟨9, _⟩ => ⟨S64x64, .i1⟩
  | .hbm, ⟨10, _⟩ => ⟨S512x64, .bf16⟩
  | .hbm, ⟨11, _⟩ => ⟨S4x64x64, .f32⟩
  | .hbm, ⟨12, _⟩ => ⟨S16x512, .f32⟩
  | .hbm, ⟨13, _⟩ => ⟨S_, .i32⟩
  | .hbm, ⟨14, _⟩ => ⟨S_, .f32⟩
  | .hbm, ⟨15, _⟩ => ⟨S128x512, .f32⟩
  | .hbm, ⟨16, _⟩ => ⟨S128x512, .bf16⟩
  | .hbm, ⟨17, _⟩ => ⟨S512, .f32⟩
  | .hbm, ⟨18, _⟩ => ⟨S1x512, .f32⟩
  | .hbm, ⟨19, _⟩ => ⟨S4x256, .f32⟩
  | .hbm, ⟨20, _⟩ => ⟨S1x1024, .f32⟩
  | .hbm, ⟨21, _⟩ => ⟨S4x256, .f32⟩
  | .hbm, ⟨22, _⟩ => ⟨S1x1024, .f32⟩
  | .hbm, ⟨23, _⟩ => ⟨S4x256, .f32⟩
  | .hbm, ⟨24, _⟩ => ⟨S1x1024, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S1x8, .f32⟩
  | .hbm, ⟨30, _⟩ => ⟨S8x8, .f32⟩
  | .hbm, ⟨31, _⟩ => ⟨S64, .f32⟩
  | .hbm, ⟨32, _⟩ => ⟨S64, .f32⟩
  | .hbm, ⟨33, _⟩ => ⟨S_, .f32⟩
  | .hbm, ⟨34, _⟩ => ⟨S64, .f32⟩
  | .hbm, ⟨35, _⟩ => ⟨S64, .f32⟩
  | .hbm, ⟨36, _⟩ => ⟨S_, .f32⟩
  | .hbm, ⟨37, _⟩ => ⟨S64, .f32⟩
  | .hbm, ⟨38, _⟩ => ⟨S64, .f32⟩
  | .hbm, ⟨39, _⟩ => ⟨S64, .f32⟩
  | .hbm, ⟨40, _⟩ => ⟨S_, .f32⟩
  | .hbm, ⟨41, _⟩ => ⟨S64, .f32⟩
  | .hbm, ⟨42, _⟩ => ⟨S64, .f32⟩
  | .hbm, ⟨43, _⟩ => ⟨S_, .f32⟩
  | .hbm, ⟨44, _⟩ => ⟨S64, .f32⟩
  | .hbm, ⟨45, _⟩ => ⟨S64, .f32⟩
  | .hbm, ⟨46, _⟩ => ⟨S64x1, .f32⟩
  | .hbm, ⟨47, _⟩ => ⟨S1x64, .f32⟩
  | .hbm, ⟨48, _⟩ => ⟨S64x64, .f32⟩
  | .hbm, ⟨49, _⟩ => ⟨S64x64, .f32⟩
  | .hbm, ⟨50, _⟩ => ⟨S64x64, .f32⟩
  | .hbm, ⟨51, _⟩ => ⟨S64x64, .f32⟩
  | .hbm, ⟨52, _⟩ => ⟨S64x64, .f32⟩
  | .hbm, ⟨53, _⟩ => ⟨S64x128, .f32⟩
  | .hbm, ⟨54, _⟩ => ⟨S64x64, .f32⟩
  | .hbm, ⟨55, _⟩ => ⟨S64x128, .f32⟩
  | .hbm, ⟨56, _⟩ => ⟨S4, .f32⟩
  | .hbm, ⟨57, _⟩ => ⟨S_, .f32⟩
  | .hbm, ⟨58, _⟩ => ⟨S4, .f32⟩
  | .hbm, ⟨59, _⟩ => ⟨S4, .f32⟩
  | .hbm, ⟨60, _⟩ => ⟨S_, .f32⟩
  | .hbm, ⟨61, _⟩ => ⟨S4, .f32⟩
  | .hbm, ⟨62, _⟩ => ⟨S4, .f32⟩
  | .hbm, ⟨63, _⟩ => ⟨S4, .f32⟩
  | .hbm, ⟨64, _⟩ => ⟨S4, .f32⟩
  | .hbm, ⟨65, _⟩ => ⟨S4, .f32⟩
  | .hbm, ⟨66, _⟩ => ⟨S64x1, .f32⟩
  | .hbm, ⟨67, _⟩ => ⟨S1x64, .f32⟩
  | .hbm, ⟨68, _⟩ => ⟨S64x64, .f32⟩
  | .hbm, ⟨69, _⟩ => ⟨S64x64, .f32⟩
  | .hbm, ⟨70, _⟩ => ⟨S64x64, .f32⟩
  | .hbm, ⟨71, _⟩ => ⟨S_, .f32⟩
  | .hbm, ⟨72, _⟩ => ⟨S64x64, .f32⟩
  | .hbm, ⟨73, _⟩ => ⟨S64x64, .i1⟩
  | .hbm, ⟨74, _⟩ => ⟨S64x64, .i1⟩
  | .hbm, ⟨75, _⟩ => ⟨S1x64x64, .i1⟩
  | .hbm, ⟨76, _⟩ => ⟨S_, .f32⟩
  | .hbm, ⟨77, _⟩ => ⟨S64x64, .f32⟩
  | .hbm, ⟨78, _⟩ => ⟨S64x64, .f32⟩
  | .hbm, ⟨79, _⟩ => ⟨S1x64x64, .f32⟩
  | .hbm, ⟨80, _⟩ => ⟨S4x1x1, .f32⟩
  | .hbm, ⟨81, _⟩ => ⟨S4x64x64, .f32⟩
  | .hbm, ⟨82, _⟩ => ⟨S4x64x64, .f32⟩
  | .hbm, ⟨83, _⟩ => ⟨S4x64x64, .f32⟩
  | .hbm, ⟨84, _⟩ => ⟨S4x64x64, .f32⟩
  | .hbm, ⟨85, _⟩ => ⟨S_, .f32⟩
  | .hbm, ⟨86, _⟩ => ⟨S_, .f32⟩
  | .hbm, ⟨87, _⟩ => ⟨S4x64x64, .i1⟩
  | .hbm, ⟨88, _⟩ => ⟨S4x64x64, .f32⟩
  | .hbm, ⟨89, _⟩ => ⟨S4x64x64, .f32⟩
  | .hbm, ⟨90, _⟩ => ⟨S_, .f32⟩
  | .hbm, ⟨91, _⟩ => ⟨S64, .f32⟩
  | .hbm, ⟨92, _⟩ => ⟨S64, .f32⟩
  | .hbm, ⟨93, _⟩ => ⟨S1x64, .f32⟩
  | .hbm, ⟨94, _⟩ => ⟨S4x1, .f32⟩
  | .hbm, ⟨95, _⟩ => ⟨S4x64, .f32⟩
  | .hbm, ⟨96, _⟩ => ⟨S4x64, .f32⟩
  | .hbm, ⟨97, _⟩ => ⟨S4x64, .f32⟩
  | .hbm, ⟨98, _⟩ => ⟨S4x64, .f32⟩
  | .hbm, ⟨99, _⟩ => ⟨S_, .f32⟩
  | .hbm, ⟨100, _⟩ => ⟨S64, .f32⟩
  | .hbm, ⟨101, _⟩ => ⟨S64, .f32⟩
  | .hbm, ⟨102, _⟩ => ⟨S1x64, .f32⟩
  | .hbm, ⟨103, _⟩ => ⟨S4x1, .f32⟩
  | .hbm, ⟨104, _⟩ => ⟨S4x64, .f32⟩
  | .hbm, ⟨105, _⟩ => ⟨S4x64, .f32⟩
  | .hbm, ⟨106, _⟩ => ⟨S4x64, .f32⟩
  | .hbm, ⟨107, _⟩ => ⟨S4x64, .f32⟩
  | .hbm, ⟨108, _⟩ => ⟨S_, .f32⟩
  | .hbm, ⟨109, _⟩ => ⟨S4, .f32⟩
  | .hbm, ⟨110, _⟩ => ⟨S4, .f32⟩
  | .hbm, ⟨111, _⟩ => ⟨S4, .f32⟩
  | .hbm, ⟨112, _⟩ => ⟨S4x64x1, .f32⟩
  | .hbm, ⟨113, _⟩ => ⟨S4x64x256, .f32⟩
  | .hbm, ⟨114, _⟩ => ⟨S4x64x1, .f32⟩
  | .hbm, ⟨115, _⟩ => ⟨S4x64x128, .f32⟩
  | .hbm, ⟨116, _⟩ => ⟨S4x1x1, .f32⟩
  | .hbm, ⟨117, _⟩ => ⟨S4x128x256, .f32⟩
  | .hbm, ⟨118, _⟩ => ⟨S128x4x128x256, .f32⟩
  | .hbm, ⟨119, _⟩ => ⟨S128x4x128x256, .f32⟩
  | .hbm, ⟨120, _⟩ => ⟨S1024x2048, .bf16⟩
  | .hbm, ⟨121, _⟩ => ⟨S128x4x128x256, .f32⟩
  | .hbm, ⟨122, _⟩ => ⟨S128x4x128x256, .f32⟩
  | .local _ .vmem, ⟨0, _⟩ => ⟨S64x6400, .f32⟩
  | .local _ .vmem, ⟨1, _⟩ => ⟨S64x6400, .f32⟩
  | .local _ .vmem, ⟨2, _⟩ => ⟨S64x128, .f32⟩
  | .local _ .vmem, ⟨3, _⟩ => ⟨S64x128, .f32⟩
  | .local _ .vmem, ⟨4, _⟩ => ⟨S4x64x64, .f32⟩
  | .local _ .vmem, ⟨5, _⟩ => ⟨S4x64x256, .f32⟩
  | .local _ .vmem, ⟨6, _⟩ => ⟨S4x64x128, .f32⟩
  | .local _ .vmem, ⟨7, _⟩ => ⟨S4x128x256, .f32⟩
  | .local _ .vmem, ⟨8, _⟩ => ⟨S128x512, .bf16⟩
  | .local _ .vmem, ⟨9, _⟩ => ⟨S1x512, .f32⟩
  | .local _ .vmem, ⟨10, _⟩ => ⟨S512x64, .bf16⟩
  | .local _ .vmem, ⟨11, _⟩ => ⟨S4x64x64, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S8x4x128x256, .f32⟩
  | .local _ .vmem, ⟨16, _⟩ => ⟨S8x4x128x256, .f32⟩
  | .local _ .vmem, ⟨17, _⟩ => ⟨S8x4x128x256, .f32⟩
  | .local _ .vmem, ⟨18, _⟩ => ⟨S8x4x128x256, .f32⟩
  | .local _ .vmem, ⟨19, _⟩ => ⟨S64x2048, .bf16⟩
  | .local _ .vmem, ⟨20, _⟩ => ⟨S64x2048, .bf16⟩
  | .local _ .vmem, ⟨21, _⟩ => ⟨S8x4x128x256, .f32⟩
  | .local _ .vmem, ⟨22, _⟩ => ⟨S8x4x128x256, .f32⟩
  | .local _ .vmem, ⟨23, _⟩ => ⟨S8x4x128x256, .f32⟩
  | .local _ .vmem, ⟨24, _⟩ => ⟨S8x4x128x256, .f32⟩
  | _, _ => ⟨S1024x6400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_c : Ref sig .tc := ⟨.hbm, 9, rfl⟩
abbrev main_cst_0 : Ref sig .tc := ⟨.hbm, 10, rfl⟩
abbrev main_cst_1 : Ref sig .tc := ⟨.hbm, 11, rfl⟩
abbrev main_v0 : Ref sig .tc := ⟨.hbm, 12, rfl⟩
abbrev main_c_2 : Ref sig .tc := ⟨.hbm, 13, rfl⟩
abbrev main_call0_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_3 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_cst_5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_6 : Ref sig .tc := ⟨.hbm, 40, rfl⟩
abbrev main_v23 : Ref sig .tc := ⟨.hbm, 41, rfl⟩
abbrev main_v24 : Ref sig .tc := ⟨.hbm, 42, rfl⟩
abbrev main_cst_7 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_11 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_12 : Ref sig .tc := ⟨.hbm, 85, rfl⟩
abbrev main_call1_v0 : Ref sig .tc := ⟨.hbm, 86, rfl⟩
abbrev main_call1_v1 : Ref sig .tc := ⟨.hbm, 87, rfl⟩
abbrev main_call1_v2 : Ref sig .tc := ⟨.hbm, 88, rfl⟩
abbrev main_v62 : Ref sig .tc := ⟨.hbm, 89, rfl⟩
abbrev main_cst_13 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_14 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_15 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90_0 : Ref sig .tc := ⟨.hbm, 120, rfl⟩
abbrev main_v90_1 : Ref sig .tc := ⟨.hbm, 121, rfl⟩
abbrev main_v90_2 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16
abbrev cc0_sem15_0 : DmaSem sig := 17
abbrev cc0_sem15_1 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_15 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_18 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S64x6400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x64x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S8x4x128x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x4x128x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S64x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S8x4x128x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S8x4x128x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== ReferenceIdeal.lean ====
abbrev S1024x6400 : Shape := ⟨2, ![1024, 6400]⟩
abbrev S1x128x4x128x256 : Shape := ⟨5, ![1, 128, 4, 128, 256]⟩
abbrev S1x16x512 : Shape := ⟨3, ![1, 16, 512]⟩
abbrev S1x512 : Shape := ⟨2, ![1, 512]⟩
abbrev S1x4x256 : Shape := ⟨3, ![1, 4, 256]⟩
abbrev S8 : Shape := ⟨1, ![8]⟩
abbrev S_ : Shape := ⟨0, ![]⟩
abbrev S128x4x128x256 : Shape := ⟨4, ![128, 4, 128, 256]⟩
abbrev S1024x6160 : Shape := ⟨2, ![1024, 6160]⟩
abbrev S128x8x6160 : Shape := ⟨3, ![128, 8, 6160]⟩
abbrev S128x8x512 : Shape := ⟨3, ![128, 8, 512]⟩
abbrev S128x8x1024 : Shape := ⟨3, ![128, 8, 1024]⟩
abbrev S128x8x16 : Shape := ⟨3, ![128, 8, 16]⟩
abbrev S128x8x4x128 : Shape := ⟨4, ![128, 8, 4, 128]⟩
abbrev S64 : Shape := ⟨1, ![64]⟩
abbrev S8x1 : Shape := ⟨2, ![8, 1]⟩
abbrev S1x64 : Shape := ⟨2, ![1, 64]⟩
abbrev S8x64 : Shape := ⟨2, ![8, 64]⟩
abbrev S1x8x1x64 : Shape := ⟨4, ![1, 8, 1, 64]⟩
abbrev S128x8x4x64 : Shape := ⟨4, ![128, 8, 4, 64]⟩
abbrev S128x4x8x128 : Shape := ⟨4, ![128, 4, 8, 128]⟩
abbrev S128x8x4x256 : Shape := ⟨4, ![128, 8, 4, 256]⟩
abbrev S128x4x8x256 : Shape := ⟨4, ![128, 4, 8, 256]⟩
abbrev S4 : Shape := ⟨1, ![4]⟩
abbrev S1x8 : Shape := ⟨2, ![1, 8]⟩
abbrev S8x8 : Shape := ⟨2, ![8, 8]⟩
abbrev S1x8x8 : Shape := ⟨3, ![1, 8, 8]⟩
abbrev S4x1x1 : Shape := ⟨3, ![4, 1, 1]⟩
abbrev S4x8x8 : Shape := ⟨3, ![4, 8, 8]⟩
abbrev S4x1 : Shape := ⟨2, ![4, 1]⟩
abbrev S4x8 : Shape := ⟨2, ![4, 8]⟩
abbrev S128x4x8x8 : Shape := ⟨4, ![128, 4, 8, 8]⟩
abbrev S1x4x8x8 : Shape := ⟨4, ![1, 4, 8, 8]⟩
abbrev S1x4x8x1 : Shape := ⟨4, ![1, 4, 8, 1]⟩
abbrev S1x4x1x1 : Shape := ⟨4, ![1, 4, 1, 1]⟩
abbrev S4x256 : Shape := ⟨2, ![4, 256]⟩
abbrev S128x8x4 : Shape := ⟨3, ![128, 8, 4]⟩
abbrev S128x8x4x1 : Shape := ⟨4, ![128, 8, 4, 1]⟩
abbrev S1x1x4x256 : Shape := ⟨4, ![1, 1, 4, 256]⟩
abbrev S16x512 : Shape := ⟨2, ![16, 512]⟩
abbrev S512 : Shape := ⟨1, ![512]⟩
abbrev S1x1x512 : Shape := ⟨3, ![1, 1, 512]⟩
abbrev S128x4x8x1x128 : Shape := ⟨5, ![128, 4, 8, 1, 128]⟩
abbrev S128x4x1x8x128 : Shape := ⟨5, ![128, 4, 1, 8, 128]⟩
abbrev S128x4x8x8x128 : Shape := ⟨5, ![128, 4, 8, 8, 128]⟩
abbrev S1x1x8x8x1 : Shape := ⟨5, ![1, 1, 8, 8, 1]⟩
abbrev S128x4x1x128 : Shape := ⟨4, ![128, 4, 1, 128]⟩
abbrev S128x4x128 : Shape := ⟨3, ![128, 4, 128]⟩
abbrev S128x4x128x1 : Shape := ⟨4, ![128, 4, 128, 1]⟩
abbrev S128x8x2048 : Shape := ⟨3, ![128, 8, 2048]⟩
abbrev S1024x2048 : Shape := ⟨2, ![1024, 2048]⟩

abbrev nBuf : Space → Nat
  | .hbm => 347
  | .vmem => 0
  | .smem => 0
  | _ => 0

abbrev hbmTy0_0 (i : Nat) : BufTy := match i % 128 with
  | 0 => ⟨S1024x6400, .f32⟩
  | 1 => ⟨S1x128x4x128x256, .f32⟩
  | 2 => ⟨S1x128x4x128x256, .f32⟩
  | 3 => ⟨S1x16x512, .f32⟩
  | 4 => ⟨S1x512, .f32⟩
  | 5 => ⟨S1x4x256, .f32⟩
  | 6 => ⟨S1x4x256, .f32⟩
  | 7 => ⟨S1x4x256, .f32⟩
  | 8 => ⟨S8, .f32⟩
  | 9 => ⟨S_, .f32⟩
  | 10 => ⟨S8, .f32⟩
  | 11 => ⟨S8, .f32⟩
  | 12 => ⟨S128x4x128x256, .f32⟩
  | 13 => ⟨S128x4x128x256, .f32⟩
  | 14 => ⟨S1024x6160, .f32⟩
  | 15 => ⟨S128x8x6160, .f32⟩
  | 16 => ⟨S128x8x512, .f32⟩
  | 17 => ⟨S128x8x512, .f32⟩
  | 18 => ⟨S128x8x1024, .f32⟩
  | 19 => ⟨S128x8x1024, .f32⟩
  | 20 => ⟨S128x8x512, .f32⟩
  | 21 => ⟨S128x8x512, .f32⟩
  | 22 => ⟨S128x8x1024, .f32⟩
  | 23 => ⟨S128x8x1024, .f32⟩
  | 24 => ⟨S128x8x16, .f32⟩
  | 25 => ⟨S128x8x4x128, .f32⟩
  | 26 => ⟨S64, .f32⟩
  | 27 => ⟨S_, .f32⟩
  | 28 => ⟨S64, .f32⟩
  | 29 => ⟨S64, .f32⟩
  | 30 => ⟨S_, .f32⟩
  | 31 => ⟨S64, .f32⟩
  | 32 => ⟨S64, .f32⟩
  | 33 => ⟨S64, .f32⟩
  | 34 => ⟨S_, .f32⟩
  | 35 => ⟨S64, .f32⟩
  | 36 => ⟨S64, .f32⟩
  | 37 => ⟨S_, .f32⟩
  | 38 => ⟨S64, .f32⟩
  | 39 => ⟨S64, .f32⟩
  | 40 => ⟨S8x1, .f32⟩
  | 41 => ⟨S1x64, .f32⟩
  | 42 => ⟨S8x64, .f32⟩
  | 43 => ⟨S8x64, .f32⟩
  | 44 => ⟨S8x64, .f32⟩
  | 45 => ⟨S8x64, .f32⟩
  | 46 => ⟨S1x8x1x64, .f32⟩
  | 47 => ⟨S8x64, .f32⟩
  | 48 => ⟨S1x8x1x64, .f32⟩
  | 49 => ⟨S128x8x4x64, .f32⟩
  | 50 => ⟨S128x8x4x64, .f32⟩
  | 51 => ⟨S128x8x4x64, .f32⟩
  | 52 => ⟨S128x8x4x64, .f32⟩
  | 53 => ⟨S128x8x4x64, .f32⟩
  | 54 => ⟨S128x8x4x64, .f32⟩
  | 55 => ⟨S128x8x4x64, .f32⟩
  | 56 => ⟨S128x8x4x64, .f32⟩
  | 57 => ⟨S128x8x4x64, .f32⟩
  | 58 => ⟨S128x8x4x64, .f32⟩
  | 59 => ⟨S128x8x4x64, .f32⟩
  | 60 => ⟨S128x8x4x64, .f32⟩
  | 61 => ⟨S128x8x4x128, .f32⟩
  | 62 => ⟨S128x8x4x128, .f32⟩
  | 63 => ⟨S64, .f32⟩
  | 64 => ⟨S_, .f32⟩
  | 65 => ⟨S64, .f32⟩
  | 66 => ⟨S64, .f32⟩
  | 67 => ⟨S_, .f32⟩
  | 68 => ⟨S64, .f32⟩
  | 69 => ⟨S64, .f32⟩
  | 70 => ⟨S64, .f32⟩
  | 71 => ⟨S_, .f32⟩
  | 72 => ⟨S64, .f32⟩
  | 73 => ⟨S64, .f32⟩
  | 74 => ⟨S_, .f32⟩
  | 75 => ⟨S64, .f32⟩
  | 76 => ⟨S64, .f32⟩
  | 77 => ⟨S8x1, .f32⟩
  | 78 => ⟨S1x64, .f32⟩
  | 79 => ⟨S8x64, .f32⟩
  | 80 => ⟨S8x64, .f32⟩
  | 81 => ⟨S8x64, .f32⟩
  | 82 => ⟨S8x64, .f32⟩
  | 83 => ⟨S1x8x1x64, .f32⟩
  | 84 => ⟨S8x64, .f32⟩
  | 85 => ⟨S1x8x1x64, .f32⟩
  | 86 => ⟨S128x8x4x64, .f32⟩
  | 87 => ⟨S128x8x4x64, .f32⟩
  | 88 => ⟨S128x8x4x64, .f32⟩
  | 89 => ⟨S128x8x4x64, .f32⟩
  | 90 => ⟨S128x8x4x64, .f32⟩
  | 91 => ⟨S128x8x4x64, .f32⟩
  | 92 => ⟨S128x8x4x64, .f32⟩
  | 93 => ⟨S128x8x4x64, .f32⟩
  | 94 => ⟨S128x8x4x64, .f32⟩
  | 95 => ⟨S128x8x4x64, .f32⟩
  | 96 => ⟨S128x8x4x64, .f32⟩
  | 97 => ⟨S128x8x4x64, .f32⟩
  | 98 => ⟨S128x8x4x128, .f32⟩
  | 99 => ⟨S_, .f32⟩
  | 100 => ⟨S128x8x4x128, .f32⟩
  | 101 => ⟨S128x8x4x128, .f32⟩
  | 102 => ⟨S128x4x8x128, .f32⟩
  | 103 => ⟨S128x4x8x128, .f32⟩
  | 104 => ⟨S128x8x4x256, .f32⟩
  | 105 => ⟨S128x4x8x256, .f32⟩
  | 106 => ⟨S4, .f32⟩
  | 107 => ⟨S_, .f32⟩
  | 108 => ⟨S4, .f32⟩
  | 109 => ⟨S4, .f32⟩
  | 110 => ⟨S_, .f32⟩
  | 111 => ⟨S4, .f32⟩
  | 112 => ⟨S4, .f32⟩
  | 113 => ⟨S4, .f32⟩
  | 114 => ⟨S4, .f32⟩
  | 115 => ⟨S4, .f32⟩
  | 116 => ⟨S8, .f32⟩
  | 117 => ⟨S8x1, .f32⟩
  | 118 => ⟨S1x8, .f32⟩
  | 119 => ⟨S8x8, .f32⟩
  | 120 => ⟨S8x8, .f32⟩
  | 121 => ⟨S8x8, .f32⟩
  | 122 => ⟨S_, .f32⟩
  | 123 => ⟨S8x8, .f32⟩
  | 124 => ⟨S8x8, .i1⟩
  | 125 => ⟨S1x8x8, .i1⟩
  | 126 => ⟨S_, .f32⟩
  | 127 => ⟨S8x8, .f32⟩
  | _ => ⟨S1024x6400, .f32⟩

abbrev hbmTy0_1 (i : Nat) : BufTy := match i % 128 with
  | 0 => ⟨S8x8, .f32⟩
  | 1 => ⟨S1x8x8, .f32⟩
  | 2 => ⟨S4x1x1, .f32⟩
  | 3 => ⟨S4x8x8, .f32⟩
  | 4 => ⟨S4x8x8, .f32⟩
  | 5 => ⟨S4x8x8, .f32⟩
  | 6 => ⟨S4x8x8, .f32⟩
  | 7 => ⟨S_, .f32⟩
  | 8 => ⟨S_, .f32⟩
  | 9 => ⟨S4x8x8, .i1⟩
  | 10 => ⟨S4x8x8, .f32⟩
  | 11 => ⟨S4x8x8, .f32⟩
  | 12 => ⟨S_, .f32⟩
  | 13 => ⟨S8, .f32⟩
  | 14 => ⟨S8, .f32⟩
  | 15 => ⟨S1x8, .f32⟩
  | 16 => ⟨S4x1, .f32⟩
  | 17 => ⟨S4x8, .f32⟩
  | 18 => ⟨S4x8, .f32⟩
  | 19 => ⟨S4x8, .f32⟩
  | 20 => ⟨S4x8, .f32⟩
  | 21 => ⟨S_, .f32⟩
  | 22 => ⟨S8, .f32⟩
  | 23 => ⟨S8, .f32⟩
  | 24 => ⟨S1x8, .f32⟩
  | 25 => ⟨S4x1, .f32⟩
  | 26 => ⟨S4x8, .f32⟩
  | 27 => ⟨S4x8, .f32⟩
  | 28 => ⟨S4x8, .f32⟩
  | 29 => ⟨S4x8, .f32⟩
  | 30 => ⟨S_, .f32⟩
  | 31 => ⟨S4, .f32⟩
  | 32 => ⟨S4, .f32⟩
  | 33 => ⟨S4, .f32⟩
  | 34 => ⟨S128x4x8x8, .f32⟩
  | 35 => ⟨S1x4x8x8, .f32⟩
  | 36 => ⟨S128x4x8x8, .f32⟩
  | 37 => ⟨S128x4x8x8, .f32⟩
  | 38 => ⟨S128x4x8x256, .f32⟩
  | 39 => ⟨S128x4x8x256, .f32⟩
  | 40 => ⟨S1x4x8x1, .f32⟩
  | 41 => ⟨S128x4x8x256, .f32⟩
  | 42 => ⟨S128x4x8x256, .f32⟩
  | 43 => ⟨S1x4x1x1, .f32⟩
  | 44 => ⟨S128x4x128x256, .f32⟩
  | 45 => ⟨S128x4x128x256, .f32⟩
  | 46 => ⟨S1x4x8x1, .f32⟩
  | 47 => ⟨S128x4x8x128, .f32⟩
  | 48 => ⟨S128x4x8x128, .f32⟩
  | 49 => ⟨S128x4x128x256, .f32⟩
  | 50 => ⟨S128x4x128x256, .f32⟩
  | 51 => ⟨S128x4x8x256, .f32⟩
  | 52 => ⟨S128x8x4x256, .f32⟩
  | 53 => ⟨S4x256, .f32⟩
  | 54 => ⟨S4x256, .f32⟩
  | 55 => ⟨S_, .f32⟩
  | 56 => ⟨S128x8x4, .f32⟩
  | 57 => ⟨S128x8x4x1, .f32⟩
  | 58 => ⟨S_, .f32⟩
  | 59 => ⟨S128x8x4x1, .f32⟩
  | 60 => ⟨S128x8x4x1, .f32⟩
  | 61 => ⟨S128x8x4x256, .f32⟩
  | 62 => ⟨S128x8x4x256, .f32⟩
  | 63 => ⟨S128x8x4x256, .f32⟩
  | 64 => ⟨S_, .f32⟩
  | 65 => ⟨S128x8x4, .f32⟩
  | 66 => ⟨S128x8x4x1, .f32⟩
  | 67 => ⟨S_, .f32⟩
  | 68 => ⟨S128x8x4x1, .f32⟩
  | 69 => ⟨S128x8x4x1, .f32⟩
  | 70 => ⟨S128x8x4x256, .f32⟩
  | 71 => ⟨S128x8x4x256, .f32⟩
  | 72 => ⟨S_, .f32⟩
  | 73 => ⟨S128x8x4x1, .f32⟩
  | 74 => ⟨S128x8x4x1, .f32⟩
  | 75 => ⟨S128x8x4x1, .f32⟩
  | 76 => ⟨S128x8x4x256, .f32⟩
  | 77 => ⟨S128x8x4x256, .f32⟩
  | 78 => ⟨S1x1x4x256, .f32⟩
  | 79 => ⟨S128x8x4x256, .f32⟩
  | 80 => ⟨S128x8x4x256, .f32⟩
  | 81 => ⟨S1x1x4x256, .f32⟩
  | 82 => ⟨S128x8x4x256, .f32⟩
  | 83 => ⟨S128x8x4x256, .f32⟩
  | 84 => ⟨S128x8x1024, .f32⟩
  | 85 => ⟨S128x8x1024, .f32⟩
  | 86 => ⟨S128x8x1024, .f32⟩
  | 87 => ⟨S_, .f32⟩
  | 88 => ⟨S128x8x1024, .f32⟩
  | 89 => ⟨S128x8x1024, .f32⟩
  | 90 => ⟨S_, .f32⟩
  | 91 => ⟨S128x8x1024, .f32⟩
  | 92 => ⟨S128x8x1024, .f32⟩
  | 93 => ⟨S128x8x1024, .f32⟩
  | 94 => ⟨S128x8x1024, .f32⟩
  | 95 => ⟨S16x512, .f32⟩
  | 96 => ⟨S128x8x512, .f32⟩
  | 97 => ⟨S512, .f32⟩
  | 98 => ⟨S1x1x512, .f32⟩
  | 99 => ⟨S128x8x512, .f32⟩
  | 100 => ⟨S128x8x512, .f32⟩
  | 101 => ⟨S128x8x512, .f32⟩
  | 102 => ⟨S_, .f32⟩
  | 103 => ⟨S128x8x512, .f32⟩
  | 104 => ⟨S128x8x512, .f32⟩
  | 105 => ⟨S128x8x512, .f32⟩
  | 106 => ⟨S128x8x512, .f32⟩
  | 107 => ⟨S128x8x512, .i1⟩
  | 108 => ⟨S128x8x512, .f32⟩
  | 109 => ⟨S128x8x512, .f32⟩
  | 110 => ⟨S128x8x512, .f32⟩
  | 111 => ⟨S128x8x512, .f32⟩
  | 112 => ⟨S128x8x512, .f32⟩
  | 113 => ⟨S128x8x512, .f32⟩
  | 114 => ⟨S128x8x512, .f32⟩
  | 115 => ⟨S128x8x512, .f32⟩
  | 116 => ⟨S128x8x512, .f32⟩
  | 117 => ⟨S_, .f32⟩
  | 118 => ⟨S128x8x512, .f32⟩
  | 119 => ⟨S128x8x512, .f32⟩
  | 120 => ⟨S128x8x4x128, .f32⟩
  | 121 => ⟨S_, .f32⟩
  | 122 => ⟨S128x8x4x128, .f32⟩
  | 123 => ⟨S128x8x4x128, .f32⟩
  | 124 => ⟨S128x4x8x128, .f32⟩
  | 125 => ⟨S128x8x4x128, .f32⟩
  | 126 => ⟨S128x4x8x128, .f32⟩
  | 127 => ⟨S128x8x4x256, .f32⟩
  | _ => ⟨S1024x6400, .f32⟩

abbrev hbmTy0_2 (i : Nat) : BufTy := match i % 128 with
  | 0 => ⟨S128x4x8x256, .f32⟩
  | 1 => ⟨S128x8x4x128, .f32⟩
  | 2 => ⟨S128x4x8x128, .f32⟩
  | 3 => ⟨S_, .i1⟩
  | 4 => ⟨S8x8, .i1⟩
  | 5 => ⟨S8x8, .i32⟩
  | 6 => ⟨S_, .i32⟩
  | 7 => ⟨S8x8, .i32⟩
  | 8 => ⟨S8x8, .i32⟩
  | 9 => ⟨S8x8, .i32⟩
  | 10 => ⟨S8x8, .i1⟩
  | 11 => ⟨S_, .i1⟩
  | 12 => ⟨S8x8, .i1⟩
  | 13 => ⟨S8x8, .i1⟩
  | 14 => ⟨S_, .f32⟩
  | 15 => ⟨S_, .f32⟩
  | 16 => ⟨S128x4x8x128, .f32⟩
  | 17 => ⟨S128x4x8x1x128, .f32⟩
  | 18 => ⟨S128x4x1x8x128, .f32⟩
  | 19 => ⟨S128x4x8x8x128, .f32⟩
  | 20 => ⟨S128x4x8x8x128, .f32⟩
  | 21 => ⟨S128x4x8x8x128, .f32⟩
  | 22 => ⟨S1x1x8x8x1, .i1⟩
  | 23 => ⟨S_, .f32⟩
  | 24 => ⟨S_, .f32⟩
  | 25 => ⟨S128x4x8x8x128, .i1⟩
  | 26 => ⟨S128x4x8x8x128, .f32⟩
  | 27 => ⟨S128x4x8x8x128, .f32⟩
  | 28 => ⟨S128x4x8x8x128, .f32⟩
  | 29 => ⟨S_, .f32⟩
  | 30 => ⟨S_, .f32⟩
  | 31 => ⟨S128x4x8x8x128, .i1⟩
  | 32 => ⟨S128x4x8x8x128, .f32⟩
  | 33 => ⟨S128x4x8x8x128, .f32⟩
  | 34 => ⟨S128x4x8x1x128, .f32⟩
  | 35 => ⟨S128x4x1x8x128, .f32⟩
  | 36 => ⟨S128x4x8x8x128, .f32⟩
  | 37 => ⟨S128x4x8x8x128, .f32⟩
  | 38 => ⟨S128x4x8x8x128, .f32⟩
  | 39 => ⟨S128x4x8x8x128, .f32⟩
  | 40 => ⟨S_, .f32⟩
  | 41 => ⟨S128x4x8x8, .f32⟩
  | 42 => ⟨S128x4x8x256, .f32⟩
  | 43 => ⟨S128x4x8x128, .f32⟩
  | 44 => ⟨S128x4x8x128, .f32⟩
  | 45 => ⟨S128x4x8x256, .f32⟩
  | 46 => ⟨S128x4x1x128, .f32⟩
  | 47 => ⟨S128x4x128, .f32⟩
  | 48 => ⟨S128x4x128, .f32⟩
  | 49 => ⟨S128x4x128x1, .f32⟩
  | 50 => ⟨S128x4x128x256, .f32⟩
  | 51 => ⟨S128x4x128x256, .f32⟩
  | 52 => ⟨S128x4x8x128, .f32⟩
  | 53 => ⟨S128x4x8x128, .f32⟩
  | 54 => ⟨S128x4x8x128, .f32⟩
  | 55 => ⟨S128x4x8x128, .f32⟩
  | 56 => ⟨S128x4x128x256, .f32⟩
  | 57 => ⟨S128x4x128x256, .f32⟩
  | 58 => ⟨S128x4x8x256, .f32⟩
  | 59 => ⟨S128x8x4x256, .f32⟩
  | 60 => ⟨S4x256, .f32⟩
  | 61 => ⟨S128x8x4x256, .f32⟩
  | 62 => ⟨S_, .f32⟩
  | 63 => ⟨S128x8x4, .f32⟩
  | 64 => ⟨S128x8x4x1, .f32⟩
  | 65 => ⟨S_, .f32⟩
  | 66 => ⟨S128x8x4x1, .f32⟩
  | 67 => ⟨S128x8x4x1, .f32⟩
  | 68 => ⟨S_, .f32⟩
  | 69 => ⟨S128x8x4x1, .f32⟩
  | 70 => ⟨S128x8x4x1, .f32⟩
  | 71 => ⟨S128x8x4x1, .f32⟩
  | 72 => ⟨S128x8x4x256, .f32⟩
  | 73 => ⟨S128x8x4x256, .f32⟩
  | 74 => ⟨S1x1x4x256, .f32⟩
  | 75 => ⟨S128x8x4x256, .f32⟩
  | 76 => ⟨S128x8x4x256, .f32⟩
  | 77 => ⟨S128x8x1024, .f32⟩
  | 78 => ⟨S128x8x1024, .f32⟩
  | 79 => ⟨S128x8x1024, .f32⟩
  | 80 => ⟨S_, .f32⟩
  | 81 => ⟨S128x8x1024, .f32⟩
  | 82 => ⟨S128x8x1024, .f32⟩
  | 83 => ⟨S_, .f32⟩
  | 84 => ⟨S128x8x1024, .f32⟩
  | 85 => ⟨S128x8x1024, .f32⟩
  | 86 => ⟨S128x8x1024, .f32⟩
  | 87 => ⟨S128x8x1024, .f32⟩
  | 88 => ⟨S128x8x2048, .f32⟩
  | 89 => ⟨S1024x2048, .f32⟩
  | 90 => ⟨S1024x2048, .bf16⟩
  | _ => ⟨S1024x6400, .f32⟩

abbrev hbmTy (i : Nat) : BufTy := match i / 128 with
  | 0 => hbmTy0_0 i
  | 1 => hbmTy0_1 i
  | 2 => hbmTy0_2 i
  | _ => ⟨S1024x6400, .f32⟩

abbrev bufTy : (tb : Table) → Fin (tcTables nBuf tb) → BufTy
  | .hbm, ⟨i, _⟩ => hbmTy i
  | _, _ => ⟨S1024x6400, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_4 : Ref sig .tc := ⟨.hbm, 64, rfl⟩
abbrev main_v51 : Ref sig .tc := ⟨.hbm, 65, rfl⟩
abbrev main_v52 : Ref sig .tc := ⟨.hbm, 66, rfl⟩
abbrev main_cst_5 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_6 : Ref sig .tc := ⟨.hbm, 71, rfl⟩
abbrev main_v56 : Ref sig .tc := ⟨.hbm, 72, rfl⟩
abbrev main_v57 : Ref sig .tc := ⟨.hbm, 73, rfl⟩
abbrev main_cst_7 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_cst_8 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_cst_9 : Ref sig .tc := ⟨.hbm, 107, rfl⟩
abbrev main_v89 : Ref sig .tc := ⟨.hbm, 108, rfl⟩
abbrev main_v90 : Ref sig .tc := ⟨.hbm, 109, rfl⟩
abbrev main_cst_10 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_cst_11 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_cst_12 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_cst_13 : Ref sig .tc := ⟨.hbm, 135, rfl⟩
abbrev main_call0_v0 : Ref sig .tc := ⟨.hbm, 136, rfl⟩
abbrev main_call0_v1 : Ref sig .tc := ⟨.hbm, 137, rfl⟩
abbrev main_call0_v2 : Ref sig .tc := ⟨.hbm, 138, rfl⟩
abbrev main_v113 : Ref sig .tc := ⟨.hbm, 139, rfl⟩
abbrev main_cst_14 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_cst_15 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_cst_16 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_cst_17 : Ref sig .tc := ⟨.hbm, 183, rfl⟩
abbrev main_v154 : Ref sig .tc := ⟨.hbm, 184, rfl⟩
abbrev main_v155 : Ref sig .tc := ⟨.hbm, 185, rfl⟩
abbrev main_cst_18 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_cst_19 : Ref sig .tc := ⟨.hbm, 192, rfl⟩
abbrev main_v161 : Ref sig .tc := ⟨.hbm, 193, rfl⟩
abbrev main_v162 : Ref sig .tc := ⟨.hbm, 194, rfl⟩
abbrev main_cst_20 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_cst_21 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩
abbrev main_v177 : Ref sig .tc := ⟨.hbm, 211, rfl⟩
abbrev main_v178 : Ref sig .tc := ⟨.hbm, 212, rfl⟩
abbrev main_call1_v0 : Ref sig .tc := ⟨.hbm, 213, rfl⟩
abbrev main_call1_v1 : Ref sig .tc := ⟨.hbm, 214, rfl⟩
abbrev main_call1_cst : Ref sig .tc := ⟨.hbm, 215, rfl⟩
abbrev main_call1_v2 : Ref sig .tc := ⟨.hbm, 216, rfl⟩
abbrev main_call1_v3 : Ref sig .tc := ⟨.hbm, 217, rfl⟩
abbrev main_call1_cst_0 : Ref sig .tc := ⟨.hbm, 218, rfl⟩
abbrev main_call1_v4 : Ref sig .tc := ⟨.hbm, 219, rfl⟩
abbrev main_call1_v5 : Ref sig .tc := ⟨.hbm, 220, rfl⟩
abbrev main_v179 : Ref sig .tc := ⟨.hbm, 221, rfl⟩
abbrev main_v180 : Ref sig .tc := ⟨.hbm, 222, rfl⟩
abbrev main_v181 : Ref sig .tc := ⟨.hbm, 223, rfl⟩
abbrev main_v182 : Ref sig .tc := ⟨.hbm, 224, rfl⟩
abbrev main_v183 : Ref sig .tc := ⟨.hbm, 225, rfl⟩
abbrev main_v184 : Ref sig .tc := ⟨.hbm, 226, rfl⟩
abbrev main_v185 : Ref sig .tc := ⟨.hbm, 227, rfl⟩
abbrev main_v186 : Ref sig .tc := ⟨.hbm, 228, rfl⟩
abbrev main_call2_v0 : Ref sig .tc := ⟨.hbm, 229, rfl⟩
abbrev main_call2_call0_cst : Ref sig .tc := ⟨.hbm, 230, rfl⟩
abbrev main_call2_call0_v0 : Ref sig .tc := ⟨.hbm, 231, rfl⟩
abbrev main_call2_call0_v1 : Ref sig .tc := ⟨.hbm, 232, rfl⟩
abbrev main_call2_call0_v2 : Ref sig .tc := ⟨.hbm, 233, rfl⟩
abbrev main_call2_call0_v3 : Ref sig .tc := ⟨.hbm, 234, rfl⟩
abbrev main_call2_call0_v4 : Ref sig .tc := ⟨.hbm, 235, rfl⟩
abbrev main_call2_call0_v5 : Ref sig .tc := ⟨.hbm, 236, rfl⟩
abbrev main_call2_call0_v6 : Ref sig .tc := ⟨.hbm, 237, rfl⟩
abbrev main_call2_call0_v7 : Ref sig .tc := ⟨.hbm, 238, rfl⟩
abbrev main_call2_call0_v8 : Ref sig .tc := ⟨.hbm, 239, rfl⟩
abbrev main_call2_call0_v9 : Ref sig .tc := ⟨.hbm, 240, rfl⟩
abbrev main_call2_call0_v10 : Ref sig .tc := ⟨.hbm, 241, rfl⟩
abbrev main_call2_call0_v11 : Ref sig .tc := ⟨.hbm, 242, rfl⟩
abbrev main_call2_v1 : Ref sig .tc := ⟨.hbm, 243, rfl⟩
abbrev main_v187 : Ref sig .tc := ⟨.hbm, 244, rfl⟩
abbrev main_cst_22 : Ref sig .tc := ⟨.hbm, 245, rfl⟩
abbrev main_v188 : Ref sig .tc := ⟨.hbm, 246, rfl⟩
abbrev main_v189 : Ref sig .tc := ⟨.hbm, 247, rfl⟩
abbrev main_v190 : Ref sig .tc := ⟨.hbm, 248, rfl⟩
abbrev main_cst_23 : Ref sig .tc := ⟨.hbm, 249, rfl⟩
abbrev main_v191 : Ref sig .tc := ⟨.hbm, 250, rfl⟩
abbrev main_v192 : Ref sig .tc := ⟨.hbm, 251, rfl⟩
abbrev main_v193 : Ref sig .tc := ⟨.hbm, 252, rfl⟩
abbrev main_v194 : Ref sig .tc := ⟨.hbm, 253, rfl⟩
abbrev main_v195 : Ref sig .tc := ⟨.hbm, 254, rfl⟩
abbrev main_v196 : Ref sig .tc := ⟨.hbm, 255, rfl⟩
abbrev main_v197 : Ref sig .tc := ⟨.hbm, 256, rfl⟩
abbrev main_v198 : Ref sig .tc := ⟨.hbm, 257, rfl⟩
abbrev main_v199 : Ref sig .tc := ⟨.hbm, 258, rfl⟩
abbrev main_c : Ref sig .tc := ⟨.hbm, 259, rfl⟩
abbrev main_v200 : Ref sig .tc := ⟨.hbm, 260, rfl⟩
abbrev main_call3_v0 : Ref sig .tc := ⟨.hbm, 261, rfl⟩
abbrev main_call3_c : Ref sig .tc := ⟨.hbm, 262, rfl⟩
abbrev main_call3_v1 : Ref sig .tc := ⟨.hbm, 263, rfl⟩
abbrev main_call3_v2 : Ref sig .tc := ⟨.hbm, 264, rfl⟩
abbrev main_call3_v3 : Ref sig .tc := ⟨.hbm, 265, rfl⟩
abbrev main_call3_v4 : Ref sig .tc := ⟨.hbm, 266, rfl⟩
abbrev main_call3_c_0 : Ref sig .tc := ⟨.hbm, 267, rfl⟩
abbrev main_call3_v5 : Ref sig .tc := ⟨.hbm, 268, rfl⟩
abbrev main_v201 : Ref sig .tc := ⟨.hbm, 269, rfl⟩
abbrev main_call4_call0_cst : Ref sig .tc := ⟨.hbm, 270, rfl⟩
abbrev main_call4_call0_v0 : Ref sig .tc := ⟨.hbm, 271, rfl⟩
abbrev main_v202 : Ref sig .tc := ⟨.hbm, 272, rfl⟩
abbrev main_v203 : Ref sig .tc := ⟨.hbm, 273, rfl⟩
abbrev main_v204 : Ref sig .tc := ⟨.hbm, 274, rfl⟩
abbrev main_v205 : Ref sig .tc := ⟨.hbm, 275, rfl⟩
abbrev main_v206 : Ref sig .tc := ⟨.hbm, 276, rfl⟩
abbrev main_v207 : Ref sig .tc := ⟨.hbm, 277, rfl⟩
abbrev main_v208 : Ref sig .tc := ⟨.hbm, 278, rfl⟩
abbrev main_cst_24 : Ref sig .tc := ⟨.hbm, 279, rfl⟩
abbrev main_call5_v0 : Ref sig .tc := ⟨.hbm, 280, rfl⟩
abbrev main_call5_v1 : Ref sig .tc := ⟨.hbm, 281, rfl⟩
abbrev main_call5_v2 : Ref sig .tc := ⟨.hbm, 282, rfl⟩
abbrev main_v209 : Ref sig .tc := ⟨.hbm, 283, rfl⟩
abbrev main_v210 : Ref sig .tc := ⟨.hbm, 284, rfl⟩
abbrev main_cst_25 : Ref sig .tc := ⟨.hbm, 285, rfl⟩
abbrev main_call6_v0 : Ref sig .tc := ⟨.hbm, 286, rfl⟩
abbrev main_call6_v1 : Ref sig .tc := ⟨.hbm, 287, rfl⟩
abbrev main_call6_v2 : Ref sig .tc := ⟨.hbm, 288, rfl⟩
abbrev main_v211 : Ref sig .tc := ⟨.hbm, 289, rfl⟩
abbrev main_v212 : Ref sig .tc := ⟨.hbm, 290, rfl⟩
abbrev main_v213 : Ref sig .tc := ⟨.hbm, 291, rfl⟩
abbrev main_v214 : Ref sig .tc := ⟨.hbm, 292, rfl⟩
abbrev main_v215 : Ref sig .tc := ⟨.hbm, 293, rfl⟩
abbrev main_v216 : Ref sig .tc := ⟨.hbm, 294, rfl⟩
abbrev main_v217 : Ref sig .tc := ⟨.hbm, 295, rfl⟩
abbrev main_cst_26 : Ref sig .tc := ⟨.hbm, 296, rfl⟩
abbrev main_v218 : Ref sig .tc := ⟨.hbm, 297, rfl⟩
abbrev main_v219 : Ref sig .tc := ⟨.hbm, 298, rfl⟩
abbrev main_v220 : Ref sig .tc := ⟨.hbm, 299, rfl⟩
abbrev main_v221 : Ref sig .tc := ⟨.hbm, 300, rfl⟩
abbrev main_v222 : Ref sig .tc := ⟨.hbm, 301, rfl⟩
abbrev main_v223 : Ref sig .tc := ⟨.hbm, 302, rfl⟩
abbrev main_v224 : Ref sig .tc := ⟨.hbm, 303, rfl⟩
abbrev main_v225 : Ref sig .tc := ⟨.hbm, 304, rfl⟩
abbrev main_v226 : Ref sig .tc := ⟨.hbm, 305, rfl⟩
abbrev main_v227 : Ref sig .tc := ⟨.hbm, 306, rfl⟩
abbrev main_v228 : Ref sig .tc := ⟨.hbm, 307, rfl⟩
abbrev main_v229 : Ref sig .tc := ⟨.hbm, 308, rfl⟩
abbrev main_v230 : Ref sig .tc := ⟨.hbm, 309, rfl⟩
abbrev main_v231 : Ref sig .tc := ⟨.hbm, 310, rfl⟩
abbrev main_v232 : Ref sig .tc := ⟨.hbm, 311, rfl⟩
abbrev main_v233 : Ref sig .tc := ⟨.hbm, 312, rfl⟩
abbrev main_v234 : Ref sig .tc := ⟨.hbm, 313, rfl⟩
abbrev main_v235 : Ref sig .tc := ⟨.hbm, 314, rfl⟩
abbrev main_v236 : Ref sig .tc := ⟨.hbm, 315, rfl⟩
abbrev main_v237 : Ref sig .tc := ⟨.hbm, 316, rfl⟩
abbrev main_v238 : Ref sig .tc := ⟨.hbm, 317, rfl⟩
abbrev main_cst_27 : Ref sig .tc := ⟨.hbm, 318, rfl⟩
abbrev main_v239 : Ref sig .tc := ⟨.hbm, 319, rfl⟩
abbrev main_v240 : Ref sig .tc := ⟨.hbm, 320, rfl⟩
abbrev main_cst_28 : Ref sig .tc := ⟨.hbm, 321, rfl⟩
abbrev main_v241 : Ref sig .tc := ⟨.hbm, 322, rfl⟩
abbrev main_v242 : Ref sig .tc := ⟨.hbm, 323, rfl⟩
abbrev main_cst_29 : Ref sig .tc := ⟨.hbm, 324, rfl⟩
abbrev main_v243 : Ref sig .tc := ⟨.hbm, 325, rfl⟩
abbrev main_v244 : Ref sig .tc := ⟨.hbm, 326, rfl⟩
abbrev main_v245 : Ref sig .tc := ⟨.hbm, 327, rfl⟩
abbrev main_v246 : Ref sig .tc := ⟨.hbm, 328, rfl⟩
abbrev main_v247 : Ref sig .tc := ⟨.hbm, 329, rfl⟩
abbrev main_v248 : Ref sig .tc := ⟨.hbm, 330, rfl⟩
abbrev main_v249 : Ref sig .tc := ⟨.hbm, 331, rfl⟩
abbrev main_v250 : Ref sig .tc := ⟨.hbm, 332, rfl⟩
abbrev main_v251 : Ref sig .tc := ⟨.hbm, 333, rfl⟩
abbrev main_call7_v0 : Ref sig .tc := ⟨.hbm, 334, rfl⟩
abbrev main_call7_v1 : Ref sig .tc := ⟨.hbm, 335, rfl⟩
abbrev main_call7_cst : Ref sig .tc := ⟨.hbm, 336, rfl⟩
abbrev main_call7_v2 : Ref sig .tc := ⟨.hbm, 337, rfl⟩
abbrev main_call7_v3 : Ref sig .tc := ⟨.hbm, 338, rfl⟩
abbrev main_call7_cst_0 : Ref sig .tc := ⟨.hbm, 339, rfl⟩
abbrev main_call7_v4 : Ref sig .tc := ⟨.hbm, 340, rfl⟩
abbrev main_call7_v5 : Ref sig .tc := ⟨.hbm, 341, rfl⟩
abbrev main_v252 : Ref sig .tc := ⟨.hbm, 342, rfl⟩
abbrev main_v253 : Ref sig .tc := ⟨.hbm, 343, rfl⟩
abbrev main_v254 : Ref sig .tc := ⟨.hbm, 344, rfl⟩
abbrev main_v255 : Ref sig .tc := ⟨.hbm, 345, rfl⟩
abbrev main_v256 : Ref sig .tc := ⟨.hbm, 346, rfl⟩

abbrev nD : Nat := 1
abbrev τ : Topo := Topo.v7x

variable {F : FTy → Type} [FloatOps F]
-- ==== Proj.lean ====
abbrev S4x2048x2048 : Shape := ⟨3, ![4, 2048, 2048]⟩
abbrev S1x2048 : Shape := ⟨2, ![1, 2048]⟩
abbrev S1x2048x6160 : Shape := ⟨3, ![1, 2048, 6160]⟩
abbrev S8192x2048 : Shape := ⟨2, ![8192, 2048]⟩
abbrev S2048x6160 : Shape := ⟨2, ![2048, 6160]⟩
abbrev S_ : Shape := ⟨0, ![]⟩
abbrev S2048x6400 : Shape := ⟨2, ![2048, 6400]⟩
abbrev S2048 : Shape := ⟨1, ![2048]⟩
abbrev S8192x6400 : Shape := ⟨2, ![8192, 6400]⟩
abbrev S512x2048 : Shape := ⟨2, ![512, 2048]⟩
abbrev S2048x1280 : Shape := ⟨2, ![2048, 1280]⟩
abbrev S512x1280 : Shape := ⟨2, ![512, 1280]⟩
abbrev S512 : Shape := ⟨1, ![512]⟩
abbrev S512x1 : Shape := ⟨2, ![512, 1]⟩

abbrev nBuf : Space → Nat
  | .hbm => 12
  | .vmem => 8
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S1x2048x6160, .f32⟩
  | .hbm, ⟨3, _⟩ => ⟨S8192x2048, .f32⟩
  | .hbm, ⟨4, _⟩ => ⟨S2048x6160, .f32⟩
  | .hbm, ⟨5, _⟩ => ⟨S_, .i32⟩
  | .hbm, ⟨6, _⟩ => ⟨S_, .f32⟩
  | .hbm, ⟨7, _⟩ => ⟨S2048x6400, .f32⟩
  | .hbm, ⟨8, _⟩ => ⟨S2048x6400, .bf16⟩
  | .hbm, ⟨9, _⟩ => ⟨S2048, .f32⟩
  | .hbm, ⟨10, _⟩ => ⟨S1x2048, .f32⟩
  | .hbm, ⟨11, _⟩ => ⟨S8192x6400, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1280, .bf16⟩
  | .local _ .vmem, ⟨4, _⟩ => ⟨S2048x1280, .bf16⟩
  | .local _ .vmem, ⟨5, _⟩ => ⟨S512x1280, .f32⟩
  | .local _ .vmem, ⟨6, _⟩ => ⟨S512x1280, .f32⟩
  | .local _ .vmem, ⟨7, _⟩ => ⟨S512x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjRefIdeal.lean ====
abbrev S4x2048x2048 : Shape := ⟨3, ![4, 2048, 2048]⟩
abbrev S1x2048 : Shape := ⟨2, ![1, 2048]⟩
abbrev S1x2048x6160 : Shape := ⟨3, ![1, 2048, 6160]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S2048x6160 : Shape := ⟨2, ![2048, 6160]⟩
abbrev S4x2048x6160 : Shape := ⟨3, ![4, 2048, 6160]⟩
abbrev S4x2048x6400 : Shape := ⟨3, ![4, 2048, 6400]⟩
abbrev S8192x6400 : Shape := ⟨2, ![8192, 6400]⟩

abbrev nBuf : Space → Nat
  | .hbm => 26
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S1x2048x6160, .f32⟩
  | .hbm, ⟨3, _⟩ => ⟨S2048, .f32⟩
  | .hbm, ⟨4, _⟩ => ⟨S4x2048x2048, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S4x2048x2048, .f32⟩
  | .hbm, ⟨16, _⟩ => ⟨S4x2048x2048, .f32⟩
  | .hbm, ⟨17, _⟩ => ⟨S1x1x2048, .f32⟩
  | .hbm, ⟨18, _⟩ => ⟨S4x2048x2048, .f32⟩
  | .hbm, ⟨19, _⟩ => ⟨S4x2048x2048, .f32⟩
  | .hbm, ⟨20, _⟩ => ⟨S2048x6160, .f32⟩
  | .hbm, ⟨21, _⟩ => ⟨S4x2048x6160, .f32⟩
  | .hbm, ⟨22, _⟩ => ⟨S_, .i32⟩
  | .hbm, ⟨23, _⟩ => ⟨S_, .f32⟩
  | .hbm, ⟨24, _⟩ => ⟨S4x2048x6400, .f32⟩
  | .hbm, ⟨25, _⟩ => ⟨S8192x6400, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_call0_v0 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Query.lean ====
abbrev S8192x2048 : Shape := ⟨2, ![8192, 2048]⟩
abbrev S4x2048x2048 : Shape := ⟨3, ![4, 2048, 2048]⟩
abbrev S1x2048x2048 : Shape := ⟨3, ![1, 2048, 2048]⟩
abbrev S1x2048 : Shape := ⟨2, ![1, 2048]⟩
abbrev S1x8x128x128 : Shape := ⟨4, ![1, 8, 128, 128]⟩
abbrev S2048 : Shape := ⟨1, ![2048]⟩
abbrev S2048x2048 : Shape := ⟨2, ![2048, 2048]⟩
abbrev S8x128x128 : Shape := ⟨3, ![8, 128, 128]⟩
abbrev S8x128x8192 : Shape := ⟨3, ![8, 128, 8192]⟩
abbrev S256x2048 : Shape := ⟨2, ![256, 2048]⟩
abbrev S8x128x256 : Shape := ⟨3, ![8, 128, 256]⟩
abbrev S256 : Shape := ⟨1, ![256]⟩
abbrev S256x1 : Shape := ⟨2, ![256, 1]⟩
abbrev S256x128 : Shape := ⟨2, ![256, 128]⟩
abbrev S1x128x128 : Shape := ⟨3, ![1, 128, 128]⟩
abbrev S128x128 : Shape := ⟨2, ![128, 128]⟩
abbrev S128x256 : Shape := ⟨2, ![128, 256]⟩
abbrev S1x128x256 : Shape := ⟨3, ![1, 128, 256]⟩

abbrev nBuf : Space → Nat
  | .hbm => 22
  | .vmem => 17
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .f32⟩
  | .hbm, ⟨2, _⟩ => ⟨S1x2048x2048, .f32⟩
  | .hbm, ⟨3, _⟩ => ⟨S1x2048, .f32⟩
  | .hbm, ⟨4, _⟩ => ⟨S1x2048x2048, .f32⟩
  | .hbm, ⟨5, _⟩ => ⟨S1x8x128x128, .f32⟩
  | .hbm, ⟨6, _⟩ => ⟨S1x8x128x128, .f32⟩
  | .hbm, ⟨7, _⟩ => ⟨S8192x2048, .f32⟩
  | .hbm, ⟨8, _⟩ => ⟨S2048, .f32⟩
  | .hbm, ⟨9, _⟩ => ⟨S1x2048, .f32⟩
  | .hbm, ⟨10, _⟩ => ⟨S2048x2048, .f32⟩
  | .hbm, ⟨11, _⟩ => ⟨S2048x2048, .bf16⟩
  | .hbm, ⟨12, _⟩ => ⟨S2048x2048, .f32⟩
  | .hbm, ⟨13, _⟩ => ⟨S2048x2048, .bf16⟩
  | .hbm, ⟨14, _⟩ => ⟨S8x128x128, .f32⟩
  | .hbm, ⟨15, _⟩ => ⟨S8x128x128, .bf16⟩
  | .hbm, ⟨16, _⟩ => ⟨S8x128x128, .f32⟩
  | .hbm, ⟨17, _⟩ => ⟨S8x128x128, .bf16⟩
  | .hbm, ⟨18, _⟩ => ⟨S8192x2048, .f32⟩
  | .hbm, ⟨19, _⟩ => ⟨S8192x2048, .bf16⟩
  | .hbm, ⟨20, _⟩ => ⟨S8x128x8192, .f32⟩
  | .hbm, ⟨21, _⟩ => ⟨S8x128x8192, .f32⟩
  | .local _ .vmem, ⟨0, _⟩ => ⟨S256x2048, .bf16⟩
  | .local _ .vmem, ⟨1, _⟩ => ⟨S256x2048, .bf16⟩
  | .local _ .vmem, ⟨2, _⟩ => ⟨S256x2048, .f32⟩
  | .local _ .vmem, ⟨3, _⟩ => ⟨S256x2048, .f32⟩
  | .local _ .vmem, ⟨4, _⟩ => ⟨S2048x2048, .bf16⟩
  | .local _ .vmem, ⟨5, _⟩ => ⟨S1x2048, .f32⟩
  | .local _ .vmem, ⟨6, _⟩ => ⟨S2048x2048, .bf16⟩
  | .local _ .vmem, ⟨7, _⟩ => ⟨S8x128x128, .bf16⟩
  | .local _ .vmem, ⟨8, _⟩ => ⟨S8x128x128, .bf16⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S8x128x256, .f32⟩
  | .local _ .vmem, ⟨14, _⟩ => ⟨S8x128x256, .f32⟩
  | .local _ .vmem, ⟨15, _⟩ => ⟨S8x128x256, .f32⟩
  | .local _ .vmem, ⟨16, _⟩ => ⟨S8x128x256, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v11_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== QueryRefIdeal.lean ====
abbrev S8192x2048 : Shape := ⟨2, ![8192, 2048]⟩
abbrev S4x2048x2048 : Shape := ⟨3, ![4, 2048, 2048]⟩
abbrev S1x2048x2048 : Shape := ⟨3, ![1, 2048, 2048]⟩
abbrev S1x2048 : Shape := ⟨2, ![1, 2048]⟩
abbrev S1x8x128x128 : Shape := ⟨4, ![1, 8, 128, 128]⟩
abbrev S2048x2048 : Shape := ⟨2, ![2048, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S8192x8x2x128 : Shape := ⟨4, ![8192, 8, 2, 128]⟩
abbrev S8192x8x1x128 : Shape := ⟨4, ![8192, 8, 1, 128]⟩
abbrev S8192x8x128 : Shape := ⟨3, ![8192, 8, 128]⟩
abbrev S8x128x128 : Shape := ⟨3, ![8, 128, 128]⟩
abbrev S8x128x8192 : Shape := ⟨3, ![8, 128, 8192]⟩

abbrev nBuf : Space → Nat
  | .hbm => 47
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .f32⟩
  | .hbm, ⟨2, _⟩ => ⟨S1x2048x2048, .f32⟩
  | .hbm, ⟨3, _⟩ => ⟨S1x2048, .f32⟩
  | .hbm, ⟨4, _⟩ => ⟨S1x2048x2048, .f32⟩
  | .hbm, ⟨5, _⟩ => ⟨S1x8x128x128, .f32⟩
  | .hbm, ⟨6, _⟩ => ⟨S1x8x128x128, .f32⟩
  | .hbm, ⟨7, _⟩ => ⟨S8192x2048, .f32⟩
  | .hbm, ⟨8, _⟩ => ⟨S4x2048x2048, .f32⟩
  | .hbm, ⟨9, _⟩ => ⟨S2048x2048, .f32⟩
  | .hbm, ⟨10, _⟩ => ⟨S4x2048x2048, .f32⟩
  | .hbm, ⟨11, _⟩ => ⟨S4x2048x2048, .f32⟩
  | .hbm, ⟨12, _⟩ => ⟨S2048, .f32⟩
  | .hbm, ⟨13, _⟩ => ⟨S4x2048x2048, .f32⟩
  | .hbm, ⟨14, _⟩ => ⟨S_, .f32⟩
  | .hbm, ⟨15, _⟩ => ⟨S4x2048, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S_, .f32⟩
  | .hbm, ⟨21, _⟩ => ⟨S4x2048x1, .f32⟩
  | .hbm, ⟨22, _⟩ => ⟨S4x2048x1, .f32⟩
  | .hbm, ⟨23, _⟩ => ⟨S4x2048x1, .f32⟩
  | .hbm, ⟨24, _⟩ => ⟨S4x2048x2048, .f32⟩
  | .hbm, ⟨25, _⟩ => ⟨S4x2048x2048, .f32⟩
  | .hbm, ⟨26, _⟩ => ⟨S1x1x2048, .f32⟩
  | .hbm, ⟨27, _⟩ => ⟨S4x2048x2048, .f32⟩
  | .hbm, ⟨28, _⟩ => ⟨S4x2048x2048, .f32⟩
  | .hbm, ⟨29, _⟩ => ⟨S8192x2048, .f32⟩
  | .hbm, ⟨30, _⟩ => ⟨S2048x2048, .f32⟩
  | .hbm, ⟨31, _⟩ => ⟨S8192x2048, .f32⟩
  | .hbm, ⟨32, _⟩ => ⟨S8192x8x2x128, .f32⟩
  | .hbm, ⟨33, _⟩ => ⟨S8192x8x1x128, .f32⟩
  | .hbm, ⟨34, _⟩ => ⟨S8192x8x128, .f32⟩
  | .hbm, ⟨35, _⟩ => ⟨S8x128x128, .f32⟩
  | .hbm, ⟨36, _⟩ => ⟨S8x128x8192, .f32⟩
  | .hbm, ⟨37, _⟩ => ⟨S8192x8x128, .f32⟩
  | .hbm, ⟨38, _⟩ => ⟨S8192x8x1x128, .f32⟩
  | .hbm, ⟨39, _⟩ => ⟨S8192x8x128, .f32⟩
  | .hbm, ⟨40, _⟩ => ⟨S8x128x128, .f32⟩
  | .hbm, ⟨41, _⟩ => ⟨S8x128x8192, .f32⟩
  | .hbm, ⟨42, _⟩ => ⟨S8192x8x128, .f32⟩
  | .hbm, ⟨43, _⟩ => ⟨S8192x2048, .f32⟩
  | .hbm, ⟨44, _⟩ => ⟨S8192x2048, .bf16⟩
  | .hbm, ⟨45, _⟩ => ⟨S8x128x8192, .f32⟩
  | .hbm, ⟨46, _⟩ => ⟨S8x128x8192, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== Experts.lean ====
abbrev S8192x2048 : Shape := ⟨2, ![8192, 2048]⟩
abbrev S8x128x8192 : Shape := ⟨3, ![8, 128, 8192]⟩
abbrev S8x8192 : Shape := ⟨2, ![8, 8192]⟩
abbrev S1x16384x2048 : Shape := ⟨3, ![1, 16384, 2048]⟩
abbrev S2048 : Shape := ⟨1, ![2048]⟩
abbrev S1x2048 : Shape := ⟨2, ![1, 2048]⟩
abbrev S16384x2048 : Shape := ⟨2, ![16384, 2048]⟩
abbrev S2048x16384 : Shape := ⟨2, ![2048, 16384]⟩
abbrev S512x2048 : Shape := ⟨2, ![512, 2048]⟩
abbrev S2048x512 : Shape := ⟨2, ![2048, 512]⟩
abbrev S8x128x512 : Shape := ⟨3, ![8, 128, 512]⟩
abbrev S8x512 : Shape := ⟨2, ![8, 512]⟩
abbrev S512x512 : Shape := ⟨2, ![512, 512]⟩
abbrev S128x256 : Shape := ⟨2, ![128, 256]⟩
abbrev S1x1x256 : Shape := ⟨3, ![1, 1, 256]⟩
abbrev S1x256 : Shape := ⟨2, ![1, 256]⟩
abbrev S1x128x256 : Shape := ⟨3, ![1, 128, 256]⟩
abbrev S512 : Shape := ⟨1, ![512]⟩
abbrev S512x1 : Shape := ⟨2, ![512, 1]⟩

abbrev nBuf : Space → Nat
  | .hbm => 17
  | .vmem => 23
  | .smem => 0
  | _ => 0

abbrev bufTy : (tb : Table) → Fin (tcTables nBuf tb) → BufTy
  | .hbm, ⟨0, _⟩ => ⟨S8192x2048, .bf16⟩
  | .hbm, ⟨1, _⟩ => ⟨S8x128x8192, .f32⟩
  | .hbm, ⟨2, _⟩ => ⟨S8x128x8192, .f32⟩
  | .hbm, ⟨3, _⟩ => ⟨S8x128x8192, .f32⟩
  | .hbm, ⟨4, _⟩ => ⟨S8x128x8192, .f32⟩
  | .hbm, ⟨5, _⟩ => ⟨S8x8192, .f32⟩
  | .hbm, ⟨6, _⟩ => ⟨S8192x2048, .f32⟩
  | .hbm, ⟨7, _⟩ => ⟨S1x16384x2048, .f32⟩
  | .hbm, ⟨8, _⟩ => ⟨S1x16384x2048, .f32⟩
  | .hbm, ⟨9, _⟩ => ⟨S2048, .f32⟩
  | .hbm, ⟨10, _⟩ => ⟨S1x2048, .f32⟩
  | .hbm, ⟨11, _⟩ => ⟨S16384x2048, .f32⟩
  | .hbm, ⟨12, _⟩ => ⟨S16384x2048, .bf16⟩
  | .hbm, ⟨13, _⟩ => ⟨S16384x2048, .f32⟩
  | .hbm, ⟨14, _⟩ => ⟨S16384x2048, .bf16⟩
  | .hbm, ⟨15, _⟩ => ⟨S2048x16384, .bf16⟩
  | .hbm, ⟨16, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x512, .bf16⟩
  | .local _ .vmem, ⟨5, _⟩ => ⟨S2048x512, .bf16⟩
  | .local _ .vmem, ⟨6, _⟩ => ⟨S8x128x512, .f32⟩
  | .local _ .vmem, ⟨7, _⟩ => ⟨S8x128x512, .f32⟩
  | .local _ .vmem, ⟨8, _⟩ => ⟨S8x128x512, .f32⟩
  | .local _ .vmem, ⟨9, _⟩ => ⟨S8x128x512, .f32⟩
  | .local _ .vmem, ⟨10, _⟩ => ⟨S8x128x512, .f32⟩
  | .local _ .vmem, ⟨11, _⟩ => ⟨S8x128x512, .f32⟩
  | .local _ .vmem, ⟨12, _⟩ => ⟨S8x128x512, .f32⟩
  | .local _ .vmem, ⟨13, _⟩ => ⟨S8x128x512, .f32⟩
  | .local _ .vmem, ⟨14, _⟩ => ⟨S8x512, .f32⟩
  | .local _ .vmem, ⟨15, _⟩ => ⟨S8x512, .f32⟩
  | .local _ .vmem, ⟨16, _⟩ => ⟨S512x2048, .f32⟩
  | .local _ .vmem, ⟨17, _⟩ => ⟨S512x2048, .f32⟩
  | .local _ .vmem, ⟨18, _⟩ => ⟨S1x2048, .f32⟩
  | .local _ .vmem, ⟨19, _⟩ => ⟨S512x2048, .f32⟩
  | .local _ .vmem, ⟨20, _⟩ => ⟨S512x2048, .f32⟩
  | .local _ .vmem, ⟨21, _⟩ => ⟨S2048x512, .f32⟩
  | .local _ .vmem, ⟨22, _⟩ => ⟨S512x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![16, 32], ![false, false]⟩

def k0_off1 (i : grid0.Coords) (c0_i32_4 : BitVec 32) : Fin 3 → Nat :=
  let c0_6 : Index := 0#32
  let arg1 : BitVec 32 := BitVec.ofNat 32 (i 1).val
  let c4_i32 : BitVec 32 := 4#32
  let v7 : BitVec 32 := Scalar.muli arg1 c4_i32
  let v8 : BitVec 32 := Scalar.addi v7 c0_i32_4
  let v10 : Index := Scalar.indexCast v8
  let c0_7 : Index := 0#32
  ![0, v10.toNat, 0]
def k0_off2 (i : grid0.Coords) (c0_i32_4 : BitVec 32) : Fin 3 → Nat :=
  let c1 : Index := 1#32
  let arg1 : BitVec 32 := BitVec.ofNat 32 (i 1).val
  let c4_i32 : BitVec 32 := 4#32
  let v7 : BitVec 32 := Scalar.muli arg1 c4_i32
  let v8 : BitVec 32 := Scalar.addi v7 c0_i32_4
  let v30 : Index := Scalar.indexCast v8
  let c0_19 : Index := 0#32
  ![1, v30.toNat, 0]
def k0_off3 (i : grid0.Coords) (c0_i32_4 : BitVec 32) : Fin 3 → Nat :=
  let c2 : Index := 2#32
  let arg1 : BitVec 32 := BitVec.ofNat 32 (i 1).val
  let c4_i32 : BitVec 32 := 4#32
  let v7 : BitVec 32 := Scalar.muli arg1 c4_i32
  let v8 : BitVec 32 := Scalar.addi v7 c0_i32_4
  let v50 : Index := Scalar.indexCast v8
  let c0_31 : Index := 0#32
  ![2, v50.toNat, 0]
def k0_off4 (i : grid0.Coords) (c0_i32_4 : BitVec 32) : Fin 3 → Nat :=
  let c3 : Index := 3#32
  let arg1 : BitVec 32 := BitVec.ofNat 32 (i 1).val
  let c4_i32 : BitVec 32 := 4#32
  let v7 : BitVec 32 := Scalar.muli arg1 c4_i32
  let v8 : BitVec 32 := Scalar.addi v7 c0_i32_4
  let v70 : Index := Scalar.indexCast v8
  let c0_43 : Index := 0#32
  ![3, v70.toNat, 0]
def k0_off5 (i : grid0.Coords) (c0_i32_4 : BitVec 32) : Fin 3 → Nat :=
  let c4 : Index := 4#32
  let arg1 : BitVec 32 := BitVec.ofNat 32 (i 1).val
  let c4_i32 : BitVec 32 := 4#32
  let v7 : BitVec 32 := Scalar.muli arg1 c4_i32
  let v8 : BitVec 32 := Scalar.addi v7 c0_i32_4
  let v90 : Index := Scalar.indexCast v8
  let c0_55 : Index := 0#32
  ![4, v90.toNat, 0]
def k0_off6 (i : grid0.Coords) (c0_i32_4 : BitVec 32) : Fin 3 → Nat :=
  let c5 : Index := 5#32
  let arg1 : BitVec 32 := BitVec.ofNat 32 (i 1).val
  let c4_i32 : BitVec 32 := 4#32
  let v7 : BitVec 32 := Scalar.muli arg1 c4_i32
  let v8 : BitVec 32 := Scalar.addi v7 c0_i32_4
  let v110 : Index := Scalar.indexCast v8
  let c0_67 : Index := 0#32
  ![5, v110.toNat, 0]
def k0_off7 (i : grid0.Coords) (c0_i32_4 : BitVec 32) : Fin 3 → Nat :=
  let c6 : Index := 6#32
  let arg1 : BitVec 32 := BitVec.ofNat 32 (i 1).val
  let c4_i32 : BitVec 32 := 4#32
  let v7 : BitVec 32 := Scalar.muli arg1 c4_i32
  let v8 : BitVec 32 := Scalar.addi v7 c0_i32_4
  let v130 : Index := Scalar.indexCast v8
  let c0_79 : Index := 0#32
  ![6, v130.toNat, 0]
def k0_off8 (i : grid0.Coords) (c0_i32_4 : BitVec 32) : Fin 3 → Nat :=
  let c7 : Index := 7#32
  let arg1 : BitVec 32 := BitVec.ofNat 32 (i 1).val
  let c4_i32 : BitVec 32 := 4#32
  let v7 : BitVec 32 := Scalar.muli arg1 c4_i32
  let v8 : BitVec 32 := Scalar.addi v7 c0_i32_4
  let v150 : Index := Scalar.indexCast v8
  let c0_91 : Index := 0#32
  ![7, v150.toNat, 0]
def k0_off9 (i : grid0.Coords) (c0_i32_4 : BitVec 32) : Fin 3 → Nat :=
  let c0_109 : Index := 0#32
  let arg1 : BitVec 32 := BitVec.ofNat 32 (i 1).val
  let c4_i32 : BitVec 32 := 4#32
  let v7 : BitVec 32 := Scalar.muli arg1 c4_i32
  let v8 : BitVec 32 := Scalar.addi v7 c0_i32_4
  let v185 : Index := Scalar.indexCast v8
  let c256 : Index := 256#32
  ![0, v185.toNat, 256]
def k0_off10 (i : grid0.Coords) (c0_i32_4 : BitVec 32) : Fin 3 → Nat :=
  let c1_121 : Index := 1#32
  let arg1 : BitVec 32 := BitVec.ofNat 32 (i 1).val
  let c4_i32 : BitVec 32 := 4#32
  let v7 : BitVec 32 := Scalar.muli arg1 c4_i32
  let v8 : BitVec 32 := Scalar.addi v7 c0_i32_4
  let v205 : Index := Scalar.indexCast v8
  let c256_122 : Index := 256#32
  ![1, v205.toNat, 256]
def k0_off11 (i : grid0.Coords) (c0_i32_4 : BitVec 32) : Fin 3 → Nat :=
  let c2_134 : Index := 2#32
  let arg1 : BitVec 32 := BitVec.ofNat 32 (i 1).val
  let c4_i32 : BitVec 32 := 4#32
  let v7 : BitVec 32 := Scalar.muli arg1 c4_i32
  let v8 : BitVec 32 := Scalar.addi v7 c0_i32_4
  let v225 : Index := Scalar.indexCast v8
  let c256_135 : Index := 256#32
  ![2, v225.toNat, 256]
def k0_off12 (i : grid0.Coords) (c0_i32_4 : BitVec 32) : Fin 3 → Nat :=
  let c3_147 : Index := 3#32
  let arg1 : BitVec 32 := BitVec.ofNat 32 (i 1).val
  let c4_i32 : BitVec 32 := 4#32
  let v7 : BitVec 32 := Scalar.muli arg1 c4_i32
  let v8 : BitVec 32 := Scalar.addi v7 c0_i32_4
  let v245 : Index := Scalar.indexCast v8
  let c256_148 : Index := 256#32
  ![3, v245.toNat, 256]
def k0_off13 (i : grid0.Coords) (c0_i32_4 : BitVec 32) : Fin 3 → Nat :=
  let c4_160 : Index := 4#32
  let arg1 : BitVec 32 := BitVec.ofNat 32 (i 1).val
  let c4_i32 : BitVec 32 := 4#32
  let v7 : BitVec 32 := Scalar.muli arg1 c4_i32
  let v8 : BitVec 32 := Scalar.addi v7 c0_i32_4
  let v265 : Index := Scalar.indexCast v8
  let c256_161 : Index := 256#32
  ![4, v265.toNat, 256]
def k0_off14 (i : grid0.Coords) (c0_i32_4 : BitVec 32) : Fin 3 → Nat :=
  let c5_173 : Index := 5#32
  let arg1 : BitVec 32 := BitVec.ofNat 32 (i 1).val
  let c4_i32 : BitVec 32 := 4#32
  let v7 : BitVec 32 := Scalar.muli arg1 c4_i32
  let v8 : BitVec 32 := Scalar.addi v7 c0_i32_4
  let v285 : Index := Scalar.indexCast v8
  let c256_174 : Index := 256#32
  ![5, v285.toNat, 256]
def k0_off15 (i : grid0.Coords) (c0_i32_4 : BitVec 32) : Fin 3 → Nat :=
  let c6_186 : Index := 6#32
  let arg1 : BitVec 32 := BitVec.ofNat 32 (i 1).val
  let c4_i32 : BitVec 32 := 4#32
  let v7 : BitVec 32 := Scalar.muli arg1 c4_i32
  let v8 : BitVec 32 := Scalar.addi v7 c0_i32_4
  let v305 : Index := Scalar.indexCast v8
  let c256_187 : Index := 256#32
  ![6, v305.toNat, 256]
def k0_off16 (i : grid0.Coords) (c0_i32_4 : BitVec 32) : Fin 3 → Nat :=
  let c7_199 : Index := 7#32
  let arg1 : BitVec 32 := BitVec.ofNat 32 (i 1).val
  let c4_i32 : BitVec 32 := 4#32
  let v7 : BitVec 32 := Scalar.muli arg1 c4_i32
  let v8 : BitVec 32 := Scalar.addi v7 c0_i32_4
  let v325 : Index := Scalar.indexCast v8
  let c256_200 : Index := 256#32
  ![7, v325.toNat, 256]
def k0_cond2 (i : grid0.Coords) : BitVec 1 :=
  let arg1 : BitVec 32 := BitVec.ofNat 32 (i 1).val
  let c31_i32 : BitVec 32 := 31#32
  let v1424 : BitVec 1 := Scalar.cmpi .eq arg1 c31_i32
  let v1425 : BitVec 32 := Scalar.extui v1424
  let c0_i32_887 : BitVec 32 := 0#32
  let v1426 : BitVec 1 := Scalar.cmpi .ne v1425 c0_i32_887
  v1426

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ExpertsRefIdeal.lean ====
abbrev S8192x2048 : Shape := ⟨2, ![8192, 2048]⟩
abbrev S8x128x8192 : Shape := ⟨3, ![8, 128, 8192]⟩
abbrev S8x8192 : Shape := ⟨2, ![8, 8192]⟩
abbrev S1x16384x2048 : Shape := ⟨3, ![1, 16384, 2048]⟩
abbrev S2048 : Shape := ⟨1, ![2048]⟩
abbrev S8x128x1x8192 : Shape := ⟨4, ![8, 128, 1, 8192]⟩
abbrev S8x1x128x8192 : Shape := ⟨4, ![8, 1, 128, 8192]⟩
abbrev S8x128x128x8192 : Shape := ⟨4, ![8, 128, 128, 8192]⟩
abbrev S8x1x1x8192 : Shape := ⟨4, ![8, 1, 1, 8192]⟩
abbrev S_ : Shape := ⟨0, ![]⟩
abbrev S128x128x8192 : Shape := ⟨3, ![128, 128, 8192]⟩
abbrev S16384x8192 : Shape := ⟨2, ![16384, 8192]⟩
abbrev S16384x2048 : Shape := ⟨2, ![16384, 2048]⟩
abbrev S8192 : Shape := ⟨1, ![8192]⟩
abbrev S8192x1 : Shape := ⟨2, ![8192, 1]⟩
abbrev S1x2048 : Shape := ⟨2, ![1, 2048]⟩

abbrev nBuf : Space → Nat
  | .hbm => 62
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8x128x8192, .f32⟩
  | .hbm, ⟨2, _⟩ => ⟨S8x128x8192, .f32⟩
  | .hbm, ⟨3, _⟩ => ⟨S8x128x8192, .f32⟩
  | .hbm, ⟨4, _⟩ => ⟨S8x128x8192, .f32⟩
  | .hbm, ⟨5, _⟩ => ⟨S8x8192, .f32⟩
  | .hbm, ⟨6, _⟩ => ⟨S8192x2048, .f32⟩
  | .hbm, ⟨7, _⟩ => ⟨S1x16384x2048, .f32⟩
  | .hbm, ⟨8, _⟩ => ⟨S1x16384x2048, .f32⟩
  | .hbm, ⟨9, _⟩ => ⟨S2048, .f32⟩
  | .hbm, ⟨10, _⟩ => ⟨S8x128x1x8192, .f32⟩
  | .hbm, ⟨11, _⟩ => ⟨S8x1x128x8192, .f32⟩
  | .hbm, ⟨12, _⟩ => ⟨S8x128x128x8192, .f32⟩
  | .hbm, ⟨13, _⟩ => ⟨S8x128x128x8192, .f32⟩
  | .hbm, ⟨14, _⟩ => ⟨S8x128x128x8192, .f32⟩
  | .hbm, ⟨15, _⟩ => ⟨S8x1x1x8192, .f32⟩
  | .hbm, ⟨16, _⟩ => ⟨S8x128x128x8192, .f32⟩
  | .hbm, ⟨17, _⟩ => ⟨S8x128x128x8192, .i1⟩
  | .hbm, ⟨18, _⟩ => ⟨S8x128x1x8192, .f32⟩
  | .hbm, ⟨19, _⟩ => ⟨S8x1x128x8192, .f32⟩
  | .hbm, ⟨20, _⟩ => ⟨S8x128x128x8192, .f32⟩
  | .hbm, ⟨21, _⟩ => ⟨S8x128x128x8192, .f32⟩
  | .hbm, ⟨22, _⟩ => ⟨S8x128x128x8192, .f32⟩
  | .hbm, ⟨23, _⟩ => ⟨S_, .f32⟩
  | .hbm, ⟨24, _⟩ => ⟨S_, .f32⟩
  | .hbm, ⟨25, _⟩ => ⟨S8x128x128x8192, .f32⟩
  | .hbm, ⟨26, _⟩ => ⟨S8x128x128x8192, .f32⟩
  | .hbm, ⟨27, _⟩ => ⟨S_, .f32⟩
  | .hbm, ⟨28, _⟩ => ⟨S128x128x8192, .f32⟩
  | .hbm, ⟨29, _⟩ => ⟨S16384x8192, .f32⟩
  | .hbm, ⟨30, _⟩ => ⟨S16384x2048, .f32⟩
  | .hbm, ⟨31, _⟩ => ⟨S8192x2048, .f32⟩
  | .hbm, ⟨32, _⟩ => ⟨S16384x8192, .f32⟩
  | .hbm, ⟨33, _⟩ => ⟨S_, .f32⟩
  | .hbm, ⟨34, _⟩ => ⟨S16384x8192, .f32⟩
  | .hbm, ⟨35, _⟩ => ⟨S16384x8192, .f32⟩
  | .hbm, ⟨36, _⟩ => ⟨S16384x8192, .f32⟩
  | .hbm, ⟨37, _⟩ => ⟨S_, .f32⟩
  | .hbm, ⟨38, _⟩ => ⟨S16384x8192, .f32⟩
  | .hbm, ⟨39, _⟩ => ⟨S16384x8192, .f32⟩
  | .hbm, ⟨40, _⟩ => ⟨S16384x8192, .f32⟩
  | .hbm, ⟨41, _⟩ => ⟨S16384x8192, .f32⟩
  | .hbm, ⟨42, _⟩ => ⟨S16384x8192, .f32⟩
  | .hbm, ⟨43, _⟩ => ⟨S16384x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S8192, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S8192x1, .f32⟩
  | .hbm, ⟨57, _⟩ => ⟨S8192x2048, .f32⟩
  | .hbm, ⟨58, _⟩ => ⟨S8192x2048, .f32⟩
  | .hbm, ⟨59, _⟩ => ⟨S1x2048, .f32⟩
  | .hbm, ⟨60, _⟩ => ⟨S8192x2048, .f32⟩
  | .hbm, ⟨61, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_3 : Ref sig .tc := ⟨.hbm, 47, rfl⟩
abbrev main_v31 : Ref sig .tc := ⟨.hbm, 48, rfl⟩
abbrev main_v32 : Ref sig .tc := ⟨.hbm, 49, rfl⟩
abbrev main_cst_4 : Ref sig .tc := ⟨.hbm, 50, rfl⟩
abbrev main_v33 : Ref sig .tc := ⟨.hbm, 51, rfl⟩
abbrev main_v34 : Ref sig .tc := ⟨.hbm, 52, rfl⟩
abbrev main_cst_5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩

abbrev nD : Nat := 1
abbrev τ : Topo := Topo.v7x

variable {F : FTy → Type} [FloatOps F]
-- ==== Route.lean ====
abbrev S8x128x8192 : Shape := ⟨3, ![8, 128, 8192]⟩
abbrev S8x8192 : Shape := ⟨2, ![8, 8192]⟩
abbrev S8x128x256 : Shape := ⟨3, ![8, 128, 256]⟩
abbrev S8x256 : Shape := ⟨2, ![8, 256]⟩
abbrev S56x256 : Shape := ⟨2, ![56, 256]⟩
abbrev S1x128x256 : Shape := ⟨3, ![1, 128, 256]⟩
abbrev S128x256 : Shape := ⟨2, ![128, 256]⟩
abbrev S256 : Shape := ⟨1, ![256]⟩
abbrev S1x256 : Shape := ⟨2, ![1, 256]⟩

abbrev nBuf : Space → Nat
  | .hbm => 5
  | .vmem => 10
  | .smem => 0
  | _ => 0

abbrev bufTy : (tb : Table) → Fin (tcTables nBuf tb) → BufTy
  | .hbm, ⟨0, _⟩ => ⟨S8x128x8192, .f32⟩
  | .hbm, ⟨1, _⟩ => ⟨S8x128x8192, .f32⟩
  | .hbm, ⟨2, _⟩ => ⟨S8x8192, .f32⟩
  | .hbm, ⟨3, _⟩ => ⟨S8x128x8192, .f32⟩
  | .hbm, ⟨4, _⟩ => ⟨S8x128x8192, .f32⟩
  | .local _ .vmem, ⟨0, _⟩ => ⟨S8x128x256, .f32⟩
  | .local _ .vmem, ⟨1, _⟩ => ⟨S8x128x256, .f32⟩
  | .local _ .vmem, ⟨2, _⟩ => ⟨S8x128x256, .f32⟩
  | .local _ .vmem, ⟨3, _⟩ => ⟨S8x128x256, .f32⟩
  | .local _ .vmem, ⟨4, _⟩ => ⟨S8x256, .f32⟩
  | .local _ .vmem, ⟨5, _⟩ => ⟨S8x256, .f32⟩
  | .local _ .vmem, ⟨6, _⟩ => ⟨S8x128x256, .f32⟩
  | .local _ .vmem, ⟨7, _⟩ => ⟨S8x128x256, .f32⟩
  | .local _ .vmem, ⟨8, _⟩ => ⟨S8x128x256, .f32⟩
  | .local _ .vmem, ⟨9, _⟩ => ⟨S8x128x256, .f32⟩
  | _, _ => ⟨S8x128x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S8x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RouteRefIdeal.lean ====
abbrev S8x128x8192 : Shape := ⟨3, ![8, 128, 8192]⟩
abbrev S8192x8x128 : Shape := ⟨3, ![8192, 8, 128]⟩
abbrev S8192x8x16 : Shape := ⟨3, ![8192, 8, 16]⟩
abbrev S8192x8x16x1 : Shape := ⟨4, ![8192, 8, 16, 1]⟩
abbrev S8192x8x1x16 : Shape := ⟨4, ![8192, 8, 1, 16]⟩
abbrev S8192x8x16x16 : Shape := ⟨4, ![8192, 8, 16, 16]⟩
abbrev S8192x8x256 : Shape := ⟨3, ![8192, 8, 256]⟩
abbrev S8192x8x1 : Shape := ⟨3, ![8192, 8, 1]⟩
abbrev S_ : Shape := ⟨0, ![]⟩
abbrev S8192x8 : Shape := ⟨2, ![8192, 8]⟩
abbrev S8x8192 : Shape := ⟨2, ![8, 8192]⟩

abbrev nBuf : Space → Nat
  | .hbm => 38
  | .vmem => 0
  | .smem => 0
  | _ => 0

abbrev bufTy : (tb : Table) → Fin (tcTables nBuf tb) → BufTy
  | .hbm, ⟨0, _⟩ => ⟨S8x128x8192, .f32⟩
  | .hbm, ⟨1, _⟩ => ⟨S8x128x8192, .f32⟩
  | .hbm, ⟨2, _⟩ => ⟨S8192x8x128, .f32⟩
  | .hbm, ⟨3, _⟩ => ⟨S8192x8x128, .f32⟩
  | .hbm, ⟨4, _⟩ => ⟨S8192x8x16, .f32⟩
  | .hbm, ⟨5, _⟩ => ⟨S8192x8x16, .i32⟩
  | .hbm, ⟨6, _⟩ => ⟨S8192x8x16, .f32⟩
  | .hbm, ⟨7, _⟩ => ⟨S8192x8x16, .i32⟩
  | .hbm, ⟨8, _⟩ => ⟨S8192x8x16x1, .f32⟩
  | .hbm, ⟨9, _⟩ => ⟨S8192x8x1x16, .f32⟩
  | .hbm, ⟨10, _⟩ => ⟨S8192x8x16x16, .f32⟩
  | .hbm, ⟨11, _⟩ => ⟨S8192x8x16x16, .f32⟩
  | .hbm, ⟨12, _⟩ => ⟨S8192x8x16x16, .f32⟩
  | .hbm, ⟨13, _⟩ => ⟨S8192x8x256, .f32⟩
  | .hbm, ⟨14, _⟩ => ⟨S8192x8x16, .f32⟩
  | .hbm, ⟨15, _⟩ => ⟨S8192x8x16, .i32⟩
  | .hbm, ⟨16, _⟩ => ⟨S8192x8x1, .f32⟩
  | .hbm, ⟨17, _⟩ => ⟨S8192x8x16, .f32⟩
  | .hbm, ⟨18, _⟩ => ⟨S8192x8x16, .f32⟩
  | .hbm, ⟨19, _⟩ => ⟨S8192x8x16, .f32⟩
  | .hbm, ⟨20, _⟩ => ⟨S_, .f32⟩
  | .hbm, ⟨21, _⟩ => ⟨S8192x8, .f32⟩
  | .hbm, ⟨22, _⟩ => ⟨S8192x8x1, .f32⟩
  | .hbm, ⟨23, _⟩ => ⟨S8192x8x1, .f32⟩
  | .hbm, ⟨24, _⟩ => ⟨S8192x8, .f32⟩
  | .hbm, ⟨25, _⟩ => ⟨S8192x8x1, .f32⟩
  | .hbm, ⟨26, _⟩ => ⟨S8192x8x128, .f32⟩
  | .hbm, ⟨27, _⟩ => ⟨S8192x8x128, .f32⟩
  | .hbm, ⟨28, _⟩ => ⟨S8192x8x128, .f32⟩
  | .hbm, ⟨29, _⟩ => ⟨S8192x8x128, .f32⟩
  | .hbm, ⟨30, _⟩ => ⟨S8192x8x128, .f32⟩
  | .hbm, ⟨31, _⟩ => ⟨S8192x8x1, .f32⟩
  | .hbm, ⟨32, _⟩ => ⟨S8192x8x128, .f32⟩
  | .hbm, ⟨33, _⟩ => ⟨S8192x8x128, .f32⟩
  | .hbm, ⟨34, _⟩ => ⟨S8192x8x128, .f32⟩
  | .hbm, ⟨35, _⟩ => ⟨S8x8192, .f32⟩
  | .hbm, ⟨36, _⟩ => ⟨S8x128x8192, .f32⟩
  | .hbm, ⟨37, _⟩ => ⟨S8x128x8192, .f32⟩
  | _, _ => ⟨S8x128x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_values : Ref sig .tc := ⟨.hbm, 4, rfl⟩
abbrev main_indices : Ref sig .tc := ⟨.hbm, 5, rfl⟩
abbrev main_values_0 : Ref sig .tc := ⟨.hbm, 6, rfl⟩
abbrev main_indices_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_values_2 : Ref sig .tc := ⟨.hbm, 14, rfl⟩
abbrev main_indices_3 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Proof.MixerLit.lean ====
module

public import proofs.«01_k».proof.Proof.Gen.KernelIdeal.Value
public import Idealize.ShloMosaic.Lib.Pipeline.ValueKit
public import Idealize.ShloMosaic.Lib.Pointwise
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

/-! The constant tables the mixer call is given, entry by entry. A block's 64 rows are 8 sequences of 8
positions: row `8 q + l` is position `l` of sequence `q`. -/
namespace Cert.KernelIdeal.RefValue

open Cert.KernelIdeal Cert.KernelIdeal.Gen

/-- Which positions `l'` of the same sequence the running sums of position `l` take. Case 0 sums up to `l`, case 1 after `l`; the
other pairs, for halves of 8, 4 and 2 positions, sum from the half's start up to `l`, and after `l` up to the half's start. -/
def takes (κ : Fin 8) (l l' : Fin 8) : Bool :=
  match κ with
  | 0 => decide (l' ≤ l)
  | 1 => decide (l < l')
  | 2 => decide (4 ≤ l.val ∧ 4 ≤ l'.val ∧ l' ≤ l)
  | 3 => decide (l.val < 4 ∧ l < l' ∧ l'.val < 4)
  | 4 => decide (2 ≤ l.val % 4 ∧ l.val / 4 * 4 + 2 ≤ l'.val ∧ l' ≤ l)
  | 5 => decide (l.val % 4 < 2 ∧ l < l' ∧ l'.val < l.val / 4 * 4 + 2)
  | 6 => decide (1 ≤ l.val % 2 ∧ l' = l)
  | 7 => false

/-- Which pairs of positions of a sequence each half's table keeps: the later in the upper part, the earlier in the lower part
of the same 8, 4 or 2 positions; the last table keeps a position with itself. -/
def pairs (κ : Fin 4) (l l' : Fin 8) : Bool :=
  match κ with
  | 0 => decide (4 ≤ l.val ∧ l'.val < 4)
  | 1 => decide (l.val / 4 = l'.val / 4 ∧ 2 ≤ l.val % 4 ∧ l'.val % 4 < 2)
  | 2 => decide (l.val / 2 = l'.val / 2 ∧ 1 ≤ l.val % 2 ∧ l'.val % 2 < 1)
  | 3 => decide (l = l')

/-- The numbers 0 to 7 as the call's table of positions writes them. -/
def posBits (l : Fin 8) : BitVec 32 :=
  match l with
  | 0 => 0x00000000#32 | 1 => 0x3F800000#32 | 2 => 0x40000000#32 | 3 => 0x40400000#32
  | 4 => 0x40800000#32 | 5 => 0x40A00000#32 | 6 => 0x40C00000#32 | 7 => 0x40E00000#32

/-- The table of positions. -/
theorem lit_pos : ∀ r : Fin 64, lit0 r = posBits ⟨r.val % 8, Nat.mod_lt _ (by decide)⟩ := by decide +kernel

/-- The table of same sequences. -/
theorem lit_same : ∀ i : Fin 4096, lit1 i = if i.val / 64 / 8 = i.val % 64 / 8 then 1#1 else 0#1 := by decide +kernel

/-- What the `κ`-th 64 rows of the matrix of running sums hold: a one where a position of the same sequence is taken. -/
def SumsOk (κ : Fin 8) : Prop :=
  ∀ i : Fin 4096, lit2 ⟨4096 * κ.val + i.val, by omega⟩ = if i.val / 64 / 8 = i.val % 64 / 8 ∧
    takes κ ⟨i.val / 64 % 8, Nat.mod_lt _ (by decide)⟩ ⟨i.val % 8, Nat.mod_lt _ (by decide)⟩ = true then 0x3F80#16 else 0x0000#16

/-- Whether a row of the table of sums is as it should be can be decided. -/
instance (κ : Fin 8) : Decidable (SumsOk κ) := by unfold SumsOk; infer_instance

/-- A position as a number. -/
def pos (l : Fin 8) : EReal := FloatOps.sitofp (F := Ideal) .f32 (BitVec.ofNat 32 l.val)

/-- The table's positions are the positions. -/
theorem pos_bits (l : Fin 8) : Ideal.ofBits .f32 (posBits l) = pos l := by
  have e : pos l = ((l.val : ℝ) : EReal) := by
    unfold pos
    show (((BitVec.ofNat 32 l.val).toInt : ℝ) : EReal) = _
    have : (BitVec.ofNat 32 l.val).toInt = (l.val : ℤ) := by revert l; decide
    rw [this]; norm_cast
  rw [e]
  fin_cases l <;> simp [posBits, Ideal.ofBits, Ideal.ieee, -EReal.coe_mul] <;> norm_num

end Cert.KernelIdeal.RefValue
end
-- ==== Proof.MixerTab.lean ====
module

public import proofs.«01_k».proof.Proof.MixerLit

@[expose] public section

set_option maxRecDepth 16384

noncomputable section

open Idealize.ShloMosaic Idealize.ShloMosaic.TcCoe Idealize.SL.Sem
open Idealize.ShloMosaic.Pipeline (Dat)

namespace Cert.KernelIdeal.RefValue

open Cert.KernelIdeal Cert.KernelIdeal.Gen

/-- The positions of a block's rows. -/
def spots : FVec Ideal S64 .f32 := fun i => FloatOps.ofBits .f32 (lit0 (S64.rowMajor i))

/-- The rotary frequencies. -/
def waves : FVec Ideal S64 .f32 :=
  Host.powf (broadcastInDim S64 ![] bcast_S_S64 (constant (F := Ideal) S_ .f32 0x461C4000#32))
    (Host.divf (Host.negf (addf (broadcastInDim S64 ![] bcast_S_S64 (constant (F := Ideal) S_ .f32 0x00000000#32))
      (mulf (broadcastInDim S64 ![] bcast_S_S64 (constant (F := Ideal) S_ .f32 0x40000000#32)) (sitofp (F := Ideal) .f32 (iotaInDim S64 32 0)))))
      (broadcastInDim S64 ![] bcast_S_S64 (constant (F := Ideal) S_ .f32 0x43000000#32)))

/-- The rotary angles of a block's rows. -/
def angles : FVec Ideal S64x64 .f32 :=
  mulf (broadcastInDim S64x64 ![0, 1] bcast_S64x1_S64x64_0_1 (broadcastInDim S64x1 ![0] bcast_S64_S64x1_0
      (shapeCast S64 (broadcastInDim S8x8 ![0, 1] bcast_S1x8_S8x8_0_1 (shapeCast S1x8 (addf (broadcastInDim S8 ![] bcast_S_S8
        (constant (F := Ideal) S_ .f32 0x46800000#32)) (sitofp (F := Ideal) .f32 (iotaInDim S8 32 0))) shapeCasts_S8_S1x8)) shapeCasts_S8x8_S64)))
    (broadcastInDim S64x64 ![0, 1] bcast_S1x64_S64x64_0_1 (broadcastInDim S1x64 ![1] bcast_S64_S1x64_1 waves))

/-- The logarithms of the heads' decays. -/
def logs : FVec Ideal S4 .f32 :=
  Host.log1p (Host.negf (Host.exp (mulf (broadcastInDim S4 ![] bcast_S_S4 (constant (F := Ideal) S_ .f32 0x3F317218#32))
    (subf (broadcastInDim S4 ![] bcast_S_S4 (constant (F := Ideal) S_ .f32 0xC0A00000#32)) (sitofp (F := Ideal) .f32 (iotaInDim S4 32 0))))))

/-- The distances between a block's rows. -/
def dists : FVec Ideal S64x64 .f32 :=
  subf (broadcastInDim S64x64 ![0, 1] bcast_S64x1_S64x64_0_1 (broadcastInDim S64x1 ![0] bcast_S64_S64x1_0 spots))
    (broadcastInDim S64x64 ![0, 1] bcast_S1x64_S64x64_0_1 (broadcastInDim S1x64 ![1] bcast_S64_S1x64_1 spots))

/-- A frequency. -/
def wave (j : Fin 64) : EReal := waves (ix1 j)
/-- A head's decay's logarithm. -/
def lg (h : Fin 4) : EReal := logs (ix1 h)
/-- The angle of position `l` at frequency `j`. -/
def ang (l : Fin 8) (j : Fin 64) : EReal := (Ideal.ofBits .f32 0x46800000#32 + pos l) * wave j

/-- The position of a row. -/
theorem spots_at (r : Fin 64) : spots (ix1 r) = pos ⟨r.val % 8, Nat.mod_lt _ (by decide)⟩ := by
  rw [← pos_bits, ← lit_pos r]
  exact congrArg (fun k => Ideal.ofBits .f32 (lit0 k)) (Fin.ext (Shape.rowMajor_val_one _))

/-- The angle of a row and a frequency. -/
theorem angles_at (r : Fin 64) (j : Fin 64) : angles (ix2 r j) = ang ⟨r.val % 8, Nat.mod_lt _ (by decide)⟩ j := by
  unfold ang wave angles pos
  generalize waves = w
  pointwise

/-- A row's angles' cosines, the first half of the features and then again. -/
def cosines : FVec Ideal S64x128 .f32 :=
  concatenate S64x128 1 [⟨S64x64, Host.cos angles⟩, ⟨S64x64, Host.cos angles⟩] concatenates_S64x64_S64x64_S64x128_d1

/-- A row's angles' sines, negative over the first half of the features. -/
def sines : FVec Ideal S64x128 .f32 :=
  concatenate S64x128 1 [⟨S64x64, Host.negf (Host.sin angles)⟩, ⟨S64x64, Host.sin angles⟩] concatenates_S64x64_S64x64_S64x128_d1

/-- An entry of the table of cosines. -/
theorem cosines_at (r : Fin 64) (d : Fin 128) :
    cosines (ix2 r d) = Ideal.cos (ang ⟨r.val % 8, Nat.mod_lt _ (by decide)⟩ ⟨d.val % 64, Nat.mod_lt _ (by decide)⟩) := by
  rw [← angles_at]
  unfold cosines
  generalize angles = a
  pointwise
  split
  · exact congrArg (fun k => Ideal.cos (a (ix2 r k))) (Fin.ext (by show d.val = d.val % 64; omega))
  · exact congrArg (fun k => Ideal.cos (a (ix2 r k))) (Fin.ext (by show d.val - 64 = d.val % 64; omega))

/-- An entry of the table of sines. -/
theorem sines_at (r : Fin 64) (d : Fin 128) :
    sines (ix2 r d) = if d.val < 64 then -Ideal.sin (ang ⟨r.val % 8, Nat.mod_lt _ (by decide)⟩ ⟨d.val % 64, Nat.mod_lt _ (by decide)⟩)
      else Ideal.sin (ang ⟨r.val % 8, Nat.mod_lt _ (by decide)⟩ ⟨d.val % 64, Nat.mod_lt _ (by decide)⟩) := by
  rw [← angles_at]
  unfold sines
  generalize angles = a
  pointwise
  split
  · exact congrArg (fun k => -Ideal.sin (a (ix2 r k))) (Fin.ext (by show d.val = d.val % 64; omega))
  · exact congrArg (fun k => Ideal.sin (a (ix2 r k))) (Fin.ext (by show d.val - 64 = d.val % 64; omega))

/-- The table of decays between the positions of a block, zero between sequences and where the second position is later. -/
def dtab : FVec Ideal S4x64x64 .f32 :=
  select (broadcastInDim S4x64x64 ![0, 1, 2] bcast_S1x64x64_S4x64x64_0_1_2 (broadcastInDim S1x64x64 ![1, 2] bcast_S64x64_S1x64x64_1_2
      (andi (fun i => lit1 (S64x64.rowMajor i)) (cmpf .oge dists (broadcastInDim S64x64 ![] bcast_S_S64x64 (constant (F := Ideal) S_ .f32 0x00000000#32))))))
    (Host.exp (mulf (broadcastInDim S4x64x64 ![0, 1, 2] bcast_S1x64x64_S4x64x64_0_1_2 (broadcastInDim S1x64x64 ![1, 2] bcast_S64x64_S1x64x64_1_2
        (maximumf dists (broadcastInDim S64x64 ![] bcast_S_S64x64 (constant (F := Ideal) S_ .f32 0x00000000#32)))))
      (broadcastInDim S4x64x64 ![0, 1, 2] bcast_S4x1x1_S4x64x64_0_1_2 (broadcastInDim S4x1x1 ![0] bcast_S4_S4x1x1_0 logs))))
    (broadcastInDim S4x64x64 ![] bcast_S_S4x64x64 (constant (F := Ideal) S_ .f32 0x00000000#32))

/-- The distance of two rows in their sequences. -/
theorem dists_at (i j : Fin 64) : dists (ix2 i j) = pos ⟨i.val % 8, Nat.mod_lt _ (by decide)⟩ - pos ⟨j.val % 8, Nat.mod_lt _ (by decide)⟩ := by
  rw [← spots_at, ← spots_at]
  unfold dists
  generalize spots = w
  pointwise

/-- How much position `l` of a sequence keeps of position `l'`: the head's decay to the power of their distance, and nothing of
a later position. -/
def keeps (h : Fin 4) (l l' : Fin 8) : EReal :=
  Scalar.select (BitVec.ofBool (decide (0 ≤ pos l - pos l'))) (Ideal.exp (max (pos l - pos l') 0 * lg h)) 0

/-- An entry of the table of decays between positions. -/
theorem dtab_at (h : Fin 4) (i j : Fin 64) : dtab (ix3 h i j) =
    if i.val / 8 = j.val / 8 then keeps h ⟨i.val % 8, Nat.mod_lt _ (by decide)⟩ ⟨j.val % 8, Nat.mod_lt _ (by decide)⟩ else 0 := by
  unfold keeps
  rw [← dists_at]
  unfold dtab lg
  generalize dists = a
  generalize logs = b
  pointwise
  have hr : S64x64.rowMajor (ix2 i j) = (⟨64 * i.val + j.val, by omega⟩ : Fin 4096) := Fin.ext ((Shape.rowMajor_val_two _).trans (by show i.val * 64 + j.val = 64 * i.val + j.val; omega))
  rw [hr, lit_same, show (64 * i.val + j.val) / 64 = i.val by omega, show (64 * i.val + j.val) % 64 = j.val by omega]
  by_cases h' : i.val / 8 = j.val / 8
  · rw [if_pos h', if_pos h']
    by_cases h2 : 0 ≤ a (ix2 i j)
    · simp only [h2, decide_true]; rfl
    · simp only [h2, decide_false]; rfl
  · rw [if_neg h', if_neg h']
    by_cases h2 : 0 ≤ a (ix2 i j)
    · simp only [h2, decide_true]; rfl
    · simp only [h2, decide_false]; rfl

/-- The table of decays from a sequence's start to a position. -/
def qtab : FVec Ideal S4x64x256 .f32 :=
  broadcastInDim S4x64x256 ![0, 1, 2] bcast_S4x64x1_S4x64x256_0_1_2 (broadcastInDim S4x64x1 ![0, 1] bcast_S4x64_S4x64x1_0_1
    (Host.exp (mulf (broadcastInDim S4x64 ![0, 1] bcast_S1x64_S4x64_0_1 (broadcastInDim S1x64 ![1] bcast_S64_S1x64_1
        (addf spots (broadcastInDim S64 ![] bcast_S_S64 (constant (F := Ideal) S_ .f32 0x3F800000#32)))))
      (broadcastInDim S4x64 ![0, 1] bcast_S4x1_S4x64_0_1 (broadcastInDim S4x1 ![0] bcast_S4_S4x1_0 logs)))))

/-- An entry of the table of decays from a sequence's start. -/
theorem qtab_at (h : Fin 4) (r : Fin 64) (v : Fin 256) :
    qtab (ix3 h r v) = Ideal.exp ((pos ⟨r.val % 8, Nat.mod_lt _ (by decide)⟩ + Ideal.ofBits .f32 0x3F800000#32) * lg h) := by
  rw [← spots_at]
  unfold qtab lg
  generalize spots = a
  generalize logs = b
  pointwise

/-- The table of decays from a position to a sequence's end. -/
def dectab : FVec Ideal S4x64x128 .f32 :=
  broadcastInDim S4x64x128 ![0, 1, 2] bcast_S4x64x1_S4x64x128_0_1_2 (broadcastInDim S4x64x1 ![0, 1] bcast_S4x64_S4x64x1_0_1
    (Host.exp (mulf (broadcastInDim S4x64 ![0, 1] bcast_S1x64_S4x64_0_1 (broadcastInDim S1x64 ![1] bcast_S64_S1x64_1
        (subf (broadcastInDim S64 ![] bcast_S_S64 (constant (F := Ideal) S_ .f32 0x40E00000#32)) spots)))
      (broadcastInDim S4x64 ![0, 1] bcast_S4x1_S4x64_0_1 (broadcastInDim S4x1 ![0] bcast_S4_S4x1_0 logs)))))

/-- An entry of the table of decays to a sequence's end. -/
theorem dectab_at (h : Fin 4) (r : Fin 64) (v : Fin 128) :
    dectab (ix3 h r v) = Ideal.exp ((Ideal.ofBits .f32 0x40E00000#32 - pos ⟨r.val % 8, Nat.mod_lt _ (by decide)⟩) * lg h) := by
  rw [← spots_at]
  unfold dectab lg
  generalize spots = a
  generalize logs = b
  pointwise

/-- The table of decays over a whole sequence. -/
def ctab : FVec Ideal S4x128x256 .f32 :=
  broadcastInDim S4x128x256 ![0, 1, 2] bcast_S4x1x1_S4x128x256_0_1_2 (broadcastInDim S4x1x1 ![0] bcast_S4_S4x1x1_0
    (Host.exp (mulf (broadcastInDim S4 ![] bcast_S_S4 (constant (F := Ideal) S_ .f32 0x41000000#32)) logs)))

/-- An entry of the table of decays over a whole sequence. -/
theorem ctab_at (h : Fin 4) (d : Fin 128) (v : Fin 256) : ctab (ix3 h d v) = Ideal.exp (Ideal.ofBits .f32 0x41000000#32 * lg h) := by
  unfold ctab lg
  generalize logs = b
  pointwise

variable (m : (ℓ : Loc nD τ sig) → Buf (Elt Ideal) ℓ)

/-- The call is given the table of cosines. -/
theorem vcosines (c : Dev nD) : V m c main_v34 = cosines := by
  simp only [V, hostOps0, hostOps0_1, hostOps0_2, hostOps0_3, hostOps0_4, List.flatten_cons, List.flatten_nil, List.append_nil, List.cons_append,
      List.nil_append, StableHlo.TRef.binary, StableHlo.TRef.unary, StableHlo.TRef.ternary, StableHlo.TRef.toBuf, StableHlo.TRef.ofBuf, cast_eq]
  after_results <;> rfl

/-- The call is given the table of sines. -/
theorem vsines (c : Dev nD) : V m c main_v36 = sines := by
  simp only [V, hostOps0, hostOps0_1, hostOps0_2, hostOps0_3, hostOps0_4, List.flatten_cons, List.flatten_nil, List.append_nil, List.cons_append,
      List.nil_append, StableHlo.TRef.binary, StableHlo.TRef.unary, StableHlo.TRef.ternary, StableHlo.TRef.toBuf, StableHlo.TRef.ofBuf, cast_eq]
  after_results <;> rfl

/-- The call is given the table of decays between positions. -/
theorem vdtab (c : Dev nD) : V m c main_v62 = dtab := by
  simp only [V, hostOps0, hostOps0_1, hostOps0_2, hostOps0_3, hostOps0_4, List.flatten_cons, List.flatten_nil, List.append_nil, List.cons_append,
      List.nil_append, StableHlo.TRef.binary, StableHlo.TRef.unary, StableHlo.TRef.ternary, StableHlo.TRef.toBuf, StableHlo.TRef.ofBuf, cast_eq]
  after_results <;> rfl

/-- The call is given the table of decays from the start. -/
theorem vqtab (c : Dev nD) : V m c main_v83 = qtab := by
  simp only [V, hostOps0, hostOps0_1, hostOps0_2, hostOps0_3, hostOps0_4, List.flatten_cons, List.flatten_nil, List.append_nil, List.cons_append,
      List.nil_append, StableHlo.TRef.binary, StableHlo.TRef.unary, StableHlo.TRef.ternary, StableHlo.TRef.toBuf, StableHlo.TRef.ofBuf, cast_eq]
  after_results <;> rfl

/-- The call is given the table of decays to the end. -/
theorem vdectab (c : Dev nD) : V m c main_v85 = dectab := by
  simp only [V, hostOps0, hostOps0_1, hostOps0_2, hostOps0_3, hostOps0_4, List.flatten_cons, List.flatten_nil, List.append_nil, List.cons_append,
      List.nil_append, StableHlo.TRef.binary, StableHlo.TRef.unary, StableHlo.TRef.ternary, StableHlo.TRef.toBuf, StableHlo.TRef.ofBuf, cast_eq]
  after_results <;> rfl

/-- The call is given the table of decays over a sequence. -/
theorem vctab (c : Dev nD) : V m c main_v87 = ctab := by
  simp only [V, hostOps0, hostOps0_1, hostOps0_2, hostOps0_3, hostOps0_4, List.flatten_cons, List.flatten_nil, List.append_nil, List.cons_append,
      List.nil_append, StableHlo.TRef.binary, StableHlo.TRef.unary, StableHlo.TRef.ternary, StableHlo.TRef.toBuf, StableHlo.TRef.ofBuf, cast_eq]
  after_results <;> rfl

/-- The matrix of running sums as the call finds it. -/
def sumsTab : FVec Ideal S512x64 .bf16 := fun i => FloatOps.ofBits .bf16 (lit2 (S512x64.rowMajor i))
/-- The tables of kept pairs as the call finds them. -/
def pairsTab : FVec Ideal S4x64x64 .f32 := fun i => FloatOps.ofBits .f32 (lit3 (S4x64x64.rowMajor i))

/-- The call is given the table of sums. -/
theorem vsumsTab (c : Dev nD) : V m c main_cst_0 = sumsTab := by
  simp only [V, hostOps0, hostOps0_1, hostOps0_2, hostOps0_3, hostOps0_4, List.flatten_cons, List.flatten_nil, List.append_nil, List.cons_append,
      List.nil_append, StableHlo.TRef.binary, StableHlo.TRef.unary, StableHlo.TRef.ternary, StableHlo.TRef.toBuf, StableHlo.TRef.ofBuf, cast_eq]
  after_results <;> rfl

/-- The call is given the table of pairs. -/
theorem vpairsTab (c : Dev nD) : V m c main_cst_1 = pairsTab := by
  simp only [V, hostOps0, hostOps0_1, hostOps0_2, hostOps0_3, hostOps0_4, List.flatten_cons, List.flatten_nil, List.append_nil, List.cons_append,
      List.nil_append, StableHlo.TRef.binary, StableHlo.TRef.unary, StableHlo.TRef.ternary, StableHlo.TRef.toBuf, StableHlo.TRef.ofBuf, cast_eq]
  after_results <;> rfl

end Cert.KernelIdeal.RefValue
end
-- ==== Proof.MixerLitP.lean ====
module

public import proofs.«01_k».proof.Proof.MixerLit

@[expose] public section

set_option maxRecDepth 16384

noncomputable section

open Idealize.ShloMosaic Idealize.ShloMosaic.TcCoe Idealize.SL.Sem
open Idealize.ShloMosaic.Pipeline (Dat)

namespace Cert.KernelIdeal.RefValue

open Cert.KernelIdeal Cert.KernelIdeal.Gen

/-- The tables of kept pairs. -/
theorem lit_pairs : ∀ i : Fin 16384, lit3 i = if i.val / 64 % 64 / 8 = i.val % 64 / 8 ∧
    pairs ⟨i.val / 4096 % 4, Nat.mod_lt _ (by decide)⟩ ⟨i.val / 64 % 8, Nat.mod_lt _ (by decide)⟩ ⟨i.val % 8, Nat.mod_lt _ (by decide)⟩ = true
    then 0x3F800000#32 else 0x00000000#32 := by decide +kernel

end Cert.KernelIdeal.RefValue
end
-- ==== Proof.MixerLitS0.lean ====
module

public import proofs.«01_k».proof.Proof.MixerLit

@[expose] public section

set_option maxRecDepth 16384

noncomputable section

open Idealize.ShloMosaic Idealize.ShloMosaic.TcCoe Idealize.SL.Sem
open Idealize.ShloMosaic.Pipeline (Dat)

namespace Cert.KernelIdeal.RefValue

open Cert.KernelIdeal Cert.KernelIdeal.Gen

/-- Rows 0 to 63 of the matrix of running sums. -/
theorem lit_sums0 : SumsOk 0 := by decide +kernel

/-- Rows 64 to 127 of the matrix of running sums. -/
theorem lit_sums1 : SumsOk 1 := by decide +kernel

end Cert.KernelIdeal.RefValue
end
-- ==== Proof.MixerLitS1.lean ====
module

public import proofs.«01_k».proof.Proof.MixerLit

@[expose] public section

set_option maxRecDepth 16384

noncomputable section

open Idealize.ShloMosaic Idealize.ShloMosaic.TcCoe Idealize.SL.Sem
open Idealize.ShloMosaic.Pipeline (Dat)

namespace Cert.KernelIdeal.RefValue

open Cert.KernelIdeal Cert.KernelIdeal.Gen

/-- Rows 128 to 191 of the matrix of running sums. -/
theorem lit_sums2 : SumsOk 2 := by decide +kernel

/-- Rows 192 to 255 of the matrix of running sums. -/
theorem lit_sums3 : SumsOk 3 := by decide +kernel

end Cert.KernelIdeal.RefValue
end
-- ==== Proof.MixerLitS2.lean ====
module

public import proofs.«01_k».proof.Proof.MixerLit

@[expose] public section

set_option maxRecDepth 16384

noncomputable section

open Idealize.ShloMosaic Idealize.ShloMosaic.TcCoe Idealize.SL.Sem
open Idealize.ShloMosaic.Pipeline (Dat)

namespace Cert.KernelIdeal.RefValue

open Cert.KernelIdeal Cert.KernelIdeal.Gen

/-- Rows 256 to 319 of the matrix of running sums. -/
theorem lit_sums4 : SumsOk 4 := by decide +kernel

/-- Rows 320 to 383 of the matrix of running sums. -/
theorem lit_sums5 : SumsOk 5 := by decide +kernel

end Cert.KernelIdeal.RefValue
end
-- ==== Proof.MixerLitS3.lean ====
module

public import proofs.«01_k».proof.Proof.MixerLit

@[expose] public section

set_option maxRecDepth 16384

noncomputable section

open Idealize.ShloMosaic Idealize.ShloMosaic.TcCoe Idealize.SL.Sem
open Idealize.ShloMosaic.Pipeline (Dat)

namespace Cert.KernelIdeal.RefValue

open Cert.KernelIdeal Cert.KernelIdeal.Gen

/-- Rows 384 to 447 of the matrix of running sums. -/
theorem lit_sums6 : SumsOk 6 := by decide +kernel

/-- Rows 448 to 511 of the matrix of running sums. -/
theorem lit_sums7 : SumsOk 7 := by decide +kernel

end Cert.KernelIdeal.RefValue
end
-- ==== Proof.MixerSpec.lean ====
module

public import proofs.«01_k».proof.Proof.MixerTab
public import Idealize.ShloMosaic.Lib.IdealHost
public import proofs.«01_k».proof.Proof.MixerLitP
public import proofs.«01_k».proof.Proof.MixerLitS0
public import proofs.«01_k».proof.Proof.MixerLitS1
public import proofs.«01_k».proof.Proof.MixerLitS2
public import proofs.«01_k».proof.Proof.MixerLitS3

@[expose] public section

set_option maxRecDepth 16384

noncomputable section

open Idealize.ShloMosaic Idealize.ShloMosaic.TcCoe Idealize.SL.Sem

/-! What the mixer computes of one sequence, from the projected rows of its 8 positions. -/
namespace Cert.KernelIdeal.RefValue

open Cert.KernelIdeal Cert.KernelIdeal.Gen

section spec
variable (P : Fin 8 → Fin 6400 → EReal) (S0 G0 : Fin 4 → Fin 128 → Fin 256 → EReal)
  (W2 : Fin 16 → Fin 512 → EReal) (B2 : Fin 512 → EReal) (gw gb gg : Fin 4 → Fin 256 → EReal)

/-- The rotary turn of the 128 features starting at column `o`. -/
def rot (o : ℕ) (ho : o + 128 ≤ 6400) (l : Fin 8) (d : Fin 128) : EReal :=
  P l ⟨o + d.val, by omega⟩ * Ideal.cos (ang l ⟨d.val % 64, Nat.mod_lt _ (by decide)⟩)
    + P l ⟨o + (d.val + 128 - 64) % 128, by omega⟩ * (if d.val < 64 then -Ideal.sin (ang l ⟨d.val % 64, Nat.mod_lt _ (by decide)⟩)
      else Ideal.sin (ang l ⟨d.val % 64, Nat.mod_lt _ (by decide)⟩))

/-- The retention's queries. -/
def rq (h : Fin 4) (l : Fin 8) (d : Fin 128) : EReal := rot P (128 * h.val) (by omega) l d
/-- The retention's keys. -/
def rk (h : Fin 4) (l : Fin 8) (d : Fin 128) : EReal := rot P (512 + 128 * h.val) (by omega) l d * Ideal.ofBits .f32 0x3DB504F3#32
/-- The retention's values. -/
def rv (h : Fin 4) (l : Fin 8) (v : Fin 256) : EReal := P l ⟨1024 + 256 * h.val + v.val, by omega⟩

/-- The retention's state after the sequence's 8 positions. -/
def rstate (h : Fin 4) (d : Fin 128) (v : Fin 256) : EReal :=
  S0 h d v * Ideal.exp (Ideal.ofBits .f32 0x41000000#32 * lg h)
    + ∑ l : Fin 8, rk P h l d * Ideal.exp ((Ideal.ofBits .f32 0x40E00000#32 - pos l) * lg h) * rv P h l v

/-- The retention's output before its norm. -/
def robs (h : Fin 4) (l : Fin 8) (v : Fin 256) : EReal :=
  (∑ l' : Fin 8, ((∑ d : Fin 128, rq P h l d * rk P h l' d) * keeps h l l') * rv P h l' v)
    + (∑ d : Fin 128, rq P h l d * S0 h d v) * Ideal.exp ((pos l + Ideal.ofBits .f32 0x3F800000#32) * lg h)

/-- The gate's logits. -/
def zlog (l : Fin 8) (e : Fin 512) : EReal := (∑ k : Fin 16, P l ⟨6144 + k.val, by omega⟩ * W2 k e) + B2 e
/-- The gate's log-decays. -/
def decay (l : Fin 8) (e : Fin 512) : EReal :=
  (min (zlog P W2 B2 l e) 0 - Ideal.log1p (Ideal.exp (0 - max (zlog P W2 B2 l e) (-(zlog P W2 B2 l e))))) * Ideal.ofBits .f32 0x3D800000#32

/-- The log-decays summed over the positions the `κ`-th table takes for position `l`. -/
def part (κ : Fin 8) (l : Fin 8) (e : Fin 512) : EReal := ∑ l' : Fin 8, if takes κ l l' = true then decay P W2 B2 l' e else 0

/-- The gated heads' queries. -/
def gq (h : Fin 4) (l : Fin 8) (d : Fin 128) : EReal := P l ⟨3072 + 128 * h.val + d.val, by omega⟩ * Ideal.ofBits .f32 0x3DB504F3#32
/-- The gated heads' keys. -/
def gk (h : Fin 4) (l : Fin 8) (d : Fin 128) : EReal := P l ⟨3584 + 128 * h.val + d.val, by omega⟩
/-- The gated heads' values. -/
def gv (h : Fin 4) (l : Fin 8) (v : Fin 256) : EReal := P l ⟨4096 + 256 * h.val + v.val, by omega⟩
/-- Feature `d` of head `h` among all heads' features. -/
def feat (h : Fin 4) (d : Fin 128) : Fin 512 := ⟨128 * h.val + d.val, by omega⟩

/-- The gated heads' state after the sequence's 8 positions. -/
def gstate (h : Fin 4) (d : Fin 128) (v : Fin 256) : EReal :=
  G0 h d v * Ideal.exp (part P W2 B2 0 7 (feat h d)) + ∑ l : Fin 8, gk P h l d * Ideal.exp (part P W2 B2 1 l (feat h d)) * gv P h l v

/-- How much of position `l'` position `l` of a gated head takes. -/
def score (h : Fin 4) (l l' : Fin 8) : EReal :=
  if l' ≤ l then ∑ d : Fin 128, gq P h l d * gk P h l' d * Ideal.exp (part P W2 B2 0 l (feat h d) - part P W2 B2 0 l' (feat h d)) else 0

/-- A gated head's output before its norm. -/
def gobs (h : Fin 4) (l : Fin 8) (v : Fin 256) : EReal :=
  (∑ l' : Fin 8, score P W2 B2 h l l' * gv P h l' v)
    + ∑ d : Fin 128, gq P h l d * Ideal.exp (part P W2 B2 0 l (feat h d)) * G0 h d v

end spec

/-- A choice by equal small numbers. -/
theorem sel_eq {a b : ℕ} (ha : a < 8) (hb : b < 8) (u w : EReal) :
    Scalar.select (IntOp.cmpi .eq (BitVec.ofNat 32 a) (BitVec.ofNat 32 b)) u w = if a = b then u else w := by
  by_cases h : a = b
  · subst h
    rw [if_pos rfl]
    have e : IntOp.cmpi .eq (BitVec.ofNat 32 a) (BitVec.ofNat 32 a) = 1#1 := by interval_cases a <;> rfl
    rw [e]; rfl
  · rw [if_neg h]
    have e : IntOp.cmpi .eq (BitVec.ofNat 32 a) (BitVec.ofNat 32 b) = 0#1 := by
      interval_cases a <;> interval_cases b <;> first | exact absurd rfl h | rfl
    rw [e]; rfl

/-- Row `8 q + l` of a block. -/
def rowOf (q l : Fin 8) : Fin 64 := ⟨8 * q.val + l.val, by omega⟩

/-- A sum over a block's rows is one over its sequences' positions. -/
theorem sum_rows (f : Fin 64 → EReal) : ∑ x : Fin 64, f x = ∑ q : Fin 8, ∑ l : Fin 8, f (rowOf q l) := by
  rw [← Fintype.sum_prod_type']
  refine (Fintype.sum_equiv (finProdFinEquiv (m := 8) (n := 8)) _ _ fun x => ?_).symm
  refine congrArg f (Fin.ext ?_)
  show 8 * x.1.val + x.2.val = x.2.val + 8 * x.1.val
  omega

/-- A sum over a block's rows of one sequence. -/
theorem sum_seq (q : Fin 8) (f : Fin 64 → EReal) (g : Fin 8 → EReal) (hf : ∀ l, f (rowOf q l) = g l)
    (h0 : ∀ q' l, q' ≠ q → f (rowOf q' l) = 0) : ∑ x : Fin 64, f x = ∑ l : Fin 8, g l := by
  rw [sum_rows, Finset.sum_eq_single q]
  · exact Finset.sum_congr rfl fun l _ => hf l
  · exact fun q' _ hq => Finset.sum_eq_zero fun l _ => h0 q' l hq
  · exact fun h => absurd (Finset.mem_univ q) h

/-- The sequence of a row of the block. -/
theorem rowOf_div (q l : Fin 8) : (rowOf q l).val / 8 = q.val := by unfold rowOf; show (8 * q.val + l.val) / 8 = _; omega
/-- The position of a row of the block. -/
theorem rowOf_mod (q l : Fin 8) : (rowOf q l).val % 8 = l.val := by unfold rowOf; show (8 * q.val + l.val) % 8 = _; omega
/-- The position of a row of the block, as an index. -/
theorem rowOf_fin (q l : Fin 8) (p : (rowOf q l).val % 8 < 8) : (⟨(rowOf q l).val % 8, p⟩ : Fin 8) = l := Fin.ext (rowOf_mod q l)

/-- All 64-row parts of the matrix of running sums. -/
theorem sumsOk (κ : Fin 8) : SumsOk κ := by
  fin_cases κ
  · exact lit_sums0
  · exact lit_sums1
  · exact lit_sums2
  · exact lit_sums3
  · exact lit_sums4
  · exact lit_sums5
  · exact lit_sums6
  · exact lit_sums7

/-- An entry of the matrix of running sums. -/
theorem sumsTab_at (κ q l q' l' : Fin 8) : sumsTab (ix2 ⟨64 * κ.val + (rowOf q l).val, by have := (rowOf q l).isLt; omega⟩ (rowOf q' l')) =
    if q' = q ∧ takes κ l l' = true then 1 else 0 := by
  unfold sumsTab
  have hr : S512x64.rowMajor (ix2 (⟨64 * κ.val + (rowOf q l).val, by have := (rowOf q l).isLt; omega⟩ : Fin 512) (rowOf q' l'))
      = (⟨4096 * κ.val + (64 * (rowOf q l).val + (rowOf q' l').val), by have := (rowOf q l).isLt; have := (rowOf q' l').isLt; omega⟩ : Fin 32768) :=
    Fin.ext ((Shape.rowMajor_val_two _).trans (by
      show (64 * κ.val + (rowOf q l).val) * 64 + (rowOf q' l').val = 4096 * κ.val + (64 * (rowOf q l).val + (rowOf q' l').val); omega))
  rw [hr, sumsOk κ ⟨64 * (rowOf q l).val + (rowOf q' l').val, by have := (rowOf q l).isLt; have := (rowOf q' l').isLt; omega⟩]
  have e1 : (64 * (rowOf q l).val + (rowOf q' l').val) / 64 = (rowOf q l).val := by have := (rowOf q' l').isLt; omega
  have e2 : (64 * (rowOf q l).val + (rowOf q' l').val) % 64 = (rowOf q' l').val := by have := (rowOf q' l').isLt; omega
  have e3 : (64 * (rowOf q l).val + (rowOf q' l').val) % 8 = l'.val := by have := rowOf_mod q' l'; omega
  simp only [e1, e2, e3, rowOf_div, rowOf_mod, Fin.eta]
  by_cases h : q' = q
  · subst h
    by_cases ht : takes κ l l' = true
    · simp only [ht, and_self, if_true]; exact Ideal.ofBits_one_bf16
    · simp only [ht, and_false, if_false]; exact Ideal.ofBits_zero_bf16
  · have h' : ¬ q.val = q'.val := fun e => h (Fin.ext e.symm)
    simp only [h, h', false_and, if_false]; exact Ideal.ofBits_zero_bf16

/-- A running sum of a column over the rows of a sequence. -/
theorem sums_of (κ q l : Fin 8) (f : Fin 64 → EReal) :
    ∑ x : Fin 64, sumsTab (ix2 ⟨64 * κ.val + (rowOf q l).val, by have := (rowOf q l).isLt; omega⟩ x) * f x
      = ∑ l' : Fin 8, if takes κ l l' = true then f (rowOf q l') else 0 := by
  refine sum_seq q _ _ (fun l' => ?_) (fun q' l' hq => ?_)
  · rw [sumsTab_at]
    by_cases ht : takes κ l l' = true
    · rw [if_pos ⟨rfl, ht⟩, if_pos ht, one_mul]
    · rw [if_neg (fun h => ht h.2), if_neg ht, zero_mul]
  · rw [sumsTab_at, if_neg (fun h => hq h.1), zero_mul]

/-- An entry of the tables of kept pairs. -/
theorem pairsTab_at (κ : Fin 4) (q l q' l' : Fin 8) : pairsTab (ix3 κ (rowOf q l) (rowOf q' l')) =
    if q' = q ∧ pairs κ l l' = true then 1 else 0 := by
  unfold pairsTab
  have hr : S4x64x64.rowMajor (ix3 κ (rowOf q l) (rowOf q' l'))
      = (⟨4096 * κ.val + (64 * (rowOf q l).val + (rowOf q' l').val), by have := (rowOf q l).isLt; have := (rowOf q' l').isLt; omega⟩ : Fin 16384) :=
    Fin.ext ((Shape.rowMajor_val_three _).trans (by
      show (κ.val * 64 + (rowOf q l).val) * 64 + (rowOf q' l').val = 4096 * κ.val + (64 * (rowOf q l).val + (rowOf q' l').val); omega))
  rw [hr, lit_pairs]
  have b1 := (rowOf q l).isLt
  have b2 := (rowOf q' l').isLt
  have e1 : (4096 * κ.val + (64 * (rowOf q l).val + (rowOf q' l').val)) / 64 % 64 = (rowOf q l).val := by omega
  have e2 : (4096 * κ.val + (64 * (rowOf q l).val + (rowOf q' l').val)) % 64 = (rowOf q' l').val := by omega
  have e3 : (4096 * κ.val + (64 * (rowOf q l).val + (rowOf q' l').val)) % 8 = l'.val := by have := rowOf_mod q' l'; omega
  have e4 : (4096 * κ.val + (64 * (rowOf q l).val + (rowOf q' l').val)) / 4096 % 4 = κ.val := by omega
  have e5 : (4096 * κ.val + (64 * (rowOf q l).val + (rowOf q' l').val)) / 64 % 8 = l.val := by have := rowOf_mod q l; omega
  simp only [e1, e2, e3, e4, e5, rowOf_div, Fin.eta]
  by_cases h : q' = q
  · subst h
    by_cases ht : pairs κ l l' = true
    · simp only [ht, and_self, if_true]; exact Ideal.ofBits_one_f32
    · simp only [ht, and_false, if_false]; exact Ideal.ofBits_zero_f32
  · have h' : ¬ q.val = q'.val := fun e => h (Fin.ext e.symm)
    simp only [h, h', false_and, if_false]; exact Ideal.ofBits_zero_f32

end Cert.KernelIdeal.RefValue
end
-- ==== Proof.MixerFin.lean ====
module

public import proofs.«01_k».proof.Proof.MixerSpec
public import proofs.«01_k».proof.Pre_gate_finite
public import Idealize.ShloMosaic.Lib.ReduceAll
public import Idealize.ShloMosaic.Lib.Pointwise

@[expose] public section

set_option maxRecDepth 16384

noncomputable section

open Idealize.ShloMosaic Idealize.ShloMosaic.TcCoe Idealize.SL.Sem

/-! Where the gate's operands are finite, so are its log-decays and their sums, and sums over parts of a sequence split. -/
namespace Cert.KernelIdeal.RefValue

open Cert.KernelIdeal Cert.KernelIdeal.Gen

/-- A number is finite where it is a real one. -/
def IsReal (x : EReal) : Prop := ∃ a : ℝ, x = (a : EReal)

/-- A number whose absolute value is below infinity is real. -/
theorem fin_of_lt {x : EReal} (h : FloatOps.cmpf (F := Ideal) (φ := .f32) .olt (FloatOps.hostAbsf (F := Ideal) (φ := .f32) x) (FloatOps.ofBits (F := Ideal) .f32 0x7F800000#32) = 1#1) : IsReal x := by
  have e : FloatOps.ofBits (F := Ideal) .f32 0x7F800000#32 = (⊤ : EReal) := by
    show Ideal.ofBits .f32 0x7F800000#32 = ⊤
    simp [Ideal.ofBits, Ideal.ieee]
  rw [e] at h
  have h' : BitVec.ofBool (decide (max x (-x) < ⊤)) = 1#1 := h
  induction x using EReal.rec with
  | bot => simp at h'
  | top => simp at h'
  | coe a => exact ⟨a, rfl⟩

/-- A sum of real numbers is real. -/
theorem fin_add {x y : EReal} (hx : IsReal x) (hy : IsReal y) : IsReal (x + y) := by
  obtain ⟨a, rfl⟩ := hx; obtain ⟨b, rfl⟩ := hy; exact ⟨a + b, (EReal.coe_add a b).symm⟩

/-- A product of real numbers is real. -/
theorem fin_mul {x y : EReal} (hx : IsReal x) (hy : IsReal y) : IsReal (x * y) := by
  obtain ⟨a, rfl⟩ := hx; obtain ⟨b, rfl⟩ := hy; exact ⟨a * b, (EReal.coe_mul a b).symm⟩

/-- A finite sum of real numbers is real. -/
theorem fin_sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact fin_add (h a) ih

/-- The smooth part of the gate's logarithm at a real logit. -/
def soft (r : ℝ) : ℝ := Real.log (1 + Real.exp (-|r|))

/-- The logarithm of one more than the exponential of a nonpositive real number is the smooth part. -/
theorem log1p_exp (r : ℝ) : Ideal.log1p (Ideal.exp (((-|r| : ℝ)) : EReal)) = ((soft r : ℝ) : EReal) := by
  have h : ¬ (1 + Real.exp (-|r|) ≤ 0) := not_le.mpr (by positivity)
  unfold Ideal.log1p
  rw [Ideal.exp_coe, ← EReal.coe_one, ← EReal.coe_add, Ideal.log_coe, if_neg h]
  rfl

/-- A sixteenth. -/
theorem sixteenth : Ideal.ofBits .f32 0x3D800000#32 = (((1 / 16 : ℝ)) : EReal) := by
  simp [Ideal.ofBits, Ideal.ieee, -EReal.coe_mul]; norm_num
/-- Sixteen. -/
theorem sixteen : Ideal.ofBits .f32 0x41800000#32 = (((16 : ℝ)) : EReal) := by
  simp [Ideal.ofBits, Ideal.ieee, -EReal.coe_mul]; norm_num

/-- The absolute value of a real number. -/
theorem abs_real (r : ℝ) : max (r : EReal) (-(r : EReal)) = ((|r| : ℝ) : EReal) := by
  rw [← EReal.coe_neg, abs_eq_max_neg]
  exact (EReal.coe_strictMono.monotone.map_max).symm

/-- The log-decay at a real logit. -/
theorem decay_real (r : ℝ) : (min (r : EReal) 0 - Ideal.log1p (Ideal.exp (0 - max (r : EReal) (-(r : EReal))))) * Ideal.ofBits .f32 0x3D800000#32
    = (((min r 0 - soft r) * (1 / 16) : ℝ) : EReal) := by
  rw [abs_real, zero_sub, ← EReal.coe_neg, log1p_exp, sixteenth, ← EReal.coe_zero, ← EReal.coe_strictMono.monotone.map_min,
    ← EReal.coe_sub, ← EReal.coe_mul]

/-- The log-decay written with the logit's negation, as the logarithm of the logistic function is. -/
theorem decay_neg (r : ℝ) : Ideal.div (-(max (-(r : EReal)) 0 + Ideal.log1p (Ideal.exp (-(max (-(r : EReal) - 0) (-(-(r : EReal) - 0))))))) (Ideal.ofBits .f32 0x41800000#32)
    = (((min r 0 - soft r) * (1 / 16) : ℝ) : EReal) := by
  rw [sub_zero, ← EReal.coe_neg, abs_real, ← EReal.coe_neg, abs_neg, log1p_exp, sixteen, ← EReal.coe_zero, ← EReal.coe_strictMono.monotone.map_max,
    ← EReal.coe_add, ← EReal.coe_neg, Ideal.div_coe (by norm_num), ← EReal.coe_mul]
  congr 2
  have : max (-r) 0 = - min r 0 := by rw [← neg_zero, max_neg_neg, neg_zero]
  rw [this]; ring

/-- Of a pair that the κ-th table joins, each position between is in just one of the pair's halves. -/
theorem takes_between : ∀ (κ : Fin 4) (hκ : κ.val < 3) (l l' j : Fin 8), pairs κ l l' = true →
      ((takes ⟨2 + 2 * κ.val, by omega⟩ l j = true ∧ takes ⟨3 + 2 * κ.val, by omega⟩ l' j = false ∧ takes 0 l' j = false ∧ takes 0 l j = true)
      ∨ (takes ⟨2 + 2 * κ.val, by omega⟩ l j = false ∧ takes ⟨3 + 2 * κ.val, by omega⟩ l' j = true ∧ takes 0 l' j = false ∧ takes 0 l j = true)
      ∨ (takes ⟨2 + 2 * κ.val, by omega⟩ l j = false ∧ takes ⟨3 + 2 * κ.val, by omega⟩ l' j = false ∧ takes 0 l' j = takes 0 l j)) := by decide +kernel

section parts
variable (P : Fin 8 → Fin 6400 → EReal) (W2 : Fin 16 → Fin 512 → EReal) (B2 : Fin 512 → EReal)

/-- Finite gate columns, matrix and bias give finite gate logits. -/
theorem zlog_fin (hP : ∀ l (k : Fin 16), IsReal (P l ⟨6144 + k.val, by omega⟩)) (hW : ∀ k e, IsReal (W2 k e)) (hB : ∀ e, IsReal (B2 e))
    (l : Fin 8) (e : Fin 512) : IsReal (zlog P W2 B2 l e) :=
  fin_add (fin_sum _ _ fun k => fin_mul (hP l k) (hW k e)) (hB e)

/-- Finite gate logits give finite log-decays. -/
theorem decay_fin (hz : ∀ l e, IsReal (zlog P W2 B2 l e)) (l : Fin 8) (e : Fin 512) : IsReal (decay P W2 B2 l e) := by
  obtain ⟨r, hr⟩ := hz l e
  unfold decay
  rw [hr]
  exact ⟨_, decay_real r⟩

/-- A sum over a part of a sequence of real numbers. -/
theorem sum_real (p : Fin 8 → Bool) (a : Fin 8 → ℝ) :
    (∑ l : Fin 8, if p l = true then ((a l : ℝ) : EReal) else 0) = ((∑ l : Fin 8, if p l = true then a l else 0 : ℝ) : EReal) := by
  have h : ∀ s : Finset (Fin 8), (∑ l ∈ s, if p l = true then ((a l : ℝ) : EReal) else 0) = ((∑ l ∈ s, if p l = true then a l else 0 : ℝ) : EReal) := by
    intro s
    induction s using Finset.induction_on with
    | empty => simp
    | insert i s hi ih =>
      rw [Finset.sum_insert hi, Finset.sum_insert hi, ih, EReal.coe_add]
      congr 1
      split <;> simp
  exact h _

/-- The sums over parts are real where the log-decays are. -/
theorem part_real (a : Fin 8 → Fin 512 → ℝ) (ha : ∀ l e, decay P W2 B2 l e = ((a l e : ℝ) : EReal)) (κ l : Fin 8) (e : Fin 512) :
    part P W2 B2 κ l e = ((∑ l' : Fin 8, if takes κ l l' = true then a l' e else 0 : ℝ) : EReal) := by
  unfold part
  simp only [ha]
  exact sum_real (takes κ l) fun l' => a l' e

/-- Finite log-decays are the values of a real function. -/
theorem real_of_fin (hf : ∀ l e, IsReal (decay P W2 B2 l e)) : ∃ a : Fin 8 → Fin 512 → ℝ, ∀ l e, decay P W2 B2 l e = ((a l e : ℝ) : EReal) :=
  ⟨fun l e => (hf l e).choose, fun l e => (hf l e).choose_spec⟩

/-- What is left of the whole sum after position `l` is the sum over the later positions. -/
theorem part_rest (hf : ∀ l e, IsReal (decay P W2 B2 l e)) (l : Fin 8) (e : Fin 512) :
    part P W2 B2 0 7 e - part P W2 B2 0 l e = part P W2 B2 1 l e := by
  obtain ⟨a, ha⟩ := real_of_fin P W2 B2 hf
  rw [part_real P W2 B2 a ha, part_real P W2 B2 a ha, part_real P W2 B2 a ha, ← EReal.coe_sub]
  congr 1
  rw [sub_eq_iff_eq_add, ← Finset.sum_add_distrib]
  refine Finset.sum_congr rfl fun j _ => ?_
  have h : ∀ l j : Fin 8, takes 0 7 j = true ∧ (takes 1 l j = !takes 0 l j) := by decide
  rw [if_pos (h l j).1, (h l j).2]
  by_cases h' : takes 0 l j = true
  · simp [h']
  · simp [h']

/-- Between two positions that the κ-th pair table joins, the decay is the product of the two halves' decays. -/
theorem part_between (hf : ∀ l e, IsReal (decay P W2 B2 l e)) (κ : Fin 4) (hκ : κ.val < 3) (l l' : Fin 8) (hp : pairs κ l l' = true) (e : Fin 512) :
    Ideal.exp (part P W2 B2 ⟨2 + 2 * κ.val, by omega⟩ l e) * Ideal.exp (part P W2 B2 ⟨3 + 2 * κ.val, by omega⟩ l' e)
      = Ideal.exp (part P W2 B2 0 l e - part P W2 B2 0 l' e) := by
  obtain ⟨a, ha⟩ := real_of_fin P W2 B2 hf
  rw [part_real P W2 B2 a ha, part_real P W2 B2 a ha, part_real P W2 B2 a ha, part_real P W2 B2 a ha, ← EReal.coe_sub, Ideal.exp_coe, Ideal.exp_coe, Ideal.exp_coe,
    ← EReal.coe_mul, ← Real.exp_add]
  congr 2
  rw [eq_sub_iff_add_eq, ← Finset.sum_add_distrib, ← Finset.sum_add_distrib]
  refine Finset.sum_congr rfl fun j _ => ?_
  rcases takes_between κ hκ l l' j hp with ⟨h1, h2, h3, h4⟩ | ⟨h1, h2, h3, h4⟩ | ⟨h1, h2, h3⟩
  · rw [h1, h2, h3, h4]; simp
  · rw [h1, h2, h3, h4]; simp
  · rw [h1, h2, h3]; simp

end parts

/-- A fold of additions is the start and the sum. -/
theorem foldl_sum {ι : Type} (L : List ι) (g : ι → EReal) (v : EReal) : L.foldl (fun r n => r + g n) v = v + (L.map g).sum := by
  induction L generalizing v with
  | nil => simp
  | cons a L ih => rw [List.foldl_cons, ih, List.map_cons, List.sum_cons, add_assoc]

/-- A running sum along the third of four axes, written as a window of 8 padded by 7 at its low end. -/
theorem cumsum_at (x : FVec Ideal ⟨4, ![128, 4, 8, 128]⟩ .f32) (init : FVec Ideal ⟨0, ![]⟩ .f32) (hv : ∀ i, init i = 0)
    (h : (⟨4, ![128, 4, 8, 128]⟩ : Shape).ReduceWindows (![1, 1, 8, 1] : Fin 4 → Nat) ![1, 1, 1, 1] ![0, 0, 7, 0] ![0, 0, 0, 0] ⟨4, ![128, 4, 8, 128]⟩)
    (hu : 0 < (⟨0, ![]⟩ : Shape).numel) (b : Fin 128) (k : Fin 4) (j : Fin 8) (d : Fin 128) :
    Host.reduceWindowAdd (F := Ideal) ![1, 1, 8, 1] ![1, 1, 1, 1] ![0, 0, 7, 0] ![0, 0, 0, 0] x init h hu (ix4 b k j d)
      = ∑ l : Fin 8, if takes 0 j l = true then x (ix4 b k l d) else 0 := by
  have hn : (⟨4, ![1, 1, 8, 1]⟩ : Shape).numel = 8 := by decide
  have hw : ∀ n : Fin (⟨4, ![1, 1, 8, 1]⟩ : Shape).numel, ((⟨4, ![1, 1, 8, 1]⟩ : Shape).rowMajor.symm n 0).val = 0
      ∧ ((⟨4, ![1, 1, 8, 1]⟩ : Shape).rowMajor.symm n 1).val = 0 ∧ ((⟨4, ![1, 1, 8, 1]⟩ : Shape).rowMajor.symm n 2).val = n.val
      ∧ ((⟨4, ![1, 1, 8, 1]⟩ : Shape).rowMajor.symm n 3).val = 0 := by decide
  unfold Host.reduceWindowAdd
  rw [Ideal.hostReduceWindowAdd_def]
  unfold Ideal.hostReduceWindowAdd Host.reduceWindow
  dsimp only
  rw [foldl_sum, hv, zero_add, ← Fin.sum_univ_def]
  refine (Finset.sum_congr (g := fun n : Fin (⟨4, ![1, 1, 8, 1]⟩ : Shape).numel => if hin : 7 ≤ j.val + n.val then
      (fun l => x (ix4 b k l d)) (⟨j.val + n.val - 7, by have := lt_of_lt_of_eq n.isLt hn; omega⟩ : Fin 8) else 0) rfl fun n _ => ?_).trans ?_
  · obtain ⟨w0, w1, w2, w3⟩ := hw n
    have hlt := lt_of_lt_of_eq n.isLt hn
    dsimp only
    by_cases hin : 7 ≤ j.val + n.val
    · rw [dif_pos hin, dif_pos]
      · refine congrArg x (funext fun a => Fin.ext ?_)
        match a with
        | ⟨0, _⟩ => show b.val * 1 + ((⟨4, ![1, 1, 8, 1]⟩ : Shape).rowMajor.symm n 0).val - 0 = b.val; omega
        | ⟨1, _⟩ => show k.val * 1 + ((⟨4, ![1, 1, 8, 1]⟩ : Shape).rowMajor.symm n 1).val - 0 = k.val; omega
        | ⟨2, _⟩ => show j.val * 1 + ((⟨4, ![1, 1, 8, 1]⟩ : Shape).rowMajor.symm n 2).val - 7 = j.val + n.val - 7; omega
        | ⟨3, _⟩ => show d.val * 1 + ((⟨4, ![1, 1, 8, 1]⟩ : Shape).rowMajor.symm n 3).val - 0 = d.val; omega
      · intro a
        match a with
        | ⟨0, _⟩ => show 0 ≤ b.val * 1 + ((⟨4, ![1, 1, 8, 1]⟩ : Shape).rowMajor.symm n 0).val ∧ b.val * 1 + ((⟨4, ![1, 1, 8, 1]⟩ : Shape).rowMajor.symm n 0).val - 0 < 128; omega
        | ⟨1, _⟩ => show 0 ≤ k.val * 1 + ((⟨4, ![1, 1, 8, 1]⟩ : Shape).rowMajor.symm n 1).val ∧ k.val * 1 + ((⟨4, ![1, 1, 8, 1]⟩ : Shape).rowMajor.symm n 1).val - 0 < 4; omega
        | ⟨2, _⟩ => show 7 ≤ j.val * 1 + ((⟨4, ![1, 1, 8, 1]⟩ : Shape).rowMajor.symm n 2).val ∧ j.val * 1 + ((⟨4, ![1, 1, 8, 1]⟩ : Shape).rowMajor.symm n 2).val - 7 < 8; omega
        | ⟨3, _⟩ => show 0 ≤ d.val * 1 + ((⟨4, ![1, 1, 8, 1]⟩ : Shape).rowMajor.symm n 3).val ∧ d.val * 1 + ((⟨4, ![1, 1, 8, 1]⟩ : Shape).rowMajor.symm n 3).val - 0 < 128; omega
    · rw [dif_neg hin, dif_neg]
      intro ha
      have h2 : 7 ≤ j.val * 1 + ((⟨4, ![1, 1, 8, 1]⟩ : Shape).rowMajor.symm n 2).val := (ha 2).1
      omega
  generalize hg : (fun l => x (ix4 b k l d)) = g
  have hx : ∀ l, x (ix4 b k l d) = g l := fun l => by rw [← hg]
  simp only [hx]
  refine (Fintype.sum_equiv (finCongr hn) _ (fun n : Fin 8 => if hin : 7 ≤ j.val + n.val then g ⟨j.val + n.val - 7, by omega⟩ else 0) fun n => rfl).trans ?_
  unfold takes
  fin_cases j <;> simp [Fin.sum_univ_eight]

/-- A head's output normalised about its mean, weighted, offset and gated. -/
def centred (O w c g : Fin 256 → EReal) (v : Fin 256) : EReal :=
  ((O v - Ideal.div (∑ x : Fin 256, O x) (Ideal.ofBits .f32 0x43800000#32))
      * Ideal.rsqrt (Ideal.div (∑ x : Fin 256, (O x - Ideal.div (∑ y : Fin 256, O y) (Ideal.ofBits .f32 0x43800000#32)) * (O x - Ideal.div (∑ y : Fin 256, O y) (Ideal.ofBits .f32 0x43800000#32))) (Ideal.ofBits .f32 0x43800000#32)
        + Ideal.ofBits .f32 0x358637BD#32) * w v + c v)
    * (g v * Ideal.div 1 (1 + Ideal.exp (-(g v))))

/-- A head's output normalised by its mean square, weighted and gated. -/
def scaledBy (O w g : Fin 256 → EReal) (v : Fin 256) : EReal :=
  (O v * Ideal.rsqrt (Ideal.div (∑ x : Fin 256, O x * O x) (Ideal.ofBits .f32 0x43800000#32) + Ideal.ofBits .f32 0x358637BD#32) * w v)
    * (g v * Ideal.div 1 (1 + Ideal.exp (-(g v))))

/-- Column `256 k + v` of the columns from `o` on. -/
def colOf (o : ℕ) (ho : o + 1024 ≤ 6400) (k : Fin 4) (v : Fin 256) : Fin 6400 := ⟨o + 256 * k.val + v.val, by omega⟩

section mixes
variable (P : Fin 128 → Fin 8 → Fin 6400 → EReal) (S0 G0 : Fin 128 → Fin 4 → Fin 128 → Fin 256 → EReal)
  (W2 : Fin 16 → Fin 512 → EReal) (B2 : Fin 512 → EReal) (gw gb gg : Fin 4 → Fin 256 → EReal)

/-- What the mixer hands on of a retention head. -/
def mixR (b : Fin 128) (l : Fin 8) (k : Fin 4) (v : Fin 256) : EReal :=
  centred (robs (P b) (S0 b) k l) (gw k) (gb k) (fun v => P b l (colOf 2048 (by omega) k v)) v
/-- What the mixer hands on of a gated head. -/
def mixG (b : Fin 128) (l : Fin 8) (k : Fin 4) (v : Fin 256) : EReal :=
  scaledBy (gobs (P b) (G0 b) W2 B2 k l) (gg k) (fun v => P b l (colOf 5120 (by omega) k v)) v

/-- What the mixer hands on: the retention's heads and then the gated ones. -/
def mixAt (r : Fin 1024) (e : Fin 2048) : EReal :=
  if h : e.val < 1024 then mixR P S0 gw gb ⟨r.val / 8, by omega⟩ ⟨r.val % 8, by omega⟩ ⟨e.val / 256, by omega⟩ ⟨e.val % 256, by omega⟩
    else mixG P G0 W2 B2 gg ⟨r.val / 8, by omega⟩ ⟨r.val % 8, by omega⟩ ⟨(e.val - 1024) / 256, by omega⟩ ⟨(e.val - 1024) % 256, by omega⟩

/-- An entry of a retention head's columns. -/
theorem mixAt_ret (r : Fin 1024) (e : Fin 2048) (b : Fin 128) (l : Fin 8) (k : Fin 4) (v : Fin 256) (hr : r.val = 8 * b.val + l.val) (he : e.val = 256 * k.val + v.val) :
    mixAt P S0 G0 W2 B2 gw gb gg r e = mixR P S0 gw gb b l k v := by
  unfold mixAt
  rw [dif_pos (by omega)]
  congr 1 <;> apply Fin.ext <;> simp only <;> omega

/-- An entry of a gated head's columns. -/
theorem mixAt_gla (r : Fin 1024) (e : Fin 2048) (b : Fin 128) (l : Fin 8) (k : Fin 4) (v : Fin 256) (hr : r.val = 8 * b.val + l.val) (he : e.val = 1024 + 256 * k.val + v.val) :
    mixAt P S0 G0 W2 B2 gw gb gg r e = mixG P G0 W2 B2 gg b l k v := by
  unfold mixAt
  rw [dif_neg (by omega)]
  congr 1 <;> apply Fin.ext <;> simp only <;> omega

end mixes

end Cert.KernelIdeal.RefValue
end
-- ==== Proof.MixerBlock.lean ====
module

public import proofs.«01_k».proof.Proof.Gen.KernelIdeal.Value
public import Idealize.ShloMosaic.Lib.Pipeline.ValueKit
public import Idealize.ShloMosaic.Lib.Pointwise
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.KernelIdeal.RefValue

open Cert.KernelIdeal Cert.KernelIdeal.Gen

variable (x0 : Vec Ideal S64x6400 .f32) (x1 x2 : Vec Ideal S64x128 .f32) (x3 : Vec Ideal S4x64x64 .f32) (x4 : Vec Ideal S4x64x256 .f32)
  (x5 : Vec Ideal S4x64x128 .f32) (x6 : Vec Ideal S4x128x256 .f32) (x7 : Vec Ideal S128x512 .bf16) (x8 : Vec Ideal S1x512 .f32)
  (x9 : Vec Ideal S512x64 .bf16) (x10 : Vec Ideal S4x64x64 .f32) (x11 x12 x13 : Vec Ideal S1x1024 .f32) (x14 x15 : Vec Ideal S8x4x128x256 .f32)

/-- The column numbers of a block, by sequence: column `j` belongs to sequence `j / 8`. -/
theorem colseq (j : Fin 64) : k0_pay320 x0 x1 x2 x3 x4 x5 x6 x7 x8 x9 x10 x11 x12 x13 x14 x15 (ix2 0 j) = BitVec.ofNat 32 (j.val / 8) := by
  unfold k0_pay320
  revert j
  decide +kernel

/-- The row numbers of a block, by sequence: row `r` belongs to sequence `r / 8`. -/
theorem rowseq (r : Fin 64) : k0_pay319 x0 x1 x2 x3 x4 x5 x6 x7 x8 x9 x10 x11 x12 x13 x14 x15 (ix2 r 0) = BitVec.ofNat 32 (r.val / 8) := by
  unfold k0_pay319
  revert r
  decide +kernel

/-- A load of a whole table of angles is the table. -/
theorem ldA (X : Vec Ideal S64x128 .f32) : View.ld X r0_0 = X := View.ld_unit_lit _ X (by decide)

/-- A rotated row: the entry times its cosine plus the entry half a head away times its signed sine. -/
def turn (o : ℕ) (ho : o + 128 ≤ 6400) (j : Fin 64) (d : Fin 128) : EReal :=
  x0 (ix2 j ⟨o + d.val, by omega⟩) * x1 (ix2 j d) + x0 (ix2 j ⟨o + (d.val + 128 - 64) % 128, by omega⟩) * x2 (ix2 j d)

/-- The rotated, scaled and decayed keys of head `h`, feature by row. -/
def ktab (h : Fin 4) : FVec Ideal S128x64 .f32 := fun i =>
  turn x0 x1 x2 (512 + 128 * h.val) (by omega) (i 1) (i 0) * Ideal.ofBits .f32 0x3DB504F3#32 * x5 (ix3 h (i 1) (i 0))

/-- The values of head `h`, row by feature. -/
def vtab (h : Fin 4) : FVec Ideal S64x256 .bf16 := fun i => x0 (ix2 (i 0) ⟨1024 + 256 * h.val + (i 1).val, by have := (i 1).isLt; simp at this; omega⟩)

/-- The keys of head 0 of the block. -/
theorem kt0 : k0_pay326 x0 x1 x2 x3 x4 x5 x6 x7 x8 x9 x10 x11 x12 x13 x14 x15 = ktab x0 x1 x2 x5 0 := by
  funext i
  have hi : i = ix2 (i 0) (i 1) := by idx_ext
  rw [hi]
  generalize i 0 = d
  generalize i 1 = j
  unfold k0_pay326
  pointwise [k0_pay13, k0_pay9, k0_pay7, k0_pay8]
  rfl

/-- The values of head 0 of the block. -/
theorem vt0 : k0_pay323 x0 x1 x2 x3 x4 x5 x6 x7 x8 x9 x10 x11 x12 x13 x14 x15 = vtab x0 0 := by
  funext i
  have hi : i = ix2 (i 0) (i 1) := by idx_ext
  rw [hi]
  generalize i 0 = j
  generalize i 1 = v
  unfold k0_pay323
  pointwise [k0_pay10]
  rfl

/-- The keys of head 1 of the block. -/
theorem kt1 : k0_pay332 x0 x1 x2 x3 x4 x5 x6 x7 x8 x9 x10 x11 x12 x13 x14 x15 = ktab x0 x1 x2 x5 1 := by
  funext i
  have hi : i = ix2 (i 0) (i 1) := by idx_ext
  rw [hi]
  generalize i 0 = d
  generalize i 1 = j
  unfold k0_pay332
  pointwise [k0_pay48, k0_pay44, k0_pay321, k0_pay322, k0_pay7, k0_pay8]
  rfl

/-- The values of head 1 of the block. -/
theorem vt1 : k0_pay330 x0 x1 x2 x3 x4 x5 x6 x7 x8 x9 x10 x11 x12 x13 x14 x15 = vtab x0 1 := by
  funext i
  have hi : i = ix2 (i 0) (i 1) := by idx_ext
  rw [hi]
  generalize i 0 = j
  generalize i 1 = v
  unfold k0_pay330
  pointwise [k0_pay45]
  rfl

/-- The keys of head 2 of the block. -/
theorem kt2 : k0_pay336 x0 x1 x2 x3 x4 x5 x6 x7 x8 x9 x10 x11 x12 x13 x14 x15 = ktab x0 x1 x2 x5 2 := by
  funext i
  have hi : i = ix2 (i 0) (i 1) := by idx_ext
  rw [hi]
  generalize i 0 = d
  generalize i 1 = j
  unfold k0_pay336
  pointwise [k0_pay86, k0_pay333, k0_pay81, k0_pay321, k0_pay322, k0_pay7, k0_pay8]
  rfl

/-- The values of head 2 of the block. -/
theorem vt2 : k0_pay334 x0 x1 x2 x3 x4 x5 x6 x7 x8 x9 x10 x11 x12 x13 x14 x15 = vtab x0 2 := by
  funext i
  have hi : i = ix2 (i 0) (i 1) := by idx_ext
  rw [hi]
  generalize i 0 = j
  generalize i 1 = v
  unfold k0_pay334
  pointwise [k0_pay82]
  rfl

/-- The keys of head 3 of the block. -/
theorem kt3 : k0_pay340 x0 x1 x2 x3 x4 x5 x6 x7 x8 x9 x10 x11 x12 x13 x14 x15 = ktab x0 x1 x2 x5 3 := by
  funext i
  have hi : i = ix2 (i 0) (i 1) := by idx_ext
  rw [hi]
  generalize i 0 = d
  generalize i 1 = j
  unfold k0_pay340
  pointwise [k0_pay119, k0_pay115, k0_pay321, k0_pay322, k0_pay7, k0_pay8]
  rfl

/-- The values of head 3 of the block. -/
theorem vt3 : k0_pay337 x0 x1 x2 x3 x4 x5 x6 x7 x8 x9 x10 x11 x12 x13 x14 x15 = vtab x0 3 := by
  funext i
  have hi : i = ix2 (i 0) (i 1) := by idx_ext
  rw [hi]
  generalize i 0 = j
  generalize i 1 = v
  unfold k0_pay337
  pointwise [k0_pay116]
  rfl

/-- A block of a state depends on its coordinates only through their values. -/
theorem stated (C : IVec S1x64 32) (K : Fin 4 → FVec Ideal S128x64 .f32) (W : Fin 4 → FVec Ideal S64x256 .bf16) (S : Vec Ideal S8x4x128x256 .f32)
    {s s' : Fin 8} {h h' : Fin 4} {d d' : Fin 128} {v v' : Fin 256} {n n' : BitVec 32} (hs : s.val = s'.val) (hh : h.val = h'.val) (hd : d.val = d'.val)
    (hv : v.val = v'.val) (hn : n = n') :
    S (ix4 s h d v) * x6 (ix3 h d v) + ∑ x : Fin 64, Scalar.select (IntOp.cmpi .eq (C (ix2 0 x)) n) (K h (ix2 d x) * W h (ix2 x v)) 0
      = S (ix4 s' h' d' v') * x6 (ix3 h' d' v') + ∑ x : Fin 64, Scalar.select (IntOp.cmpi .eq (C (ix2 0 x)) n') (K h' (ix2 d' x) * W h' (ix2 x v')) 0 := by
  obtain rfl : s = s' := Fin.ext hs
  obtain rfl : h = h' := Fin.ext hh
  obtain rfl : d = d' := Fin.ext hd
  obtain rfl : v = v' := Fin.ext hv
  rw [hn]

/-- The block of retention states, at an entry given by its four coordinates. -/
theorem states_at (y : S8x4x128x256.Idx) (s : Fin 8) (h : Fin 4) (d : Fin 128) (v : Fin 256) (k0 : (y 0).val = s.val) (k1 : (y 1).val = h.val)
    (k2 : (y 2).val = d.val) (k3 : (y 3).val = v.val) :
    out0_17 x0 x1 x2 x3 x4 x5 x6 x7 x8 x9 x10 x11 x12 x13 x14 x15 y
      = x14 (ix4 s h d v) * x6 (ix3 h d v)
        + ∑ x : Fin 64, Scalar.select (IntOp.cmpi .eq (k0_pay320 x0 x1 x2 x3 x4 x5 x6 x7 x8 x9 x10 x11 x12 x13 x14 x15 (ix2 0 x)) (BitVec.ofNat 32 s.val))
            (ktab x0 x1 x2 x5 h (ix2 d x) * vtab x0 h (ix2 x v)) 0 := by
  have e14 : k0_pay327 x0 x1 x2 x3 x4 x5 x6 x7 x8 x9 x10 x11 x12 x13 x14 x15 = k0_pay28 (View.ld x14 r0_11) := rfl
  have e89 : ∀ C W a b, k0_pay89 (F := Ideal) C (k0_pay333 x0 x1 x2 x3 x4 x5 x6 x7 x8 x9 x10 x11 x12 x13 x14 x15) W (View.ld x5 r0_41) a b = k0_pay16 (F := Ideal) C W (ktab x0 x1 x2 x5 2) a b := by
    intro C W a b
    rw [← kt2 x0 x1 x2 x3 x4 x5 x6 x7 x8 x9 x10 x11 x12 x13 x14 x15]
    rfl
  unfold out0_17
  simp only [e14, e89, kt0, kt1, kt2, kt3, vt0, vt1, vt2, vt3]
  generalize k0_pay320 x0 x1 x2 x3 x4 x5 x6 x7 x8 x9 x10 x11 x12 x13 x14 x15 = C
  generalize ktab x0 x1 x2 x5 = K
  generalize vtab x0 = W
  canon_tiles y hh
  all_goals (open_payloads; pointwise)
  all_goals refine stated _ C K W _ ?_ ?_ ?_ ?_ ?_
  all_goals first | omega | exact congrArg (BitVec.ofNat 32) (by omega)

/-- The block of retention states: the old state decayed, plus the keys against the values of the state's own sequence. -/
theorem states (s : Fin 8) (h : Fin 4) (d : Fin 128) (v : Fin 256) :
    out0_17 x0 x1 x2 x3 x4 x5 x6 x7 x8 x9 x10 x11 x12 x13 x14 x15 (ix4 s h d v)
      = x14 (ix4 s h d v) * x6 (ix3 h d v)
        + ∑ x : Fin 64, Scalar.select (IntOp.cmpi .eq (k0_pay320 x0 x1 x2 x3 x4 x5 x6 x7 x8 x9 x10 x11 x12 x13 x14 x15 (ix2 0 x)) (BitVec.ofNat 32 s.val))
            (ktab x0 x1 x2 x5 h (ix2 d x) * vtab x0 h (ix2 x v)) 0 :=
  states_at x0 x1 x2 x3 x4 x5 x6 x7 x8 x9 x10 x11 x12 x13 x14 x15 _ s h d v rfl rfl rfl rfl

end Cert.KernelIdeal.RefValue

end
-- ==== Proof.MixerGate.lean ====
module

public import proofs.«01_k».proof.Proof.Gen.KernelIdeal.Value
public import proofs.«01_k».proof.Proof.MixerBlock
public import Idealize.ShloMosaic.Lib.Pipeline.ValueKit
public import Idealize.ShloMosaic.Lib.Pointwise
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.KernelIdeal.RefValue

open Cert.KernelIdeal Cert.KernelIdeal.Gen

variable (x0 : Vec Ideal S64x6400 .f32) (x1 x2 : Vec Ideal S64x128 .f32) (x3 : Vec Ideal S4x64x64 .f32) (x4 : Vec Ideal S4x64x256 .f32)
  (x5 : Vec Ideal S4x64x128 .f32) (x6 : Vec Ideal S4x128x256 .f32) (x7 : Vec Ideal S128x512 .bf16) (x8 : Vec Ideal S1x512 .f32)
  (x9 : Vec Ideal S512x64 .bf16) (x10 : Vec Ideal S4x64x64 .f32) (x11 x12 x13 : Vec Ideal S1x1024 .f32) (x14 x15 : Vec Ideal S8x4x128x256 .f32)

/-- A load of the whole table of partial sums is the table. -/
theorem ldS (X : Vec Ideal S512x64 .bf16) : View.ld X r0_76 = X := View.ld_unit_lit _ X (by decide)

/-- A load of the whole gate projection is the projection. -/
theorem ldW (X : Vec Ideal S128x512 .bf16) : View.ld X r0_74 = X := View.ld_unit_lit _ X (by decide)

/-- A load of the whole gate bias is the bias. -/
theorem ldV (X : Vec Ideal S1x512 .f32) : View.ld X r0_75 = X := View.ld_unit_lit _ X (by decide)

/-- The gate's logit of row `r` at feature `e`. -/
def logit (r : Fin 64) (e : Fin 512) : EReal := ∑ k : Fin 128, x0 (ix2 r ⟨6144 + k.val, by omega⟩) * x7 (ix2 k e) + x8 (ix2 0 e)

/-- The block of log decays: a sixteenth of the log of the gate's sigmoid. -/
theorem decays (r : Fin 64) (e : Fin 512) :
    k0_pay344 x0 x1 x2 x3 x4 x5 x6 x7 x8 x9 x10 x11 x12 x13 x14 x15 (ix2 r e)
      = (min (logit x0 x7 x8 r e) 0 - Ideal.log1p (Ideal.exp (0 - (max (logit x0 x7 x8 r e) (-(logit x0 x7 x8 r e)))))) * Ideal.ofBits .f32 0x3D800000#32 := by
  unfold k0_pay344 k0_pay342 k0_pay343
  rw [ldW, ldV]
  pointwise [k0_pay153, k0_pay152, k0_pay151, logit]
  rfl

/-- The partial sums of head `h`'s log decays: the sums of the decays and of what their rounding left. -/
def btab (L : FVec Ideal S64x512 .f32) (h : Fin 4) : FVec Ideal S512x128 .f32 := fun i =>
  ∑ j : Fin 64, x9 (ix2 (i 0) j) * L (ix2 j ⟨128 * h.val + (i 1).val, by have := (i 1).isLt; simp at this; omega⟩)
    + ∑ j : Fin 64, x9 (ix2 (i 0) j) * (L (ix2 j ⟨128 * h.val + (i 1).val, by have := (i 1).isLt; simp at this; omega⟩)
        - L (ix2 j ⟨128 * h.val + (i 1).val, by have := (i 1).isLt; simp at this; omega⟩))

/-- The running sums of head `h`, row by feature. -/
def utab (L : FVec Ideal S64x512 .f32) (h : Fin 4) : FVec Ideal S64x128 .f32 := fun i =>
  btab x9 L h (ix2 ⟨(i 0).val, by have := (i 0).isLt; simp at this; omega⟩ (i 1))

/-- The keys of head `h` decayed to the sequence's end, feature by row. -/
def gtab (L : FVec Ideal S64x512 .f32) (h : Fin 4) : FVec Ideal S128x64 .f32 := fun i =>
  x0 (ix2 (i 1) ⟨3584 + 128 * h.val + (i 0).val, by have := (i 0).isLt; simp at this; omega⟩)
    * Ideal.exp (btab x9 L h (ix2 ⟨64 + (i 1).val, by have := (i 1).isLt; simp at this; omega⟩ (i 0)))

/-- The values of head `h`, row by feature. -/
def wtab (h : Fin 4) : FVec Ideal S64x256 .bf16 := fun i => x0 (ix2 (i 0) ⟨4096 + 256 * h.val + (i 1).val, by have := (i 1).isLt; simp at this; omega⟩)

/-- The partial sums of head 0 of the block. -/
theorem bt0 : k0_pay154 (F := Ideal) (k0_pay342 x0 x1 x2 x3 x4 x5 x6 x7 x8 x9 x10 x11 x12 x13 x14 x15) (k0_pay343 x0 x1 x2 x3 x4 x5 x6 x7 x8 x9 x10 x11 x12 x13 x14 x15) (View.ld x9 r0_76) = btab x9 (k0_pay344 x0 x1 x2 x3 x4 x5 x6 x7 x8 x9 x10 x11 x12 x13 x14 x15) 0 := by
  rw [ldS, show k0_pay344 x0 x1 x2 x3 x4 x5 x6 x7 x8 x9 x10 x11 x12 x13 x14 x15 = k0_pay153 (F := Ideal) (k0_pay342 x0 x1 x2 x3 x4 x5 x6 x7 x8 x9 x10 x11 x12 x13 x14 x15) (k0_pay343 x0 x1 x2 x3 x4 x5 x6 x7 x8 x9 x10 x11 x12 x13 x14 x15) from rfl]
  funext i
  have hi : i = ix2 (i 0) (i 1) := by idx_ext
  rw [hi]
  generalize i 0 = r
  generalize i 1 = d
  pointwise [k0_pay154]
  unfold btab
  simp only [show 128 * (0 : Fin 4).val = 0 from rfl, Nat.zero_add]
  rfl

/-- The running sums of head 0 of the block. -/
theorem ut0 : k0_pay345 x0 x1 x2 x3 x4 x5 x6 x7 x8 x9 x10 x11 x12 x13 x14 x15 = utab x9 (k0_pay344 x0 x1 x2 x3 x4 x5 x6 x7 x8 x9 x10 x11 x12 x13 x14 x15) 0 := by
  unfold k0_pay345 k0_pay155
  have e := bt0 x0 x1 x2 x3 x4 x5 x6 x7 x8 x9 x10 x11 x12 x13 x14 x15
  rw [e]
  generalize k0_pay344 x0 x1 x2 x3 x4 x5 x6 x7 x8 x9 x10 x11 x12 x13 x14 x15 = L
  funext i
  have hi : i = ix2 (i 0) (i 1) := by idx_ext
  rw [hi]
  generalize i 0 = r
  generalize i 1 = d
  pointwise [utab]

/-- The decayed keys of head 0 of the block. -/
theorem gt0 : k0_pay350 x0 x1 x2 x3 x4 x5 x6 x7 x8 x9 x10 x11 x12 x13 x14 x15 = gtab x0 x9 (k0_pay344 x0 x1 x2 x3 x4 x5 x6 x7 x8 x9 x10 x11 x12 x13 x14 x15) 0 := by
  unfold k0_pay350 k0_pay163 k0_pay156
  have e := bt0 x0 x1 x2 x3 x4 x5 x6 x7 x8 x9 x10 x11 x12 x13 x14 x15
  rw [e]
  generalize k0_pay344 x0 x1 x2 x3 x4 x5 x6 x7 x8 x9 x10 x11 x12 x13 x14 x15 = L
  funext i
  have hi : i = ix2 (i 0) (i 1) := by idx_ext
  rw [hi]
  generalize i 0 = d
  generalize i 1 = r
  pointwise
  rfl

/-- The values of head 0 of the block. -/
theorem wt0 : k0_pay347 x0 x1 x2 x3 x4 x5 x6 x7 x8 x9 x10 x11 x12 x13 x14 x15 = wtab x0 0 := by
  funext i
  have hi : i = ix2 (i 0) (i 1) := by idx_ext
  rw [hi]
  generalize i 0 = j
  generalize i 1 = v
  unfold k0_pay347
  pointwise [k0_pay158]
  rfl

/-- The partial sums of head 1 of the block. -/
theorem bt1 : k0_pay352 x0 x1 x2 x3 x4 x5 x6 x7 x8 x9 x10 x11 x12 x13 x14 x15 = btab x9 (k0_pay344 x0 x1 x2 x3 x4 x5 x6 x7 x8 x9 x10 x11 x12 x13 x14 x15) 1 := by
  unfold k0_pay352
  rw [ldS]
  funext i
  have hi : i = ix2 (i 0) (i 1) := by idx_ext
  rw [hi]
  generalize i 0 = r
  generalize i 1 = d
  pointwise [k0_pay195]
  rfl

/-- The running sums of head 1 of the block. -/
theorem ut1 : k0_pay353 x0 x1 x2 x3 x4 x5 x6 x7 x8 x9 x10 x11 x12 x13 x14 x15 = utab x9 (k0_pay344 x0 x1 x2 x3 x4 x5 x6 x7 x8 x9 x10 x11 x12 x13 x14 x15) 1 := by
  unfold k0_pay353 k0_pay196
  have e := bt1 x0 x1 x2 x3 x4 x5 x6 x7 x8 x9 x10 x11 x12 x13 x14 x15
  unfold k0_pay352 at e
  rw [e]
  generalize k0_pay344 x0 x1 x2 x3 x4 x5 x6 x7 x8 x9 x10 x11 x12 x13 x14 x15 = L
  funext i
  have hi : i = ix2 (i 0) (i 1) := by idx_ext
  rw [hi]
  generalize i 0 = r
  generalize i 1 = d
  pointwise [utab]

/-- The decayed keys of head 1 of the block. -/
theorem gt1 : k0_pay358 x0 x1 x2 x3 x4 x5 x6 x7 x8 x9 x10 x11 x12 x13 x14 x15 = gtab x0 x9 (k0_pay344 x0 x1 x2 x3 x4 x5 x6 x7 x8 x9 x10 x11 x12 x13 x14 x15) 1 := by
  unfold k0_pay358 k0_pay204 k0_pay354 k0_pay197
  have e := bt1 x0 x1 x2 x3 x4 x5 x6 x7 x8 x9 x10 x11 x12 x13 x14 x15
  unfold k0_pay352 at e
  rw [e]
  generalize k0_pay344 x0 x1 x2 x3 x4 x5 x6 x7 x8 x9 x10 x11 x12 x13 x14 x15 = L
  funext i
  have hi : i = ix2 (i 0) (i 1) := by idx_ext
  rw [hi]
  generalize i 0 = d
  generalize i 1 = r
  pointwise
  rfl

/-- The values of head 1 of the block. -/
theorem wt1 : k0_pay356 x0 x1 x2 x3 x4 x5 x6 x7 x8 x9 x10 x11 x12 x13 x14 x15 = wtab x0 1 := by
  funext i
  have hi : i = ix2 (i 0) (i 1) := by idx_ext
  rw [hi]
  generalize i 0 = j
  generalize i 1 = v
  unfold k0_pay356
  pointwise [k0_pay199]
  rfl

/-- The partial sums of head 2 of the block. -/
theorem bt2 : k0_pay235 (F := Ideal) (k0_pay359 x0 x1 x2 x3 x4 x5 x6 x7 x8 x9 x10 x11 x12 x13 x14 x15) (k0_pay360 x0 x1 x2 x3 x4 x5 x6 x7 x8 x9 x10 x11 x12 x13 x14 x15) (View.ld x9 r0_76) = btab x9 (k0_pay344 x0 x1 x2 x3 x4 x5 x6 x7 x8 x9 x10 x11 x12 x13 x14 x15) 2 := by
  rw [ldS]
  unfold k0_pay359 k0_pay360
  funext i
  have hi : i = ix2 (i 0) (i 1) := by idx_ext
  rw [hi]
  generalize i 0 = r
  generalize i 1 = d
  pointwise [k0_pay235, k0_pay234, k0_pay233, k0_pay232]
  rfl

/-- The running sums of head 2 of the block. -/
theorem ut2 : k0_pay361 x0 x1 x2 x3 x4 x5 x6 x7 x8 x9 x10 x11 x12 x13 x14 x15 = utab x9 (k0_pay344 x0 x1 x2 x3 x4 x5 x6 x7 x8 x9 x10 x11 x12 x13 x14 x15) 2 := by
  unfold k0_pay361 k0_pay236
  have e := bt2 x0 x1 x2 x3 x4 x5 x6 x7 x8 x9 x10 x11 x12 x13 x14 x15
  rw [e]
  generalize k0_pay344 x0 x1 x2 x3 x4 x5 x6 x7 x8 x9 x10 x11 x12 x13 x14 x15 = L
  funext i
  have hi : i = ix2 (i 0) (i 1) := by idx_ext
  rw [hi]
  generalize i 0 = r
  generalize i 1 = d
  pointwise [utab]

/-- The decayed keys of head 2 of the block. -/
theorem gt2 : k0_pay366 x0 x1 x2 x3 x4 x5 x6 x7 x8 x9 x10 x11 x12 x13 x14 x15 = gtab x0 x9 (k0_pay344 x0 x1 x2 x3 x4 x5 x6 x7 x8 x9 x10 x11 x12 x13 x14 x15) 2 := by
  unfold k0_pay366 k0_pay244 k0_pay362 k0_pay237
  have e := bt2 x0 x1 x2 x3 x4 x5 x6 x7 x8 x9 x10 x11 x12 x13 x14 x15
  rw [e]
  generalize k0_pay344 x0 x1 x2 x3 x4 x5 x6 x7 x8 x9 x10 x11 x12 x13 x14 x15 = L
  funext i
  have hi : i = ix2 (i 0) (i 1) := by idx_ext
  rw [hi]
  generalize i 0 = d
  generalize i 1 = r
  pointwise
  rfl

/-- The values of head 2 of the block. -/
theorem wt2 : k0_pay364 x0 x1 x2 x3 x4 x5 x6 x7 x8 x9 x10 x11 x12 x13 x14 x15 = wtab x0 2 := by
  funext i
  have hi : i = ix2 (i 0) (i 1) := by idx_ext
  rw [hi]
  generalize i 0 = j
  generalize i 1 = v
  unfold k0_pay364
  pointwise [k0_pay239]
  rfl

/-- The partial sums of head 3 of the block. -/
theorem bt3 : k0_pay278 (F := Ideal) (k0_pay344 x0 x1 x2 x3 x4 x5 x6 x7 x8 x9 x10 x11 x12 x13 x14 x15) (View.ld x9 r0_76) = btab x9 (k0_pay344 x0 x1 x2 x3 x4 x5 x6 x7 x8 x9 x10 x11 x12 x13 x14 x15) 3 := by
  rw [ldS]
  funext i
  have hi : i = ix2 (i 0) (i 1) := by idx_ext
  rw [hi]
  generalize i 0 = r
  generalize i 1 = d
  pointwise [k0_pay278]
  rfl

/-- The running sums of head 3 of the block. -/
theorem ut3 : k0_pay367 x0 x1 x2 x3 x4 x5 x6 x7 x8 x9 x10 x11 x12 x13 x14 x15 = utab x9 (k0_pay344 x0 x1 x2 x3 x4 x5 x6 x7 x8 x9 x10 x11 x12 x13 x14 x15) 3 := by
  unfold k0_pay367 k0_pay279
  have e := bt3 x0 x1 x2 x3 x4 x5 x6 x7 x8 x9 x10 x11 x12 x13 x14 x15
  rw [e]
  generalize k0_pay344 x0 x1 x2 x3 x4 x5 x6 x7 x8 x9 x10 x11 x12 x13 x14 x15 = L
  funext i
  have hi : i = ix2 (i 0) (i 1) := by idx_ext
  rw [hi]
  generalize i 0 = r
  generalize i 1 = d
  pointwise [utab]

/-- The decayed keys of head 3 of the block. -/
theorem gt3 : k0_pay372 x0 x1 x2 x3 x4 x5 x6 x7 x8 x9 x10 x11 x12 x13 x14 x15 = gtab x0 x9 (k0_pay344 x0 x1 x2 x3 x4 x5 x6 x7 x8 x9 x10 x11 x12 x13 x14 x15) 3 := by
  unfold k0_pay372 k0_pay288 k0_pay280
  have e := bt3 x0 x1 x2 x3 x4 x5 x6 x7 x8 x9 x10 x11 x12 x13 x14 x15
  rw [e]
  generalize k0_pay344 x0 x1 x2 x3 x4 x5 x6 x7 x8 x9 x10 x11 x12 x13 x14 x15 = L
  funext i
  have hi : i = ix2 (i 0) (i 1) := by idx_ext
  rw [hi]
  generalize i 0 = d
  generalize i 1 = r
  pointwise
  rfl

/-- The values of head 3 of the block. -/
theorem wt3 : k0_pay369 x0 x1 x2 x3 x4 x5 x6 x7 x8 x9 x10 x11 x12 x13 x14 x15 = wtab x0 3 := by
  funext i
  have hi : i = ix2 (i 0) (i 1) := by idx_ext
  rw [hi]
  generalize i 0 = j
  generalize i 1 = v
  unfold k0_pay369
  pointwise [k0_pay282]
  rfl

/-- A block of a state depends on its coordinates only through their values. -/
theorem gated (C : IVec S1x64 32) (U : Fin 4 → FVec Ideal S64x128 .f32) (K : Fin 4 → FVec Ideal S128x64 .f32) (W : Fin 4 → FVec Ideal S64x256 .bf16)
    (S : Vec Ideal S8x4x128x256 .f32) {s s' : Fin 8} {h h' : Fin 4} {d d' : Fin 128} {v v' : Fin 256} {n n' : BitVec 32} {l l' : Fin 64}
    (hs : s.val = s'.val) (hh : h.val = h'.val) (hd : d.val = d'.val) (hv : v.val = v'.val) (hn : n = n') (hl : l.val = l'.val) :
    S (ix4 s h d v) * Ideal.exp (U h (ix2 l d)) + ∑ x : Fin 64, Scalar.select (IntOp.cmpi .eq (C (ix2 0 x)) n) (K h (ix2 d x) * W h (ix2 x v)) 0
      = S (ix4 s' h' d' v') * Ideal.exp (U h' (ix2 l' d'))
        + ∑ x : Fin 64, Scalar.select (IntOp.cmpi .eq (C (ix2 0 x)) n') (K h' (ix2 d' x) * W h' (ix2 x v')) 0 := by
  obtain rfl : s = s' := Fin.ext hs
  obtain rfl : h = h' := Fin.ext hh
  obtain rfl : d = d' := Fin.ext hd
  obtain rfl : v = v' := Fin.ext hv
  obtain rfl : l = l' := Fin.ext hl
  rw [hn]

/-- The block of gated states, at an entry given by its four coordinates. -/
theorem gates_at (y : S8x4x128x256.Idx) (s : Fin 8) (h : Fin 4) (d : Fin 128) (v : Fin 256) (k0 : (y 0).val = s.val) (k1 : (y 1).val = h.val)
    (k2 : (y 2).val = d.val) (k3 : (y 3).val = v.val) :
    out0_18 x0 x1 x2 x3 x4 x5 x6 x7 x8 x9 x10 x11 x12 x13 x14 x15 y
      = x15 (ix4 s h d v) * Ideal.exp (utab x9 (k0_pay344 x0 x1 x2 x3 x4 x5 x6 x7 x8 x9 x10 x11 x12 x13 x14 x15) h (ix2 ⟨8 * s.val + 7, by omega⟩ d))
        + ∑ x : Fin 64, Scalar.select (IntOp.cmpi .eq (k0_pay320 x0 x1 x2 x3 x4 x5 x6 x7 x8 x9 x10 x11 x12 x13 x14 x15 (ix2 0 x)) (BitVec.ofNat 32 s.val))
            (gtab x0 x9 (k0_pay344 x0 x1 x2 x3 x4 x5 x6 x7 x8 x9 x10 x11 x12 x13 x14 x15) h (ix2 d x) * wtab x0 h (ix2 x v)) 0 := by
  have e207 : ∀ C U W a, k0_pay207 (F := Ideal) C U (k0_pay354 x0 x1 x2 x3 x4 x5 x6 x7 x8 x9 x10 x11 x12 x13 x14 x15) (View.ld x0 r0_83) W a
      = k0_pay167 (F := Ideal) C U W (gtab x0 x9 (k0_pay344 x0 x1 x2 x3 x4 x5 x6 x7 x8 x9 x10 x11 x12 x13 x14 x15) 1) (k0_pay205 a) := by
    intro C U W a
    rw [← gt1 x0 x1 x2 x3 x4 x5 x6 x7 x8 x9 x10 x11 x12 x13 x14 x15]
    rfl
  have e247 : ∀ C, k0_pay247 (F := Ideal) C (k0_pay362 x0 x1 x2 x3 x4 x5 x6 x7 x8 x9 x10 x11 x12 x13 x14 x15) (View.ld x0 r0_88)
      = truncf (F := Ideal) .bf16 (select (broadcastTo S128x64 (shapeCast S1x64 (cmpi .eq C (broadcast S1x64 0#32)) shapeCasts_S1x64_S1x64) broadcasts_S1x64_S128x64)
          (gtab x0 x9 (k0_pay344 x0 x1 x2 x3 x4 x5 x6 x7 x8 x9 x10 x11 x12 x13 x14 x15) 2) (broadcast S128x64 (Scalar.ofBits (F := Ideal) .f32 0x00000000#32))) bitsLt_bf16_f32 := by
    intro C
    rw [← gt2 x0 x1 x2 x3 x4 x5 x6 x7 x8 x9 x10 x11 x12 x13 x14 x15]
    rfl
  have e373 : k0_pay373 x0 x1 x2 x3 x4 x5 x6 x7 x8 x9 x10 x11 x12 x13 x14 x15 = k0_pay290 (View.ld x15 r0_60) := rfl
  have e374 : k0_pay374 x0 x1 x2 x3 x4 x5 x6 x7 x8 x9 x10 x11 x12 x13 x14 x15 = k0_pay304 (View.ld x15 r0_65) := rfl
  unfold out0_18
  simp only [e207, e247, e373, e374, ut0, ut1, ut2, ut3, gt0, gt1, gt2, gt3, wt0, wt1, wt2, wt3]
  generalize k0_pay320 x0 x1 x2 x3 x4 x5 x6 x7 x8 x9 x10 x11 x12 x13 x14 x15 = C
  generalize gtab x0 x9 (k0_pay344 x0 x1 x2 x3 x4 x5 x6 x7 x8 x9 x10 x11 x12 x13 x14 x15) = K
  generalize utab x9 (k0_pay344 x0 x1 x2 x3 x4 x5 x6 x7 x8 x9 x10 x11 x12 x13 x14 x15) = U
  generalize wtab x0 = W
  canon_tiles y hh
  all_goals (open_payloads; pointwise; simp only [dite_eq_ite, ite_self])
  all_goals refine gated C U K W _ ?_ ?_ ?_ ?_ ?_ ?_
  all_goals first | omega | exact congrArg (BitVec.ofNat 32) (by omega) | (simp; omega)

end Cert.KernelIdeal.RefValue

end
-- ==== Proof.MixerPoint.lean ====
module

public import proofs.«01_k».proof.Proof.MixerSpec
public import proofs.«01_k».proof.Proof.MixerGate

@[expose] public section

set_option maxRecDepth 16384

noncomputable section

open Idealize.ShloMosaic Idealize.ShloMosaic.TcCoe Idealize.SL.Sem

/-! A block's states, sequence by sequence: the kernel's masked sums over all 64 rows are sums over one sequence's 8 positions. -/
namespace Cert.KernelIdeal.RefValue

open Cert.KernelIdeal Cert.KernelIdeal.Gen

variable (x0 : Vec Ideal S64x6400 .f32) (x7 : Vec Ideal S128x512 .bf16) (x8 : Vec Ideal S1x512 .f32)
  (x11 x12 x13 : Vec Ideal S1x1024 .f32) (x14 x15 : Vec Ideal S8x4x128x256 .f32)

variable (q : Fin 8) (P : Fin 8 → Fin 6400 → EReal) (S0 G0 : Fin 4 → Fin 128 → Fin 256 → EReal)
  (W2 : Fin 16 → Fin 512 → EReal) (B2 : Fin 512 → EReal)

/-- The kernel's rotated row is the sequence's. -/
theorem turn_at (hP : ∀ l e, x0 (ix2 (rowOf q l) e) = P l e) (o : ℕ) (ho : o + 128 ≤ 6400) (l : Fin 8) (d : Fin 128) :
    turn x0 cosines sines o ho (rowOf q l) d = rot P o ho l d := by
  unfold turn rot
  rw [cosines_at, sines_at, rowOf_fin, hP, hP]

/-- The retention's keys, decayed to the sequence's end. -/
theorem ktab_at (hP : ∀ l e, x0 (ix2 (rowOf q l) e) = P l e) (h : Fin 4) (l : Fin 8) (d : Fin 128) :
    ktab x0 cosines sines dectab h (ix2 d (rowOf q l)) = rk P h l d * Ideal.exp ((Ideal.ofBits .f32 0x40E00000#32 - pos l) * lg h) := by
  show turn x0 cosines sines (512 + 128 * h.val) _ (rowOf q l) d * Ideal.ofBits .f32 0x3DB504F3#32 * dectab (ix3 h (rowOf q l) d) = _
  rw [turn_at x0 q P hP, dectab_at, rowOf_fin]
  rfl

/-- A block's retention state is the sequence's. -/
theorem rstate_at (hP : ∀ l e, x0 (ix2 (rowOf q l) e) = P l e) (hS : ∀ h d v, x14 (ix4 q h d v) = S0 h d v)
    (h : Fin 4) (d : Fin 128) (v : Fin 256) : out0_17 x0 cosines sines dtab qtab dectab ctab x7 x8 sumsTab pairsTab x11 x12 x13 x14 x15 (ix4 q h d v) = rstate P S0 h d v := by
  rw [states, ctab_at, hS]
  unfold rstate
  refine congrArg _ (sum_seq q _ _ (fun l => ?_) (fun q' l hq => ?_))
  · rw [colseq, rowOf_div, sel_eq q.isLt q.isLt, if_pos rfl, ktab_at x0 q P hP]
    exact congrArg _ (hP l _)
  · rw [colseq, rowOf_div, sel_eq q'.isLt q.isLt, if_neg (fun e => hq (Fin.ext e))]

/-- The kernel sums 128 columns; all but the gate's 16 meet zeros. -/
theorem logit_at (hP : ∀ l e, x0 (ix2 (rowOf q l) e) = P l e)
    (hW : ∀ (k : Fin 128) (e : Fin 512), x7 (ix2 k e) = if hk : k.val < 16 then W2 ⟨k.val, hk⟩ e else 0) (hB : ∀ e, x8 (ix2 0 e) = B2 e)
    (l : Fin 8) (e : Fin 512) : logit x0 x7 x8 (rowOf q l) e = zlog P W2 B2 l e := by
  unfold logit zlog
  rw [hB]
  refine congrArg (· + B2 e) ?_
  rw [show (∑ k : Fin 128, x0 (ix2 (rowOf q l) ⟨6144 + k.val, by omega⟩) * x7 (ix2 k e))
    = ∑ k : Fin (16 + 112), x0 (ix2 (rowOf q l) ⟨6144 + k.val, by omega⟩) * x7 (ix2 k e) from rfl, Fin.sum_univ_add]
  rw [Finset.sum_eq_zero (s := (Finset.univ : Finset (Fin 112))), add_zero]
  · refine Finset.sum_congr rfl fun k _ => ?_
    rw [hP, hW, dif_pos (show (Fin.castAdd 112 k).val < 16 from k.isLt)]
    rfl
  · intro k _
    rw [hW, dif_neg (show ¬ (Fin.natAdd 16 k).val < 16 by show ¬ 16 + k.val < 16; omega), mul_zero]

/-- A block's log-decays are the sequence's. -/
theorem decay_at (x1 x2 : Vec Ideal S64x128 .f32) (x3 : Vec Ideal S4x64x64 .f32) (x4 : Vec Ideal S4x64x256 .f32)
    (x5 : Vec Ideal S4x64x128 .f32) (x6 : Vec Ideal S4x128x256 .f32) (x9 : Vec Ideal S512x64 .bf16) (x10 : Vec Ideal S4x64x64 .f32)
    (hP : ∀ l e, x0 (ix2 (rowOf q l) e) = P l e)
    (hW : ∀ (k : Fin 128) (e : Fin 512), x7 (ix2 k e) = if hk : k.val < 16 then W2 ⟨k.val, hk⟩ e else 0) (hB : ∀ e, x8 (ix2 0 e) = B2 e)
    (l : Fin 8) (e : Fin 512) : k0_pay344 x0 x1 x2 x3 x4 x5 x6 x7 x8 x9 x10 x11 x12 x13 x14 x15 (ix2 (rowOf q l) e) = decay P W2 B2 l e := by
  rw [decays]
  unfold decay
  rw [logit_at x0 x7 x8 q P W2 B2 hP hW hB]

/-- A block's running sums are the sequence's, where its log-decays are finite. -/
theorem btab_at (L : FVec Ideal S64x512 .f32) (hL : ∀ l e, L (ix2 (rowOf q l) e) = decay P W2 B2 l e)
    (hfin : ∀ l e, ∃ a : ℝ, decay P W2 B2 l e = (a : EReal)) (κ : Fin 8) (l : Fin 8) (h : Fin 4) (d : Fin 128)
    (R : Fin 512) (hR : R.val = 64 * κ.val + (rowOf q l).val) : btab sumsTab L h (ix2 R d) = part P W2 B2 κ l (feat h d) := by
  have eR : R = ⟨64 * κ.val + (rowOf q l).val, by have := (rowOf q l).isLt; omega⟩ := Fin.ext hR
  rw [eR]
  show ∑ j : Fin 64, sumsTab (ix2 (⟨64 * κ.val + (rowOf q l).val, by have := (rowOf q l).isLt; omega⟩ : Fin 512) j) * L (ix2 j (feat h d))
    + ∑ j : Fin 64, sumsTab (ix2 (⟨64 * κ.val + (rowOf q l).val, by have := (rowOf q l).isLt; omega⟩ : Fin 512) j) * (L (ix2 j (feat h d)) - L (ix2 j (feat h d))) = _
  rw [sums_of κ q l (fun j => L (ix2 j (feat h d))), sums_of κ q l (fun j => L (ix2 j (feat h d)) - L (ix2 j (feat h d)))]
  rw [Finset.sum_eq_zero (f := fun l' => if takes κ l l' = true then L (ix2 (rowOf q l') (feat h d)) - L (ix2 (rowOf q l') (feat h d)) else 0), add_zero]
  · unfold part
    exact Finset.sum_congr rfl fun l' _ => by rw [hL]
  · intro l' _
    obtain ⟨a, ha⟩ := hfin l' (feat h d)
    rw [hL, ha, EReal.sub_self (EReal.coe_ne_top a) (EReal.coe_ne_bot a), ite_self]

/-- A block's gated state is the sequence's, where its log-decays are finite. -/
theorem gstate_at (hP : ∀ l e, x0 (ix2 (rowOf q l) e) = P l e) (hG : ∀ h d v, x15 (ix4 q h d v) = G0 h d v)
    (hW : ∀ (k : Fin 128) (e : Fin 512), x7 (ix2 k e) = if hk : k.val < 16 then W2 ⟨k.val, hk⟩ e else 0) (hB : ∀ e, x8 (ix2 0 e) = B2 e)
    (hfin : ∀ l e, ∃ a : ℝ, decay P W2 B2 l e = (a : EReal))
    (h : Fin 4) (d : Fin 128) (v : Fin 256) : out0_18 x0 cosines sines dtab qtab dectab ctab x7 x8 sumsTab pairsTab x11 x12 x13 x14 x15 (ix4 q h d v) = gstate P G0 W2 B2 h d v := by
  rw [gates_at x0 cosines sines dtab qtab dectab ctab x7 x8 sumsTab pairsTab x11 x12 x13 x14 x15 (ix4 q h d v) q h d v rfl rfl rfl rfl, hG]
  have hL := decay_at x0 x7 x8 x11 x12 x13 x14 x15 q P W2 B2 cosines sines dtab qtab dectab ctab sumsTab pairsTab hP hW hB
  generalize hK : k0_pay344 x0 cosines sines dtab qtab dectab ctab x7 x8 sumsTab pairsTab x11 x12 x13 x14 x15 = L at hL ⊢
  have hu : utab sumsTab L h (ix2 ⟨8 * q.val + 7, by omega⟩ d) = part P W2 B2 0 7 (feat h d) :=
    btab_at q P W2 B2 L hL hfin 0 7 h d _ (by show 8 * q.val + 7 = 64 * 0 + (8 * q.val + 7); omega)
  rw [hu]
  unfold gstate
  refine congrArg _ (sum_seq q _ _ (fun l => ?_) (fun q' l hq => ?_))
  · rw [colseq, rowOf_div, sel_eq q.isLt q.isLt, if_pos rfl]
    have hb : btab sumsTab L h (ix2 ⟨64 + (rowOf q l).val, by have := (rowOf q l).isLt; omega⟩ d) = part P W2 B2 1 l (feat h d) :=
      btab_at q P W2 B2 L hL hfin 1 l h d _ (by show 64 + (8 * q.val + l.val) = 64 * 1 + (8 * q.val + l.val); omega)
    have hg : gtab x0 sumsTab L h (ix2 d (rowOf q l)) = gk P h l d * Ideal.exp (part P W2 B2 1 l (feat h d)) := by
      rw [← hb]
      exact congrArg (· * _) (hP l _)
    rw [hg]
    exact congrArg _ (hP l _)
  · rw [colseq, rowOf_div, sel_eq q'.isLt q.isLt, if_neg (fun e => hq (Fin.ext e))]

end Cert.KernelIdeal.RefValue
end
-- ==== Proof.ProjValue.lean ====
module

public import proofs.«01_k».proof.Proof.Gen.ProjIdeal.Value
public import proofs.«01_k».proof.Proof.Gen.ProjRefIdeal.Run
public import Idealize.ShloMosaic.Lib.Pipeline.ValueKit
public import Idealize.ShloMosaic.Lib.Pointwise
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.ProjIdeal.RefValue

open Cert.ProjIdeal Cert.ProjIdeal.Gen

variable (m : (ℓ : Loc nD τ sig) → Buf (Elt Ideal) ℓ)

/-- A row divided by its root mean square and scaled, at lane `k`. -/
def normed (x : Fin 2048 → EReal) (w : Fin 2048 → EReal) (k : Fin 2048) : EReal :=
  x k * Ideal.rsqrt (Ideal.div (∑ l : Fin 2048, x l * x l) (Ideal.ofBits .f32 0x45000000#32) + Ideal.ofBits .f32 0x358637BD#32) * w k

/-- The rows the projection reads, row `r` of the flat token order. -/
def xrow (c : Dev nD) (r : ℕ) (h : r < 8192) (k : Fin 2048) : EReal :=
  m ((c : Thread nD τ).loc main_arg0) (ix3 ⟨r / 2048, by omega⟩ ⟨r % 2048, by omega⟩ k)

/-- The norm's weights. -/
def wrow (c : Dev nD) (k : Fin 2048) : EReal := m ((c : Thread nD τ).loc main_arg1) (ix2 0 k)

/-- A row of the flat token order. -/
theorem rows (x : FVec Ideal S4x2048x2048 .f32) (r : Fin 8192) (k : Fin 2048) :
    shapeCast S8192x2048 x shapeCasts_S4x2048x2048_S8192x2048 (ix2 r k) = x (ix3 ⟨r.val / 2048, by omega⟩ ⟨r.val % 2048, by omega⟩ k) := by
  pointwise

/-- The integer zero as a float is zero. -/
theorem zero_of_int : FloatOps.sitofp (F := Ideal) FTy.f32 (0#32) = (0 : EReal) := by
  show (((0#32 : BitVec 32).toInt : ℝ) : EReal) = 0
  simp

/-- The rows as the call reads them. -/
theorem vx (c : Dev nD) (r : Fin 8192) (k : Fin 2048) : V m c main_v0 (ix2 r k) = xrow m c r.val r.isLt k := by
  have e : V m c main_v0 = shapeCast S8192x2048 (m ((c : Thread nD τ).loc main_arg0)) shapeCasts_S4x2048x2048_S8192x2048 := by
    simp only [V, hostOps0, hostOps0_1, hostOps0_2, List.flatten_cons, List.flatten_nil, List.append_nil, List.cons_append,
      List.nil_append, StableHlo.TRef.binary, StableHlo.TRef.unary, StableHlo.TRef.toBuf, StableHlo.TRef.ofBuf, cast_eq]
    after_results <;> rfl
  rw [e]
  exact rows _ r k

/-- The norm's weights as the call reads them. -/
theorem vw (c : Dev nD) (k : Fin 2048) : V m c main_v5 (ix2 0 k) = wrow m c k := by
  have e : V m c main_v5 = shapeCast S1x2048 (shapeCast S2048 (m ((c : Thread nD τ).loc main_arg1)) shapeCasts_S1x2048_S2048) shapeCasts_S2048_S1x2048 := by
    simp only [V, hostOps0, hostOps0_1, hostOps0_2, List.flatten_cons, List.flatten_nil, List.append_nil, List.cons_append,
      List.nil_append, StableHlo.TRef.binary, StableHlo.TRef.unary, StableHlo.TRef.toBuf, StableHlo.TRef.ofBuf, cast_eq]
    after_results <;> rfl
  rw [e]
  pointwise [wrow]

/-- The projection's matrix with 240 columns of zeros after its own. -/
def wpad (c : Dev nD) (k : Fin 2048) (e : Fin 6400) : EReal :=
  if h : e.val < 6160 then m ((c : Thread nD τ).loc main_arg2) (ix3 0 k ⟨e.val, h⟩) else (0 : EReal)

/-- The projection's matrix as the call reads it. -/
theorem vm (c : Dev nD) (k : Fin 2048) (e : Fin 6400) : V m c main_v3 (ix2 k e) = wpad m c k e := by
  have e1 : V m c main_v3 = truncf .bf16 (pad S2048x6400 ![0, 0] ![0, 240] ![0, 0] (shapeCast S2048x6160 (m ((c : Thread nD τ).loc main_arg2)) shapeCasts_S1x2048x6160_S2048x6160)
      (sitofp (F := Ideal) .f32 (constantI S_ 32 0#32)) pads_S2048x6160_S2048x6400_000_02400 h_S_) bitsLt_bf16_f32 := by
    simp only [V, hostOps0, hostOps0_1, hostOps0_2, List.flatten_cons, List.flatten_nil, List.append_nil, List.cons_append,
      List.nil_append, StableHlo.TRef.binary, StableHlo.TRef.unary, StableHlo.TRef.toBuf, StableHlo.TRef.ofBuf, cast_eq]
    after_results <;> rfl
  rw [e1]
  pointwise [wpad]
  rw [zero_of_int]

/-- The blocks the points read and write. -/
theorem idx : ∀ t : Fin cfg0.N, win0_0.index t = ![t.val / 5, 0] ∧ win0_1.index t = ![0, 0] ∧ win0_2.index t = ![0, t.val % 5]
    ∧ win0_3.index t = ![t.val / 5, t.val % 5] :=
  (by decide +kernel : ∀ t : Fin grid0.N, _)

/-- A normalised entry of a block. -/
theorem pay1 (x : Vec Ideal S512x2048 .f32) (w : Vec Ideal S1x2048 .f32) (r : Fin 512) (k : Fin 2048) :
    k0_pay1 (F := Ideal) x w (ix2 r k) = normed (fun l => x (ix2 r l)) (fun l => w (ix2 0 l)) k := by
  pointwise [k0_pay1, normed]

/-- An entry of the product of two blocks. -/
theorem pay2 (h : Vec Ideal S512x2048 .bf16) (w : Vec Ideal S2048x1280 .bf16) (r : Fin 512) (e : Fin 1280) :
    k0_pay2 (F := Ideal) h w (ix2 r e) = ∑ k : Fin 2048, h (ix2 r k) * w (ix2 k e) := by
  pointwise [k0_pay2]

/-- The first point of a block of rows normalises them. -/
theorem scratchA (c : Dev nD) (t : Fin cfg0.N) (h0 : t.val % 5 = 0) (r : Fin 512) (k : Fin 2048) :
    (outsAt0 m c t.val t.isLt).2 (ix2 r k) = normed (xrow m c (512 * (t.val / 5) + r.val) (by have := lt_of_lt_of_eq t.isLt N_0; omega)) (wrow m c) k := by
  rw [outsAt0_A m c t h0]
  frame_out
  rw [pay1]
  have hx : (fun l => (iblk m c 0 t) (ix2 r l)) = xrow m c (512 * (t.val / 5) + r.val) (by have := lt_of_lt_of_eq t.isLt N_0; omega) := by
    funext l
    rw [← vx m c ⟨512 * (t.val / 5) + r.val, by have := lt_of_lt_of_eq t.isLt N_0; omega⟩ l]
    blk_ext [iblk, idx t]
  have hw : (fun l => (iblk m c 1 t) (ix2 0 l)) = wrow m c := by
    funext l
    rw [← vw m c l]
    blk_ext [iblk, idx t]
  exact congrArg₂ (fun a b => normed a b k) hx hw

/-- Every point finds the normalised rows of its block. -/
theorem scratch (c : Dev nD) (t : Fin cfg0.N) (r : Fin 512) (k : Fin 2048) :
    (outsAt0 m c t.val t.isLt).2 (ix2 r k) = normed (xrow m c (512 * (t.val / 5) + r.val) (by have := lt_of_lt_of_eq t.isLt N_0; omega)) (wrow m c) k := by
  obtain ⟨n, hn⟩ := t
  induction n with
  | zero => exact scratchA m c ⟨0, hn⟩ rfl r k
  | succ n ih =>
    by_cases h0 : (n + 1) % 5 = 0
    · exact scratchA m c ⟨n + 1, hn⟩ h0 r k
    · rw [outsAt0_B m c ⟨n + 1, hn⟩ h0]
      unfold sout0_B_0
      refine (ih (Nat.lt_of_succ_lt hn)).trans ?_
      have e : 512 * (n / 5) + r.val = 512 * ((n + 1) / 5) + r.val := by omega
      have h' : ∀ a b (ha : a < 8192) (hb : b < 8192), a = b → xrow m c a ha = xrow m c b hb := fun a b ha hb h => by subst h; rfl
      exact congrArg (fun x => normed x (wrow m c) k) (h' _ _ _ _ e)

/-- The product at point `t`. -/
theorem prod (c : Dev nD) (t : Fin cfg0.N) (r : Fin 512) (e : Fin 1280) :
    (outsAt0 m c t.val t.isLt).1 (ix2 r e) = ∑ k : Fin 2048, (outsAt0 m c t.val t.isLt).2 (ix2 r k) * (iblk m c 2 t) (ix2 k e) := by
  by_cases h0 : t.val % 5 = 0
  · rw [outsAt0_A m c t h0]
    frame_out
    rw [pay2]
  · rw [outsAt0_B m c t h0]
    frame_out
    rw [pay2]
    unfold sout0_B_0
    refine Finset.sum_congr rfl fun k _ => ?_
    rw [(Memref.isWhole_whole cc0_scratch0).read_unread]

/-- Rows normalised, times the padded matrix. -/
def projOf (c : Dev nD) : FVec Ideal S8192x6400 .f32 := fun i =>
  ∑ k : Fin 2048, normed (xrow m c (i 0).val (i 0).isLt) (wrow m c) k * wpad m c k (i 1)

/-- Equal row numbers name the same row. -/
theorem xrow_congr (c : Dev nD) {a b : ℕ} (ha : a < 8192) (hb : b < 8192) (h : a = b) : xrow m c a ha = xrow m c b hb := by
  subst h; rfl

/-- What point `t` leaves at place `(r, e)` of its block, at the array index `i` that place lands on. -/
theorem point (c : Dev nD) (t : Fin cfg0.N) (r : Fin 512) (e : Fin 1280) (i : S8192x6400.Idx)
    (h0 : (i 0).val = 512 * (t.val / 5) + r.val) (h1 : (i 1).val = 1280 * (t.val % 5) + e.val) :
    (outsAt0 m c t.val t.isLt).1 (ix2 r e) = projOf m c i := by
  have hN := lt_of_lt_of_eq t.isLt N_0
  rw [prod m c t r e]
  unfold projOf
  refine Finset.sum_congr rfl fun k _ => ?_
  rw [scratch m c t r k]
  have hv : iblk m c 2 t (ix2 k e) = V m c main_v3 (ix2 k (i 1)) := by
    blk_ext [iblk, idx t]
  have hb : iblk m c 2 t (ix2 k e) = wpad m c k (i 1) := hv.trans (vm m c k (i 1))
  rw [hb, xrow_congr m c _ (i 0).isLt h0.symm]

/-- The whole array after the last point. -/
theorem final (c : Dev nD) : (dats m 0 c).arrAt 3 (cfgs 0).N = projOf m c := by
  refine (dats m 0 c).arrAt_eq_of_covers 3 _ (by decide +kernel) fun t _ y => ?_
  blk_simp
  rw [after0_3]
  have hy : y = ix2 (y 0) (y 1) := by idx_ext
  rw [hy]
  refine point m c t (y 0) (y 1) _ ?_ ?_
  · blk_simp [idx t]
    omega
  · blk_simp [idx t]
    omega

end Cert.ProjIdeal.RefValue

namespace Cert.ProjRefIdeal.RefValue

open Cert.ProjRefIdeal Cert.ProjRefIdeal.Gen

/-- An entry of the reference: the normalised row times the column, and zero in the added columns. -/
theorem ref_term (x : FVec Ideal S4x2048x2048 .f32) (w : FVec Ideal S1x2048 .f32) (W : FVec Ideal S1x2048x6160 .f32) (r : Fin 8192) (e : Fin 6400) :
   shapeCast S8192x6400 (pad S4x2048x6400 ![0, 0, 0] ![0, 0, 240] ![0, 0, 0] (Host.dotGeneral dot_S4x2048x2048_S2048x6160_S4x2048x6160_2_0_01_1_n_n none (mulf (mulf x (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf x x) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 (shapeCast _ w shapeCasts_S1x2048_S2048)))) (shapeCast _ W shapeCasts_S1x2048x6160_S2048x6160)) (sitofp .f32 (constantI S_ 32 0#32)) pads_S4x2048x6160_S4x2048x6400_000_000_02400 h_S_) shapeCasts_S4x2048x6400_S8192x6400 (ix2 r e)
   = ∑ k : Fin 2048, Cert.ProjIdeal.RefValue.normed (fun l => x (ix3 ⟨r.val / 2048, by omega⟩ ⟨r.val % 2048, by omega⟩ l)) (fun l => w (ix2 0 l)) k
      * (if h : e.val < 6160 then W (ix3 0 k ⟨e.val, h⟩) else 0) := by
  pointwise [Cert.ProjIdeal.RefValue.normed]
  have h4 : r.val / 2048 < 4 := by omega
  have h5 : r.val % 2048 < 2048 := by omega
  by_cases h : e.val < 6160
  · have hc : r.val / 2048 < 4 ∧ r.val % 2048 < 2048 ∧ e.val < 6160 := ⟨h4, h5, h⟩
    simp only [dif_pos hc, dif_pos h]
  · have hc : ¬(r.val / 2048 < 4 ∧ r.val % 2048 < 2048 ∧ e.val < 6160) := fun h' => h h'.2.2
    simp only [dif_neg hc, dif_neg h, mul_zero, Finset.sum_const_zero]
    exact Cert.ProjIdeal.RefValue.zero_of_int

end Cert.ProjRefIdeal.RefValue
end
-- ==== Proof.MixerFinal.lean ====
module

public import proofs.«01_k».proof.Proof.MixerPoint
public import proofs.«01_k».proof.Proof.ProjValue

@[expose] public section

set_option maxRecDepth 16384

noncomputable section

open Idealize.ShloMosaic Idealize.ShloMosaic.TcCoe Idealize.SL.Sem
open Idealize.ShloMosaic.Pipeline (Dat)

/-! The arrays the call is given, block by block. -/
namespace Cert.KernelIdeal.RefValue

open Cert.KernelIdeal Cert.KernelIdeal.Gen

variable (m : (ℓ : Loc nD τ sig) → Buf (Elt Ideal) ℓ)

/-- The projected rows of sequence `b`. -/
def rows (c : Dev nD) (b : Fin 128) (l : Fin 8) (e : Fin 6400) : EReal :=
  m ((c : Thread nD τ).loc main_arg0) (ix2 (⟨8 * b.val + l.val, by omega⟩ : Fin 1024) e)
/-- The retention states the sequences start from. -/
def ret0 (c : Dev nD) (b : Fin 128) (h : Fin 4) (d : Fin 128) (v : Fin 256) : EReal :=
  m ((c : Thread nD τ).loc main_arg1) (ix5 (0 : Fin 1) b h d v)
/-- The gated states the sequences start from. -/
def gla0 (c : Dev nD) (b : Fin 128) (h : Fin 4) (d : Fin 128) (v : Fin 256) : EReal :=
  m ((c : Thread nD τ).loc main_arg2) (ix5 (0 : Fin 1) b h d v)
/-- The gate's second matrix. -/
def gateW (c : Dev nD) (k : Fin 16) (e : Fin 512) : EReal := m ((c : Thread nD τ).loc main_arg3) (ix3 (0 : Fin 1) k e)
/-- The gate's bias. -/
def gateB (c : Dev nD) (e : Fin 512) : EReal := m ((c : Thread nD τ).loc main_arg4) (ix2 (0 : Fin 1) e)
/-- The weights of the retention's norm. -/
def normW (c : Dev nD) (h : Fin 4) (v : Fin 256) : EReal := m ((c : Thread nD τ).loc main_arg5) (ix3 (0 : Fin 1) h v)
/-- The offsets of the retention's norm. -/
def normB (c : Dev nD) (h : Fin 4) (v : Fin 256) : EReal := m ((c : Thread nD τ).loc main_arg6) (ix3 (0 : Fin 1) h v)
/-- The weights of the gated heads' norm. -/
def normG (c : Dev nD) (h : Fin 4) (v : Fin 256) : EReal := m ((c : Thread nD τ).loc main_arg7) (ix3 (0 : Fin 1) h v)

/-- Feature `v` of head `h` in a row of all heads. -/
theorem flat_norm (x : FVec Ideal S1x4x256 .f32) (h : Fin 4) (v : Fin 256) :
    shapeCast S1x1024 (shapeCast S4x256 x shapeCasts_S1x4x256_S4x256) shapeCasts_S4x256_S1x1024 (ix2 0 ⟨256 * h.val + v.val, by omega⟩) = x (ix3 0 h v) := by
  pointwise

/-- The bias of the gate, flattened and made a row again. -/
theorem flat_bias (x : FVec Ideal S1x512 .f32) (e : Fin 512) :
    shapeCast S1x512 (shapeCast S512 x shapeCasts_S1x512_S512) shapeCasts_S512_S1x512 (ix2 0 e) = x (ix2 0 e) := by
  pointwise

/-- A state without its leading axis. -/
theorem flat_state (x : FVec Ideal S1x128x4x128x256 .f32) (b : Fin 128) (h : Fin 4) (d : Fin 128) (v : Fin 256) :
    shapeCast S128x4x128x256 x shapeCasts_S1x128x4x128x256_S128x4x128x256 (ix4 b h d v) = x (ix5 0 b h d v) := by
  pointwise

/-- The weights of the retention norm as the call reads them. -/
theorem vnormW (c : Dev nD) (h : Fin 4) (v : Fin 256) : V m c main_v6 (ix2 0 ⟨256 * h.val + v.val, by omega⟩) = normW m c h v := by
  have e : V m c main_v6 = shapeCast S1x1024 (shapeCast S4x256 (m ((c : Thread nD τ).loc main_arg5)) shapeCasts_S1x4x256_S4x256) shapeCasts_S4x256_S1x1024 := by
    simp only [V, hostOps0, hostOps0_1, hostOps0_2, hostOps0_3, hostOps0_4, List.flatten_cons, List.flatten_nil, List.append_nil, List.cons_append,
      List.nil_append, StableHlo.TRef.binary, StableHlo.TRef.unary, StableHlo.TRef.ternary, StableHlo.TRef.toBuf, StableHlo.TRef.ofBuf, cast_eq]
    after_results <;> rfl
  rw [e]
  exact flat_norm _ h v

/-- The bias of the retention norm as the call reads it. -/
theorem vnormB (c : Dev nD) (h : Fin 4) (v : Fin 256) : V m c main_v8 (ix2 0 ⟨256 * h.val + v.val, by omega⟩) = normB m c h v := by
  have e : V m c main_v8 = shapeCast S1x1024 (shapeCast S4x256 (m ((c : Thread nD τ).loc main_arg6)) shapeCasts_S1x4x256_S4x256) shapeCasts_S4x256_S1x1024 := by
    simp only [V, hostOps0, hostOps0_1, hostOps0_2, hostOps0_3, hostOps0_4, List.flatten_cons, List.flatten_nil, List.append_nil, List.cons_append,
      List.nil_append, StableHlo.TRef.binary, StableHlo.TRef.unary, StableHlo.TRef.ternary, StableHlo.TRef.toBuf, StableHlo.TRef.ofBuf, cast_eq]
    after_results <;> rfl
  rw [e]
  exact flat_norm _ h v

/-- The weights of the gated norm as the call reads them. -/
theorem vnormG (c : Dev nD) (h : Fin 4) (v : Fin 256) : V m c main_v10 (ix2 0 ⟨256 * h.val + v.val, by omega⟩) = normG m c h v := by
  have e : V m c main_v10 = shapeCast S1x1024 (shapeCast S4x256 (m ((c : Thread nD τ).loc main_arg7)) shapeCasts_S1x4x256_S4x256) shapeCasts_S4x256_S1x1024 := by
    simp only [V, hostOps0, hostOps0_1, hostOps0_2, hostOps0_3, hostOps0_4, List.flatten_cons, List.flatten_nil, List.append_nil, List.cons_append,
      List.nil_append, StableHlo.TRef.binary, StableHlo.TRef.unary, StableHlo.TRef.ternary, StableHlo.TRef.toBuf, StableHlo.TRef.ofBuf, cast_eq]
    after_results <;> rfl
  rw [e]
  exact flat_norm _ h v

/-- The bias of the gate as the call reads it. -/
theorem vgateB (c : Dev nD) (e : Fin 512) : V m c main_v4 (ix2 0 e) = gateB m c e := by
  have e : V m c main_v4 = shapeCast S1x512 (shapeCast S512 (m ((c : Thread nD τ).loc main_arg4)) shapeCasts_S1x512_S512) shapeCasts_S512_S1x512 := by
    simp only [V, hostOps0, hostOps0_1, hostOps0_2, hostOps0_3, hostOps0_4, List.flatten_cons, List.flatten_nil, List.append_nil, List.cons_append,
      List.nil_append, StableHlo.TRef.binary, StableHlo.TRef.unary, StableHlo.TRef.ternary, StableHlo.TRef.toBuf, StableHlo.TRef.ofBuf, cast_eq]
    after_results <;> rfl
  rw [e]
  exact flat_bias _ _

/-- The gate's second matrix, filled up with zero rows. -/
theorem flat_gate (x : FVec Ideal S1x16x512 .f32) (k : Fin 128) (e : Fin 512) :
    truncf (F := Ideal) .bf16 (pad S128x512 ![0, 0] ![112, 0] ![0, 0] (shapeCast S16x512 x shapeCasts_S1x16x512_S16x512)
      (sitofp (F := Ideal) .f32 (constantI S_ 32 0#32)) pads_S16x512_S128x512_01120_000 h_S_) bitsLt_bf16_f32 (ix2 k e)
      = if hk : k.val < 16 then x (ix3 0 ⟨k.val, hk⟩ e) else 0 := by
  pointwise
  rw [Cert.ProjIdeal.RefValue.zero_of_int]

/-- The gate's second matrix as the call reads it: its 16 rows and then rows of zeros. -/
theorem vgateW (c : Dev nD) (k : Fin 128) (e : Fin 512) : V m c main_v2 (ix2 k e) = if hk : k.val < 16 then gateW m c ⟨k.val, hk⟩ e else 0 := by
  have e1 : V m c main_v2 = truncf (F := Ideal) .bf16 (pad S128x512 ![0, 0] ![112, 0] ![0, 0] (shapeCast S16x512 (m ((c : Thread nD τ).loc main_arg3)) shapeCasts_S1x16x512_S16x512)
      (sitofp (F := Ideal) .f32 (constantI S_ 32 0#32)) pads_S16x512_S128x512_01120_000 h_S_) bitsLt_bf16_f32 := by
    simp only [V, hostOps0, hostOps0_1, hostOps0_2, hostOps0_3, hostOps0_4, List.flatten_cons, List.flatten_nil, List.append_nil, List.cons_append,
      List.nil_append, StableHlo.TRef.binary, StableHlo.TRef.unary, StableHlo.TRef.ternary, StableHlo.TRef.toBuf, StableHlo.TRef.ofBuf, cast_eq]
    after_results <;> rfl
  rw [e1]
  exact flat_gate _ k e

/-- The retention state as the call reads it. -/
theorem vret0 (c : Dev nD) (b : Fin 128) (h : Fin 4) (d : Fin 128) (v : Fin 256) : V m c main_v88 (ix4 b h d v) = ret0 m c b h d v := by
  have e : V m c main_v88 = shapeCast S128x4x128x256 (m ((c : Thread nD τ).loc main_arg1)) shapeCasts_S1x128x4x128x256_S128x4x128x256 := by
    simp only [V, hostOps0, hostOps0_1, hostOps0_2, hostOps0_3, hostOps0_4, List.flatten_cons, List.flatten_nil, List.append_nil, List.cons_append,
      List.nil_append, StableHlo.TRef.binary, StableHlo.TRef.unary, StableHlo.TRef.ternary, StableHlo.TRef.toBuf, StableHlo.TRef.ofBuf, cast_eq]
    after_results <;> rfl
  rw [e]
  exact flat_state _ b h d v

/-- The gated state as the call reads it. -/
theorem vgla0 (c : Dev nD) (b : Fin 128) (h : Fin 4) (d : Fin 128) (v : Fin 256) : V m c main_v89 (ix4 b h d v) = gla0 m c b h d v := by
  have e : V m c main_v89 = shapeCast S128x4x128x256 (m ((c : Thread nD τ).loc main_arg2)) shapeCasts_S1x128x4x128x256_S128x4x128x256 := by
    simp only [V, hostOps0, hostOps0_1, hostOps0_2, hostOps0_3, hostOps0_4, List.flatten_cons, List.flatten_nil, List.append_nil, List.cons_append,
      List.nil_append, StableHlo.TRef.binary, StableHlo.TRef.unary, StableHlo.TRef.ternary, StableHlo.TRef.toBuf, StableHlo.TRef.ofBuf, cast_eq]
    after_results <;> rfl
  rw [e]
  exact flat_state _ b h d v

/-- The projected rows as the call reads them. -/
theorem vrows (c : Dev nD) (b : Fin 128) (l : Fin 8) (e : Fin 6400) : V m c main_arg0 (ix2 (⟨8 * b.val + l.val, by omega⟩ : Fin 1024) e) = rows m c b l e := by
  rw [V_main_arg0]; rfl

/-- Where each window stands at grid point `t`: the rows, the states and the results move with `t`, the rest stands still. -/
theorem idx : ∀ t : Fin cfg0.N, win0_0.index t = ![t.val, 0] ∧ win0_1.index t = ![0, 0] ∧ win0_2.index t = ![0, 0] ∧ win0_3.index t = ![0, 0, 0]
    ∧ win0_4.index t = ![0, 0, 0] ∧ win0_5.index t = ![0, 0, 0] ∧ win0_6.index t = ![0, 0, 0] ∧ win0_7.index t = ![0, 0] ∧ win0_8.index t = ![0, 0]
    ∧ win0_9.index t = ![0, 0] ∧ win0_10.index t = ![0, 0, 0] ∧ win0_11.index t = ![0, 0] ∧ win0_12.index t = ![0, 0] ∧ win0_13.index t = ![0, 0]
    ∧ win0_14.index t = ![t.val, 0, 0, 0] ∧ win0_15.index t = ![t.val, 0, 0, 0] ∧ win0_16.index t = ![t.val, 0] ∧ win0_17.index t = ![t.val, 0, 0, 0]
    ∧ win0_18.index t = ![t.val, 0, 0, 0] :=
  (by decide +kernel : ∀ t : Fin grid0.N, _)

/-- Every point reads the whole table of cosines. -/
theorem bcosines (c : Dev nD) (t : Fin cfg0.N) : iblk m c 1 t = cosines := by
  rw [← vcosines m c]
  funext y
  have hy : y = ix2 (y 0) (y 1) := by idx_ext
  rw [hy]
  blk_ext [iblk, idx t]

/-- Every point reads the whole table of sines. -/
theorem bsines (c : Dev nD) (t : Fin cfg0.N) : iblk m c 2 t = sines := by
  rw [← vsines m c]
  funext y
  have hy : y = ix2 (y 0) (y 1) := by idx_ext
  rw [hy]
  blk_ext [iblk, idx t]

/-- Every point reads the whole table of decays between positions. -/
theorem bdtab (c : Dev nD) (t : Fin cfg0.N) : iblk m c 3 t = dtab := by
  rw [← vdtab m c]
  funext y
  have hy : y = ix3 (y 0) (y 1) (y 2) := by idx_ext
  rw [hy]
  blk_ext [iblk, idx t]

/-- Every point reads the whole table of decays from the start. -/
theorem bqtab (c : Dev nD) (t : Fin cfg0.N) : iblk m c 4 t = qtab := by
  rw [← vqtab m c]
  funext y
  have hy : y = ix3 (y 0) (y 1) (y 2) := by idx_ext
  rw [hy]
  blk_ext [iblk, idx t]

/-- Every point reads the whole table of decays to the end. -/
theorem bdectab (c : Dev nD) (t : Fin cfg0.N) : iblk m c 5 t = dectab := by
  rw [← vdectab m c]
  funext y
  have hy : y = ix3 (y 0) (y 1) (y 2) := by idx_ext
  rw [hy]
  blk_ext [iblk, idx t]

/-- Every point reads the whole table of a sequence's decay. -/
theorem bctab (c : Dev nD) (t : Fin cfg0.N) : iblk m c 6 t = ctab := by
  rw [← vctab m c]
  funext y
  have hy : y = ix3 (y 0) (y 1) (y 2) := by idx_ext
  rw [hy]
  blk_ext [iblk, idx t]

/-- Every point reads the whole table of sums. -/
theorem bsumsTab (c : Dev nD) (t : Fin cfg0.N) : iblk m c 9 t = sumsTab := by
  rw [← vsumsTab m c]
  funext y
  have hy : y = ix2 (y 0) (y 1) := by idx_ext
  rw [hy]
  blk_ext [iblk, idx t]

/-- Every point reads the whole table of pairs. -/
theorem bpairsTab (c : Dev nD) (t : Fin cfg0.N) : iblk m c 10 t = pairsTab := by
  rw [← vpairsTab m c]
  funext y
  have hy : y = ix3 (y 0) (y 1) (y 2) := by idx_ext
  rw [hy]
  blk_ext [iblk, idx t]

/-- The projected rows of a point: eight sequences of eight positions. -/
theorem brows (c : Dev nD) (t : Fin cfg0.N) (q l : Fin 8) (b : Fin 128) (hb : b.val = 8 * t.val + q.val) (e : Fin 6400) :
    iblk m c 0 t (ix2 (rowOf q l) e) = rows m c b l e := by
  rw [← vrows m c b l e]
  blk_ext [iblk, idx t, rowOf]

set_option maxHeartbeats 2000000 in
/-- The retention states of a point. -/
theorem bret0 (c : Dev nD) (t : Fin cfg0.N) (q : Fin 8) (b : Fin 128) (hb : b.val = 8 * t.val + q.val) (h : Fin 4) (d : Fin 128) (v : Fin 256) :
    iblk m c 14 t (ix4 q h d v) = ret0 m c b h d v := by
  rw [← vret0 m c b h d v]
  blk_ext [iblk, idx t]

set_option maxHeartbeats 2000000 in
/-- The gated states of a point. -/
theorem bgla0 (c : Dev nD) (t : Fin cfg0.N) (q : Fin 8) (b : Fin 128) (hb : b.val = 8 * t.val + q.val) (h : Fin 4) (d : Fin 128) (v : Fin 256) :
    iblk m c 15 t (ix4 q h d v) = gla0 m c b h d v := by
  rw [← vgla0 m c b h d v]
  blk_ext [iblk, idx t]

/-- The gate's second matrix as a point reads it. -/
theorem bgateW (c : Dev nD) (t : Fin cfg0.N) (k : Fin 128) (e : Fin 512) :
    iblk m c 7 t (ix2 k e) = if hk : k.val < 16 then gateW m c ⟨k.val, hk⟩ e else 0 := by
  rw [← vgateW m c k e]
  blk_ext [iblk, idx t]

/-- The gate's bias as a point reads it. -/
theorem bgateB (c : Dev nD) (t : Fin cfg0.N) (e : Fin 512) : iblk m c 8 t (ix2 0 e) = gateB m c e := by
  rw [← vgateB m c e]
  blk_ext [iblk, idx t]

/-- The weights of the retention norm as a point reads them. -/
theorem bnormW (c : Dev nD) (t : Fin cfg0.N) (h : Fin 4) (v : Fin 256) :
    iblk m c 11 t (ix2 0 ⟨256 * h.val + v.val, by omega⟩) = normW m c h v := by
  rw [← vnormW m c h v]
  blk_ext [iblk, idx t]

/-- The bias of the retention norm as a point reads it. -/
theorem bnormB (c : Dev nD) (t : Fin cfg0.N) (h : Fin 4) (v : Fin 256) :
    iblk m c 12 t (ix2 0 ⟨256 * h.val + v.val, by omega⟩) = normB m c h v := by
  rw [← vnormB m c h v]
  blk_ext [iblk, idx t]

/-- The weights of the gated norm as a point reads them. -/
theorem bnormG (c : Dev nD) (t : Fin cfg0.N) (h : Fin 4) (v : Fin 256) :
    iblk m c 13 t (ix2 0 ⟨256 * h.val + v.val, by omega⟩) = normG m c h v := by
  rw [← vnormG m c h v]
  blk_ext [iblk, idx t]

/-- All retention states after the call. -/
def retOf (c : Dev nD) : FVec Ideal S128x4x128x256 .f32 := fun i => rstate (rows m c (i 0)) (ret0 m c (i 0)) (i 1) (i 2) (i 3)
/-- All gated states after the call. -/
def glaOf (c : Dev nD) : FVec Ideal S128x4x128x256 .f32 := fun i => gstate (rows m c (i 0)) (gla0 m c (i 0)) (gateW m c) (gateB m c) (i 1) (i 2) (i 3)

/-- What a point leaves of the new retention states, at the array index its place lands on. -/
theorem point17 (c : Dev nD) (t : Fin cfg0.N) (q : Fin 8) (h : Fin 4) (d : Fin 128) (v : Fin 256) (i : S128x4x128x256.Idx)
    (h0 : (i 0).val = 8 * t.val + q.val) (h1 : (i 1).val = h.val) (h2 : (i 2).val = d.val) (h3 : (i 3).val = v.val) :
    out0_17 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t) (iblk m c 15 t) (ix4 q h d v)
      = retOf m c i := by
  have e1 : i 1 = h := Fin.ext h1
  have e2 : i 2 = d := Fin.ext h2
  have e3 : i 3 = v := Fin.ext h3
  rw [bcosines, bsines, bdtab, bqtab, bdectab, bctab, bsumsTab, bpairsTab,
    rstate_at _ _ _ _ _ _ _ _ q (rows m c (i 0)) (ret0 m c (i 0)) (fun l e => brows m c t q l (i 0) h0 e) (fun h d v => bret0 m c t q (i 0) h0 h d v) h d v]
  unfold retOf
  rw [e1, e2, e3]

/-- What a point leaves of the new gated states, at the array index its place lands on. -/
theorem point18 (c : Dev nD) (hfin : ∀ b l e, ∃ a : ℝ, decay (rows m c b) (gateW m c) (gateB m c) l e = (a : EReal))
    (t : Fin cfg0.N) (q : Fin 8) (h : Fin 4) (d : Fin 128) (v : Fin 256) (i : S128x4x128x256.Idx)
    (h0 : (i 0).val = 8 * t.val + q.val) (h1 : (i 1).val = h.val) (h2 : (i 2).val = d.val) (h3 : (i 3).val = v.val) :
    out0_18 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t) (iblk m c 15 t) (ix4 q h d v)
      = glaOf m c i := by
  have e1 : i 1 = h := Fin.ext h1
  have e2 : i 2 = d := Fin.ext h2
  have e3 : i 3 = v := Fin.ext h3
  rw [bcosines, bsines, bdtab, bqtab, bdectab, bctab, bsumsTab, bpairsTab,
    gstate_at _ _ _ _ _ _ _ _ q (rows m c (i 0)) (gla0 m c (i 0)) (gateW m c) (gateB m c) (fun l e => brows m c t q l (i 0) h0 e)
      (fun h d v => bgla0 m c t q (i 0) h0 h d v) (fun k e => bgateW m c t k e) (fun e => bgateB m c t e) (hfin (i 0)) h d v]
  unfold glaOf
  rw [e1, e2, e3]

/-- The retention states the call leaves. -/
theorem final17 (c : Dev nD) : (dats m 0 c).arrAt 17 cfg0.N = retOf m c := by
  refine (dats m 0 c).arrAt_eq_of_covers 17 _ (by decide +kernel) fun t _ y => ?_
  blk_simp
  rw [after0_17]
  have hy : y = ix4 (y 0) (y 1) (y 2) (y 3) := by idx_ext
  rw [hy]
  refine point17 m c t (y 0) (y 1) (y 2) (y 3) _ ?_ ?_ ?_ ?_ <;> (blk_simp [idx t]; try omega)

/-- The gated states the call leaves, where the log-decays are finite. -/
theorem final18 (c : Dev nD) (hfin : ∀ b l e, ∃ a : ℝ, decay (rows m c b) (gateW m c) (gateB m c) l e = (a : EReal)) :
    (dats m 0 c).arrAt 18 cfg0.N = glaOf m c := by
  refine (dats m 0 c).arrAt_eq_of_covers 18 _ (by decide +kernel) fun t _ y => ?_
  blk_simp
  rw [after0_18]
  have hy : y = ix4 (y 0) (y 1) (y 2) (y 3) := by idx_ext
  rw [hy]
  refine point18 m c hfin t (y 0) (y 1) (y 2) (y 3) _ ?_ ?_ ?_ ?_ <;> (blk_simp [idx t]; try omega)

end Cert.KernelIdeal.RefValue
end
-- ==== Proof.MixerRef.lean ====
module

public import proofs.«01_k».proof.Proof.MixerFin
public import proofs.«01_k».proof.Proof.MixerFinal
public import proofs.«01_k».proof.Proof.Gen.ReferenceIdeal.Run
public import Idealize.ShloMosaic.Lib.Pipeline.ValueKit
public import Idealize.ShloMosaic.Lib.Pointwise
public import Idealize.ShloMosaic.Lib.Pipeline.Value

@[expose] public section

set_option maxRecDepth 16384

noncomputable section

open Idealize.ShloMosaic Idealize.ShloMosaic.TcCoe Idealize.SL.Sem

/-! The reference mixer, entry by entry. -/
namespace Cert.ReferenceIdeal.RefValue

open Cert.ReferenceIdeal Cert.ReferenceIdeal.Gen Cert.ReferenceIdeal.Value
open Cert.KernelIdeal.RefValue (wave waves logs pos lg ang rot rq rk rv rstate robs zlog decay part takes gq gk gv feat gstate score gobs keeps IsReal centred scaledBy mixR mixG mixAt mixAt_ret mixAt_gla colOf)

/-- The projected rows by sequence and position. -/
def seqs (x : FVec Ideal S1024x6400 .f32) : FVec Ideal S128x8x6160 .f32 :=
  shapeCast _ (extractStridedSlice S1024x6160 ![0, 0] x slices_S1024x6400_S1024x6160_0_0) shapeCasts_S1024x6160_S128x8x6160

/-- A projected row's entry. -/
theorem seqs_at (x : FVec Ideal S1024x6400 .f32) (b : Fin 128) (l : Fin 8) (e : Fin 6160) :
    seqs x (ix3 b l e) = x (ix2 ⟨8 * b.val + l.val, by omega⟩ ⟨e.val, by omega⟩) := by
  pointwise [seqs]
  exact congrArg (fun k => x (ix2 k _)) (Fin.ext (by show b.val * 8 + l.val = 8 * b.val + l.val; omega))

/-- The rotary angles by position. -/
def turns : FVec Ideal S8x64 .f32 :=
  mulf (broadcastInDim S8x64 ![0, 1] bcast_S8x1_S8x64_0_1 (broadcastInDim S8x1 ![0] bcast_S8_S8x1_0 (addf (broadcastInDim S8 ![] bcast_S_S8 (constant (F := Ideal) S_ .f32 0x46800000#32)) (sitofp (F := Ideal) .f32 (iotaInDim S8 32 0)))))
    (broadcastInDim S8x64 ![0, 1] bcast_S1x64_S8x64_0_1 (broadcastInDim S1x64 ![1] bcast_S64_S1x64_1 waves))

/-- An angle. -/
theorem turns_at (l : Fin 8) (j : Fin 64) : turns (ix2 l j) = ang l j := by
  unfold ang wave turns pos
  generalize waves = w
  pointwise

/-- A row of angles' values laid out for all sequences and heads. -/
def laid (a : FVec Ideal S8x64 .f32) : FVec Ideal S1x8x1x64 .f32 := broadcastInDim S1x8x1x64 ![1, 3] bcast_S8x64_S1x8x1x64_1_3 a

/-- 512 columns from column `o` on, by head. -/
def heads (X : FVec Ideal S128x8x6160 .f32) (o : Nat) (h : S128x8x6160.Slices ![0, 0, o] S128x8x512) : FVec Ideal S128x8x4x128 .f32 :=
  shapeCast _ (extractStridedSlice S128x8x512 ![0, 0, o] X h) shapeCasts_S128x8x512_S128x8x4x128

/-- A slice of 512 columns as four heads of 128. -/
theorem heads_at (X : FVec Ideal S128x8x6160 .f32) (o : Nat) (ho : o + 512 ≤ 6160) (h : S128x8x6160.Slices ![0, 0, o] S128x8x512) (b : Fin 128) (l : Fin 8) (k : Fin 4) (d : Fin 128) :
    heads X o h (ix4 b l k d) = X (ix3 b l ⟨o + 128 * k.val + d.val, by omega⟩) := by
  pointwise [heads]
  exact congrArg (fun k => X (ix3 b l k)) (Fin.ext (by show _ = o + 128 * k.val + d.val; simp; omega))

/-- 1024 columns from column `o` on, by head. -/
def wides (X : FVec Ideal S128x8x6160 .f32) (o : Nat) (h : S128x8x6160.Slices ![0, 0, o] S128x8x1024) : FVec Ideal S128x4x8x256 .f32 :=
  transpose S128x4x8x256 [0, 2, 1, 3] (shapeCast _ (extractStridedSlice S128x8x1024 ![0, 0, o] X h) shapeCasts_S128x8x1024_S128x8x4x256) transposes_S128x8x4x256_S128x4x8x256_0_2_1_3

/-- A slice of 1024 columns as four heads of 256. -/
theorem wides_at (X : FVec Ideal S128x8x6160 .f32) (o : Nat) (ho : o + 1024 ≤ 6160) (h : S128x8x6160.Slices ![0, 0, o] S128x8x1024) (b : Fin 128) (l : Fin 8) (k : Fin 4) (v : Fin 256) :
    wides X o h (ix4 b k l v) = X (ix3 b l ⟨o + 256 * k.val + v.val, by omega⟩) := by
  pointwise [wides]
  exact congrArg (fun k => X (ix3 b l k)) (Fin.ext (by show _ = o + 256 * k.val + v.val; simp; omega))

/-- The rotary turn of all heads. -/
def turned (a : FVec Ideal S128x8x4x128 .f32) (c s : FVec Ideal S1x8x1x64 .f32) : FVec Ideal S128x8x4x128 .f32 :=
  concatenate S128x8x4x128 3 [⟨S128x8x4x64, (subf (mulf (extractStridedSlice S128x8x4x64 ![0, 0, 0, 0] a slices_S128x8x4x128_S128x8x4x64_0_0_0_0) (broadcastInDim S128x8x4x64 ![0, 1, 2, 3] bcast_S1x8x1x64_S128x8x4x64_0_1_2_3 c)) (mulf (extractStridedSlice S128x8x4x64 ![0, 0, 0, 64] a slices_S128x8x4x128_S128x8x4x64_0_0_0_64) (broadcastInDim S128x8x4x64 ![0, 1, 2, 3] bcast_S1x8x1x64_S128x8x4x64_0_1_2_3 s)))⟩,
    ⟨S128x8x4x64, (addf (mulf (extractStridedSlice S128x8x4x64 ![0, 0, 0, 0] a slices_S128x8x4x128_S128x8x4x64_0_0_0_0) (broadcastInDim S128x8x4x64 ![0, 1, 2, 3] bcast_S1x8x1x64_S128x8x4x64_0_1_2_3 s)) (mulf (extractStridedSlice S128x8x4x64 ![0, 0, 0, 64] a slices_S128x8x4x128_S128x8x4x64_0_0_0_64) (broadcastInDim S128x8x4x64 ![0, 1, 2, 3] bcast_S1x8x1x64_S128x8x4x64_0_1_2_3 c)))⟩] concatenates_S128x8x4x64_S128x8x4x64_S128x8x4x128_d3

/-- A rotated head of the reference. -/
theorem turned_at (P : Fin 8 → Fin 6400 → EReal) (o : ℕ) (ho : o + 128 ≤ 6400) (a : FVec Ideal S128x8x4x128 .f32) (b : Fin 128) (l : Fin 8) (k : Fin 4)
    (ha : ∀ d : Fin 128, a (ix4 b l k d) = P l ⟨o + d.val, by omega⟩) (d : Fin 128) :
    turned a (laid (Host.cos turns)) (laid (Host.sin turns)) (ix4 b l k d) = rot P o ho l d := by
  have hc : ∀ j : Fin 64, laid (Host.cos turns) (ix4 0 l 0 j) = Ideal.cos (ang l j) := by
    intro j; rw [← turns_at]; unfold laid; generalize turns = w; pointwise
  have hs : ∀ j : Fin 64, laid (Host.sin turns) (ix4 0 l 0 j) = Ideal.sin (ang l j) := by
    intro j; rw [← turns_at]; unfold laid; generalize turns = w; pointwise
  generalize laid (Host.cos turns) = c at hc ⊢
  generalize laid (Host.sin turns) = s at hs ⊢
  pointwise [turned]
  unfold rot
  by_cases hd : d.val < 64
  · have e1 : (⟨d.val % 64, Nat.mod_lt _ (by decide)⟩ : Fin 64) = ⟨d.val, hd⟩ := Fin.ext (by show d.val % 64 = d.val; omega)
    have e2 : (⟨o + (d.val + 128 - 64) % 128, by omega⟩ : Fin 6400) = ⟨o + (64 + d.val), by omega⟩ := Fin.ext (by show o + (d.val + 128 - 64) % 128 = o + (64 + d.val); omega)
    rw [dif_pos hd, if_pos hd, ha, ha, hc, hs, sub_eq_add_neg, mul_neg, e1, e2]
  · have e1 : (⟨d.val % 64, Nat.mod_lt _ (by decide)⟩ : Fin 64) = ⟨d.val - 64, by omega⟩ := Fin.ext (by show d.val % 64 = d.val - 64; omega)
    have e2 : (⟨o + (d.val + 128 - 64) % 128, by omega⟩ : Fin 6400) = ⟨o + (d.val - 64), by omega⟩ := Fin.ext (by show o + (d.val + 128 - 64) % 128 = o + (d.val - 64); omega)
    have e3 : (⟨o + (64 + (d.val - 64)), by omega⟩ : Fin 6400) = ⟨o + d.val, by omega⟩ := Fin.ext (by show o + (64 + (d.val - 64)) = o + d.val; omega)
    rw [dif_neg hd, if_neg hd, ha, ha, hc, hs, add_comm, e1, e2]
    exact congrArg (fun e => P l e * _ + _) e3

/-- The state after a sequence of a retention head. -/
def retState (S : FVec Ideal S128x4x128x256 .f32) (K : FVec Ideal S128x4x8x128 .f32) (W : FVec Ideal S128x4x8x256 .f32) (L : FVec Ideal S4 .f32) (n : FVec Ideal S8 .f32) : FVec Ideal S128x4x128x256 .f32 :=
  addf (mulf S (broadcastInDim S128x4x128x256 ![0, 1, 2, 3] bcast_S1x4x1x1_S128x4x128x256_0_1_2_3 (broadcastInDim S1x4x1x1 ![1] bcast_S4_S1x4x1x1_1 (Host.exp (mulf (broadcastInDim S4 ![] bcast_S_S4 (constant (F := Ideal) S_ .f32 0x41000000#32)) L))))) (Host.dotGeneral dot_S128x4x8x128_S128x4x8x256_S128x4x128x256_2_2_3_3_01_01 none (mulf K (broadcastInDim S128x4x8x128 ![0, 1, 2, 3] bcast_S1x4x8x1_S128x4x8x128_0_1_2_3 (broadcastInDim S1x4x8x1 ![1, 2] bcast_S4x8_S1x4x8x1_1_2 (Host.exp (mulf (broadcastInDim S4x8 ![0, 1] bcast_S1x8_S4x8_0_1 (broadcastInDim S1x8 ![1] bcast_S8_S1x8_1 (subf (broadcastInDim S8 ![] bcast_S_S8 (constant (F := Ideal) S_ .f32 0x40E00000#32)) n))) (broadcastInDim S4x8 ![0, 1] bcast_S4x1_S4x8_0_1 (broadcastInDim S4x1 ![0] bcast_S4_S4x1_0 L))))))) W)

/-- The reference's new retention state. -/
theorem retState_at (S : FVec Ideal S128x4x128x256 .f32) (K : FVec Ideal S128x4x8x128 .f32) (W : FVec Ideal S128x4x8x256 .f32) (L : FVec Ideal S4 .f32) (n : FVec Ideal S8 .f32)
    (b : Fin 128) (k : Fin 4) (d : Fin 128) (v : Fin 256) : retState S K W L n (ix4 b k d v) =
      S (ix4 b k d v) * Ideal.exp (Ideal.ofBits .f32 0x41000000#32 * L (ix1 k))
        + ∑ l : Fin 8, K (ix4 b k l d) * Ideal.exp ((Ideal.ofBits .f32 0x40E00000#32 - n (ix1 l)) * L (ix1 k)) * W (ix4 b k l v) := by
  pointwise [retState]

/-- The state after a sequence of a gated head. -/
def glaState (S : FVec Ideal S128x4x128x256 .f32) (K B : FVec Ideal S128x4x8x128 .f32) (W : FVec Ideal S128x4x8x256 .f32) : FVec Ideal S128x4x128x256 .f32 :=
  addf (mulf S (broadcastInDim S128x4x128x256 ![0, 1, 2, 3] bcast_S128x4x128x1_S128x4x128x256_0_1_2_3 (broadcastInDim S128x4x128x1 ![0, 1, 2] bcast_S128x4x128_S128x4x128x1_0_1_2 (Host.exp (shapeCast _ (extractStridedSlice S128x4x1x128 ![0, 0, 7, 0] B slices_S128x4x8x128_S128x4x1x128_0_0_7_0) shapeCasts_S128x4x1x128_S128x4x128))))) (Host.dotGeneral dot_S128x4x8x128_S128x4x8x256_S128x4x128x256_2_2_3_3_01_01 none (mulf K (Host.exp (subf (broadcastInDim S128x4x8x128 ![0, 1, 2, 3] bcast_S128x4x1x128_S128x4x8x128_0_1_2_3 (extractStridedSlice S128x4x1x128 ![0, 0, 7, 0] B slices_S128x4x8x128_S128x4x1x128_0_0_7_0)) B))) W)

/-- The reference's new gated state. -/
theorem glaState_at (S : FVec Ideal S128x4x128x256 .f32) (K B : FVec Ideal S128x4x8x128 .f32) (W : FVec Ideal S128x4x8x256 .f32)
    (b : Fin 128) (k : Fin 4) (d : Fin 128) (v : Fin 256) : glaState S K B W (ix4 b k d v) =
      S (ix4 b k d v) * Ideal.exp (B (ix4 b k 7 d)) + ∑ l : Fin 8, K (ix4 b k l d) * Ideal.exp (B (ix4 b k 7 d) - B (ix4 b k l d)) * W (ix4 b k l v) := by
  pointwise [glaState]

/-- The outputs of the retention's heads. -/
def retObs (Q K : FVec Ideal S128x4x8x128 .f32) (W : FVec Ideal S128x4x8x256 .f32) (S : FVec Ideal S128x4x128x256 .f32) (L : FVec Ideal S4 .f32) (n : FVec Ideal S8 .f32) (D : FVec Ideal S8x8 .f32) : FVec Ideal S128x8x4x256 .f32 :=
  transpose S128x8x4x256 [0, 2, 1, 3] (addf (Host.dotGeneral dot_S128x4x8x8_S128x4x8x256_S128x4x8x256_3_2_2_3_01_01 none (mulf (Host.dotGeneral dot_S128x4x8x128_S128x4x8x128_S128x4x8x8_3_3_2_2_01_01 none Q K) (broadcastInDim S128x4x8x8 ![0, 1, 2, 3] bcast_S1x4x8x8_S128x4x8x8_0_1_2_3 (broadcastInDim S1x4x8x8 ![1, 2, 3] bcast_S4x8x8_S1x4x8x8_1_2_3 (select (broadcastInDim S4x8x8 ![0, 1, 2] bcast_S1x8x8_S4x8x8_0_1_2 (broadcastInDim S1x8x8 ![1, 2] bcast_S8x8_S1x8x8_1_2 (cmpf .oge D (broadcastInDim S8x8 ![] bcast_S_S8x8 (constant (F := Ideal) S_ .f32 0x00000000#32))))) (Host.exp (mulf (broadcastInDim S4x8x8 ![0, 1, 2] bcast_S1x8x8_S4x8x8_0_1_2 (broadcastInDim S1x8x8 ![1, 2] bcast_S8x8_S1x8x8_1_2 (maximumf D (broadcastInDim S8x8 ![] bcast_S_S8x8 (constant (F := Ideal) S_ .f32 0x00000000#32))))) (broadcastInDim S4x8x8 ![0, 1, 2] bcast_S4x1x1_S4x8x8_0_1_2 (broadcastInDim S4x1x1 ![0] bcast_S4_S4x1x1_0 L)))) (broadcastInDim S4x8x8 ![] bcast_S_S4x8x8 (id (constant (F := Ideal) S_ .f32 0x00000000#32))))))) W) (mulf (Host.dotGeneral dot_S128x4x8x128_S128x4x128x256_S128x4x8x256_3_2_2_3_01_01 none Q S) (broadcastInDim S128x4x8x256 ![0, 1, 2, 3] bcast_S1x4x8x1_S128x4x8x256_0_1_2_3 (broadcastInDim S1x4x8x1 ![1, 2] bcast_S4x8_S1x4x8x1_1_2 (Host.exp (mulf (broadcastInDim S4x8 ![0, 1] bcast_S1x8_S4x8_0_1 (broadcastInDim S1x8 ![1] bcast_S8_S1x8_1 (addf n (broadcastInDim S8 ![] bcast_S_S8 (constant (F := Ideal) S_ .f32 0x3F800000#32))))) (broadcastInDim S4x8 ![0, 1] bcast_S4x1_S4x8_0_1 (broadcastInDim S4x1 ![0] bcast_S4_S4x1_0 L)))))))) transposes_S128x4x8x256_S128x8x4x256_0_2_1_3

/-- The reference's retention output. -/
theorem retObs_at (Q K : FVec Ideal S128x4x8x128 .f32) (W : FVec Ideal S128x4x8x256 .f32) (S : FVec Ideal S128x4x128x256 .f32) (L : FVec Ideal S4 .f32) (n : FVec Ideal S8 .f32) (D : FVec Ideal S8x8 .f32)
    (b : Fin 128) (l : Fin 8) (k : Fin 4) (v : Fin 256) : retObs Q K W S L n D (ix4 b l k v) =
      (∑ l' : Fin 8, ((∑ d : Fin 128, Q (ix4 b k l d) * K (ix4 b k l' d)) * Scalar.select (BitVec.ofBool (decide (0 ≤ D (ix2 l l')))) (Ideal.exp (max (D (ix2 l l')) 0 * L (ix1 k))) 0) * W (ix4 b k l' v))
        + (∑ d : Fin 128, Q (ix4 b k l d) * S (ix4 b k d v)) * Ideal.exp ((n (ix1 l) + Ideal.ofBits .f32 0x3F800000#32) * L (ix1 k)) := by
  pointwise [retObs]
  have h0 : (id (constant (F := Ideal) S_ .f32 0x00000000#32)) ix0 = (0 : EReal) := Ideal.ofBits_zero_f32
  simp only [h0]

/-- Which pairs of positions count: the second not later than the first. -/
def tril : IVec S1x1x8x8x1 1 :=
  broadcastInDim S1x1x8x8x1 ![2, 3] bcast_S8x8_S1x1x8x8x1_2_3 (select (cmpi .sge (addi (iotaInDim S8x8 32 0) (broadcastInDim S8x8 ![] bcast_S_S8x8 (constantI S_ 32 0#32))) (iotaInDim S8x8 32 1)) (broadcastInDim S8x8 ![] bcast_S_S8x8 (constantI S_ 1 1#1)) (broadcastInDim S8x8 ![] bcast_S_S8x8 (constantI S_ 1 0#1)))

/-- The reference's mask of earlier positions. -/
theorem tril_at (l l' : Fin 8) : tril (ix5 0 0 l l' 0) = BitVec.ofBool (decide (l' ≤ l)) := by
  have h : ∀ l l' : Fin 8, Scalar.select (IntOp.cmpi .sge (BitVec.ofNat 32 l.val + 0#32) (BitVec.ofNat 32 l'.val)) (1#1) (0#1) = BitVec.ofBool (decide (l' ≤ l)) := by decide
  rw [← h]
  rfl

/-- The outputs of the gated heads. -/
def glaObs (Q K B : FVec Ideal S128x4x8x128 .f32) (W : FVec Ideal S128x4x8x256 .f32) (S : FVec Ideal S128x4x128x256 .f32) (T : IVec S1x1x8x8x1 1) : FVec Ideal S128x8x4x256 .f32 :=
  transpose S128x8x4x256 [0, 2, 1, 3] (addf (Host.dotGeneral dot_S128x4x8x8_S128x4x8x256_S128x4x8x256_3_2_2_3_01_01 none (Host.reduceAdd (mulf (mulf (broadcastInDim S128x4x8x8x128 ![0, 1, 2, 3, 4] bcast_S128x4x8x1x128_S128x4x8x8x128_0_1_2_3_4 (broadcastInDim S128x4x8x1x128 ![0, 1, 2, 4] bcast_S128x4x8x128_S128x4x8x1x128_0_1_2_4 Q)) (broadcastInDim S128x4x8x8x128 ![0, 1, 2, 3, 4] bcast_S128x4x1x8x128_S128x4x8x8x128_0_1_2_3_4 (broadcastInDim S128x4x1x8x128 ![0, 1, 3, 4] bcast_S128x4x8x128_S128x4x1x8x128_0_1_3_4 K))) (select (broadcastInDim S128x4x8x8x128 ![0, 1, 2, 3, 4] bcast_S1x1x8x8x1_S128x4x8x8x128_0_1_2_3_4 T) (Host.exp (select (broadcastInDim S128x4x8x8x128 ![0, 1, 2, 3, 4] bcast_S1x1x8x8x1_S128x4x8x8x128_0_1_2_3_4 T) (subf (broadcastInDim S128x4x8x8x128 ![0, 1, 2, 3, 4] bcast_S128x4x8x1x128_S128x4x8x8x128_0_1_2_3_4 (broadcastInDim S128x4x8x1x128 ![0, 1, 2, 4] bcast_S128x4x8x128_S128x4x8x1x128_0_1_2_4 B)) (broadcastInDim S128x4x8x8x128 ![0, 1, 2, 3, 4] bcast_S128x4x1x8x128_S128x4x8x8x128_0_1_2_3_4 (broadcastInDim S128x4x1x8x128 ![0, 1, 3, 4] bcast_S128x4x8x128_S128x4x1x8x128_0_1_3_4 B))) (broadcastInDim S128x4x8x8x128 ![] bcast_S_S128x4x8x8x128 (id (constant (F := Ideal) S_ .f32 0x00000000#32))))) (broadcastInDim S128x4x8x8x128 ![] bcast_S_S128x4x8x8x128 (id (constant (F := Ideal) S_ .f32 0x00000000#32))))) (constant (F := Ideal) S_ .f32 0x00000000#32) reducesTo_S128x4x8x8x128_S128x4x8x8_d4 h_S_) W) (Host.dotGeneral dot_S128x4x8x128_S128x4x128x256_S128x4x8x256_3_2_2_3_01_01 none (mulf Q (Host.exp B)) S)) transposes_S128x4x8x256_S128x8x4x256_0_2_1_3

/-- The reference's gated output. -/
theorem glaObs_at (Q K B : FVec Ideal S128x4x8x128 .f32) (W : FVec Ideal S128x4x8x256 .f32) (S : FVec Ideal S128x4x128x256 .f32) (T : IVec S1x1x8x8x1 1)
    (b : Fin 128) (l : Fin 8) (k : Fin 4) (v : Fin 256) : glaObs Q K B W S T (ix4 b l k v) =
      (∑ l' : Fin 8, (∑ d : Fin 128, Q (ix4 b k l d) * K (ix4 b k l' d) * Scalar.select (T (ix5 0 0 l l' 0)) (Ideal.exp (Scalar.select (T (ix5 0 0 l l' 0)) (B (ix4 b k l d) - B (ix4 b k l' d)) 0)) 0) * W (ix4 b k l' v))
        + ∑ d : Fin 128, Q (ix4 b k l d) * Ideal.exp (B (ix4 b k l d)) * S (ix4 b k d v) := by
  pointwise [glaObs]
  have h0 : (id (constant (F := Ideal) S_ .f32 0x00000000#32)) ix0 = (0 : EReal) := Ideal.ofBits_zero_f32
  simp only [h0]
  refine congrArg₂ (· + ·) (Finset.sum_congr rfl fun l' _ => congrArg (· * _) (Finset.sum_congr rfl fun d _ => ?_)) rfl
  rcases (by decide : ∀ t : BitVec 1, t = 0#1 ∨ t = 1#1) (T (ix5 0 0 l l' 0)) with e | e <;> simp [e, Scalar.select]

/-- The gate's logits, negated. -/
def negz (X : FVec Ideal S128x8x6160 .f32) (w : FVec Ideal S1x16x512 .f32) (c : FVec Ideal S1x512 .f32) : FVec Ideal S128x8x512 .f32 :=
  Host.negf (addf (Host.dotGeneral dot_S128x8x16_S16x512_S128x8x512_2_0_01_1_n_n none (extractStridedSlice S128x8x16 ![0, 0, 6144] X slices_S128x8x6160_S128x8x16_0_0_6144) (shapeCast _ w shapeCasts_S1x16x512_S16x512)) (broadcastInDim S128x8x512 ![0, 1, 2] bcast_S1x1x512_S128x8x512_0_1_2 (broadcastInDim S1x1x512 ![2] bcast_S512_S1x1x512_2 (shapeCast _ c shapeCasts_S1x512_S512))))

/-- The negated gate logits of the reference. -/
theorem negz_at (X : FVec Ideal S128x8x6160 .f32) (w : FVec Ideal S1x16x512 .f32) (c : FVec Ideal S1x512 .f32) (b : Fin 128) (l : Fin 8) (e : Fin 512) :
    negz X w c (ix3 b l e) = -((∑ k : Fin 16, X (ix3 b l ⟨6144 + k.val, by omega⟩) * w (ix3 0 k e)) + c (ix2 0 e)) := by
  pointwise [negz]

/-- The log-decays from the negated logits, by head. -/
def gates (N : FVec Ideal S128x8x512 .f32) : FVec Ideal S128x4x8x128 .f32 :=
  transpose S128x4x8x128 [0, 2, 1, 3] (shapeCast _ (Host.divf (Host.negf (select (cmpf .une (subf N (broadcastInDim S128x8x512 ![] bcast_S_S128x8x512 (constant (F := Ideal) S_ .f32 0x00000000#32))) (subf N (broadcastInDim S128x8x512 ![] bcast_S_S128x8x512 (constant (F := Ideal) S_ .f32 0x00000000#32)))) (addf N (broadcastInDim S128x8x512 ![] bcast_S_S128x8x512 (constant (F := Ideal) S_ .f32 0x00000000#32))) (addf (maximumf N (broadcastInDim S128x8x512 ![] bcast_S_S128x8x512 (constant (F := Ideal) S_ .f32 0x00000000#32))) (Host.log1p (Host.exp (Host.negf (Host.absf (subf N (broadcastInDim S128x8x512 ![] bcast_S_S128x8x512 (constant (F := Ideal) S_ .f32 0x00000000#32)))))))))) (broadcastInDim S128x8x512 ![] bcast_S_S128x8x512 (constant (F := Ideal) S_ .f32 0x41800000#32))) shapeCasts_S128x8x512_S128x8x4x128) transposes_S128x8x4x128_S128x4x8x128_0_2_1_3

/-- The reference's log-decays, by head. -/
theorem gates_at (N : FVec Ideal S128x8x512 .f32) (b : Fin 128) (k : Fin 4) (l : Fin 8) (d : Fin 128) (x : EReal) (hx : N (ix3 b l (feat k d)) = x) :
    gates N (ix4 b k l d) = Ideal.div (-(max x 0 + Ideal.log1p (Ideal.exp (-(max (x - 0) (-(x - 0))))))) (Ideal.ofBits .f32 0x41800000#32) := by
  have e : (⟨k.val * 128 + d.val, by omega⟩ : Fin 512) = feat k d := Fin.ext (by show k.val * 128 + d.val = 128 * k.val + d.val; omega)
  pointwise [gates]
  rw [e, hx, if_neg (fun h => h rfl)]
  rfl

/-- Positions and heads exchanged. -/
theorem flip_at (a : FVec Ideal S128x8x4x128 .f32) (b : Fin 128) (k : Fin 4) (l : Fin 8) (d : Fin 128) :
    transpose S128x4x8x128 [0, 2, 1, 3] a transposes_S128x8x4x128_S128x4x8x128_0_2_1_3 (ix4 b k l d) = a (ix4 b l k d) := by
  pointwise

/-- A scaled row's entry. -/
theorem scaled_at (a : FVec Ideal S128x8x4x128 .f32) (i : S128x8x4x128.Idx) :
    mulf a (broadcastInDim S128x8x4x128 ![] bcast_S_S128x8x4x128 (constant (F := Ideal) S_ .f32 0x3DB504F3#32)) i = a i * Ideal.ofBits .f32 0x3DB504F3#32 := rfl

/-- The retention's outputs, normalised. -/
def normed1 (O : FVec Ideal S128x8x4x256 .f32) (w c : FVec Ideal S1x4x256 .f32) : FVec Ideal S128x8x4x256 .f32 :=
  addf (mulf (mulf (subf O (broadcastInDim S128x8x4x256 ![0, 1, 2, 3] bcast_S128x8x4x1_S128x8x4x256_0_1_2_3 (Host.divf (broadcastInDim S128x8x4x1 ![0, 1, 2] bcast_S128x8x4_S128x8x4x1_0_1_2 (Host.reduceAdd O (constant (F := Ideal) S_ .f32 0x00000000#32) reducesTo_S128x8x4x256_S128x8x4_d3 h_S_)) (broadcastInDim S128x8x4x1 ![] bcast_S_S128x8x4x1 (constant (F := Ideal) S_ .f32 0x43800000#32))))) (broadcastInDim S128x8x4x256 ![0, 1, 2, 3] bcast_S128x8x4x1_S128x8x4x256_0_1_2_3 (Host.rsqrt (addf (Host.divf (broadcastInDim S128x8x4x1 ![0, 1, 2] bcast_S128x8x4_S128x8x4x1_0_1_2 (Host.reduceAdd (mulf (subf O (broadcastInDim S128x8x4x256 ![0, 1, 2, 3] bcast_S128x8x4x1_S128x8x4x256_0_1_2_3 (Host.divf (broadcastInDim S128x8x4x1 ![0, 1, 2] bcast_S128x8x4_S128x8x4x1_0_1_2 (Host.reduceAdd O (constant (F := Ideal) S_ .f32 0x00000000#32) reducesTo_S128x8x4x256_S128x8x4_d3 h_S_)) (broadcastInDim S128x8x4x1 ![] bcast_S_S128x8x4x1 (constant (F := Ideal) S_ .f32 0x43800000#32))))) (subf O (broadcastInDim S128x8x4x256 ![0, 1, 2, 3] bcast_S128x8x4x1_S128x8x4x256_0_1_2_3 (Host.divf (broadcastInDim S128x8x4x1 ![0, 1, 2] bcast_S128x8x4_S128x8x4x1_0_1_2 (Host.reduceAdd O (constant (F := Ideal) S_ .f32 0x00000000#32) reducesTo_S128x8x4x256_S128x8x4_d3 h_S_)) (broadcastInDim S128x8x4x1 ![] bcast_S_S128x8x4x1 (constant (F := Ideal) S_ .f32 0x43800000#32)))))) (constant (F := Ideal) S_ .f32 0x00000000#32) reducesTo_S128x8x4x256_S128x8x4_d3 h_S_)) (broadcastInDim S128x8x4x1 ![] bcast_S_S128x8x4x1 (constant (F := Ideal) S_ .f32 0x43800000#32))) (broadcastInDim S128x8x4x1 ![] bcast_S_S128x8x4x1 (constant (F := Ideal) S_ .f32 0x358637BD#32)))))) (broadcastInDim S128x8x4x256 ![0, 1, 2, 3] bcast_S1x1x4x256_S128x8x4x256_0_1_2_3 (broadcastInDim S1x1x4x256 ![2, 3] bcast_S4x256_S1x1x4x256_2_3 (shapeCast _ w shapeCasts_S1x4x256_S4x256)))) (broadcastInDim S128x8x4x256 ![0, 1, 2, 3] bcast_S1x1x4x256_S128x8x4x256_0_1_2_3 (broadcastInDim S1x1x4x256 ![2, 3] bcast_S4x256_S1x1x4x256_2_3 (shapeCast _ c shapeCasts_S1x4x256_S4x256)))

/-- The gated heads' outputs, normalised. -/
def normed2 (O : FVec Ideal S128x8x4x256 .f32) (w : FVec Ideal S1x4x256 .f32) : FVec Ideal S128x8x4x256 .f32 :=
  mulf (mulf O (broadcastInDim S128x8x4x256 ![0, 1, 2, 3] bcast_S128x8x4x1_S128x8x4x256_0_1_2_3 (Host.rsqrt (addf (Host.divf (broadcastInDim S128x8x4x1 ![0, 1, 2] bcast_S128x8x4_S128x8x4x1_0_1_2 (Host.reduceAdd (mulf O O) (constant (F := Ideal) S_ .f32 0x00000000#32) reducesTo_S128x8x4x256_S128x8x4_d3 h_S_)) (broadcastInDim S128x8x4x1 ![] bcast_S_S128x8x4x1 (constant (F := Ideal) S_ .f32 0x43800000#32))) (broadcastInDim S128x8x4x1 ![] bcast_S_S128x8x4x1 (constant (F := Ideal) S_ .f32 0x358637BD#32)))))) (broadcastInDim S128x8x4x256 ![0, 1, 2, 3] bcast_S1x1x4x256_S128x8x4x256_0_1_2_3 (broadcastInDim S1x1x4x256 ![2, 3] bcast_S4x256_S1x1x4x256_2_3 (shapeCast _ w shapeCasts_S1x4x256_S4x256)))

/-- Normalised outputs, gated. -/
def gated (a : FVec Ideal S128x8x4x256 .f32) (g : FVec Ideal S128x8x1024 .f32) : FVec Ideal S128x8x1024 .f32 :=
  mulf (shapeCast _ a shapeCasts_S128x8x4x256_S128x8x1024) (mulf g (Host.divf (broadcastInDim S128x8x1024 ![] bcast_S_S128x8x1024 (constant (F := Ideal) S_ .f32 0x3F800000#32)) (addf (broadcastInDim S128x8x1024 ![] bcast_S_S128x8x1024 (constant (F := Ideal) S_ .f32 0x3F800000#32)) (Host.exp (Host.negf g)))))

/-- The reference's normalised and gated retention output. -/
theorem gated1_at (O : FVec Ideal S128x8x4x256 .f32) (w c : FVec Ideal S1x4x256 .f32) (g : FVec Ideal S128x8x1024 .f32) (b : Fin 128) (l : Fin 8) (k : Fin 4) (v : Fin 256) :
    gated (normed1 O w c) g (ix3 b l ⟨256 * k.val + v.val, by omega⟩)
      = centred (fun v => O (ix4 b l k v)) (fun v => w (ix3 0 k v)) (fun v => c (ix3 0 k v)) (fun v => g (ix3 b l ⟨256 * k.val + v.val, by omega⟩)) v := by
  pointwise [gated, normed1, centred]

/-- The reference's normalised and gated output of the gated heads. -/
theorem gated2_at (O : FVec Ideal S128x8x4x256 .f32) (w : FVec Ideal S1x4x256 .f32) (g : FVec Ideal S128x8x1024 .f32) (b : Fin 128) (l : Fin 8) (k : Fin 4) (v : Fin 256) :
    gated (normed2 O w) g (ix3 b l ⟨256 * k.val + v.val, by omega⟩)
      = scaledBy (fun v => O (ix4 b l k v)) (fun v => w (ix3 0 k v)) (fun v => g (ix3 b l ⟨256 * k.val + v.val, by omega⟩)) v := by
  pointwise [gated, normed2, scaledBy]

/-- Both halves of the columns, row by row. -/
def joined (a1 a2 : FVec Ideal S128x8x1024 .f32) : FVec Ideal S1024x2048 .bf16 :=
  truncf .bf16 (shapeCast _ (concatenate S128x8x2048 2 [⟨S128x8x1024, a1⟩, ⟨S128x8x1024, a2⟩] concatenates_S128x8x1024_S128x8x1024_S128x8x2048_d2) shapeCasts_S128x8x2048_S1024x2048) bitsLt_bf16_f32

/-- The two groups of heads side by side. -/
theorem joined_at (a1 a2 : FVec Ideal S128x8x1024 .f32) (r : Fin 1024) (e : Fin 2048) :
    joined a1 a2 (ix2 r e) = if h : e.val < 1024 then a1 (ix3 ⟨r.val / 8, by omega⟩ ⟨r.val % 8, by omega⟩ ⟨e.val, h⟩)
      else a2 (ix3 ⟨r.val / 8, by omega⟩ ⟨r.val % 8, by omega⟩ ⟨e.val - 1024, by omega⟩) := by
  pointwise [joined]

section all
variable (V0 : Valuation τ sig (Elt Ideal)) (P : Fin 128 → Fin 8 → Fin 6400 → EReal) (S0 G0 : Fin 128 → Fin 4 → Fin 128 → Fin 256 → EReal)
  (W2 : Fin 16 → Fin 512 → EReal) (B2 : Fin 512 → EReal) (gw gb gg : Fin 4 → Fin 256 → EReal)

/-- The arguments' arrays hold the named numbers. -/
structure Holds : Prop where
  hP : ∀ (b : Fin 128) (l : Fin 8) (e : Fin 6400), V0 (Proc.devRef .tc main_arg0) (ix2 (⟨8 * b.val + l.val, by omega⟩ : Fin 1024) e) = P b l e
  hS : ∀ b k d v, V0 (Proc.devRef .tc main_arg1) (ix5 (0 : Fin 1) b k d v) = S0 b k d v
  hG : ∀ b k d v, V0 (Proc.devRef .tc main_arg2) (ix5 (0 : Fin 1) b k d v) = G0 b k d v
  hW : ∀ k e, V0 (Proc.devRef .tc main_arg3) (ix3 (0 : Fin 1) k e) = W2 k e
  hB : ∀ e, V0 (Proc.devRef .tc main_arg4) (ix2 (0 : Fin 1) e) = B2 e
  h5 : ∀ k v, V0 (Proc.devRef .tc main_arg5) (ix3 (0 : Fin 1) k v) = gw k v
  h6 : ∀ k v, V0 (Proc.devRef .tc main_arg6) (ix3 (0 : Fin 1) k v) = gb k v
  h7 : ∀ k v, V0 (Proc.devRef .tc main_arg7) (ix3 (0 : Fin 1) k v) = gg k v

variable (H : Holds V0 P S0 G0 W2 B2 gw gb gg)
include H

/-- A projected row of the reference. -/
theorem row_at (b : Fin 128) (l : Fin 8) (e : Fin 6160) : res_main_v6 V0 (ix3 b l e) = P b l ⟨e.val, by omega⟩ :=
  (seqs_at _ b l e).trans (H.hP b l _)

/-- A rotated query of the reference. -/
theorem query_at (b : Fin 128) (k : Fin 4) (l : Fin 8) (d : Fin 128) : res_main_v84 V0 (ix4 b k l d) = rq (P b) k l d :=
  (flip_at (turned (heads (res_main_v6 V0) 0 slices_S128x8x6160_S128x8x512_0_0_0) (laid (Host.cos turns)) (laid (Host.sin turns))) b k l d).trans
    (turned_at (P b) (128 * k.val) (by omega) _ b l k (fun d => ((heads_at _ 0 (by omega) _ b l k d).trans (row_at V0 P S0 G0 W2 B2 gw gb gg H b l _)).trans
      (congrArg (P b l) (Fin.ext (by show 0 + 128 * k.val + d.val = 128 * k.val + d.val; omega)))) d)

/-- A rotated and scaled key of the reference. -/
theorem key_at (b : Fin 128) (k : Fin 4) (l : Fin 8) (d : Fin 128) : res_main_v85 V0 (ix4 b k l d) = rk (P b) k l d :=
  (flip_at (mulf (turned (heads (res_main_v6 V0) 512 slices_S128x8x6160_S128x8x512_0_0_512) (laid (Host.cos turns)) (laid (Host.sin turns)))
      (broadcastInDim S128x8x4x128 ![] bcast_S_S128x8x4x128 (constant (F := Ideal) S_ .f32 0x3DB504F3#32))) b k l d).trans
    (congrArg (· * Ideal.ofBits .f32 0x3DB504F3#32) (turned_at (P b) (512 + 128 * k.val) (by omega) _ b l k (fun d => ((heads_at _ 512 (by omega) _ b l k d).trans (row_at V0 P S0 G0 W2 B2 gw gb gg H b l _)).trans
      (congrArg (P b l) (Fin.ext rfl))) d))

/-- A retention value of the reference. -/
theorem value_at (b : Fin 128) (k : Fin 4) (l : Fin 8) (v : Fin 256) : res_main_v87 V0 (ix4 b k l v) = rv (P b) k l v :=
  (wides_at (res_main_v6 V0) 1024 (by omega) slices_S128x8x6160_S128x8x1024_0_0_1024 b l k v).trans (row_at V0 P S0 G0 W2 B2 gw gb gg H b l _)

/-- A value of the gated heads of the reference. -/
theorem gvalue_at (b : Fin 128) (k : Fin 4) (l : Fin 8) (v : Fin 256) : res_main_v197 V0 (ix4 b k l v) = gv (P b) k l v :=
  (wides_at (res_main_v6 V0) 4096 (by omega) slices_S128x8x6160_S128x8x1024_0_0_4096 b l k v).trans (row_at V0 P S0 G0 W2 B2 gw gb gg H b l _)

/-- A query of the gated heads of the reference. -/
theorem gquery_at (b : Fin 128) (k : Fin 4) (l : Fin 8) (d : Fin 128) : res_main_v193 V0 (ix4 b k l d) = gq (P b) k l d :=
  (flip_at (mulf (heads (res_main_v6 V0) 3072 slices_S128x8x6160_S128x8x512_0_0_3072)
      (broadcastInDim S128x8x4x128 ![] bcast_S_S128x8x4x128 (constant (F := Ideal) S_ .f32 0x3DB504F3#32))) b k l d).trans
    (congrArg (· * Ideal.ofBits .f32 0x3DB504F3#32) ((heads_at _ 3072 (by omega) _ b l k d).trans (row_at V0 P S0 G0 W2 B2 gw gb gg H b l _)))

/-- A key of the gated heads of the reference. -/
theorem gkey_at (b : Fin 128) (k : Fin 4) (l : Fin 8) (d : Fin 128) : res_main_v195 V0 (ix4 b k l d) = gk (P b) k l d :=
  (flip_at (heads (res_main_v6 V0) 3584 slices_S128x8x6160_S128x8x512_0_0_3584) b k l d).trans
    ((heads_at _ 3584 (by omega) _ b l k d).trans (row_at V0 P S0 G0 W2 B2 gw gb gg H b l _))

/-- The retention state the reference starts from. -/
theorem ret_at (b : Fin 128) (k : Fin 4) (d : Fin 128) (v : Fin 256) : res_main_v3 V0 (ix4 b k d v) = S0 b k d v :=
  (Cert.KernelIdeal.RefValue.flat_state _ b k d v).trans (H.hS b k d v)

/-- The gated state the reference starts from. -/
theorem gla_at (b : Fin 128) (k : Fin 4) (d : Fin 128) (v : Fin 256) : res_main_v4 V0 (ix4 b k d v) = G0 b k d v :=
  (Cert.KernelIdeal.RefValue.flat_state _ b k d v).trans (H.hG b k d v)

/-- The negated gate logits of the whole reference. -/
theorem negz_eq (b : Fin 128) (l : Fin 8) (e : Fin 512) : res_main_call2_v0 V0 (ix3 b l e) = -(zlog (P b) W2 B2 l e) := by
  refine (negz_at (res_main_v6 V0) (V0 (Proc.devRef .tc main_arg3)) (V0 (Proc.devRef .tc main_arg4)) b l e).trans ?_
  unfold zlog
  rw [H.hB]
  refine congrArg (fun z => -(z + B2 e)) (Finset.sum_congr rfl fun k _ => ?_)
  rw [H.hW, row_at V0 P S0 G0 W2 B2 gw gb gg H]

variable (hz : ∀ b l e, IsReal (zlog (P b) W2 B2 l e))
include hz

/-- The log-decays of the whole reference. -/
theorem gates_eq (b : Fin 128) (k : Fin 4) (l : Fin 8) (d : Fin 128) : gates (res_main_call2_v0 V0) (ix4 b k l d) = decay (P b) W2 B2 l (feat k d) := by
  obtain ⟨r, hr⟩ := hz b l (feat k d)
  rw [gates_at _ b k l d _ (negz_eq V0 P S0 G0 W2 B2 gw gb gg H b l (feat k d))]
  unfold decay
  rw [hr, Cert.KernelIdeal.RefValue.decay_neg, Cert.KernelIdeal.RefValue.decay_real]

/-- The reference's running sums of log-decays. -/
theorem sums_eq (b : Fin 128) (k : Fin 4) (l : Fin 8) (d : Fin 128) : res_main_v202 V0 (ix4 b k l d) = part (P b) W2 B2 0 l (feat k d) := by
  refine (Cert.KernelIdeal.RefValue.cumsum_at (gates (res_main_call2_v0 V0)) _ (fun i => Ideal.ofBits_zero_f32) _ _ b k l d).trans ?_
  unfold part
  simp only [gates_eq V0 P S0 G0 W2 B2 gw gb gg H hz]

omit H hz in
/-- A head's decay's logarithm. -/
theorem lg_at (k : Fin 4) : res_main_v95 V0 (ix1 k) = lg k := rfl

omit H hz in
/-- A position. -/
theorem pos_at (l : Fin 8) : res_main_v96 V0 (ix1 l) = pos l := rfl

omit H hz in
/-- A distance. -/
theorem dist_at (l l' : Fin 8) : res_main_v101 V0 (ix2 l l') = pos l - pos l' := by
  rw [← pos_at V0 l, ← pos_at V0 l']
  unfold res_main_v101
  generalize res_main_v96 V0 = n
  pointwise

omit hz in
/-- The reference's retention states. -/
theorem sret_eq : retState (res_main_v3 V0) (res_main_v85 V0) (res_main_v87 V0) (res_main_v95 V0) (res_main_v96 V0)
    = fun i => rstate (P (i 0)) (S0 (i 0)) (i 1) (i 2) (i 3) := by
  suffices h : ∀ (b : Fin 128) (k : Fin 4) (d : Fin 128) (v : Fin 256), retState (res_main_v3 V0) (res_main_v85 V0) (res_main_v87 V0) (res_main_v95 V0) (res_main_v96 V0) (ix4 b k d v) = rstate (P b) (S0 b) k d v by
    funext i
    have hi : i = ix4 (i 0) (i 1) (i 2) (i 3) := by idx_ext
    exact (congrArg _ hi).trans (h (i 0) (i 1) (i 2) (i 3))
  intro b k d v
  refine (retState_at _ _ _ _ _ b k d v).trans ?_
  simp only [ret_at V0 P S0 G0 W2 B2 gw gb gg H, key_at V0 P S0 G0 W2 B2 gw gb gg H, value_at V0 P S0 G0 W2 B2 gw gb gg H, lg_at, pos_at]
  rfl

/-- The reference's gated states. -/
theorem sgla_eq : glaState (res_main_v4 V0) (res_main_v195 V0) (res_main_v202 V0) (res_main_v197 V0)
    = fun i => gstate (P (i 0)) (G0 (i 0)) W2 B2 (i 1) (i 2) (i 3) := by
  suffices h : ∀ (b : Fin 128) (k : Fin 4) (d : Fin 128) (v : Fin 256), glaState (res_main_v4 V0) (res_main_v195 V0) (res_main_v202 V0) (res_main_v197 V0) (ix4 b k d v) = gstate (P b) (G0 b) W2 B2 k d v by
    funext i
    have hi : i = ix4 (i 0) (i 1) (i 2) (i 3) := by idx_ext
    exact (congrArg _ hi).trans (h (i 0) (i 1) (i 2) (i 3))
  intro b k d v
  refine (glaState_at _ _ _ _ b k d v).trans ?_
  simp only [gla_at V0 P S0 G0 W2 B2 gw gb gg H, gkey_at V0 P S0 G0 W2 B2 gw gb gg H, gvalue_at V0 P S0 G0 W2 B2 gw gb gg H, sums_eq V0 P S0 G0 W2 B2 gw gb gg H hz,
    Cert.KernelIdeal.RefValue.part_rest (P b) W2 B2 (Cert.KernelIdeal.RefValue.decay_fin (P b) W2 B2 (hz b))]
  rfl

omit hz in
/-- The reference's retention outputs. -/
theorem robs_eq (b : Fin 128) (l : Fin 8) (k : Fin 4) (v : Fin 256) :
    retObs (res_main_v84 V0) (res_main_v85 V0) (res_main_v87 V0) (res_main_v3 V0) (res_main_v95 V0) (res_main_v96 V0) (res_main_v101 V0) (ix4 b l k v)
      = robs (P b) (S0 b) k l v := by
  refine (retObs_at _ _ _ _ _ _ _ b l k v).trans ?_
  simp only [query_at V0 P S0 G0 W2 B2 gw gb gg H, key_at V0 P S0 G0 W2 B2 gw gb gg H, value_at V0 P S0 G0 W2 B2 gw gb gg H, ret_at V0 P S0 G0 W2 B2 gw gb gg H, lg_at, pos_at, dist_at]
  rfl

/-- The reference's gated outputs. -/
theorem gobs_eq (b : Fin 128) (l : Fin 8) (k : Fin 4) (v : Fin 256) :
    glaObs (res_main_v193 V0) (res_main_v195 V0) (res_main_v202 V0) (res_main_v197 V0) (res_main_v4 V0) tril (ix4 b l k v)
      = gobs (P b) (G0 b) W2 B2 k l v := by
  refine (glaObs_at _ _ _ _ _ _ b l k v).trans ?_
  simp only [gquery_at V0 P S0 G0 W2 B2 gw gb gg H, gkey_at V0 P S0 G0 W2 B2 gw gb gg H, gvalue_at V0 P S0 G0 W2 B2 gw gb gg H, gla_at V0 P S0 G0 W2 B2 gw gb gg H, sums_eq V0 P S0 G0 W2 B2 gw gb gg H hz, tril_at]
  unfold gobs
  refine congrArg (· + _) (Finset.sum_congr rfl fun l' _ => congrArg (· * _) ?_)
  unfold score
  by_cases h : l' ≤ l
  · rw [if_pos h]
    simp only [h, decide_true]
    rfl
  · rw [if_neg h]
    simp only [h, decide_false]
    exact Finset.sum_eq_zero fun d _ => mul_zero _

omit hz in
/-- The retention's gate inputs. -/
theorem rgate_at (b : Fin 128) (l : Fin 8) (k : Fin 4) (v : Fin 256) : res_main_v10 V0 (ix3 b l ⟨256 * k.val + v.val, by omega⟩) = P b l (colOf 2048 (by omega) k v) := by
  have h : ∀ X : FVec Ideal S128x8x6160 .f32, extractStridedSlice S128x8x1024 ![0, 0, 2048] X slices_S128x8x6160_S128x8x1024_0_0_2048 (ix3 b l ⟨256 * k.val + v.val, by omega⟩)
      = X (ix3 b l ⟨2048 + (256 * k.val + v.val), by omega⟩) := by
    intro X; pointwise
  refine (h _).trans ((row_at V0 P S0 G0 W2 B2 gw gb gg H b l _).trans (congrArg (P b l) (Fin.ext ?_)))
  show 2048 + (256 * k.val + v.val) = 2048 + 256 * k.val + v.val
  omega

omit hz in
/-- The gated heads' gate inputs. -/
theorem ggate_at (b : Fin 128) (l : Fin 8) (k : Fin 4) (v : Fin 256) : res_main_v14 V0 (ix3 b l ⟨256 * k.val + v.val, by omega⟩) = P b l (colOf 5120 (by omega) k v) := by
  have h : ∀ X : FVec Ideal S128x8x6160 .f32, extractStridedSlice S128x8x1024 ![0, 0, 5120] X slices_S128x8x6160_S128x8x1024_0_0_5120 (ix3 b l ⟨256 * k.val + v.val, by omega⟩)
      = X (ix3 b l ⟨5120 + (256 * k.val + v.val), by omega⟩) := by
    intro X; pointwise
  refine (h _).trans ((row_at V0 P S0 G0 W2 B2 gw gb gg H b l _).trans (congrArg (P b l) (Fin.ext ?_)))
  show 5120 + (256 * k.val + v.val) = 5120 + 256 * k.val + v.val
  omega

/-- What the reference hands on. -/
theorem mix_eq : joined (gated (normed1 (retObs (res_main_v84 V0) (res_main_v85 V0) (res_main_v87 V0) (res_main_v3 V0) (res_main_v95 V0) (res_main_v96 V0) (res_main_v101 V0))
        (V0 (Proc.devRef .tc main_arg5)) (V0 (Proc.devRef .tc main_arg6))) (res_main_v10 V0))
      (gated (normed2 (glaObs (res_main_v193 V0) (res_main_v195 V0) (res_main_v202 V0) (res_main_v197 V0) (res_main_v4 V0) tril)
        (V0 (Proc.devRef .tc main_arg7))) (res_main_v14 V0))
    = fun i => mixAt P S0 G0 W2 B2 gw gb gg (i 0) (i 1) := by
  suffices h : ∀ (r : Fin 1024) (e : Fin 2048), joined (gated (normed1 (retObs (res_main_v84 V0) (res_main_v85 V0) (res_main_v87 V0) (res_main_v3 V0) (res_main_v95 V0) (res_main_v96 V0) (res_main_v101 V0))
        (V0 (Proc.devRef .tc main_arg5)) (V0 (Proc.devRef .tc main_arg6))) (res_main_v10 V0))
      (gated (normed2 (glaObs (res_main_v193 V0) (res_main_v195 V0) (res_main_v202 V0) (res_main_v197 V0) (res_main_v4 V0) tril)
        (V0 (Proc.devRef .tc main_arg7))) (res_main_v14 V0)) (ix2 r e)
      = mixAt P S0 G0 W2 B2 gw gb gg r e by
    funext i
    have hi : i = ix2 (i 0) (i 1) := by idx_ext
    exact (congrArg _ hi).trans (h (i 0) (i 1))
  intro r e
  refine (joined_at _ _ r e).trans ?_
  show _ = mixAt P S0 G0 W2 B2 gw gb gg r e
  unfold mixAt
  by_cases he : e.val < 1024
  · rw [dif_pos he, dif_pos he]
    have e1 : (⟨e.val, he⟩ : Fin 1024) = ⟨256 * (⟨e.val / 256, by omega⟩ : Fin 4).val + (⟨e.val % 256, by omega⟩ : Fin 256).val, by simp only; omega⟩ := Fin.ext (by simp only; omega)
    rw [e1]
    refine (gated1_at _ _ _ _ _ _ _ _).trans ?_
    have hg := rgate_at V0 P S0 G0 W2 B2 gw gb gg H ⟨r.val / 8, by omega⟩ ⟨r.val % 8, by omega⟩ ⟨e.val / 256, by omega⟩
    simp only [] at hg
    simp only [robs_eq V0 P S0 G0 W2 B2 gw gb gg H, hg, H.h5, H.h6]
    rfl
  · rw [dif_neg he, dif_neg he]
    have e1 : (⟨e.val - 1024, by omega⟩ : Fin 1024) = ⟨256 * (⟨(e.val - 1024) / 256, by omega⟩ : Fin 4).val + (⟨(e.val - 1024) % 256, by omega⟩ : Fin 256).val, by simp only; omega⟩ := Fin.ext (by simp only; omega)
    rw [e1]
    refine (gated2_at _ _ _ _ _ _ _).trans ?_
    have hg := ggate_at V0 P S0 G0 W2 B2 gw gb gg H ⟨r.val / 8, by omega⟩ ⟨r.val % 8, by omega⟩ ⟨(e.val - 1024) / 256, by omega⟩
    simp only [] at hg
    simp only [gobs_eq V0 P S0 G0 W2 B2 gw gb gg H hz, hg, H.h7]
    rfl

end all

end Cert.ReferenceIdeal.RefValue
end
-- ==== Proof.MixerMixR.lean ====
module

public import proofs.«01_k».proof.Proof.MixerFin
public import proofs.«01_k».proof.Proof.MixerGate

@[expose] public section

set_option maxRecDepth 16384

noncomputable section

open Idealize.ShloMosaic Idealize.ShloMosaic.TcCoe Idealize.SL.Sem
open Idealize.ShloMosaic.Pipeline (Dat)

/-! What a block hands on of the retention's heads, before and after their norm. -/
namespace Cert.KernelIdeal.RefValue

open Cert.KernelIdeal Cert.KernelIdeal.Gen

variable (x0 : Vec Ideal S64x6400 .f32) (x1 x2 : Vec Ideal S64x128 .f32) (x3 : Vec Ideal S4x64x64 .f32) (x4 : Vec Ideal S4x64x256 .f32)
  (x5 : Vec Ideal S4x64x128 .f32) (x6 : Vec Ideal S4x128x256 .f32) (x7 : Vec Ideal S128x512 .bf16) (x8 : Vec Ideal S1x512 .f32)
  (x9 : Vec Ideal S512x64 .bf16) (x10 : Vec Ideal S4x64x64 .f32) (x11 x12 x13 : Vec Ideal S1x1024 .f32) (x14 x15 : Vec Ideal S8x4x128x256 .f32)

/-- The sum of a head's output over its features, row by row. -/
def rowsum (O : FVec Ideal S64x256 .f32) : FVec Ideal S64x1 .f32 :=
  shapeCast S64x1 (multiReduction .add [1] S64 O 0x00000000#32 reduces_S64x256_S64 (.inl rfl) rfl) shapeCasts_S64_S64x1

/-- A head's output normalised about its mean, weighted, offset and gated. -/
def finR (O : FVec Ideal S64x256 .f32) (W B : Vec Ideal S1x256 .f32) (G : Vec Ideal S64x256 .f32) : FVec Ideal S64x256 .bf16 :=
  k0_pay42 O (rowsum O) W B G

/-- An entry of a head's normalised output. -/
theorem finR_at (O : FVec Ideal S64x256 .f32) (W B : Vec Ideal S1x256 .f32) (G : Vec Ideal S64x256 .f32) (r : Fin 64) (v : Fin 256) :
    finR O W B G (ix2 r v) = centred (fun v => O (ix2 r v)) (fun v => W (ix2 0 v)) (fun v => B (ix2 0 v)) (fun v => G (ix2 r v)) v := by
  unfold finR rowsum k0_pay42
  pointwise
  simp only [zero_sub]
  rfl

/-- The product of a head's rows with one sequence's state, kept in that sequence's rows. -/
def pick (C : IVec S64x1 32) (Q : Fin 4 → Fin 64 → Fin 128 → EReal) (S : Vec Ideal S8x4x128x256 .f32) (h : Fin 4) (r : Fin 64) (v : Fin 256) (n : Fin 8) : EReal :=
  Scalar.select (IntOp.cmpi .eq (C (ix2 r 0)) (BitVec.ofNat 32 n.val)) (∑ d : Fin 128, Q h r d * S (ix4 n h d v)) 0

/-- The products of a head's rows with the states of all the block's sequences, each in its own rows. -/
def cross (C : IVec S64x1 32) (Q : Fin 4 → Fin 64 → Fin 128 → EReal) (S : Vec Ideal S8x4x128x256 .f32) (h : Fin 4) (r : Fin 64) (v : Fin 256) : EReal :=
  pick C Q S h r v 0 + pick C Q S h r v 1 + pick C Q S h r v 2 + pick C Q S h r v 3 + pick C Q S h r v 4 + pick C Q S h r v 5 + pick C Q S h r v 6 + pick C Q S h r v 7

/-- The rotated queries of head `h`. -/
def qrot (h : Fin 4) (r : Fin 64) (d : Fin 128) : EReal := turn x0 x1 x2 (128 * h.val) (by omega) r d

/-- The retention's output of head `h` before its norm. -/
def otab (C : IVec S64x1 32) (h : Fin 4) : FVec Ideal S64x256 .f32 := fun i =>
  (∑ j : Fin 64, ((∑ d : Fin 128, qrot x0 x1 x2 h (i 0) d * (turn x0 x1 x2 (512 + 128 * h.val) (by omega) j d * Ideal.ofBits .f32 0x3DB504F3#32)) * x3 (ix3 h (i 0) j))
      * x0 (ix2 j ⟨1024 + 256 * h.val + (i 1).val, by have := (i 1).isLt; simp at this; omega⟩))
    + cross C (qrot x0 x1 x2) x14 h (i 0) (i 1) * x4 (ix3 h (i 0) (i 1))

/-- The output of head 0 of the block. -/
theorem ob0 : (k0_pay40 (k0_pay319 x0 x1 x2 x3 x4 x5 x6 x7 x8 x9 x10 x11 x12 x13 x14 x15) (k0_pay324 x0 x1 x2 x3 x4 x5 x6 x7 x8 x9 x10 x11 x12 x13 x14 x15) (k0_pay325 x0 x1 x2 x3 x4 x5 x6 x7 x8 x9 x10 x11 x12 x13 x14 x15) (k0_pay328 x0 x1 x2 x3 x4 x5 x6 x7 x8 x9 x10 x11 x12 x13 x14 x15) (View.ld x14 r0_14) (View.ld x4 r0_15)) = otab x0 x1 x2 x3 x4 x14 (k0_pay319 x0 x1 x2 x3 x4 x5 x6 x7 x8 x9 x10 x11 x12 x13 x14 x15) 0 := by
  generalize hC : k0_pay319 x0 x1 x2 x3 x4 x5 x6 x7 x8 x9 x10 x11 x12 x13 x14 x15 = C
  funext i
  have hi : i = ix2 (i 0) (i 1) := by idx_ext
  rw [hi]
  generalize i 0 = r
  generalize i 1 = v
  pointwise [hC, k0_pay40, k0_pay38, k0_pay324, k0_pay11, k0_pay7, k0_pay8, k0_pay325, k0_pay12, k0_pay9, k0_pay10, k0_pay328, k0_pay35, k0_pay34, k0_pay31, k0_pay30, k0_pay26, k0_pay25, k0_pay21, k0_pay20, k0_pay18, k0_pay15, k0_pay17, k0_pay14, k0_pay327, k0_pay28]
  rfl

/-- The handed-on part of head 0 of the block. -/
theorem fin0 (W B : Vec Ideal S1x256 .f32) (G : Vec Ideal S64x256 .f32) : k0_pay42 (k0_pay40 (k0_pay319 x0 x1 x2 x3 x4 x5 x6 x7 x8 x9 x10 x11 x12 x13 x14 x15) (k0_pay324 x0 x1 x2 x3 x4 x5 x6 x7 x8 x9 x10 x11 x12 x13 x14 x15) (k0_pay325 x0 x1 x2 x3 x4 x5 x6 x7 x8 x9 x10 x11 x12 x13 x14 x15) (k0_pay328 x0 x1 x2 x3 x4 x5 x6 x7 x8 x9 x10 x11 x12 x13 x14 x15) (View.ld x14 r0_14) (View.ld x4 r0_15)) (k0_pay41 (k0_pay319 x0 x1 x2 x3 x4 x5 x6 x7 x8 x9 x10 x11 x12 x13 x14 x15) (k0_pay324 x0 x1 x2 x3 x4 x5 x6 x7 x8 x9 x10 x11 x12 x13 x14 x15) (k0_pay325 x0 x1 x2 x3 x4 x5 x6 x7 x8 x9 x10 x11 x12 x13 x14 x15) (k0_pay328 x0 x1 x2 x3 x4 x5 x6 x7 x8 x9 x10 x11 x12 x13 x14 x15) (View.ld x14 r0_14) (View.ld x4 r0_15)) W B G
    = finR (otab x0 x1 x2 x3 x4 x14 (k0_pay319 x0 x1 x2 x3 x4 x5 x6 x7 x8 x9 x10 x11 x12 x13 x14 x15) 0) W B G := by
  rw [← ob0]
  rfl

/-- The output of head 1 of the block. -/
theorem ob1 : (addf (F := Ideal) (k0_pay47 (k0_pay321 x0 x1 x2 x3 x4 x5 x6 x7 x8 x9 x10 x11 x12 x13 x14 x15) (k0_pay322 x0 x1 x2 x3 x4 x5 x6 x7 x8 x9 x10 x11 x12 x13 x14 x15) (k0_pay329 x0 x1 x2 x3 x4 x5 x6 x7 x8 x9 x10 x11 x12 x13 x14 x15) (View.ld x0 r0_20) (View.ld x0 r0_21) (View.ld x3 r0_22)) (mulf (addf (k0_pay73 (k0_pay319 x0 x1 x2 x3 x4 x5 x6 x7 x8 x9 x10 x11 x12 x13 x14 x15) (k0_pay331 x0 x1 x2 x3 x4 x5 x6 x7 x8 x9 x10 x11 x12 x13 x14 x15) (k0_pay70 (k0_pay319 x0 x1 x2 x3 x4 x5 x6 x7 x8 x9 x10 x11 x12 x13 x14 x15) (k0_pay331 x0 x1 x2 x3 x4 x5 x6 x7 x8 x9 x10 x11 x12 x13 x14 x15) (k0_pay66 (k0_pay319 x0 x1 x2 x3 x4 x5 x6 x7 x8 x9 x10 x11 x12 x13 x14 x15) (k0_pay331 x0 x1 x2 x3 x4 x5 x6 x7 x8 x9 x10 x11 x12 x13 x14 x15) (k0_pay59 (k0_pay319 x0 x1 x2 x3 x4 x5 x6 x7 x8 x9 x10 x11 x12 x13 x14 x15) (k0_pay331 x0 x1 x2 x3 x4 x5 x6 x7 x8 x9 x10 x11 x12 x13 x14 x15) (k0_pay55 (k0_pay319 x0 x1 x2 x3 x4 x5 x6 x7 x8 x9 x10 x11 x12 x13 x14 x15) (k0_pay331 x0 x1 x2 x3 x4 x5 x6 x7 x8 x9 x10 x11 x12 x13 x14 x15) (k0_pay50 (k0_pay319 x0 x1 x2 x3 x4 x5 x6 x7 x8 x9 x10 x11 x12 x13 x14 x15) (k0_pay329 x0 x1 x2 x3 x4 x5 x6 x7 x8 x9 x10 x11 x12 x13 x14 x15) (View.ld x14 r0_24)) (View.ld x14 r0_26)) (View.ld x14 r0_27)) (k0_pay62 (k0_pay331 x0 x1 x2 x3 x4 x5 x6 x7 x8 x9 x10 x11 x12 x13 x14 x15) (View.ld x14 r0_28)) (k0_pay63 (k0_pay319 x0 x1 x2 x3 x4 x5 x6 x7 x8 x9 x10 x11 x12 x13 x14 x15)) (Scalar.ofBits .f32 0x00000000#32) (View.ld x14 r0_29)) (View.ld x14 r0_30)) (View.ld x14 r0_31)) (k0_pay76 (k0_pay319 x0 x1 x2 x3 x4 x5 x6 x7 x8 x9 x10 x11 x12 x13 x14 x15) (k0_pay331 x0 x1 x2 x3 x4 x5 x6 x7 x8 x9 x10 x11 x12 x13 x14 x15) (View.ld x14 r0_32))) (shapeCast S64x256 (View.ld x4 r0_33) shapeCasts_S1x64x256_S64x256))) = otab x0 x1 x2 x3 x4 x14 (k0_pay319 x0 x1 x2 x3 x4 x5 x6 x7 x8 x9 x10 x11 x12 x13 x14 x15) 1 := by
  generalize hC : k0_pay319 x0 x1 x2 x3 x4 x5 x6 x7 x8 x9 x10 x11 x12 x13 x14 x15 = C
  funext i
  have hi : i = ix2 (i 0) (i 1) := by idx_ext
  rw [hi]
  generalize i 0 = r
  generalize i 1 = v
  pointwise [hC, k0_pay47, k0_pay44, k0_pay46, k0_pay45, k0_pay321, k0_pay7, k0_pay322, k0_pay8, k0_pay329, k0_pay43, k0_pay73, k0_pay72, k0_pay331, k0_pay70, k0_pay69, k0_pay66, k0_pay65, k0_pay59, k0_pay58, k0_pay55, k0_pay54, k0_pay50, k0_pay49, k0_pay62, k0_pay61, k0_pay63, k0_pay76, k0_pay75]
  rfl

/-- The handed-on part of head 1 of the block. -/
theorem fin1 (W B : Vec Ideal S1x256 .f32) (G : Vec Ideal S64x256 .f32) : k0_pay80 (k0_pay78 (k0_pay47 (k0_pay321 x0 x1 x2 x3 x4 x5 x6 x7 x8 x9 x10 x11 x12 x13 x14 x15) (k0_pay322 x0 x1 x2 x3 x4 x5 x6 x7 x8 x9 x10 x11 x12 x13 x14 x15) (k0_pay329 x0 x1 x2 x3 x4 x5 x6 x7 x8 x9 x10 x11 x12 x13 x14 x15) (View.ld x0 r0_20) (View.ld x0 r0_21) (View.ld x3 r0_22)) (k0_pay73 (k0_pay319 x0 x1 x2 x3 x4 x5 x6 x7 x8 x9 x10 x11 x12 x13 x14 x15) (k0_pay331 x0 x1 x2 x3 x4 x5 x6 x7 x8 x9 x10 x11 x12 x13 x14 x15) (k0_pay70 (k0_pay319 x0 x1 x2 x3 x4 x5 x6 x7 x8 x9 x10 x11 x12 x13 x14 x15) (k0_pay331 x0 x1 x2 x3 x4 x5 x6 x7 x8 x9 x10 x11 x12 x13 x14 x15) (k0_pay66 (k0_pay319 x0 x1 x2 x3 x4 x5 x6 x7 x8 x9 x10 x11 x12 x13 x14 x15) (k0_pay331 x0 x1 x2 x3 x4 x5 x6 x7 x8 x9 x10 x11 x12 x13 x14 x15) (k0_pay59 (k0_pay319 x0 x1 x2 x3 x4 x5 x6 x7 x8 x9 x10 x11 x12 x13 x14 x15) (k0_pay331 x0 x1 x2 x3 x4 x5 x6 x7 x8 x9 x10 x11 x12 x13 x14 x15) (k0_pay55 (k0_pay319 x0 x1 x2 x3 x4 x5 x6 x7 x8 x9 x10 x11 x12 x13 x14 x15) (k0_pay331 x0 x1 x2 x3 x4 x5 x6 x7 x8 x9 x10 x11 x12 x13 x14 x15) (k0_pay50 (k0_pay319 x0 x1 x2 x3 x4 x5 x6 x7 x8 x9 x10 x11 x12 x13 x14 x15) (k0_pay329 x0 x1 x2 x3 x4 x5 x6 x7 x8 x9 x10 x11 x12 x13 x14 x15) (View.ld x14 r0_24)) (View.ld x14 r0_26)) (View.ld x14 r0_27)) (k0_pay62 (k0_pay331 x0 x1 x2 x3 x4 x5 x6 x7 x8 x9 x10 x11 x12 x13 x14 x15) (View.ld x14 r0_28)) (k0_pay63 (k0_pay319 x0 x1 x2 x3 x4 x5 x6 x7 x8 x9 x10 x11 x12 x13 x14 x15)) (Scalar.ofBits .f32 0x00000000#32) (View.ld x14 r0_29)) (View.ld x14 r0_30)) (View.ld x14 r0_31)) (k0_pay76 (k0_pay319 x0 x1 x2 x3 x4 x5 x6 x7 x8 x9 x10 x11 x12 x13 x14 x15) (k0_pay331 x0 x1 x2 x3 x4 x5 x6 x7 x8 x9 x10 x11 x12 x13 x14 x15) (View.ld x14 r0_32)) (View.ld x4 r0_33)) (k0_pay79 W) B G
    = finR (otab x0 x1 x2 x3 x4 x14 (k0_pay319 x0 x1 x2 x3 x4 x5 x6 x7 x8 x9 x10 x11 x12 x13 x14 x15) 1) W B G := by
  rw [← ob1]
  rfl

/-- The output of head 2 of the block. -/
theorem ob2 : (addf (F := Ideal) (k0_pay85 (k0_pay334 x0 x1 x2 x3 x4 x5 x6 x7 x8 x9 x10 x11 x12 x13 x14 x15) (k0_pay84 (k0_pay321 x0 x1 x2 x3 x4 x5 x6 x7 x8 x9 x10 x11 x12 x13 x14 x15) (k0_pay322 x0 x1 x2 x3 x4 x5 x6 x7 x8 x9 x10 x11 x12 x13 x14 x15) (View.ld x0 r0_37) (View.ld x0 r0_38) (View.ld x3 r0_40))) (mulf (k0_pay111 (k0_pay319 x0 x1 x2 x3 x4 x5 x6 x7 x8 x9 x10 x11 x12 x13 x14 x15) (k0_pay335 x0 x1 x2 x3 x4 x5 x6 x7 x8 x9 x10 x11 x12 x13 x14 x15) (k0_pay107 (k0_pay319 x0 x1 x2 x3 x4 x5 x6 x7 x8 x9 x10 x11 x12 x13 x14 x15) (k0_pay335 x0 x1 x2 x3 x4 x5 x6 x7 x8 x9 x10 x11 x12 x13 x14 x15) (k0_pay101 (k0_pay319 x0 x1 x2 x3 x4 x5 x6 x7 x8 x9 x10 x11 x12 x13 x14 x15) (k0_pay335 x0 x1 x2 x3 x4 x5 x6 x7 x8 x9 x10 x11 x12 x13 x14 x15) (k0_pay97 (k0_pay319 x0 x1 x2 x3 x4 x5 x6 x7 x8 x9 x10 x11 x12 x13 x14 x15) (k0_pay335 x0 x1 x2 x3 x4 x5 x6 x7 x8 x9 x10 x11 x12 x13 x14 x15) (k0_pay93 (k0_pay319 x0 x1 x2 x3 x4 x5 x6 x7 x8 x9 x10 x11 x12 x13 x14 x15) (k0_pay335 x0 x1 x2 x3 x4 x5 x6 x7 x8 x9 x10 x11 x12 x13 x14 x15) (k0_pay88 (k0_pay319 x0 x1 x2 x3 x4 x5 x6 x7 x8 x9 x10 x11 x12 x13 x14 x15) (k0_pay335 x0 x1 x2 x3 x4 x5 x6 x7 x8 x9 x10 x11 x12 x13 x14 x15) (View.ld x14 r0_42)) (View.ld x14 r0_44) (View.ld x14 r0_45)) (View.ld x14 r0_46)) (View.ld x14 r0_47)) (k0_pay104 (View.ld x14 r0_48)) (constant S64x256 .f32 0x00000000#32) (View.ld x14 r0_49)) (View.ld x14 r0_50)) (shapeCast S64x256 (View.ld x4 r0_51) shapeCasts_S1x64x256_S64x256))) = otab x0 x1 x2 x3 x4 x14 (k0_pay319 x0 x1 x2 x3 x4 x5 x6 x7 x8 x9 x10 x11 x12 x13 x14 x15) 2 := by
  generalize hC : k0_pay319 x0 x1 x2 x3 x4 x5 x6 x7 x8 x9 x10 x11 x12 x13 x14 x15 = C
  funext i
  have hi : i = ix2 (i 0) (i 1) := by idx_ext
  rw [hi]
  generalize i 0 = r
  generalize i 1 = v
  pointwise [hC, k0_pay85, k0_pay334, k0_pay82, k0_pay84, k0_pay81, k0_pay83, k0_pay321, k0_pay7, k0_pay322, k0_pay8, k0_pay111, k0_pay110, k0_pay335, k0_pay107, k0_pay106, k0_pay101, k0_pay100, k0_pay97, k0_pay96, k0_pay93, k0_pay90, k0_pay92, k0_pay88, k0_pay87, k0_pay104, k0_pay103]
  rfl

/-- The handed-on part of head 2 of the block. -/
theorem fin2 (W B : Vec Ideal S1x256 .f32) (G : Vec Ideal S64x256 .f32) : k0_pay114 (k0_pay85 (k0_pay334 x0 x1 x2 x3 x4 x5 x6 x7 x8 x9 x10 x11 x12 x13 x14 x15) (k0_pay84 (k0_pay321 x0 x1 x2 x3 x4 x5 x6 x7 x8 x9 x10 x11 x12 x13 x14 x15) (k0_pay322 x0 x1 x2 x3 x4 x5 x6 x7 x8 x9 x10 x11 x12 x13 x14 x15) (View.ld x0 r0_37) (View.ld x0 r0_38) (View.ld x3 r0_40))) (k0_pay111 (k0_pay319 x0 x1 x2 x3 x4 x5 x6 x7 x8 x9 x10 x11 x12 x13 x14 x15) (k0_pay335 x0 x1 x2 x3 x4 x5 x6 x7 x8 x9 x10 x11 x12 x13 x14 x15) (k0_pay107 (k0_pay319 x0 x1 x2 x3 x4 x5 x6 x7 x8 x9 x10 x11 x12 x13 x14 x15) (k0_pay335 x0 x1 x2 x3 x4 x5 x6 x7 x8 x9 x10 x11 x12 x13 x14 x15) (k0_pay101 (k0_pay319 x0 x1 x2 x3 x4 x5 x6 x7 x8 x9 x10 x11 x12 x13 x14 x15) (k0_pay335 x0 x1 x2 x3 x4 x5 x6 x7 x8 x9 x10 x11 x12 x13 x14 x15) (k0_pay97 (k0_pay319 x0 x1 x2 x3 x4 x5 x6 x7 x8 x9 x10 x11 x12 x13 x14 x15) (k0_pay335 x0 x1 x2 x3 x4 x5 x6 x7 x8 x9 x10 x11 x12 x13 x14 x15) (k0_pay93 (k0_pay319 x0 x1 x2 x3 x4 x5 x6 x7 x8 x9 x10 x11 x12 x13 x14 x15) (k0_pay335 x0 x1 x2 x3 x4 x5 x6 x7 x8 x9 x10 x11 x12 x13 x14 x15) (k0_pay88 (k0_pay319 x0 x1 x2 x3 x4 x5 x6 x7 x8 x9 x10 x11 x12 x13 x14 x15) (k0_pay335 x0 x1 x2 x3 x4 x5 x6 x7 x8 x9 x10 x11 x12 x13 x14 x15) (View.ld x14 r0_42)) (View.ld x14 r0_44) (View.ld x14 r0_45)) (View.ld x14 r0_46)) (View.ld x14 r0_47)) (k0_pay104 (View.ld x14 r0_48)) (constant S64x256 .f32 0x00000000#32) (View.ld x14 r0_49)) (View.ld x14 r0_50)) (View.ld x4 r0_51) W B G
    = finR (otab x0 x1 x2 x3 x4 x14 (k0_pay319 x0 x1 x2 x3 x4 x5 x6 x7 x8 x9 x10 x11 x12 x13 x14 x15) 2) W B G := by
  rw [← ob2]
  rfl

/-- The output of head 3 of the block. -/
theorem ob3 : (k0_pay40 (F := Ideal) (k0_pay319 x0 x1 x2 x3 x4 x5 x6 x7 x8 x9 x10 x11 x12 x13 x14 x15) (k0_pay338 x0 x1 x2 x3 x4 x5 x6 x7 x8 x9 x10 x11 x12 x13 x14 x15) (k0_pay339 x0 x1 x2 x3 x4 x5 x6 x7 x8 x9 x10 x11 x12 x13 x14 x15) (k0_pay341 x0 x1 x2 x3 x4 x5 x6 x7 x8 x9 x10 x11 x12 x13 x14 x15) (View.ld x14 r0_68) (View.ld x4 r0_69)) = otab x0 x1 x2 x3 x4 x14 (k0_pay319 x0 x1 x2 x3 x4 x5 x6 x7 x8 x9 x10 x11 x12 x13 x14 x15) 3 := by
  generalize hC : k0_pay319 x0 x1 x2 x3 x4 x5 x6 x7 x8 x9 x10 x11 x12 x13 x14 x15 = C
  funext i
  have hi : i = ix2 (i 0) (i 1) := by idx_ext
  rw [hi]
  generalize i 0 = r
  generalize i 1 = v
  pointwise [hC, k0_pay146, k0_pay338, k0_pay117, k0_pay321, k0_pay7, k0_pay322, k0_pay8, k0_pay339, k0_pay118, k0_pay115, k0_pay116, k0_pay341, k0_pay144, k0_pay143, k0_pay140, k0_pay139, k0_pay133, k0_pay132, k0_pay130, k0_pay129, k0_pay126, k0_pay125, k0_pay120, k0_pay122, k0_pay121, k0_pay123, k0_pay136, k0_pay135, k0_pay137, k0_pay40, k0_pay38]
  rfl

/-- The handed-on part of head 3 of the block. -/
theorem fin3 (W B : Vec Ideal S1x256 .f32) (G : Vec Ideal S64x256 .f32) : k0_pay150 (k0_pay148 (k0_pay319 x0 x1 x2 x3 x4 x5 x6 x7 x8 x9 x10 x11 x12 x13 x14 x15) (k0_pay338 x0 x1 x2 x3 x4 x5 x6 x7 x8 x9 x10 x11 x12 x13 x14 x15) (k0_pay339 x0 x1 x2 x3 x4 x5 x6 x7 x8 x9 x10 x11 x12 x13 x14 x15) (k0_pay341 x0 x1 x2 x3 x4 x5 x6 x7 x8 x9 x10 x11 x12 x13 x14 x15) (View.ld x14 r0_68) (View.ld x4 r0_69)) (k0_pay149 (k0_pay319 x0 x1 x2 x3 x4 x5 x6 x7 x8 x9 x10 x11 x12 x13 x14 x15) (k0_pay338 x0 x1 x2 x3 x4 x5 x6 x7 x8 x9 x10 x11 x12 x13 x14 x15) (k0_pay339 x0 x1 x2 x3 x4 x5 x6 x7 x8 x9 x10 x11 x12 x13 x14 x15) (k0_pay341 x0 x1 x2 x3 x4 x5 x6 x7 x8 x9 x10 x11 x12 x13 x14 x15) (View.ld x14 r0_68) (View.ld x4 r0_69)) W B G
    = finR (otab x0 x1 x2 x3 x4 x14 (k0_pay319 x0 x1 x2 x3 x4 x5 x6 x7 x8 x9 x10 x11 x12 x13 x14 x15) 3) W B G := by
  rw [← ob3]
  rfl

end Cert.KernelIdeal.RefValue
end
-- ==== Proof.MixerMixG.lean ====
module

public import proofs.«01_k».proof.Proof.MixerMixR
public import proofs.«01_k».proof.Proof.MixerGate

@[expose] public section

set_option maxRecDepth 16384

noncomputable section

open Idealize.ShloMosaic Idealize.ShloMosaic.TcCoe Idealize.SL.Sem
open Idealize.ShloMosaic.Pipeline (Dat)

/-! What a block hands on of the gated heads, before and after their norm. -/
namespace Cert.KernelIdeal.RefValue

open Cert.KernelIdeal Cert.KernelIdeal.Gen

variable (x0 : Vec Ideal S64x6400 .f32) (x1 x2 : Vec Ideal S64x128 .f32) (x3 : Vec Ideal S4x64x64 .f32) (x4 : Vec Ideal S4x64x256 .f32)
  (x5 : Vec Ideal S4x64x128 .f32) (x6 : Vec Ideal S4x128x256 .f32) (x7 : Vec Ideal S128x512 .bf16) (x8 : Vec Ideal S1x512 .f32)
  (x9 : Vec Ideal S512x64 .bf16) (x10 : Vec Ideal S4x64x64 .f32) (x11 x12 x13 : Vec Ideal S1x1024 .f32) (x14 x15 : Vec Ideal S8x4x128x256 .f32)

/-- A head's output normalised by its mean square, weighted and gated. -/
def finG (O : FVec Ideal S64x256 .f32) (W : Vec Ideal S1x256 .f32) (G : Vec Ideal S64x256 .f32) : FVec Ideal S64x256 .bf16 :=
  k0_pay1 O (rowsum (mulf O O)) (Scalar.ofBits .f32 0x43800000#32) W G

/-- An entry of a head's normalised output. -/
theorem finG_at (O : FVec Ideal S64x256 .f32) (W : Vec Ideal S1x256 .f32) (G : Vec Ideal S64x256 .f32) (r : Fin 64) (v : Fin 256) :
    finG O W G (ix2 r v) = scaledBy (fun v => O (ix2 r v)) (fun v => W (ix2 0 v)) (fun v => G (ix2 r v)) v := by
  unfold finG rowsum k0_pay1
  pointwise
  simp only [zero_sub]
  rfl

/-- The scaled queries of head `h`. -/
def qgate (h : Fin 4) (r : Fin 64) (d : Fin 128) : EReal := x0 (ix2 r ⟨3072 + 128 * h.val + d.val, by omega⟩) * Ideal.ofBits .f32 0x3DB504F3#32

/-- The keys of head `h`. -/
def kgate (h : Fin 4) (j : Fin 64) (d : Fin 128) : EReal := x0 (ix2 j ⟨3584 + 128 * h.val + d.val, by omega⟩)

/-- The queries of head `h` decayed from their sequence's start. -/
def qdec (L : FVec Ideal S64x512 .f32) (h : Fin 4) (r : Fin 64) (d : Fin 128) : EReal := qgate x0 h r d * Ideal.exp (utab x9 L h (ix2 r d))

/-- The products of head `h`'s queries with its keys, both decayed to a point between them; the offsets say where the sums lie. -/
def between (L : FVec Ideal S64x512 .f32) (h : Fin 4) (r j : Fin 64) (o o' : ℕ) (ho : o + 64 ≤ 512) (ho' : o' + 64 ≤ 512) : EReal :=
  ∑ d : Fin 128, qgate x0 h r d * Ideal.exp (btab x9 L h (ix2 ⟨o + r.val, by omega⟩ d)) * (kgate x0 h j d * Ideal.exp (btab x9 L h (ix2 ⟨o' + j.val, by omega⟩ d)))

/-- How much row `r` of head `h` takes of row `j`. -/
def stab (L : FVec Ideal S64x512 .f32) (h : Fin 4) (r j : Fin 64) : EReal :=
  (∑ d : Fin 128, qgate x0 h r d * kgate x0 h j d) * x10 (ix3 3 r j)
    + between x0 x9 L h r j 128 192 (by omega) (by omega) * x10 (ix3 0 r j)
    + between x0 x9 L h r j 256 320 (by omega) (by omega) * x10 (ix3 1 r j)
    + between x0 x9 L h r j 384 448 (by omega) (by omega) * x10 (ix3 2 r j)

/-- The output of head `h` before its norm. -/
def ogtab (L : FVec Ideal S64x512 .f32) (C : IVec S64x1 32) (h : Fin 4) : FVec Ideal S64x256 .f32 := fun i =>
  (∑ j : Fin 64, stab x0 x9 x10 L h (i 0) j * x0 (ix2 j ⟨4096 + 256 * h.val + (i 1).val, by have := (i 1).isLt; simp at this; omega⟩))
    + cross C (qdec x0 x9 L) x15 h (i 0) (i 1)

/-- The output of head 0 of the block. -/
theorem og0 : (k0_pay192 (k0_pay319 x0 x1 x2 x3 x4 x5 x6 x7 x8 x9 x10 x11 x12 x13 x14 x15) (k0_pay348 x0 x1 x2 x3 x4 x5 x6 x7 x8 x9 x10 x11 x12 x13 x14 x15) (k0_pay349 x0 x1 x2 x3 x4 x5 x6 x7 x8 x9 x10 x11 x12 x13 x14 x15) (k0_pay351 x0 x1 x2 x3 x4 x5 x6 x7 x8 x9 x10 x11 x12 x13 x14 x15) (View.ld x15 r0_14)) = ogtab x0 x9 x10 x15 (k0_pay344 x0 x1 x2 x3 x4 x5 x6 x7 x8 x9 x10 x11 x12 x13 x14 x15) (k0_pay319 x0 x1 x2 x3 x4 x5 x6 x7 x8 x9 x10 x11 x12 x13 x14 x15) 0 := by
  have hb := bt0 x0 x1 x2 x3 x4 x5 x6 x7 x8 x9 x10 x11 x12 x13 x14 x15
  have hu := ut0 x0 x1 x2 x3 x4 x5 x6 x7 x8 x9 x10 x11 x12 x13 x14 x15
  simp only [k0_pay348, k0_pay160, k0_pay349, k0_pay351, hb, hu]
  clear hb hu
  generalize k0_pay344 x0 x1 x2 x3 x4 x5 x6 x7 x8 x9 x10 x11 x12 x13 x14 x15 = L
  generalize hC : k0_pay319 x0 x1 x2 x3 x4 x5 x6 x7 x8 x9 x10 x11 x12 x13 x14 x15 = C
  funext i
  have hi : i = ix2 (i 0) (i 1) := by idx_ext
  rw [hi]
  generalize i 0 = r
  generalize i 1 = v
  pointwise [hC, k0_pay192, k0_pay190, k0_pay161, k0_pay346, k0_pay157, k0_pay347, k0_pay158, k0_pay159, k0_pay162, k0_pay187, k0_pay186, k0_pay183, k0_pay182, k0_pay177, k0_pay176, k0_pay173, k0_pay172, k0_pay169, k0_pay168, k0_pay164, k0_pay166, k0_pay165, k0_pay180, k0_pay179]
  rfl

/-- The handed-on part of head 0 of the block. -/
theorem fing0 (W : Vec Ideal S1x256 .f32) (G : Vec Ideal S64x256 .f32) : k0_pay194 (k0_pay192 (k0_pay319 x0 x1 x2 x3 x4 x5 x6 x7 x8 x9 x10 x11 x12 x13 x14 x15) (k0_pay348 x0 x1 x2 x3 x4 x5 x6 x7 x8 x9 x10 x11 x12 x13 x14 x15) (k0_pay349 x0 x1 x2 x3 x4 x5 x6 x7 x8 x9 x10 x11 x12 x13 x14 x15) (k0_pay351 x0 x1 x2 x3 x4 x5 x6 x7 x8 x9 x10 x11 x12 x13 x14 x15) (View.ld x15 r0_14)) (k0_pay193 (k0_pay319 x0 x1 x2 x3 x4 x5 x6 x7 x8 x9 x10 x11 x12 x13 x14 x15) (k0_pay348 x0 x1 x2 x3 x4 x5 x6 x7 x8 x9 x10 x11 x12 x13 x14 x15) (k0_pay349 x0 x1 x2 x3 x4 x5 x6 x7 x8 x9 x10 x11 x12 x13 x14 x15) (k0_pay351 x0 x1 x2 x3 x4 x5 x6 x7 x8 x9 x10 x11 x12 x13 x14 x15) (View.ld x15 r0_14)) (Scalar.ofBits .f32 0x358637BD#32) W G
    = finG (ogtab x0 x9 x10 x15 (k0_pay344 x0 x1 x2 x3 x4 x5 x6 x7 x8 x9 x10 x11 x12 x13 x14 x15) (k0_pay319 x0 x1 x2 x3 x4 x5 x6 x7 x8 x9 x10 x11 x12 x13 x14 x15) 0) W G := by
  rw [← og0]
  rfl

/-- The output of head 1 of the block. -/
theorem og1 : (addf (F := Ideal) (k0_pay202 (k0_pay356 x0 x1 x2 x3 x4 x5 x6 x7 x8 x9 x10 x11 x12 x13 x14 x15) (k0_pay200 (k0_pay352 x0 x1 x2 x3 x4 x5 x6 x7 x8 x9 x10 x11 x12 x13 x14 x15) (k0_pay355 x0 x1 x2 x3 x4 x5 x6 x7 x8 x9 x10 x11 x12 x13 x14 x15) (View.ld x0 r0_83) (View.ld x10 r0_58) (View.ld x10 r0_4) (View.ld x10 r0_22)) (k0_pay201 (k0_pay352 x0 x1 x2 x3 x4 x5 x6 x7 x8 x9 x10 x11 x12 x13 x14 x15) (k0_pay355 x0 x1 x2 x3 x4 x5 x6 x7 x8 x9 x10 x11 x12 x13 x14 x15) (View.ld x0 r0_83) (View.ld x10 r0_40))) (k0_pay227 (k0_pay319 x0 x1 x2 x3 x4 x5 x6 x7 x8 x9 x10 x11 x12 x13 x14 x15) (k0_pay357 x0 x1 x2 x3 x4 x5 x6 x7 x8 x9 x10 x11 x12 x13 x14 x15) (k0_pay224 (k0_pay319 x0 x1 x2 x3 x4 x5 x6 x7 x8 x9 x10 x11 x12 x13 x14 x15) (k0_pay357 x0 x1 x2 x3 x4 x5 x6 x7 x8 x9 x10 x11 x12 x13 x14 x15) (k0_pay219 (k0_pay319 x0 x1 x2 x3 x4 x5 x6 x7 x8 x9 x10 x11 x12 x13 x14 x15) (k0_pay357 x0 x1 x2 x3 x4 x5 x6 x7 x8 x9 x10 x11 x12 x13 x14 x15) (k0_pay214 (k0_pay319 x0 x1 x2 x3 x4 x5 x6 x7 x8 x9 x10 x11 x12 x13 x14 x15) (k0_pay357 x0 x1 x2 x3 x4 x5 x6 x7 x8 x9 x10 x11 x12 x13 x14 x15) (k0_pay211 (k0_pay319 x0 x1 x2 x3 x4 x5 x6 x7 x8 x9 x10 x11 x12 x13 x14 x15) (k0_pay357 x0 x1 x2 x3 x4 x5 x6 x7 x8 x9 x10 x11 x12 x13 x14 x15) (k0_pay206 (k0_pay319 x0 x1 x2 x3 x4 x5 x6 x7 x8 x9 x10 x11 x12 x13 x14 x15) (k0_pay353 x0 x1 x2 x3 x4 x5 x6 x7 x8 x9 x10 x11 x12 x13 x14 x15) (k0_pay355 x0 x1 x2 x3 x4 x5 x6 x7 x8 x9 x10 x11 x12 x13 x14 x15) (View.ld x15 r0_24)) (View.ld x15 r0_26) (View.ld x15 r0_27)) (View.ld x15 r0_28)) (View.ld x15 r0_29)) (View.ld x15 r0_30) (View.ld x15 r0_31)) (View.ld x15 r0_32))) = ogtab x0 x9 x10 x15 (k0_pay344 x0 x1 x2 x3 x4 x5 x6 x7 x8 x9 x10 x11 x12 x13 x14 x15) (k0_pay319 x0 x1 x2 x3 x4 x5 x6 x7 x8 x9 x10 x11 x12 x13 x14 x15) 1 := by
  have hb := bt1 x0 x1 x2 x3 x4 x5 x6 x7 x8 x9 x10 x11 x12 x13 x14 x15
  have hu := ut1 x0 x1 x2 x3 x4 x5 x6 x7 x8 x9 x10 x11 x12 x13 x14 x15
  simp only [k0_pay357, hb, hu]
  clear hb hu
  generalize k0_pay344 x0 x1 x2 x3 x4 x5 x6 x7 x8 x9 x10 x11 x12 x13 x14 x15 = L
  generalize hC : k0_pay319 x0 x1 x2 x3 x4 x5 x6 x7 x8 x9 x10 x11 x12 x13 x14 x15 = C
  funext i
  have hi : i = ix2 (i 0) (i 1) := by idx_ext
  rw [hi]
  generalize i 0 = r
  generalize i 1 = v
  pointwise [hC, k0_pay202, k0_pay356, k0_pay199, k0_pay200, k0_pay355, k0_pay198, k0_pay201, k0_pay227, k0_pay226, k0_pay203, k0_pay224, k0_pay221, k0_pay223, k0_pay219, k0_pay218, k0_pay214, k0_pay213, k0_pay211, k0_pay208, k0_pay210, k0_pay206, k0_pay205]
  rfl

/-- The handed-on part of head 1 of the block. -/
theorem fing1 (W : Vec Ideal S1x256 .f32) (G : Vec Ideal S64x256 .f32) : k0_pay231 (k0_pay202 (k0_pay356 x0 x1 x2 x3 x4 x5 x6 x7 x8 x9 x10 x11 x12 x13 x14 x15) (k0_pay200 (k0_pay352 x0 x1 x2 x3 x4 x5 x6 x7 x8 x9 x10 x11 x12 x13 x14 x15) (k0_pay355 x0 x1 x2 x3 x4 x5 x6 x7 x8 x9 x10 x11 x12 x13 x14 x15) (View.ld x0 r0_83) (View.ld x10 r0_58) (View.ld x10 r0_4) (View.ld x10 r0_22)) (k0_pay201 (k0_pay352 x0 x1 x2 x3 x4 x5 x6 x7 x8 x9 x10 x11 x12 x13 x14 x15) (k0_pay355 x0 x1 x2 x3 x4 x5 x6 x7 x8 x9 x10 x11 x12 x13 x14 x15) (View.ld x0 r0_83) (View.ld x10 r0_40))) (k0_pay227 (k0_pay319 x0 x1 x2 x3 x4 x5 x6 x7 x8 x9 x10 x11 x12 x13 x14 x15) (k0_pay357 x0 x1 x2 x3 x4 x5 x6 x7 x8 x9 x10 x11 x12 x13 x14 x15) (k0_pay224 (k0_pay319 x0 x1 x2 x3 x4 x5 x6 x7 x8 x9 x10 x11 x12 x13 x14 x15) (k0_pay357 x0 x1 x2 x3 x4 x5 x6 x7 x8 x9 x10 x11 x12 x13 x14 x15) (k0_pay219 (k0_pay319 x0 x1 x2 x3 x4 x5 x6 x7 x8 x9 x10 x11 x12 x13 x14 x15) (k0_pay357 x0 x1 x2 x3 x4 x5 x6 x7 x8 x9 x10 x11 x12 x13 x14 x15) (k0_pay214 (k0_pay319 x0 x1 x2 x3 x4 x5 x6 x7 x8 x9 x10 x11 x12 x13 x14 x15) (k0_pay357 x0 x1 x2 x3 x4 x5 x6 x7 x8 x9 x10 x11 x12 x13 x14 x15) (k0_pay211 (k0_pay319 x0 x1 x2 x3 x4 x5 x6 x7 x8 x9 x10 x11 x12 x13 x14 x15) (k0_pay357 x0 x1 x2 x3 x4 x5 x6 x7 x8 x9 x10 x11 x12 x13 x14 x15) (k0_pay206 (k0_pay319 x0 x1 x2 x3 x4 x5 x6 x7 x8 x9 x10 x11 x12 x13 x14 x15) (k0_pay353 x0 x1 x2 x3 x4 x5 x6 x7 x8 x9 x10 x11 x12 x13 x14 x15) (k0_pay355 x0 x1 x2 x3 x4 x5 x6 x7 x8 x9 x10 x11 x12 x13 x14 x15) (View.ld x15 r0_24)) (View.ld x15 r0_26) (View.ld x15 r0_27)) (View.ld x15 r0_28)) (View.ld x15 r0_29)) (View.ld x15 r0_30) (View.ld x15 r0_31)) (View.ld x15 r0_32)) W G
    = finG (ogtab x0 x9 x10 x15 (k0_pay344 x0 x1 x2 x3 x4 x5 x6 x7 x8 x9 x10 x11 x12 x13 x14 x15) (k0_pay319 x0 x1 x2 x3 x4 x5 x6 x7 x8 x9 x10 x11 x12 x13 x14 x15) 1) W G := by
  rw [← og1]
  rfl

/-- The output of head 2 of the block. -/
theorem og2 : (addf (F := Ideal) (k0_pay242 (k0_pay235 (k0_pay359 x0 x1 x2 x3 x4 x5 x6 x7 x8 x9 x10 x11 x12 x13 x14 x15) (k0_pay360 x0 x1 x2 x3 x4 x5 x6 x7 x8 x9 x10 x11 x12 x13 x14 x15) (View.ld x9 r0_76)) (k0_pay363 x0 x1 x2 x3 x4 x5 x6 x7 x8 x9 x10 x11 x12 x13 x14 x15) (View.ld x0 r0_88) (k0_pay364 x0 x1 x2 x3 x4 x5 x6 x7 x8 x9 x10 x11 x12 x13 x14 x15) (k0_pay240 (k0_pay359 x0 x1 x2 x3 x4 x5 x6 x7 x8 x9 x10 x11 x12 x13 x14 x15) (k0_pay360 x0 x1 x2 x3 x4 x5 x6 x7 x8 x9 x10 x11 x12 x13 x14 x15) (View.ld x9 r0_76) (View.ld x0 r0_87) (View.ld x0 r0_88) (View.ld x10 r0_58) (View.ld x10 r0_4)) (k0_pay241 (k0_pay359 x0 x1 x2 x3 x4 x5 x6 x7 x8 x9 x10 x11 x12 x13 x14 x15) (k0_pay360 x0 x1 x2 x3 x4 x5 x6 x7 x8 x9 x10 x11 x12 x13 x14 x15) (View.ld x9 r0_76) (View.ld x0 r0_87) (View.ld x0 r0_88)) (View.ld x10 r0_22) (View.ld x10 r0_40)) (addf (k0_pay269 (k0_pay319 x0 x1 x2 x3 x4 x5 x6 x7 x8 x9 x10 x11 x12 x13 x14 x15) (k0_pay365 x0 x1 x2 x3 x4 x5 x6 x7 x8 x9 x10 x11 x12 x13 x14 x15) (k0_pay265 (k0_pay319 x0 x1 x2 x3 x4 x5 x6 x7 x8 x9 x10 x11 x12 x13 x14 x15) (k0_pay365 x0 x1 x2 x3 x4 x5 x6 x7 x8 x9 x10 x11 x12 x13 x14 x15) (k0_pay261 (k0_pay319 x0 x1 x2 x3 x4 x5 x6 x7 x8 x9 x10 x11 x12 x13 x14 x15) (k0_pay365 x0 x1 x2 x3 x4 x5 x6 x7 x8 x9 x10 x11 x12 x13 x14 x15) (k0_pay254 (k0_pay319 x0 x1 x2 x3 x4 x5 x6 x7 x8 x9 x10 x11 x12 x13 x14 x15) (k0_pay365 x0 x1 x2 x3 x4 x5 x6 x7 x8 x9 x10 x11 x12 x13 x14 x15) (k0_pay250 (k0_pay319 x0 x1 x2 x3 x4 x5 x6 x7 x8 x9 x10 x11 x12 x13 x14 x15) (k0_pay365 x0 x1 x2 x3 x4 x5 x6 x7 x8 x9 x10 x11 x12 x13 x14 x15) (k0_pay246 (k0_pay319 x0 x1 x2 x3 x4 x5 x6 x7 x8 x9 x10 x11 x12 x13 x14 x15) (k0_pay361 x0 x1 x2 x3 x4 x5 x6 x7 x8 x9 x10 x11 x12 x13 x14 x15) (k0_pay363 x0 x1 x2 x3 x4 x5 x6 x7 x8 x9 x10 x11 x12 x13 x14 x15) (View.ld x15 r0_42)) (View.ld x15 r0_44)) (View.ld x15 r0_45)) (k0_pay257 (k0_pay365 x0 x1 x2 x3 x4 x5 x6 x7 x8 x9 x10 x11 x12 x13 x14 x15) (View.ld x15 r0_46)) (k0_pay258 (k0_pay319 x0 x1 x2 x3 x4 x5 x6 x7 x8 x9 x10 x11 x12 x13 x14 x15)) (View.ld x15 r0_47)) (View.ld x15 r0_48)) (View.ld x15 r0_49)) (select (broadcastTo S64x256 (shapeCast S64x1 (k0_pay273 (k0_pay319 x0 x1 x2 x3 x4 x5 x6 x7 x8 x9 x10 x11 x12 x13 x14 x15)) shapeCasts_S64x1_S64x1) broadcasts_S64x1_S64x256) (k0_pay272 (k0_pay365 x0 x1 x2 x3 x4 x5 x6 x7 x8 x9 x10 x11 x12 x13 x14 x15) (View.ld x15 r0_50)) (broadcast S64x256 (Scalar.ofBits .f32 0x00000000#32))))) = ogtab x0 x9 x10 x15 (k0_pay344 x0 x1 x2 x3 x4 x5 x6 x7 x8 x9 x10 x11 x12 x13 x14 x15) (k0_pay319 x0 x1 x2 x3 x4 x5 x6 x7 x8 x9 x10 x11 x12 x13 x14 x15) 2 := by
  have hb := bt2 x0 x1 x2 x3 x4 x5 x6 x7 x8 x9 x10 x11 x12 x13 x14 x15
  have hu := ut2 x0 x1 x2 x3 x4 x5 x6 x7 x8 x9 x10 x11 x12 x13 x14 x15
  simp only [k0_pay240, k0_pay241, k0_pay365, hb, hu]
  clear hb hu
  generalize k0_pay344 x0 x1 x2 x3 x4 x5 x6 x7 x8 x9 x10 x11 x12 x13 x14 x15 = L
  generalize hC : k0_pay319 x0 x1 x2 x3 x4 x5 x6 x7 x8 x9 x10 x11 x12 x13 x14 x15 = C
  funext i
  have hi : i = ix2 (i 0) (i 1) := by idx_ext
  rw [hi]
  generalize i 0 = r
  generalize i 1 = v
  pointwise [hC, k0_pay242, k0_pay363, k0_pay238, k0_pay364, k0_pay239, k0_pay269, k0_pay268, k0_pay243, k0_pay265, k0_pay264, k0_pay261, k0_pay260, k0_pay254, k0_pay253, k0_pay250, k0_pay249, k0_pay246, k0_pay245, k0_pay257, k0_pay256, k0_pay258, k0_pay272, k0_pay271, k0_pay273]
  rfl

/-- The handed-on part of head 2 of the block. -/
theorem fing2 (W : Vec Ideal S1x256 .f32) (G : Vec Ideal S64x256 .f32) : k0_pay277 (k0_pay275 (k0_pay242 (k0_pay235 (k0_pay359 x0 x1 x2 x3 x4 x5 x6 x7 x8 x9 x10 x11 x12 x13 x14 x15) (k0_pay360 x0 x1 x2 x3 x4 x5 x6 x7 x8 x9 x10 x11 x12 x13 x14 x15) (View.ld x9 r0_76)) (k0_pay363 x0 x1 x2 x3 x4 x5 x6 x7 x8 x9 x10 x11 x12 x13 x14 x15) (View.ld x0 r0_88) (k0_pay364 x0 x1 x2 x3 x4 x5 x6 x7 x8 x9 x10 x11 x12 x13 x14 x15) (k0_pay240 (k0_pay359 x0 x1 x2 x3 x4 x5 x6 x7 x8 x9 x10 x11 x12 x13 x14 x15) (k0_pay360 x0 x1 x2 x3 x4 x5 x6 x7 x8 x9 x10 x11 x12 x13 x14 x15) (View.ld x9 r0_76) (View.ld x0 r0_87) (View.ld x0 r0_88) (View.ld x10 r0_58) (View.ld x10 r0_4)) (k0_pay241 (k0_pay359 x0 x1 x2 x3 x4 x5 x6 x7 x8 x9 x10 x11 x12 x13 x14 x15) (k0_pay360 x0 x1 x2 x3 x4 x5 x6 x7 x8 x9 x10 x11 x12 x13 x14 x15) (View.ld x9 r0_76) (View.ld x0 r0_87) (View.ld x0 r0_88)) (View.ld x10 r0_22) (View.ld x10 r0_40)) (k0_pay269 (k0_pay319 x0 x1 x2 x3 x4 x5 x6 x7 x8 x9 x10 x11 x12 x13 x14 x15) (k0_pay365 x0 x1 x2 x3 x4 x5 x6 x7 x8 x9 x10 x11 x12 x13 x14 x15) (k0_pay265 (k0_pay319 x0 x1 x2 x3 x4 x5 x6 x7 x8 x9 x10 x11 x12 x13 x14 x15) (k0_pay365 x0 x1 x2 x3 x4 x5 x6 x7 x8 x9 x10 x11 x12 x13 x14 x15) (k0_pay261 (k0_pay319 x0 x1 x2 x3 x4 x5 x6 x7 x8 x9 x10 x11 x12 x13 x14 x15) (k0_pay365 x0 x1 x2 x3 x4 x5 x6 x7 x8 x9 x10 x11 x12 x13 x14 x15) (k0_pay254 (k0_pay319 x0 x1 x2 x3 x4 x5 x6 x7 x8 x9 x10 x11 x12 x13 x14 x15) (k0_pay365 x0 x1 x2 x3 x4 x5 x6 x7 x8 x9 x10 x11 x12 x13 x14 x15) (k0_pay250 (k0_pay319 x0 x1 x2 x3 x4 x5 x6 x7 x8 x9 x10 x11 x12 x13 x14 x15) (k0_pay365 x0 x1 x2 x3 x4 x5 x6 x7 x8 x9 x10 x11 x12 x13 x14 x15) (k0_pay246 (k0_pay319 x0 x1 x2 x3 x4 x5 x6 x7 x8 x9 x10 x11 x12 x13 x14 x15) (k0_pay361 x0 x1 x2 x3 x4 x5 x6 x7 x8 x9 x10 x11 x12 x13 x14 x15) (k0_pay363 x0 x1 x2 x3 x4 x5 x6 x7 x8 x9 x10 x11 x12 x13 x14 x15) (View.ld x15 r0_42)) (View.ld x15 r0_44)) (View.ld x15 r0_45)) (k0_pay257 (k0_pay365 x0 x1 x2 x3 x4 x5 x6 x7 x8 x9 x10 x11 x12 x13 x14 x15) (View.ld x15 r0_46)) (k0_pay258 (k0_pay319 x0 x1 x2 x3 x4 x5 x6 x7 x8 x9 x10 x11 x12 x13 x14 x15)) (View.ld x15 r0_47)) (View.ld x15 r0_48)) (View.ld x15 r0_49)) (k0_pay272 (k0_pay365 x0 x1 x2 x3 x4 x5 x6 x7 x8 x9 x10 x11 x12 x13 x14 x15) (View.ld x15 r0_50)) (k0_pay273 (k0_pay319 x0 x1 x2 x3 x4 x5 x6 x7 x8 x9 x10 x11 x12 x13 x14 x15)) W) G (k0_pay276 G)
    = finG (ogtab x0 x9 x10 x15 (k0_pay344 x0 x1 x2 x3 x4 x5 x6 x7 x8 x9 x10 x11 x12 x13 x14 x15) (k0_pay319 x0 x1 x2 x3 x4 x5 x6 x7 x8 x9 x10 x11 x12 x13 x14 x15) 2) W G := by
  rw [← og2]
  rfl

/-- The output of head 3 of the block. -/
theorem og3 : (k0_pay317 (k0_pay319 x0 x1 x2 x3 x4 x5 x6 x7 x8 x9 x10 x11 x12 x13 x14 x15) (k0_pay370 x0 x1 x2 x3 x4 x5 x6 x7 x8 x9 x10 x11 x12 x13 x14 x15) (k0_pay371 x0 x1 x2 x3 x4 x5 x6 x7 x8 x9 x10 x11 x12 x13 x14 x15) (k0_pay375 x0 x1 x2 x3 x4 x5 x6 x7 x8 x9 x10 x11 x12 x13 x14 x15) (View.ld x15 r0_68)) = ogtab x0 x9 x10 x15 (k0_pay344 x0 x1 x2 x3 x4 x5 x6 x7 x8 x9 x10 x11 x12 x13 x14 x15) (k0_pay319 x0 x1 x2 x3 x4 x5 x6 x7 x8 x9 x10 x11 x12 x13 x14 x15) 3 := by
  have hb := bt3 x0 x1 x2 x3 x4 x5 x6 x7 x8 x9 x10 x11 x12 x13 x14 x15
  have hu := ut3 x0 x1 x2 x3 x4 x5 x6 x7 x8 x9 x10 x11 x12 x13 x14 x15
  simp only [k0_pay370, k0_pay284, k0_pay285, k0_pay371, k0_pay375, k0_pay373, k0_pay374, hb, hu]
  clear hb hu
  generalize k0_pay344 x0 x1 x2 x3 x4 x5 x6 x7 x8 x9 x10 x11 x12 x13 x14 x15 = L
  generalize hC : k0_pay319 x0 x1 x2 x3 x4 x5 x6 x7 x8 x9 x10 x11 x12 x13 x14 x15 = C
  funext i
  have hi : i = ix2 (i 0) (i 1) := by idx_ext
  rw [hi]
  generalize i 0 = r
  generalize i 1 = v
  pointwise [hC, k0_pay317, k0_pay315, k0_pay286, k0_pay368, k0_pay281, k0_pay369, k0_pay282, k0_pay283, k0_pay287, k0_pay311, k0_pay310, k0_pay307, k0_pay306, k0_pay302, k0_pay301, k0_pay297, k0_pay296, k0_pay293, k0_pay292, k0_pay289, k0_pay290, k0_pay304]
  rfl

/-- The handed-on part of head 3 of the block. -/
theorem fing3 (W : Vec Ideal S1x256 .f32) (G : Vec Ideal S64x256 .f32) : k0_pay1 (k0_pay317 (k0_pay319 x0 x1 x2 x3 x4 x5 x6 x7 x8 x9 x10 x11 x12 x13 x14 x15) (k0_pay370 x0 x1 x2 x3 x4 x5 x6 x7 x8 x9 x10 x11 x12 x13 x14 x15) (k0_pay371 x0 x1 x2 x3 x4 x5 x6 x7 x8 x9 x10 x11 x12 x13 x14 x15) (k0_pay375 x0 x1 x2 x3 x4 x5 x6 x7 x8 x9 x10 x11 x12 x13 x14 x15) (View.ld x15 r0_68)) (k0_pay318 (k0_pay319 x0 x1 x2 x3 x4 x5 x6 x7 x8 x9 x10 x11 x12 x13 x14 x15) (k0_pay370 x0 x1 x2 x3 x4 x5 x6 x7 x8 x9 x10 x11 x12 x13 x14 x15) (k0_pay371 x0 x1 x2 x3 x4 x5 x6 x7 x8 x9 x10 x11 x12 x13 x14 x15) (k0_pay375 x0 x1 x2 x3 x4 x5 x6 x7 x8 x9 x10 x11 x12 x13 x14 x15) (View.ld x15 r0_68)) (Scalar.ofBits .f32 0x43800000#32) W G
    = finG (ogtab x0 x9 x10 x15 (k0_pay344 x0 x1 x2 x3 x4 x5 x6 x7 x8 x9 x10 x11 x12 x13 x14 x15) (k0_pay319 x0 x1 x2 x3 x4 x5 x6 x7 x8 x9 x10 x11 x12 x13 x14 x15) 3) W G := by
  rw [← og3]
  rfl

end Cert.KernelIdeal.RefValue
end
-- ==== Proof.MixerMix.lean ====
module

public import proofs.«01_k».proof.Proof.MixerMixG
public import proofs.«01_k».proof.Proof.MixerGate

@[expose] public section

set_option maxRecDepth 16384

noncomputable section

open Idealize.ShloMosaic Idealize.ShloMosaic.TcCoe Idealize.SL.Sem
open Idealize.ShloMosaic.Pipeline (Dat)

/-! What a block hands on of all heads. -/
namespace Cert.KernelIdeal.RefValue

open Cert.KernelIdeal Cert.KernelIdeal.Gen

variable (x0 : Vec Ideal S64x6400 .f32) (x1 x2 : Vec Ideal S64x128 .f32) (x3 : Vec Ideal S4x64x64 .f32) (x4 : Vec Ideal S4x64x256 .f32)
  (x5 : Vec Ideal S4x64x128 .f32) (x6 : Vec Ideal S4x128x256 .f32) (x7 : Vec Ideal S128x512 .bf16) (x8 : Vec Ideal S1x512 .f32)
  (x9 : Vec Ideal S512x64 .bf16) (x10 : Vec Ideal S4x64x64 .f32) (x11 x12 x13 : Vec Ideal S1x1024 .f32) (x14 x15 : Vec Ideal S8x4x128x256 .f32)

/-- A retention head's part at an entry given by its coordinates. -/
theorem pieceR (O : FVec Ideal S64x256 .f32) (W B : Vec Ideal S1x256 .f32) (G : Vec Ideal S64x256 .f32) (y : S64x256.Idx) (r : Fin 64) (v : Fin 256)
    (h0 : (y 0).val = r.val) (h1 : (y 1).val = v.val) (o w b g : Fin 256 → EReal) (hO : ∀ v, O (ix2 r v) = o v) (hW : ∀ v, W (ix2 0 v) = w v)
    (hB : ∀ v, B (ix2 0 v) = b v) (hG : ∀ v, G (ix2 r v) = g v) : finR O W B G y = centred o w b g v := by
  have hy : y = ix2 r v := by
    have e0 : y 0 = r := Fin.ext h0
    have e1 : y 1 = v := Fin.ext h1
    rw [← e0, ← e1]
    idx_ext
  rw [hy, finR_at, funext hO, funext hW, funext hB, funext hG]

/-- A gated head's part at an entry given by its coordinates. -/
theorem pieceG (O : FVec Ideal S64x256 .f32) (W : Vec Ideal S1x256 .f32) (G : Vec Ideal S64x256 .f32) (y : S64x256.Idx) (r : Fin 64) (v : Fin 256)
    (h0 : (y 0).val = r.val) (h1 : (y 1).val = v.val) (o w g : Fin 256 → EReal) (hO : ∀ v, O (ix2 r v) = o v) (hW : ∀ v, W (ix2 0 v) = w v)
    (hG : ∀ v, G (ix2 r v) = g v) : finG O W G y = scaledBy o w g v := by
  have hy : y = ix2 r v := by
    have e0 : y 0 = r := Fin.ext h0
    have e1 : y 1 = v := Fin.ext h1
    rw [← e0, ← e1]
    idx_ext
  rw [hy, finG_at, funext hO, funext hW, funext hG]

/-- The handed-on block at an entry of a retention head. -/
theorem mixR_at (y : S64x2048.Idx) (r : Fin 64) (h : Fin 4) (v : Fin 256) (k0 : (y 0).val = r.val) (k1 : (y 1).val = 256 * h.val + v.val) :
    out0_16 x0 x1 x2 x3 x4 x5 x6 x7 x8 x9 x10 x11 x12 x13 x14 x15 y = centred (fun v => otab x0 x1 x2 x3 x4 x14 (k0_pay319 x0 x1 x2 x3 x4 x5 x6 x7 x8 x9 x10 x11 x12 x13 x14 x15) h (ix2 r v))
      (fun v => x11 (ix2 0 ⟨256 * h.val + v.val, by omega⟩)) (fun v => x12 (ix2 0 ⟨256 * h.val + v.val, by omega⟩))
      (fun v => x0 (ix2 r (colOf 2048 (by omega) h v))) v := by
  unfold out0_16
  rw [fin0, fin1, fin2, fin3, fing0, fing1, fing2, fing3]
  generalize otab x0 x1 x2 x3 x4 x14 (k0_pay319 x0 x1 x2 x3 x4 x5 x6 x7 x8 x9 x10 x11 x12 x13 x14 x15) = O
  generalize ogtab x0 x9 x10 x15 (k0_pay344 x0 x1 x2 x3 x4 x5 x6 x7 x8 x9 x10 x11 x12 x13 x14 x15) (k0_pay319 x0 x1 x2 x3 x4 x5 x6 x7 x8 x9 x10 x11 x12 x13 x14 x15) = U
  canon_tiles y hh
  · exact absurd k1 (by omega)
  · exact absurd k1 (by omega)
  · exact absurd k1 (by omega)
  · exact absurd k1 (by omega)
  · obtain rfl : h = 3 := Fin.ext (by show h.val = 3; omega)
    exact pieceR _ _ _ _ y r v (by omega) (by omega) _ _ _ _ (fun _ => rfl) (fun _ => by pointwise <;> rfl) (fun _ => by pointwise <;> rfl) (fun _ => by pointwise <;> rfl)
  · obtain rfl : h = 2 := Fin.ext (by show h.val = 2; omega)
    exact pieceR _ _ _ _ y r v (by omega) (by omega) _ _ _ _ (fun _ => rfl) (fun _ => by pointwise <;> rfl) (fun _ => by pointwise <;> rfl) (fun _ => by pointwise <;> rfl)
  · obtain rfl : h = 1 := Fin.ext (by show h.val = 1; omega)
    exact pieceR _ _ _ _ y r v (by omega) (by omega) _ _ _ _ (fun _ => rfl) (fun _ => by pointwise <;> rfl) (fun _ => by pointwise <;> rfl) (fun _ => by pointwise <;> rfl)
  · obtain rfl : h = 0 := Fin.ext (by show h.val = 0; omega)
    exact pieceR _ _ _ _ y r v (by omega) (by omega) _ _ _ _ (fun _ => rfl) (fun _ => by pointwise <;> rfl) (fun _ => by pointwise <;> rfl) (fun _ => by pointwise <;> rfl)

/-- The handed-on block at an entry of a gated head. -/
theorem mixG_at (y : S64x2048.Idx) (r : Fin 64) (h : Fin 4) (v : Fin 256) (k0 : (y 0).val = r.val) (k1 : (y 1).val = 1024 + 256 * h.val + v.val) :
    out0_16 x0 x1 x2 x3 x4 x5 x6 x7 x8 x9 x10 x11 x12 x13 x14 x15 y = scaledBy (fun v => ogtab x0 x9 x10 x15 (k0_pay344 x0 x1 x2 x3 x4 x5 x6 x7 x8 x9 x10 x11 x12 x13 x14 x15) (k0_pay319 x0 x1 x2 x3 x4 x5 x6 x7 x8 x9 x10 x11 x12 x13 x14 x15) h (ix2 r v))
      (fun v => x13 (ix2 0 ⟨256 * h.val + v.val, by omega⟩))
      (fun v => x0 (ix2 r (colOf 5120 (by omega) h v))) v := by
  unfold out0_16
  rw [fin0, fin1, fin2, fin3, fing0, fing1, fing2, fing3]
  generalize otab x0 x1 x2 x3 x4 x14 (k0_pay319 x0 x1 x2 x3 x4 x5 x6 x7 x8 x9 x10 x11 x12 x13 x14 x15) = O
  generalize ogtab x0 x9 x10 x15 (k0_pay344 x0 x1 x2 x3 x4 x5 x6 x7 x8 x9 x10 x11 x12 x13 x14 x15) (k0_pay319 x0 x1 x2 x3 x4 x5 x6 x7 x8 x9 x10 x11 x12 x13 x14 x15) = U
  canon_tiles y hh
  · obtain rfl : h = 3 := Fin.ext (by show h.val = 3; omega)
    exact pieceG _ _ _ y r v (by omega) (by omega) _ _ _ (fun _ => rfl) (fun _ => by pointwise <;> rfl) (fun _ => by pointwise <;> rfl)
  · obtain rfl : h = 2 := Fin.ext (by show h.val = 2; omega)
    exact pieceG _ _ _ y r v (by omega) (by omega) _ _ _ (fun _ => rfl) (fun _ => by pointwise <;> rfl) (fun _ => by pointwise <;> rfl)
  · obtain rfl : h = 1 := Fin.ext (by show h.val = 1; omega)
    exact pieceG _ _ _ y r v (by omega) (by omega) _ _ _ (fun _ => rfl) (fun _ => by pointwise <;> rfl) (fun _ => by pointwise <;> rfl)
  · obtain rfl : h = 0 := Fin.ext (by show h.val = 0; omega)
    exact pieceG _ _ _ y r v (by omega) (by omega) _ _ _ (fun _ => rfl) (fun _ => by pointwise <;> rfl) (fun _ => by pointwise <;> rfl)
  · exact absurd k1 (by omega)
  · exact absurd k1 (by omega)
  · exact absurd k1 (by omega)
  · exact absurd k1 (by omega)

end Cert.KernelIdeal.RefValue
end
-- ==== Proof.MixerMixPoint.lean ====
module

public import proofs.«01_k».proof.Proof.MixerMix
public import proofs.«01_k».proof.Proof.MixerPoint

@[expose] public section

set_option maxRecDepth 16384

noncomputable section

open Idealize.ShloMosaic Idealize.ShloMosaic.TcCoe Idealize.SL.Sem

/-! A block's outputs, sequence by sequence. -/
namespace Cert.KernelIdeal.RefValue

open Cert.KernelIdeal Cert.KernelIdeal.Gen

variable (x0 : Vec Ideal S64x6400 .f32) (x7 : Vec Ideal S128x512 .bf16) (x8 : Vec Ideal S1x512 .f32)
  (x11 x12 x13 : Vec Ideal S1x1024 .f32) (x14 x15 : Vec Ideal S8x4x128x256 .f32)

variable (q : Fin 8) (P : Fin 8 → Fin 6400 → EReal) (S0 G0 : Fin 4 → Fin 128 → Fin 256 → EReal)
  (W2 : Fin 16 → Fin 512 → EReal) (B2 : Fin 512 → EReal) (gw gb gg : Fin 4 → Fin 256 → EReal)

/-- A row meets the state of its own sequence only. -/
theorem cross_at (C : IVec S64x1 32) (hC : ∀ r, C (ix2 r 0) = BitVec.ofNat 32 (r.val / 8)) (Q : Fin 4 → Fin 64 → Fin 128 → EReal)
    (S : Vec Ideal S8x4x128x256 .f32) (h : Fin 4) (l : Fin 8) (v : Fin 256) :
    cross C Q S h (rowOf q l) v = ∑ d : Fin 128, Q h (rowOf q l) d * S (ix4 q h d v) := by
  have hp : ∀ n : Fin 8, pick C Q S h (rowOf q l) v n = if n = q then ∑ d : Fin 128, Q h (rowOf q l) d * S (ix4 n h d v) else 0 := by
    intro n
    unfold pick
    rw [hC, rowOf_div, sel_eq q.isLt n.isLt]
    by_cases e : n = q
    · rw [if_pos e, if_pos (congrArg Fin.val e.symm)]
    · rw [if_neg e, if_neg (fun h => e (Fin.ext h.symm))]
  have hs : cross C Q S h (rowOf q l) v = ∑ n : Fin 8, pick C Q S h (rowOf q l) v n := (Fin.sum_univ_eight _).symm
  rw [hs, Finset.sum_congr rfl fun n _ => hp n, Finset.sum_ite_eq' Finset.univ q, if_pos (Finset.mem_univ q)]

/-- A block's retention output is the sequence's. -/
theorem robs_at (C : IVec S64x1 32) (hC : ∀ r, C (ix2 r 0) = BitVec.ofNat 32 (r.val / 8))
    (hP : ∀ l e, x0 (ix2 (rowOf q l) e) = P l e) (hS : ∀ h d v, x14 (ix4 q h d v) = S0 h d v) (h : Fin 4) (l : Fin 8) (v : Fin 256) :
    otab x0 cosines sines dtab qtab x14 C h (ix2 (rowOf q l) v) = robs P S0 h l v := by
  show (∑ j : Fin 64, ((∑ d : Fin 128, qrot x0 cosines sines h (rowOf q l) d * (turn x0 cosines sines (512 + 128 * h.val) (by omega) j d * Ideal.ofBits .f32 0x3DB504F3#32)) * dtab (ix3 h (rowOf q l) j))
      * x0 (ix2 j ⟨1024 + 256 * h.val + v.val, by omega⟩))
    + cross C (qrot x0 cosines sines) x14 h (rowOf q l) v * qtab (ix3 h (rowOf q l) v) = _
  have hq : ∀ d, qrot x0 cosines sines h (rowOf q l) d = rq P h l d := fun d => turn_at x0 q P hP _ _ l d
  rw [cross_at q C hC, qtab_at, rowOf_fin]
  simp only [hq, hS]
  unfold robs
  refine congrArg (· + _) (sum_seq q _ _ (fun l' => ?_) (fun q' l' hn => ?_))
  · rw [dtab_at, rowOf_div, rowOf_div, if_pos rfl, rowOf_fin, rowOf_fin, hP]
    simp only [turn_at x0 q P hP]
    rfl
  · rw [dtab_at, rowOf_div, rowOf_div, if_neg (fun e => hn (Fin.ext e.symm)), mul_zero, zero_mul]

/-- Of two positions of a sequence the later takes the earlier through exactly one table, and the earlier takes nothing of the later. -/
theorem pairs_once : ∀ l l' : Fin 8, (¬ l' ≤ l ∧ pairs 0 l l' = false ∧ pairs 1 l l' = false ∧ pairs 2 l l' = false ∧ pairs 3 l l' = false)
    ∨ (l' ≤ l ∧ pairs 0 l l' = true ∧ pairs 1 l l' = false ∧ pairs 2 l l' = false ∧ pairs 3 l l' = false)
    ∨ (l' ≤ l ∧ pairs 0 l l' = false ∧ pairs 1 l l' = true ∧ pairs 2 l l' = false ∧ pairs 3 l l' = false)
    ∨ (l' ≤ l ∧ pairs 0 l l' = false ∧ pairs 1 l l' = false ∧ pairs 2 l l' = true ∧ pairs 3 l l' = false)
    ∨ (l' ≤ l ∧ pairs 0 l l' = false ∧ pairs 1 l l' = false ∧ pairs 2 l l' = false ∧ pairs 3 l l' = true ∧ l = l') := by decide +kernel

/-- The products decayed to a point between two positions are the products decayed over the way from one to the other. -/
theorem between_at (L : FVec Ideal S64x512 .f32) (hP : ∀ l e, x0 (ix2 (rowOf q l) e) = P l e) (hL : ∀ l e, L (ix2 (rowOf q l) e) = decay P W2 B2 l e)
    (hfin : ∀ l e, IsReal (decay P W2 B2 l e)) (h : Fin 4) (l l' : Fin 8) (κ : Fin 4) (hκ : κ.val < 3) (hp : pairs κ l l' = true) (o o' : ℕ)
    (ho : o + 64 ≤ 512) (ho' : o' + 64 ≤ 512) (eo : o = 128 + 128 * κ.val) (eo' : o' = 192 + 128 * κ.val) :
    between x0 sumsTab L h (rowOf q l) (rowOf q l') o o' ho ho'
      = ∑ d : Fin 128, gq P h l d * gk P h l' d * Ideal.exp (part P W2 B2 0 l (feat h d) - part P W2 B2 0 l' (feat h d)) := by
  unfold between
  refine Finset.sum_congr rfl fun d _ => ?_
  rw [btab_at q P W2 B2 L hL hfin ⟨2 + 2 * κ.val, by omega⟩ l h d _ (by show o + (rowOf q l).val = 64 * (2 + 2 * κ.val) + (rowOf q l).val; omega),
    btab_at q P W2 B2 L hL hfin ⟨3 + 2 * κ.val, by omega⟩ l' h d _ (by show o' + (rowOf q l').val = 64 * (3 + 2 * κ.val) + (rowOf q l').val; omega),
    mul_mul_mul_comm, part_between P W2 B2 hfin κ hκ l l' hp]
  exact congrArg (· * _) (congrArg₂ (· * ·) (congrArg (· * _) (hP l _)) (hP l' _))

/-- What a row takes of a row of its own sequence. -/
theorem score_at (L : FVec Ideal S64x512 .f32) (hP : ∀ l e, x0 (ix2 (rowOf q l) e) = P l e) (hL : ∀ l e, L (ix2 (rowOf q l) e) = decay P W2 B2 l e)
    (hfin : ∀ l e, IsReal (decay P W2 B2 l e)) (h : Fin 4) (l l' : Fin 8) :
    stab x0 sumsTab pairsTab L h (rowOf q l) (rowOf q l') = score P W2 B2 h l l' := by
  have hb := fun κ hκ hp o o' ho ho' eo eo' => between_at x0 q P W2 B2 L hP hL hfin h l l' κ hκ hp o o' ho ho' eo eo'
  unfold stab score
  simp only [pairsTab_at, true_and]
  rcases pairs_once l l' with ⟨hl, e0, e1, e2, e3⟩ | ⟨hl, e0, e1, e2, e3⟩ | ⟨hl, e0, e1, e2, e3⟩ | ⟨hl, e0, e1, e2, e3⟩ | ⟨hl, e0, e1, e2, e3, hll⟩
  · simp only [e0, e1, e2, e3, hl, Bool.false_eq_true, if_false, mul_zero, add_zero]
  · rw [hb 0 (by decide) e0 128 192 _ _ rfl rfl]
    simp only [e0, e1, e2, e3, hl, Bool.false_eq_true, if_false, if_true, mul_zero, add_zero, zero_add, mul_one]
  · rw [hb 1 (by decide) e1 256 320 _ _ rfl rfl]
    simp only [e0, e1, e2, e3, hl, Bool.false_eq_true, if_false, if_true, mul_zero, add_zero, zero_add, mul_one]
  · rw [hb 2 (by decide) e2 384 448 _ _ rfl rfl]
    simp only [e0, e1, e2, e3, hl, Bool.false_eq_true, if_false, if_true, mul_zero, add_zero, zero_add, mul_one]
  · subst hll
    simp only [e0, e1, e2, e3, hl, Bool.false_eq_true, if_false, if_true, mul_zero, add_zero, zero_add, mul_one]
    obtain ⟨a, ha⟩ := real_of_fin P W2 B2 hfin
    refine Finset.sum_congr rfl fun d _ => ?_
    rw [part_real P W2 B2 a ha, EReal.sub_self (EReal.coe_ne_top _) (EReal.coe_ne_bot _)]
    rw [show Ideal.exp (0 : EReal) = 1 from by rw [← EReal.coe_zero, Ideal.exp_coe, Real.exp_zero, EReal.coe_one], mul_one]
    exact congrArg₂ (· * ·) (congrArg (· * _) (hP l _)) (hP l _)

/-- A row takes nothing of another sequence's rows. -/
theorem score_other (L : FVec Ideal S64x512 .f32) (h : Fin 4) (l l' q' : Fin 8) (hq : q' ≠ q) :
    stab x0 sumsTab pairsTab L h (rowOf q l) (rowOf q' l') = 0 := by
  unfold stab
  simp only [pairsTab_at, hq, false_and, if_false, mul_zero, add_zero]

/-- A block's gated output is the sequence's, where its log-decays are finite. -/
theorem gobs_at (C : IVec S64x1 32) (hC : ∀ r, C (ix2 r 0) = BitVec.ofNat 32 (r.val / 8)) (L : FVec Ideal S64x512 .f32)
    (hP : ∀ l e, x0 (ix2 (rowOf q l) e) = P l e) (hG : ∀ h d v, x15 (ix4 q h d v) = G0 h d v) (hL : ∀ l e, L (ix2 (rowOf q l) e) = decay P W2 B2 l e)
    (hfin : ∀ l e, IsReal (decay P W2 B2 l e)) (h : Fin 4) (l : Fin 8) (v : Fin 256) :
    ogtab x0 sumsTab pairsTab x15 L C h (ix2 (rowOf q l) v) = gobs P G0 W2 B2 h l v := by
  show (∑ j : Fin 64, stab x0 sumsTab pairsTab L h (rowOf q l) j * x0 (ix2 j ⟨4096 + 256 * h.val + v.val, by omega⟩))
    + cross C (qdec x0 sumsTab L) x15 h (rowOf q l) v = _
  have hu : ∀ d, utab sumsTab L h (ix2 (rowOf q l) d) = part P W2 B2 0 l (feat h d) := fun d =>
    btab_at q P W2 B2 L hL hfin 0 l h d _ (by show (rowOf q l).val = 64 * 0 + (rowOf q l).val; omega)
  have hq : ∀ d, qdec x0 sumsTab L h (rowOf q l) d = gq P h l d * Ideal.exp (part P W2 B2 0 l (feat h d)) := by
    intro d
    unfold qdec
    rw [hu]
    exact congrArg (· * _) (congrArg (· * _) (hP l _))
  rw [cross_at q C hC]
  simp only [hq, hG]
  unfold gobs
  refine congrArg (· + _) (sum_seq q _ _ (fun l' => ?_) (fun q' l' hn => ?_))
  · rw [score_at x0 q P W2 B2 L hP hL hfin, hP]
    rfl
  · rw [score_other x0 q L h l l' q' hn, zero_mul]

end Cert.KernelIdeal.RefValue
end
-- ==== Proof.MixerMixFinal.lean ====
module

public import proofs.«01_k».proof.Proof.MixerMixPoint
public import proofs.«01_k».proof.Proof.MixerFinal

@[expose] public section

set_option maxRecDepth 16384

noncomputable section

open Idealize.ShloMosaic Idealize.ShloMosaic.TcCoe Idealize.SL.Sem
open Idealize.ShloMosaic.Pipeline (Dat)

/-! The array the call hands on. -/
namespace Cert.KernelIdeal.RefValue

open Cert.KernelIdeal Cert.KernelIdeal.Gen

variable (m : (ℓ : Loc nD τ sig) → Buf (Elt Ideal) ℓ)

/-- All that the call hands on. -/
def mixOf (c : Dev nD) : FVec Ideal S1024x2048 .bf16 := fun i =>
  mixAt (rows m c) (ret0 m c) (gla0 m c) (gateW m c) (gateB m c) (normW m c) (normB m c) (normG m c) (i 0) (i 1)

/-- An entry of a retention head that a grid point writes. -/
theorem point16R (c : Dev nD) (t : Fin cfg0.N) (b : Fin 128) (q l : Fin 8) (h : Fin 4) (v : Fin 256) (y : S64x2048.Idx)
    (hb : b.val = 8 * t.val + q.val) (h0 : (y 0).val = (rowOf q l).val) (h1 : (y 1).val = 256 * h.val + v.val) :
    out0_16 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t) (iblk m c 15 t) y
      = mixR (rows m c) (ret0 m c) (normW m c) (normB m c) b l h v := by
  rw [mixR_at _ _ _ _ _ _ _ _ _ _ _ _ _ _ _ _ y (rowOf q l) h v h0 h1]
  unfold mixR
  have hC := rowseq (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t) (iblk m c 15 t)
  generalize k0_pay319 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t) (iblk m c 15 t) = C at hC ⊢
  rw [bcosines, bsines, bdtab, bqtab]
  have e1 := fun v => robs_at (iblk m c 0 t) (iblk m c 14 t) q (rows m c b) (ret0 m c b) C hC (fun l e => brows m c t q l b hb e) (fun h d v => bret0 m c t q b hb h d v) h l v
  have e2 := fun v => bnormW m c t h v
  have e3 := fun v => bnormB m c t h v
  have e4 := fun v => brows m c t q l b hb (colOf 2048 (by omega) h v)
  rw [funext e1, funext e2, funext e3, funext e4]

/-- An entry of a gated head that a grid point writes. -/
theorem point16G (c : Dev nD) (hfin : ∀ b l e, IsReal (decay (rows m c b) (gateW m c) (gateB m c) l e))
    (t : Fin cfg0.N) (b : Fin 128) (q l : Fin 8) (h : Fin 4) (v : Fin 256) (y : S64x2048.Idx)
    (hb : b.val = 8 * t.val + q.val) (h0 : (y 0).val = (rowOf q l).val) (h1 : (y 1).val = 1024 + 256 * h.val + v.val) :
    out0_16 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t) (iblk m c 15 t) y
      = mixG (rows m c) (gla0 m c) (gateW m c) (gateB m c) (normG m c) b l h v := by
  rw [mixG_at _ _ _ _ _ _ _ _ _ _ _ _ _ _ _ _ y (rowOf q l) h v h0 h1]
  unfold mixG
  have hC := rowseq (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t) (iblk m c 15 t)
  have hL := decay_at (iblk m c 0 t) (iblk m c 7 t) (iblk m c 8 t) (iblk m c 11 t) (iblk m c 12 t) (iblk m c 13 t) (iblk m c 14 t) (iblk m c 15 t)
      q (rows m c b) (gateW m c) (gateB m c) (iblk m c 1 t) (iblk m c 2 t) (iblk m c 3 t) (iblk m c 4 t) (iblk m c 5 t) (iblk m c 6 t) (iblk m c 9 t) (iblk m c 10 t)
      (fun l e => brows m c t q l b hb e) (fun k e => bgateW m c t k e) (fun e => bgateB m c t e)
  generalize k0_pay319 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t) (iblk m c 15 t) = C at hC ⊢
  generalize k0_pay344 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t) (iblk m c 15 t) = L at hL ⊢
  rw [bsumsTab, bpairsTab]
  have e1 := fun v => gobs_at (iblk m c 0 t) (iblk m c 15 t) q (rows m c b) (gla0 m c b) (gateW m c) (gateB m c) C hC L (fun l e => brows m c t q l b hb e)
    (fun h d v => bgla0 m c t q b hb h d v) hL (hfin b) h l v
  have e2 := fun v => bnormG m c t h v
  have e4 := fun v => brows m c t q l b hb (colOf 5120 (by omega) h v)
  rw [funext e1, funext e2, funext e4]

/-- An entry that a grid point writes. -/
theorem point16 (c : Dev nD) (hfin : ∀ b l e, IsReal (decay (rows m c b) (gateW m c) (gateB m c) l e))
    (t : Fin cfg0.N) (r : Fin 64) (e : Fin 2048) (i : S1024x2048.Idx) (h0 : (i 0).val = 64 * t.val + r.val) (h1 : (i 1).val = e.val) :
    out0_16 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t) (iblk m c 15 t) (ix2 r e)
      = mixOf m c i := by
  have ht : t.val < 16 := t.isLt
  have e0 : r.val = (rowOf ⟨r.val / 8, by omega⟩ ⟨r.val % 8, by omega⟩).val := by show r.val = 8 * (r.val / 8) + r.val % 8; omega
  have e2 : (i 0).val = 8 * (8 * t.val + r.val / 8) + r.val % 8 := by omega
  by_cases he : e.val < 1024
  · refine (point16R m c t ⟨8 * t.val + r.val / 8, by omega⟩ ⟨r.val / 8, by omega⟩ ⟨r.val % 8, by omega⟩ ⟨e.val / 256, by omega⟩ ⟨e.val % 256, by omega⟩ (ix2 r e) rfl e0
      (by show e.val = 256 * (e.val / 256) + e.val % 256; omega)).trans ?_
    exact (mixAt_ret _ _ _ _ _ _ _ _ _ _ _ _ _ _ e2 (by show (i 1).val = 256 * (e.val / 256) + e.val % 256; omega)).symm
  · refine (point16G m c hfin t ⟨8 * t.val + r.val / 8, by omega⟩ ⟨r.val / 8, by omega⟩ ⟨r.val % 8, by omega⟩ ⟨(e.val - 1024) / 256, by omega⟩ ⟨(e.val - 1024) % 256, by omega⟩ (ix2 r e) rfl e0
      (by show e.val = 1024 + 256 * ((e.val - 1024) / 256) + (e.val - 1024) % 256; omega)).trans ?_
    exact (mixAt_gla _ _ _ _ _ _ _ _ _ _ _ _ _ _ e2 (by show (i 1).val = 1024 + 256 * ((e.val - 1024) / 256) + (e.val - 1024) % 256; omega)).symm

/-- The array the call hands on, where the log-decays are finite. -/
theorem final16 (c : Dev nD) (hfin : ∀ b l e, IsReal (decay (rows m c b) (gateW m c) (gateB m c) l e)) :
    (dats m 0 c).arrAt 16 cfg0.N = mixOf m c := by
  refine (dats m 0 c).arrAt_eq_of_covers 16 _ (by decide +kernel) fun t _ y => ?_
  blk_simp
  rw [after0_16]
  have hy : y = ix2 (y 0) (y 1) := by idx_ext
  rw [hy]
  refine point16 m c hfin t (y 0) (y 1) _ ?_ ?_ <;> (blk_simp [idx t]; try omega)

end Cert.KernelIdeal.RefValue
end
-- ==== Proof.MixerClaim.lean ====
module

public import proofs.«01_k».proof.Defs
public import proofs.«01_k».proof.Proof.MixerRef
public import proofs.«01_k».proof.Proof.MixerMixFinal
public import Idealize.ShloMosaic.Lib.Quiescent
public import Idealize.ShloMosaic.Lib.ReduceAll

@[expose] public section

set_option maxRecDepth 16384

noncomputable section

open Idealize.ShloMosaic Idealize.ShloMosaic.TcCoe Idealize.SL.Sem

/-! What the precondition says of the gate's arguments. -/
namespace Cert.Pre_gate_finite

open Cert.KernelIdeal.RefValue (IsReal fin_of_lt)
open Facts

variable [Facts]

/-- A conjunction of two bits holds when both do. -/
theorem both {a b : BitVec 1} (h : IntOp.andi a b = 1#1) : a = 1#1 ∧ b = 1#1 := by
  revert a b
  decide

/-- A scalar has one index. -/
instance : Subsingleton S_.Idx := ⟨fun a b => funext fun k => k.elim0⟩

/-- Of the gate's inputs, its second matrix and its bias the precondition says that every entry is a real number. -/
theorem reals (a0 : FVec Ideal S1024x6400 .f32) (a1 a2 : FVec Ideal S1x128x4x128x256 .f32) (a3 : FVec Ideal S1x16x512 .f32) (a4 : FVec Ideal S1x512 .f32)
    (a5 a6 a7 : FVec Ideal S1x4x256 .f32) (h : fn (F := Ideal) a0 a1 a2 a3 a4 a5 a6 a7 = fun _ => 1#1) :
    (∀ (r : Fin 1024) (k : Fin 16), IsReal (a0 (ix2 r ⟨6144 + k.val, by omega⟩))) ∧ (∀ (k : Fin 16) (e : Fin 512), IsReal (a3 (ix3 0 k e)))
      ∧ ∀ e : Fin 512, IsReal (a4 (ix2 0 e)) := by
  have h0 := congrFun h ix0
  obtain ⟨h12, h3⟩ := both h0
  obtain ⟨h1, h2⟩ := both h12
  refine ⟨fun r k => fin_of_lt ?_, fun k e => fin_of_lt ?_, fun e => fin_of_lt ?_⟩
  · have e1 := Host.reduce_andi_all _ _ _ _ _ h1 (ix2 r k)
    have e2 : ∀ x : FVec Ideal S1024x6400 .f32, extractStridedSlice S1024x16 ![0, 6144] x slices_S1024x6400_S1024x16_0_6144 (ix2 r k) = x (ix2 r ⟨6144 + k.val, by omega⟩) := by
      intro x; pointwise
    rw [← e2 a0]
    exact e1
  · exact Host.reduce_andi_all _ _ _ _ _ h2 (ix3 0 k e)
  · exact Host.reduce_andi_all _ _ _ _ _ h3 (ix2 0 e)

end Cert.Pre_gate_finite

namespace Cert.Proof

open Cert.KernelIdeal.RefValue (rows ret0 gla0 gateW gateB normW normB normG retOf glaOf mixOf final16 final17 final18 zlog zlog_fin decay_fin IsReal)

/-- The plain mixer runs to its end and leaves its arguments as they were. -/
theorem mixer_ref_frame : Cert.quiescent_ReferenceIdeal := fun m ρ _ =>
  (θ_run _ _ _).mono (fun r h => ⟨fun c => (h c).2.2.2, Idealize.ShloMosaic.sem_eq_zero_of_no_sems (by decide) r.2⟩)
    (Cert.ReferenceIdeal.Value.run (F := Ideal) m ρ)

/-- So it does where the gate's arguments are finite. -/
theorem mixer_ref_frame_finite [Cert.Pre_gate_finite.Facts] : Cert.quiescent_ReferenceIdeal_pre_gate_finite := fun m ρ _ => mixer_ref_frame m ρ trivial

/-- Where the gate's arguments are finite, its logits are. -/
theorem logits_real [Cert.Pre_gate_finite.Facts] (m : (ℓ : Loc Cert.KernelIdeal.nD Cert.KernelIdeal.τ Cert.KernelIdeal.sig) → Buf (Elt Ideal) ℓ)
    (h : Cert.Pre_KernelIdeal_gate_finite m) (c : Dev Cert.KernelIdeal.nD) (b : Fin 128) (l : Fin 8) (e : Fin 512) :
    IsReal (zlog (rows m c b) (gateW m c) (gateB m c) l e) := by
  obtain ⟨h0, h3, h4⟩ := Cert.Pre_gate_finite.reals _ _ _ _ _ _ _ _ (h c)
  exact zlog_fin _ _ _ (fun l k => h0 ⟨8 * b.val + l.val, by omega⟩ k) h3 h4 l e

/-- The tiled mixer gives the same outputs and states as the plain one. -/
theorem mixer_algebraic [Cert.Pre_gate_finite.Facts] : Cert.algebraic_KernelIdeal_ReferenceIdeal_pre_gate_finite := by
  intro m g m' g' hpre hagree
  have hz := logits_real m hpre
  have hfin := fun c b => decay_fin (rows m c b) (gateW m c) (gateB m c) (hz c b)
  refine ⟨fun c => mixOf m c, fun c => retOf m c, fun c => glaOf m c, ?_, ?_⟩
  · exact (θ_run _ _ _).mono (fun r h c => ⟨(h c).1.trans (final16 m c (hfin c)), (h c).2.1.trans (final17 m c), (h c).2.2.1.trans (final18 m c (hfin c)), (h c).2.2.2⟩)
      (Cert.KernelIdeal.Value.run_blocks (F := Ideal) m g)
  · refine (θ_run _ _ _).mono (fun r h c => ?_) (Cert.ReferenceIdeal.Value.run (F := Ideal) m' g')
    obtain ⟨h0, h1, h2, h3, h4, h5, h6, h7⟩ := hagree c
    have H : Cert.ReferenceIdeal.RefValue.Holds (StableHlo.launchContents m' c) (rows m c) (ret0 m c) (gla0 m c) (gateW m c) (gateB m c) (normW m c) (normB m c) (normG m c) :=
      ⟨fun b l e => congrFun h0 _, fun b k d v => congrFun h1 _, fun b k d v => congrFun h2 _, fun k e => congrFun h3 _, fun e => congrFun h4 _,
        fun k v => congrFun h5 _, fun k v => congrFun h6 _, fun k v => congrFun h7 _⟩
    exact ⟨(h c).1.trans (Cert.ReferenceIdeal.RefValue.mix_eq _ _ _ _ _ _ _ _ _ H (hz c)), (h c).2.1.trans (Cert.ReferenceIdeal.RefValue.sret_eq _ _ _ _ _ _ _ _ _ H),
      (h c).2.2.1.trans (Cert.ReferenceIdeal.RefValue.sgla_eq _ _ _ _ _ _ _ _ _ H (hz c)), (h c).2.2.2⟩

end Cert.Proof
end
-- ==== Proof.ProjClaim.lean ====
module

public import proofs.«01_k».proof.Defs
public import proofs.«01_k».proof.Proof.ProjValue
public import Idealize.ShloMosaic.Lib.Quiescent

@[expose] public section

set_option maxRecDepth 16384

noncomputable section

open Idealize.ShloMosaic Idealize.ShloMosaic.TcCoe Idealize.SL.Sem

namespace Cert.Proof

/-- The plain projection runs to its end and leaves its arguments as they were. -/
theorem proj_ref_frame : Cert.quiescent_ProjRefIdeal := fun m ρ _ =>
  (θ_run _ _ _).mono (fun r h => ⟨fun c => ⟨(h c).2.1, (h c).2.2.1, (h c).2.2.2⟩, Idealize.ShloMosaic.sem_eq_zero_of_no_sems (by decide) r.2⟩)
    (Cert.ProjRefIdeal.Value.run (F := Ideal) m ρ)

/-- The tiled projection and the plain one give the same array. -/
theorem proj_algebraic : Cert.algebraic_ProjIdeal_ProjRefIdeal := by
  intro m g m' g' _ hagree
  refine ⟨fun c => Cert.ProjIdeal.RefValue.projOf m c, ?_, ?_⟩
  · exact (θ_run _ _ _).mono (fun r h c => ⟨(h c).1.trans (Cert.ProjIdeal.RefValue.final m c), (h c).2⟩)
      (Cert.ProjIdeal.Value.run_blocks (F := Ideal) m g)
  · refine (θ_run _ _ _).mono (fun r h c => ⟨(h c).1.trans ?_, (h c).2⟩) (Cert.ProjRefIdeal.Value.run (F := Ideal) m' g')
    rw [(hagree c).1, (hagree c).2.1, (hagree c).2.2]
    funext i
    have hi : i = ix2 (i 0) (i 1) := by idx_ext
    rw [hi]
    exact Cert.ProjRefIdeal.RefValue.ref_term _ _ _ (i 0) (i 1)

end Cert.Proof
end
-- ==== Proof.QueryValue.lean ====
module

public import proofs.«01_k».proof.Proof.Gen.QueryIdeal.Value
public import proofs.«01_k».proof.Proof.Gen.QueryRefIdeal.Run
public import proofs.«01_k».proof.Proof.ProjValue

@[expose] public section

set_option maxRecDepth 16384

noncomputable section

open Idealize.ShloMosaic Idealize.ShloMosaic.TcCoe Idealize.SL.Sem
open Idealize.ShloMosaic.Pipeline (Dat)

namespace Cert.QueryIdeal.RefValue

open Cert.QueryIdeal Cert.QueryIdeal.Gen
open Cert.ProjIdeal.RefValue (normed)

variable (m : (ℓ : Loc nD τ sig) → Buf (Elt Ideal) ℓ)

/-- The stream of a row after the mixer: the row plus its mixed features through the output projection. -/
def resid (x mix : Fin 2048 → EReal) (wo : Fin 2048 → Fin 2048 → EReal) (e : Fin 2048) : EReal :=
  x e + ∑ k : Fin 2048, mix k * wo k e

/-- The query features of a row: its normalised stream through the query projection. -/
def query (x mix : Fin 2048 → EReal) (wo : Fin 2048 → Fin 2048 → EReal) (wn : Fin 2048 → EReal) (wq : Fin 2048 → Fin 2048 → EReal)
    (e : Fin 2048) : EReal :=
  ∑ k : Fin 2048, normed (resid x mix wo) wn k * wq k e

/-- A load of a whole block of rows is the block. -/
theorem ldA {e : EltTy} (X : Vec Ideal S256x2048 e) : View.ld X r0_0 = X := View.ld_unit_lit _ X (by decide)

/-- A load of a whole matrix is the matrix. -/
theorem ldB {e : EltTy} (X : Vec Ideal S2048x2048 e) : View.ld X r0_1 = X := View.ld_unit_lit _ X (by decide)

/-- A load of the whole row of weights is the row. -/
theorem ldC {e : EltTy} (X : Vec Ideal S1x2048 e) : View.ld X r0_2 = X := View.ld_unit_lit _ X (by decide)

/-- An entry of a block's stream. -/
theorem pay5 (x : Vec Ideal S256x2048 .f32) (mix : Vec Ideal S256x2048 .bf16) (wo : Vec Ideal S2048x2048 .bf16) (r : Fin 256) (e : Fin 2048) :
    k0_pay5 (F := Ideal) x mix wo (ix2 r e) = resid (fun k => x (ix2 r k)) (fun k => mix (ix2 r k)) (fun k l => wo (ix2 k l)) e := by
  pointwise [k0_pay5, resid]

/-- An entry of a block's normalised stream. -/
theorem pay6 (x : Vec Ideal S256x2048 .f32) (mix : Vec Ideal S256x2048 .bf16) (wo : Vec Ideal S2048x2048 .bf16) (wn : Vec Ideal S1x2048 .f32)
    (r : Fin 256) (e : Fin 2048) :
    k0_pay6 (F := Ideal) x mix wo wn (ix2 r e)
      = normed (resid (fun k => x (ix2 r k)) (fun k => mix (ix2 r k)) (fun k l => wo (ix2 k l))) (fun k => wn (ix2 0 k)) e := by
  pointwise [k0_pay6]
  simp only [pay5]
  rfl

/-- An entry of a block's query features. -/
theorem pay7 (x : Vec Ideal S256x2048 .f32) (mix : Vec Ideal S256x2048 .bf16) (wo : Vec Ideal S2048x2048 .bf16) (wn : Vec Ideal S1x2048 .f32)
    (wq : Vec Ideal S2048x2048 .bf16) (r : Fin 256) (e : Fin 2048) :
    k0_pay7 (F := Ideal) x mix wo wn wq (ix2 r e)
      = query (fun k => x (ix2 r k)) (fun k => mix (ix2 r k)) (fun k l => wo (ix2 k l)) (fun k => wn (ix2 0 k)) (fun k l => wq (ix2 k l)) e := by
  pointwise [k0_pay7]
  simp only [pay6]
  rfl

/-- A head's score row depends on its coordinates only through their values. -/
theorem scored (K : Vec Ideal S8x128x128 .bf16) (q : Vec Ideal S256x2048 .bf16) {h h' : Fin 8} {n n' : Fin 128} {r r' : Fin 256}
    {f f' : Fin 128 → Fin 2048} (hh : h.val = h'.val) (hn : n.val = n'.val) (hr : r.val = r'.val) (hf : ∀ d, (f d).val = (f' d).val) :
    ∑ d : Fin 128, K (ix3 h n d) * q (ix2 r (f d)) = ∑ d : Fin 128, K (ix3 h' n' d) * q (ix2 r' (f' d)) := by
  obtain rfl : h = h' := Fin.ext hh
  obtain rfl : n = n' := Fin.ext hn
  obtain rfl : r = r' := Fin.ext hr
  obtain rfl : f = f' := funext fun d => Fin.ext (hf d)
  rfl

/-- The block of first scores: head by head, the first keys against the first half of the head's query features. -/
theorem scores1 (x0 : Vec Ideal S256x2048 .bf16) (x1 : Vec Ideal S256x2048 .f32) (x2 : Vec Ideal S2048x2048 .bf16) (x3 : Vec Ideal S1x2048 .f32)
    (x4 : Vec Ideal S2048x2048 .bf16) (x5 x6 : Vec Ideal S8x128x128 .bf16) (h : Fin 8) (n : Fin 128) (r : Fin 256) :
    out0_9 x0 x1 x2 x3 x4 x5 x6 (ix3 h n r)
     = ∑ d : Fin 128, x5 (ix3 h n d) * k0_pay7 (F := Ideal) x1 x0 x2 x3 x4 (ix2 r ⟨256 * h.val + d.val, by omega⟩) := by
  have e28 : k0_pay28 (F := Ideal) x0 x1 x2 x3 x4 x5 x6 = k0_pay7 (F := Ideal) x1 x0 x2 x3 x4 := by
    unfold k0_pay28; rw [ldA, ldA, ldB, ldC, ldB]
  have e9 : ∀ w, k0_pay9 (F := Ideal) (View.ld x1 r0_0) (View.ld x0 r0_0) (View.ld x2 r0_1) (View.ld x3 r0_2) (View.ld x4 r0_1) w
      = matmul (F := Ideal) dot_S128x128_S256x128_S128x256_1_1_0_0_n_n none (shapeCast S128x128 w shapeCasts_S1x128x128_S128x128)
          (extractStridedSlice S256x128 ![0, 0] (k0_pay7 (F := Ideal) x1 x0 x2 x3 x4) slices_S256x2048_o0_0_S256x128)
          (constant S128x256 .f32 0x00000000#32) := fun _ => by rw [ldA, ldA, ldB, ldC, ldB]; rfl
  unfold out0_9
  simp only [e28, e9]
  generalize k0_pay7 (F := Ideal) x1 x0 x2 x3 x4 = q
  generalize hy : (ix3 h n r : S8x128x256.Idx) = y
  have k0 : (y 0).val = h.val := by rw [← hy]; rfl
  have k1 : (y 1).val = n.val := by rw [← hy]; rfl
  have k2 : (y 2).val = r.val := by rw [← hy]; rfl
  canon_tiles y hh
  all_goals (open_payloads; pointwise)
  all_goals refine scored _ _ ?_ ?_ ?_ fun d => ?_
  all_goals try simp
  all_goals omega

/-- The block of second scores: head by head, the second keys against the second half of the head's query features. -/
theorem scores2 (x0 : Vec Ideal S256x2048 .bf16) (x1 : Vec Ideal S256x2048 .f32) (x2 : Vec Ideal S2048x2048 .bf16) (x3 : Vec Ideal S1x2048 .f32)
    (x4 : Vec Ideal S2048x2048 .bf16) (x5 x6 : Vec Ideal S8x128x128 .bf16) (h : Fin 8) (n : Fin 128) (r : Fin 256) :
    out0_10 x0 x1 x2 x3 x4 x5 x6 (ix3 h n r)
     = ∑ d : Fin 128, x6 (ix3 h n d) * k0_pay7 (F := Ideal) x1 x0 x2 x3 x4 (ix2 r ⟨256 * h.val + 128 + d.val, by omega⟩) := by
  have e28 : k0_pay28 (F := Ideal) x0 x1 x2 x3 x4 x5 x6 = k0_pay7 (F := Ideal) x1 x0 x2 x3 x4 := by
    unfold k0_pay28; rw [ldA, ldA, ldB, ldC, ldB]
  have e8 : k0_pay8 (F := Ideal) (View.ld x1 r0_0) (View.ld x0 r0_0) (View.ld x2 r0_1) (View.ld x3 r0_2) (View.ld x4 r0_1)
      = extractStridedSlice S256x128 ![0, 128] (k0_pay7 (F := Ideal) x1 x0 x2 x3 x4) slices_S256x2048_o0_128_S256x128 := by rw [ldA, ldA, ldB, ldC, ldB]; rfl
  unfold out0_10
  simp only [e28, e8]
  generalize k0_pay7 (F := Ideal) x1 x0 x2 x3 x4 = q
  generalize hy : (ix3 h n r : S8x128x256.Idx) = y
  have k0 : (y 0).val = h.val := by rw [← hy]; rfl
  have k1 : (y 1).val = n.val := by rw [← hy]; rfl
  have k2 : (y 2).val = r.val := by rw [← hy]; rfl
  canon_tiles y hh
  all_goals (open_payloads; pointwise)
  all_goals refine scored _ _ ?_ ?_ ?_ fun d => ?_
  all_goals try simp
  all_goals omega

/-- Row `r` of the stream, in the flat token order. -/
def xrow (c : Dev nD) (r : Fin 8192) (k : Fin 2048) : EReal :=
  m ((c : Thread nD τ).loc main_arg1) (ix3 ⟨r.val / 2048, by omega⟩ ⟨r.val % 2048, by omega⟩ k)

/-- Row `r` of the mixed features. -/
def mrow (c : Dev nD) (r : Fin 8192) (k : Fin 2048) : EReal := m ((c : Thread nD τ).loc main_arg0) (ix2 r k)

/-- The output projection. -/
def wo (c : Dev nD) (k l : Fin 2048) : EReal := m ((c : Thread nD τ).loc main_arg2) (ix3 0 k l)

/-- The norm's weights. -/
def wn (c : Dev nD) (k : Fin 2048) : EReal := m ((c : Thread nD τ).loc main_arg3) (ix2 0 k)

/-- The query projection. -/
def wq (c : Dev nD) (k l : Fin 2048) : EReal := m ((c : Thread nD τ).loc main_arg4) (ix3 0 k l)

/-- The rows of a three-dimensional array of tokens, read in the flat token order. -/
theorem rows (x : FVec Ideal S4x2048x2048 .f32) (r : Fin 8192) (k : Fin 2048) :
    shapeCast S8192x2048 x shapeCasts_S4x2048x2048_S8192x2048 (ix2 r k) = x (ix3 ⟨r.val / 2048, by omega⟩ ⟨r.val % 2048, by omega⟩ k) := by
  pointwise

/-- A matrix with a leading axis of length one is the matrix. -/
theorem mat (x : FVec Ideal S1x2048x2048 .f32) (k l : Fin 2048) :
    truncf .bf16 (shapeCast S2048x2048 x shapeCasts_S1x2048x2048_S2048x2048) bitsLt_bf16_f32 (ix2 k l) = x (ix3 0 k l) := by
  pointwise

/-- The keys with a leading axis of length one are the keys. -/
theorem keys (x : FVec Ideal S1x8x128x128 .f32) (h : Fin 8) (n d : Fin 128) :
    truncf .bf16 (shapeCast S8x128x128 x shapeCasts_S1x8x128x128_S8x128x128) bitsLt_bf16_f32 (ix3 h n d) = x (ix4 0 h n d) := by
  pointwise

/-- The stream as the call finds it. -/
theorem vx (c : Dev nD) (r : Fin 8192) (k : Fin 2048) : V m c main_v0 (ix2 r k) = xrow m c r k := by
  have e : V m c main_v0 = shapeCast S8192x2048 (m ((c : Thread nD τ).loc main_arg1)) shapeCasts_S4x2048x2048_S8192x2048 := by
    simp only [V, hostOps0, List.flatten_cons, List.flatten_nil, List.append_nil, List.cons_append,
      List.nil_append, StableHlo.TRef.binary, StableHlo.TRef.unary, StableHlo.TRef.toBuf, StableHlo.TRef.ofBuf, cast_eq]
    after_results <;> rfl
  rw [e]
  exact rows _ r k

/-- The norm's weights as the call finds them. -/
theorem vn (c : Dev nD) (k : Fin 2048) : V m c main_v2 (ix2 0 k) = wn m c k := by
  have e : V m c main_v2 = shapeCast S1x2048 (shapeCast S2048 (m ((c : Thread nD τ).loc main_arg3)) shapeCasts_S1x2048_S2048) shapeCasts_S2048_S1x2048 := by
    simp only [V, hostOps0, List.flatten_cons, List.flatten_nil, List.append_nil, List.cons_append,
      List.nil_append, StableHlo.TRef.binary, StableHlo.TRef.unary, StableHlo.TRef.toBuf, StableHlo.TRef.ofBuf, cast_eq]
    after_results <;> rfl
  rw [e]
  pointwise [wn]

/-- The output projection as the call finds it. -/
theorem vo (c : Dev nD) (k l : Fin 2048) : V m c main_v4 (ix2 k l) = wo m c k l := by
  have e : V m c main_v4 = truncf (F := Ideal) .bf16 (shapeCast S2048x2048 (m ((c : Thread nD τ).loc main_arg2)) shapeCasts_S1x2048x2048_S2048x2048) bitsLt_bf16_f32 := by
    simp only [V, hostOps0, List.flatten_cons, List.flatten_nil, List.append_nil, List.cons_append,
      List.nil_append, StableHlo.TRef.binary, StableHlo.TRef.unary, StableHlo.TRef.toBuf, StableHlo.TRef.ofBuf, cast_eq]
    after_results <;> rfl
  rw [e]
  exact mat _ k l

/-- The query projection as the call finds it. -/
theorem vq (c : Dev nD) (k l : Fin 2048) : V m c main_v6 (ix2 k l) = wq m c k l := by
  have e : V m c main_v6 = truncf (F := Ideal) .bf16 (shapeCast S2048x2048 (m ((c : Thread nD τ).loc main_arg4)) shapeCasts_S1x2048x2048_S2048x2048) bitsLt_bf16_f32 := by
    simp only [V, hostOps0, List.flatten_cons, List.flatten_nil, List.append_nil, List.cons_append,
      List.nil_append, StableHlo.TRef.binary, StableHlo.TRef.unary, StableHlo.TRef.toBuf, StableHlo.TRef.ofBuf, cast_eq]
    after_results <;> rfl
  rw [e]
  exact mat _ k l

/-- The first keys as the call finds them. -/
theorem vk1 (c : Dev nD) (h : Fin 8) (n d : Fin 128) : V m c main_v8 (ix3 h n d) = m ((c : Thread nD τ).loc main_arg5) (ix4 0 h n d) := by
  have e : V m c main_v8 = truncf (F := Ideal) .bf16 (shapeCast S8x128x128 (m ((c : Thread nD τ).loc main_arg5)) shapeCasts_S1x8x128x128_S8x128x128) bitsLt_bf16_f32 := by
    simp only [V, hostOps0, List.flatten_cons, List.flatten_nil, List.append_nil, List.cons_append,
      List.nil_append, StableHlo.TRef.binary, StableHlo.TRef.unary, StableHlo.TRef.toBuf, StableHlo.TRef.ofBuf, cast_eq]
    after_results <;> rfl
  rw [e]
  exact keys _ h n d

/-- The second keys as the call finds them. -/
theorem vk2 (c : Dev nD) (h : Fin 8) (n d : Fin 128) : V m c main_v10 (ix3 h n d) = m ((c : Thread nD τ).loc main_arg6) (ix4 0 h n d) := by
  have e : V m c main_v10 = truncf (F := Ideal) .bf16 (shapeCast S8x128x128 (m ((c : Thread nD τ).loc main_arg6)) shapeCasts_S1x8x128x128_S8x128x128) bitsLt_bf16_f32 := by
    simp only [V, hostOps0, List.flatten_cons, List.flatten_nil, List.append_nil, List.cons_append,
      List.nil_append, StableHlo.TRef.binary, StableHlo.TRef.unary, StableHlo.TRef.toBuf, StableHlo.TRef.ofBuf, cast_eq]
    after_results <;> rfl
  rw [e]
  exact keys _ h n d

/-- Where each window's block lies at point `t`. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0, 0] ∧ win0_6.index t = ![0, 0, 0]
    ∧ win0_7.index t = ![t.val, 0] ∧ win0_8.index t = ![t.val, 0] ∧ win0_9.index t = ![0, 0, t.val] ∧ win0_10.index t = ![0, 0, t.val] :=
  (by decide +kernel : ∀ t : Fin grid0.N, _)

/-- The rows of the stream at point `t`. -/
theorem bx (c : Dev nD) (t : Fin cfg0.N) (r : Fin 256) (R : Fin 8192) (hR : R.val = 256 * t.val + r.val) : (fun k => iblk m c 1 t (ix2 r k)) = xrow m c R := by
  funext k
  rw [← vx m c R k]
  blk_ext [iblk, idx t]

/-- The rows of the mixed features at point `t`. -/
theorem bm (c : Dev nD) (t : Fin cfg0.N) (r : Fin 256) (R : Fin 8192) (hR : R.val = 256 * t.val + r.val) : (fun k => iblk m c 0 t (ix2 r k)) = mrow m c R := by
  funext k
  have e : V m c main_arg0 (ix2 R k) = mrow m c R k := by rw [V_main_arg0]; rfl
  rw [← e]
  blk_ext [iblk, idx t]

/-- The output projection at point `t`. -/
theorem bo (c : Dev nD) (t : Fin cfg0.N) : (fun k l => iblk m c 2 t (ix2 k l)) = wo m c := by
  funext k l
  rw [← vo m c k l]
  blk_ext [iblk, idx t]

/-- The norm's weights at point `t`. -/
theorem bn (c : Dev nD) (t : Fin cfg0.N) : (fun k => iblk m c 3 t (ix2 0 k)) = wn m c := by
  funext k
  rw [← vn m c k]
  blk_ext [iblk, idx t]

/-- The query projection at point `t`. -/
theorem bq (c : Dev nD) (t : Fin cfg0.N) : (fun k l => iblk m c 4 t (ix2 k l)) = wq m c := by
  funext k l
  rw [← vq m c k l]
  blk_ext [iblk, idx t]

/-- The first keys at point `t`. -/
theorem bk1 (c : Dev nD) (t : Fin cfg0.N) (h : Fin 8) (n d : Fin 128) : iblk m c 5 t (ix3 h n d) = m ((c : Thread nD τ).loc main_arg5) (ix4 0 h n d) := by
  rw [← vk1 m c h n d]
  blk_ext [iblk, idx t]

/-- The second keys at point `t`. -/
theorem bk2 (c : Dev nD) (t : Fin cfg0.N) (h : Fin 8) (n d : Fin 128) : iblk m c 6 t (ix3 h n d) = m ((c : Thread nD τ).loc main_arg6) (ix4 0 h n d) := by
  rw [← vk2 m c h n d]
  blk_ext [iblk, idx t]

/-- The query features of a block's row, from the arrays. -/
theorem bquery (c : Dev nD) (t : Fin cfg0.N) (r : Fin 256) (R : Fin 8192) (hR : R.val = 256 * t.val + r.val) (e : Fin 2048) :
    k0_pay7 (F := Ideal) (iblk m c 1 t) (iblk m c 0 t) (iblk m c 2 t) (iblk m c 3 t) (iblk m c 4 t) (ix2 r e)
      = query (xrow m c R) (mrow m c R) (wo m c) (wn m c) (wq m c) e := by
  rw [pay7]
  rw [← bx m c t r R hR, ← bm m c t r R hR, ← bo m c t, ← bn m c t, ← bq m c t]

/-- The stream after the mixer, of every token. -/
def streamOf (c : Dev nD) : FVec Ideal S8192x2048 .f32 := fun i => resid (xrow m c (i 0)) (mrow m c (i 0)) (wo m c) (i 1)

/-- The normalised stream, of every token. -/
def normedOf (c : Dev nD) : FVec Ideal S8192x2048 .bf16 := fun i => normed (resid (xrow m c (i 0)) (mrow m c (i 0)) (wo m c)) (wn m c) (i 1)

/-- The scores of one half of the query features against that half's keys: head, key, token. -/
def scoresOf (c : Dev nD) (K : FVec Ideal S1x8x128x128 .f32) (o : ℕ) (ho : o ≤ 128) : FVec Ideal S8x128x8192 .f32 := fun i =>
  ∑ d : Fin 128, K (ix4 0 (i 0) (i 1) d)
    * query (xrow m c (i 2)) (mrow m c (i 2)) (wo m c) (wn m c) (wq m c) ⟨256 * (i 0).val + o + d.val, by have : (i 0).val < 8 := (i 0).isLt; omega⟩

/-- What point `t` leaves of the stream at place `(r, e)` of its block. -/
theorem point7 (c : Dev nD) (t : Fin cfg0.N) (r : Fin 256) (e : Fin 2048) (i : S8192x2048.Idx)
    (h0 : (i 0).val = 256 * t.val + r.val) (h1 : (i 1).val = e.val) :
    out0_7 (iblk m c 0 t) (iblk m c 1 t) (iblk m c 2 t) (iblk m c 3 t) (iblk m c 4 t) (iblk m c 5 t) (iblk m c 6 t) (ix2 r e) = streamOf m c i := by
  frame_out
  rw [pay5, bx m c t r (i 0) h0, bm m c t r (i 0) h0, bo m c t]
  exact congrArg (resid _ _ _) (Fin.ext h1.symm)

/-- The whole array after the last point. -/
theorem final7 (c : Dev nD) : (dats m 0 c).arrAt 7 (cfgs 0).N = streamOf m c := by
  refine (dats m 0 c).arrAt_eq_of_covers 7 _ (by decide +kernel) fun t _ y => ?_
  blk_simp
  rw [after0_7]
  have hy : y = ix2 (y 0) (y 1) := by idx_ext
  rw [hy]
  refine point7 m c t (y 0) (y 1) _ ?_ ?_ <;> (blk_simp [idx t]; try omega)

/-- What point `t` leaves of the normalised stream at place `(r, e)` of its block. -/
theorem point8 (c : Dev nD) (t : Fin cfg0.N) (r : Fin 256) (e : Fin 2048) (i : S8192x2048.Idx)
    (h0 : (i 0).val = 256 * t.val + r.val) (h1 : (i 1).val = e.val) :
    out0_8 (iblk m c 0 t) (iblk m c 1 t) (iblk m c 2 t) (iblk m c 3 t) (iblk m c 4 t) (iblk m c 5 t) (iblk m c 6 t) (ix2 r e) = normedOf m c i := by
  frame_out
  rw [pay6, bx m c t r (i 0) h0, bm m c t r (i 0) h0, bo m c t, bn m c t]
  exact congrArg (normed _ _) (Fin.ext h1.symm)

/-- The whole array after the last point. -/
theorem final8 (c : Dev nD) : (dats m 0 c).arrAt 8 (cfgs 0).N = normedOf m c := by
  refine (dats m 0 c).arrAt_eq_of_covers 8 _ (by decide +kernel) fun t _ y => ?_
  blk_simp
  rw [after0_8]
  have hy : y = ix2 (y 0) (y 1) := by idx_ext
  rw [hy]
  refine point8 m c t (y 0) (y 1) _ ?_ ?_ <;> (blk_simp [idx t]; try omega)

/-- What point `t` leaves of the first scores at place `(h, n, r)` of its block. -/
theorem point9 (c : Dev nD) (t : Fin cfg0.N) (h : Fin 8) (n : Fin 128) (r : Fin 256) (i : S8x128x8192.Idx)
    (h0 : (i 0).val = h.val) (h1 : (i 1).val = n.val) (h2 : (i 2).val = 256 * t.val + r.val) :
    out0_9 (iblk m c 0 t) (iblk m c 1 t) (iblk m c 2 t) (iblk m c 3 t) (iblk m c 4 t) (iblk m c 5 t) (iblk m c 6 t) (ix3 h n r) = scoresOf m c (m ((c : Thread nD τ).loc main_arg5)) 0 (by omega) i := by
  rw [scores1]
  have hh : h = i 0 := Fin.ext h0.symm
  have hn : n = i 1 := Fin.ext h1.symm
  unfold scoresOf
  refine Finset.sum_congr rfl fun d _ => ?_
  rw [bk1 m c t, bquery m c t r (i 2) h2]
  refine congrArg₂ (· * ·) ?_ (congrArg (query _ _ _ _ _) (Fin.ext ?_))
  · rw [hh, hn]
  · show 256 * h.val + d.val = 256 * (i 0).val + 0 + d.val
    omega

/-- The whole array after the last point. -/
theorem final9 (c : Dev nD) : (dats m 0 c).arrAt 9 (cfgs 0).N = scoresOf m c (m ((c : Thread nD τ).loc main_arg5)) 0 (by omega) := by
  refine (dats m 0 c).arrAt_eq_of_covers 9 _ (by decide +kernel) fun t _ y => ?_
  blk_simp
  rw [after0_9]
  have hy : y = ix3 (y 0) (y 1) (y 2) := by idx_ext
  rw [hy]
  refine point9 m c t (y 0) (y 1) (y 2) _ ?_ ?_ ?_ <;> (blk_simp [idx t]; try omega)

/-- What point `t` leaves of the second scores at place `(h, n, r)` of its block. -/
theorem point10 (c : Dev nD) (t : Fin cfg0.N) (h : Fin 8) (n : Fin 128) (r : Fin 256) (i : S8x128x8192.Idx)
    (h0 : (i 0).val = h.val) (h1 : (i 1).val = n.val) (h2 : (i 2).val = 256 * t.val + r.val) :
    out0_10 (iblk m c 0 t) (iblk m c 1 t) (iblk m c 2 t) (iblk m c 3 t) (iblk m c 4 t) (iblk m c 5 t) (iblk m c 6 t) (ix3 h n r) = scoresOf m c (m ((c : Thread nD τ).loc main_arg6)) 128 (by omega) i := by
  rw [scores2]
  have hh : h = i 0 := Fin.ext h0.symm
  have hn : n = i 1 := Fin.ext h1.symm
  unfold scoresOf
  refine Finset.sum_congr rfl fun d _ => ?_
  rw [bk2 m c t, bquery m c t r (i 2) h2]
  refine congrArg₂ (· * ·) ?_ (congrArg (query _ _ _ _ _) (Fin.ext ?_))
  · rw [hh, hn]
  · show 256 * h.val + 128 + d.val = 256 * (i 0).val + 128 + d.val
    omega

/-- The whole array after the last point. -/
theorem final10 (c : Dev nD) : (dats m 0 c).arrAt 10 (cfgs 0).N = scoresOf m c (m ((c : Thread nD τ).loc main_arg6)) 128 (by omega) := by
  refine (dats m 0 c).arrAt_eq_of_covers 10 _ (by decide +kernel) fun t _ y => ?_
  blk_simp
  rw [after0_10]
  have hy : y = ix3 (y 0) (y 1) (y 2) := by idx_ext
  rw [hy]
  refine point10 m c t (y 0) (y 1) (y 2) _ ?_ ?_ ?_ <;> (blk_simp [idx t]; try omega)

end Cert.QueryIdeal.RefValue

namespace Cert.QueryRefIdeal.RefValue

open Cert.QueryRefIdeal Cert.QueryRefIdeal.Gen
open Cert.ProjIdeal.RefValue (normed)
open Cert.QueryIdeal.RefValue (resid query)

/-- The reference's stream after the mixer. -/
def stream (x : FVec Ideal S4x2048x2048 .f32) (mix : FVec Ideal S8192x2048 .bf16) (W : FVec Ideal S1x2048x2048 .f32) : FVec Ideal S4x2048x2048 .f32 :=
  addf x (Host.dotGeneral dot_S4x2048x2048_S2048x2048_S4x2048x2048_2_0_01_1_n_n none (shapeCast _ (extf .f32 mix bitsLt_bf16_f32) shapeCasts_S8192x2048_S4x2048x2048) (shapeCast _ W shapeCasts_S1x2048x2048_S2048x2048))

/-- The reference's normalised stream. -/
def hid (X : FVec Ideal S4x2048x2048 .f32) (w : FVec Ideal S1x2048 .f32) : FVec Ideal S8192x2048 .f32 :=
  shapeCast S8192x2048 (mulf (mulf X (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf X X) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 (shapeCast _ w shapeCasts_S1x2048_S2048)))) shapeCasts_S4x2048x2048_S8192x2048

/-- The reference's query features, by head and half. -/
def qry (h : FVec Ideal S8192x2048 .f32) (W : FVec Ideal S1x2048x2048 .f32) : FVec Ideal S8192x8x2x128 .f32 :=
  shapeCast _ (Host.dotGeneral (F := Ideal) dot_S8192x2048_S2048x2048_S8192x2048_1_0_0_1_n_n none h (shapeCast _ W shapeCasts_S1x2048x2048_S2048x2048)) shapeCasts_S8192x2048_S8192x8x2x128

/-- The reference's scores of one half. -/
def sc (K : FVec Ideal S1x8x128x128 .f32) (q : FVec Ideal S8192x8x1x128 .f32) : FVec Ideal S8x128x8192 .f32 :=
  transpose S8x128x8192 [1, 2, 0] (transpose S8192x8x128 [2, 0, 1] (Host.dotGeneral (F := Ideal) dot_S8x128x128_S8192x8x128_S8x128x8192_2_2_1_0_0_1 none (shapeCast _ K shapeCasts_S1x8x128x128_S8x128x128) (shapeCast _ q shapeCasts_S8192x8x1x128_S8192x8x128)) transposes_S8x128x8192_S8192x8x128_2_0_1) transposes_S8192x8x128_S8x128x8192_1_2_0

/-- The stream's entry at a token and lane. -/
theorem stream_at (x : FVec Ideal S4x2048x2048 .f32) (mix : FVec Ideal S8192x2048 .bf16) (W : FVec Ideal S1x2048x2048 .f32) (b : Fin 4) (l e : Fin 2048) :
    stream x mix W (ix3 b l e) = resid (fun k => x (ix3 b l k)) (fun k => mix (ix2 ⟨b.val * 2048 + l.val, by omega⟩ k)) (fun k l => W (ix3 0 k l)) e := by
  pointwise [stream, resid]

/-- A normalised entry. -/
theorem hid_at (X : FVec Ideal S4x2048x2048 .f32) (w : FVec Ideal S1x2048 .f32) (r : Fin 8192) (e : Fin 2048) :
    hid X w (ix2 r e) = normed (fun k => X (ix3 ⟨r.val / 2048, by omega⟩ ⟨r.val % 2048, by omega⟩ k)) (fun k => w (ix2 0 k)) e := by
  pointwise [hid, normed]

/-- A query feature. -/
theorem qry_at (h : FVec Ideal S8192x2048 .f32) (W : FVec Ideal S1x2048x2048 .f32) (r : Fin 8192) (a : Fin 8) (j : Fin 2) (d : Fin 128) :
    qry h W (ix4 r a j d) = ∑ k : Fin 2048, h (ix2 r k) * W (ix3 0 k ⟨a.val * 256 + j.val * 128 + d.val, by omega⟩) := by
  pointwise [qry]

/-- A score. -/
theorem sc_at (K : FVec Ideal S1x8x128x128 .f32) (q : FVec Ideal S8192x8x1x128 .f32) (a : Fin 8) (n : Fin 128) (r : Fin 8192) :
    sc K q (ix3 a n r) = ∑ d : Fin 128, K (ix4 0 a n d) * q (ix4 r a 0 d) := by
  pointwise [sc]

end Cert.QueryRefIdeal.RefValue
end
-- ==== Proof.QueryClaim.lean ====
module

public import proofs.«01_k».proof.Defs
public import proofs.«01_k».proof.Proof.QueryValue
public import Idealize.ShloMosaic.Lib.Quiescent

@[expose] public section

set_option maxRecDepth 16384

noncomputable section

open Idealize.ShloMosaic Idealize.ShloMosaic.TcCoe Idealize.SL.Sem

namespace Cert.QueryRefIdeal.RefValue

open Cert.QueryRefIdeal Cert.QueryRefIdeal.Gen
open Cert.ProjIdeal.RefValue (normed)
open Cert.QueryIdeal.RefValue (resid query streamOf normedOf scoresOf xrow mrow wo wn wq)

variable (m : (ℓ : Loc Cert.QueryIdeal.nD Cert.QueryIdeal.τ Cert.QueryIdeal.sig) → Buf (Elt Ideal) ℓ) (c : Dev Cert.QueryIdeal.nD)

/-- The reference's stream of the call's own arguments. -/
def streamM : FVec Ideal S4x2048x2048 .f32 :=
  stream (m ((c.tc : Thread Cert.QueryIdeal.nD Cert.QueryIdeal.τ).loc Cert.QueryIdeal.main_arg1)) (m ((c.tc : Thread Cert.QueryIdeal.nD Cert.QueryIdeal.τ).loc Cert.QueryIdeal.main_arg0))
    (m ((c.tc : Thread Cert.QueryIdeal.nD Cert.QueryIdeal.τ).loc Cert.QueryIdeal.main_arg2))

/-- The reference's normalised stream of the call's own arguments. -/
def hidM : FVec Ideal S8192x2048 .f32 :=
  hid (streamM m c) (m ((c.tc : Thread Cert.QueryIdeal.nD Cert.QueryIdeal.τ).loc Cert.QueryIdeal.main_arg3))

/-- The reference's query features of the call's own arguments. -/
def qryM : FVec Ideal S8192x8x2x128 .f32 :=
  qry (hidM m c) (m ((c.tc : Thread Cert.QueryIdeal.nD Cert.QueryIdeal.τ).loc Cert.QueryIdeal.main_arg4))

/-- A row of the reference's stream. -/
theorem streamM_row (r : Fin 8192) :
    (fun k => streamM m c (ix3 ⟨r.val / 2048, by omega⟩ ⟨r.val % 2048, by omega⟩ k)) = resid (xrow m c r) (mrow m c r) (wo m c) := by
  funext k
  unfold streamM
  rw [stream_at]
  have e : ∀ h, (⟨r.val / 2048 * 2048 + r.val % 2048, h⟩ : Fin 8192) = r := fun h => Fin.ext (Nat.div_add_mod' r.val 2048)
  simp only [e]
  rfl

/-- The reference's stream is the kernel's. -/
theorem stream_eq : (shapeCast S8192x2048 (streamM m c) shapeCasts_S4x2048x2048_S8192x2048) = streamOf m c := by
  funext i
  have hi : i = ix2 (i 0) (i 1) := by idx_ext
  rw [hi]
  refine (Cert.QueryIdeal.RefValue.rows (streamM m c) (i 0) (i 1)).trans ?_
  exact congrFun (streamM_row m c (i 0)) (i 1)

/-- An entry of the reference's normalised stream. -/
theorem hidM_at (r : Fin 8192) (e : Fin 2048) :
    hidM m c (ix2 r e) = normed (resid (xrow m c r) (mrow m c r) (wo m c)) (wn m c) e := by
  unfold hidM
  rw [hid_at, streamM_row m c r]
  rfl

/-- The reference's normalised stream is the kernel's. -/
theorem hid_eq : truncf .bf16 (hidM m c) bitsLt_bf16_f32 = normedOf m c := by
  funext i
  have hi : i = ix2 (i 0) (i 1) := by idx_ext
  rw [hi]
  exact hidM_at m c (i 0) (i 1)

/-- A query feature of the reference. -/
theorem qryM_at (r : Fin 8192) (a : Fin 8) (j : Fin 2) (d : Fin 128) :
    qryM m c (ix4 r a j d) = query (xrow m c r) (mrow m c r) (wo m c) (wn m c) (wq m c) ⟨a.val * 256 + j.val * 128 + d.val, by omega⟩ := by
  unfold qryM
  rw [qry_at]
  unfold query
  refine Finset.sum_congr rfl fun k _ => ?_
  rw [hidM_at]
  rfl

/-- One half of the query features. -/
theorem half (q : FVec Ideal S8192x8x2x128 .f32) (r : Fin 8192) (a : Fin 8) (d : Fin 128) :
    extractStridedSlice S8192x8x1x128 ![0, 0, 0, 0] q slices_S8192x8x2x128_S8192x8x1x128_0_0_0_0 (ix4 r a 0 d) = q (ix4 r a 0 d)
    ∧ extractStridedSlice S8192x8x1x128 ![0, 0, 1, 0] q slices_S8192x8x2x128_S8192x8x1x128_0_0_1_0 (ix4 r a 0 d) = q (ix4 r a 1 d) := by
  constructor <;> pointwise

/-- The reference's first scores are the kernel's. -/
theorem sc1_eq (K : FVec Ideal S1x8x128x128 .f32) :
    sc K (extractStridedSlice S8192x8x1x128 ![0, 0, 0, 0] (qryM m c) slices_S8192x8x2x128_S8192x8x1x128_0_0_0_0) = scoresOf m c K 0 (by omega) := by
  funext i
  have hi : i = ix3 (i 0) (i 1) (i 2) := by idx_ext
  rw [hi]
  refine (sc_at _ _ (i 0) (i 1) (i 2)).trans (Finset.sum_congr rfl fun d _ => ?_)
  refine congrArg₂ (· * ·) rfl (((half _ (i 2) (i 0) d).1.trans (qryM_at m c (i 2) (i 0) 0 d)).trans (congrArg (query _ _ _ _ _) (Fin.ext ?_)))
  show (i 0).val * 256 + 0 * 128 + d.val = 256 * (i 0).val + 0 + d.val
  omega

/-- The reference's second scores are the kernel's. -/
theorem sc2_eq (K : FVec Ideal S1x8x128x128 .f32) :
    sc K (extractStridedSlice S8192x8x1x128 ![0, 0, 1, 0] (qryM m c) slices_S8192x8x2x128_S8192x8x1x128_0_0_1_0) = scoresOf m c K 128 (by omega) := by
  funext i
  have hi : i = ix3 (i 0) (i 1) (i 2) := by idx_ext
  rw [hi]
  refine (sc_at _ _ (i 0) (i 1) (i 2)).trans (Finset.sum_congr rfl fun d _ => ?_)
  refine congrArg₂ (· * ·) rfl (((half _ (i 2) (i 0) d).2.trans (qryM_at m c (i 2) (i 0) 1 d)).trans (congrArg (query _ _ _ _ _) (Fin.ext ?_)))
  show (i 0).val * 256 + 1 * 128 + d.val = 256 * (i 0).val + 128 + d.val
  omega

end Cert.QueryRefIdeal.RefValue

namespace Cert.Proof

/-- The plain output projection and scores run to their end and leave their arguments as they were. -/
theorem query_ref_frame : Cert.quiescent_QueryRefIdeal := fun m ρ _ =>
  (θ_run _ _ _).mono (fun r h => ⟨fun c => (h c).2.2.2.2, Idealize.ShloMosaic.sem_eq_zero_of_no_sems (by decide) r.2⟩)
    (Cert.QueryRefIdeal.Value.run (F := Ideal) m ρ)

/-- The tiled output projection, normalisation and scores give the same four arrays as the plain ones. -/
theorem query_algebraic : Cert.algebraic_QueryIdeal_QueryRefIdeal := by
  intro m g m' g' _ hagree
  refine ⟨fun c => Cert.QueryIdeal.RefValue.streamOf m c, fun c => Cert.QueryIdeal.RefValue.normedOf m c,
    fun c => Cert.QueryIdeal.RefValue.scoresOf m c (m ((c.tc : Thread Cert.QueryIdeal.nD Cert.QueryIdeal.τ).loc Cert.QueryIdeal.main_arg5)) 0 (by omega),
    fun c => Cert.QueryIdeal.RefValue.scoresOf m c (m ((c.tc : Thread Cert.QueryIdeal.nD Cert.QueryIdeal.τ).loc Cert.QueryIdeal.main_arg6)) 128 (by omega), ?_, ?_⟩
  · exact (θ_run _ _ _).mono (fun r h c => ⟨(h c).1.trans (Cert.QueryIdeal.RefValue.final7 m c), (h c).2.1.trans (Cert.QueryIdeal.RefValue.final8 m c),
      (h c).2.2.1.trans (Cert.QueryIdeal.RefValue.final9 m c), (h c).2.2.2.1.trans (Cert.QueryIdeal.RefValue.final10 m c), (h c).2.2.2.2⟩)
      (Cert.QueryIdeal.Value.run_blocks (F := Ideal) m g)
  · refine (θ_run _ _ _).mono (fun r h c => ⟨(h c).1.trans ?_, (h c).2.1.trans ?_, (h c).2.2.1.trans ?_, (h c).2.2.2.1.trans ?_, (h c).2.2.2.2⟩)
      (Cert.QueryRefIdeal.Value.run (F := Ideal) m' g')
    all_goals obtain ⟨h0, h1, h2, h3, h4, h5, h6⟩ := hagree c
    · rw [h0, h1, h2]
      exact Cert.QueryRefIdeal.RefValue.stream_eq m c
    · rw [h0, h1, h2, h3]
      exact Cert.QueryRefIdeal.RefValue.hid_eq m c
    · rw [h0, h1, h2, h3, h4, h5]
      exact Cert.QueryRefIdeal.RefValue.sc1_eq m c _
    · rw [h0, h1, h2, h3, h4, h6]
      exact Cert.QueryRefIdeal.RefValue.sc2_eq m c _

end Cert.Proof
end
-- ==== Proof.ExpertsSpec.lean ====
module

public import proofs.«01_k».proof.Proof.Gen.ExpertsRefIdeal.Run
public import Idealize.ShloMosaic.Lib.Pipeline.ValueKit
public import Idealize.ShloMosaic.Lib.Pointwise
public import Idealize.ShloMosaic.PureOps.Ideal.Laws

@[expose] public section

set_option maxRecDepth 16384

noncomputable section

open Idealize.ShloMosaic Idealize.ShloMosaic.TcCoe Idealize.SL.Sem

namespace Cert.ExpertsRefIdeal.RefValue

open Cert.ExpertsRefIdeal Cert.ExpertsRefIdeal.Gen

/-- What one head gives a pair of keys: the product of their two weights when the sum of their two scores reaches the head's threshold, and nothing otherwise. -/
def chosen (s1 s2 e1 e2 tau : EReal) : EReal := if tau ≤ s1 + s2 then e1 * e2 else 0

/-- The weight of the pair of keys `(i, j)`: the heads' parts added up. -/
def gate (s1 s2 e1 e2 : Fin 8 → Fin 128 → EReal) (tau : Fin 8 → EReal) (i j : Fin 128) : EReal :=
  ∑ h : Fin 8, chosen (s1 h i) (s2 h j) (e1 h i) (e2 h j) (tau h)

/-- The exact form of the activation. -/
def gelu (s : EReal) : EReal :=
  Ideal.ofBits .f32 0x3F000000#32 * s * (1 + Ideal.erf (s * Ideal.ofBits .f32 0x3F3504F3#32))

/-- A row divided by its root mean square and scaled, at lane `k`. -/
def normed (x w : Fin 2048 → EReal) (k : Fin 2048) : EReal :=
  x k * Ideal.rsqrt (Ideal.div (∑ l : Fin 2048, x l * x l) (Ideal.ofBits .f32 0x45000000#32) + Ideal.ofBits .f32 0x358637BD#32) * w k

/-- The reference's weights, by expert and token. -/
def gates (s1 s2 e1 e2 : FVec Ideal S8x128x8192 .f32) (tau : FVec Ideal S8x8192 .f32) : FVec Ideal S16384x8192 .f32 :=
  shapeCast _ (Host.reduceAdd (select (cmpf .oge (addf (broadcastInDim S8x128x128x8192 ![0, 1, 2, 3] bcast_S8x128x1x8192_S8x128x128x8192_0_1_2_3 (broadcastInDim S8x128x1x8192 ![0, 1, 3] bcast_S8x128x8192_S8x128x1x8192_0_1_3 s1)) (broadcastInDim S8x128x128x8192 ![0, 1, 2, 3] bcast_S8x1x128x8192_S8x128x128x8192_0_1_2_3 (broadcastInDim S8x1x128x8192 ![0, 2, 3] bcast_S8x128x8192_S8x1x128x8192_0_2_3 s2))) (broadcastInDim S8x128x128x8192 ![0, 1, 2, 3] bcast_S8x1x1x8192_S8x128x128x8192_0_1_2_3 (broadcastInDim S8x1x1x8192 ![0, 3] bcast_S8x8192_S8x1x1x8192_0_3 tau))) (mulf (broadcastInDim S8x128x128x8192 ![0, 1, 2, 3] bcast_S8x128x1x8192_S8x128x128x8192_0_1_2_3 (broadcastInDim S8x128x1x8192 ![0, 1, 3] bcast_S8x128x8192_S8x128x1x8192_0_1_3 e1)) (broadcastInDim S8x128x128x8192 ![0, 1, 2, 3] bcast_S8x1x128x8192_S8x128x128x8192_0_1_2_3 (broadcastInDim S8x1x128x8192 ![0, 2, 3] bcast_S8x128x8192_S8x1x128x8192_0_2_3 e2))) (broadcastInDim S8x128x128x8192 ![] bcast_S_S8x128x128x8192 (id (constant S_ .f32 0x00000000#32)))) (constant S_ .f32 0x00000000#32) reducesTo_S8x128x128x8192_S128x128x8192_d0 h_S_) shapeCasts_S128x128x8192_S16384x8192

/-- The reference's products of an expert's row and a token's row. -/
def dots (u : FVec Ideal S1x16384x2048 .f32) (h2 : FVec Ideal S8192x2048 .bf16) : FVec Ideal S16384x8192 .f32 :=
  Host.dotGeneral (F := Ideal) dot_S16384x2048_S8192x2048_S16384x8192_1_1_0_0_n_n none (shapeCast _ u shapeCasts_S1x16384x2048_S16384x2048) (extf .f32 h2 bitsLt_bf16_f32)

/-- The reference's activation. -/
def acts (s : FVec Ideal S16384x8192 .f32) : FVec Ideal S16384x8192 .f32 :=
  mulf (mulf (broadcastInDim S16384x8192 ![] bcast_S_S16384x8192 (constant S_ .f32 0x3F000000#32)) s) (Host.erfc (mulf (Host.negf s) (broadcastInDim S16384x8192 ![] bcast_S_S16384x8192 (constant S_ .f32 0x3F3504F3#32))))

/-- The reference's stream after the experts. -/
def stream (x1 : FVec Ideal S8192x2048 .f32) (w : FVec Ideal S16384x8192 .f32) (v : FVec Ideal S1x16384x2048 .f32) : FVec Ideal S8192x2048 .f32 :=
  addf x1 (Host.dotGeneral (F := Ideal) dot_S16384x8192_S16384x2048_S8192x2048_0_0_1_1_n_n none w (shapeCast _ v shapeCasts_S1x16384x2048_S16384x2048))

/-- The reference's last norm. -/
def norms (X : FVec Ideal S8192x2048 .f32) (w : FVec Ideal S2048 .f32) : FVec Ideal S8192x2048 .f32 :=
  mulf (mulf X (broadcastInDim S8192x2048 ![0, 1] bcast_S8192x1_S8192x2048_0_1 (Host.rsqrt (addf (Host.divf (broadcastInDim S8192x1 ![0] bcast_S8192_S8192x1_0 (Host.reduceAdd (mulf X X) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 w))

/-- A weight of the reference. -/
theorem gates_at (s1 s2 e1 e2 : FVec Ideal S8x128x8192 .f32) (tau : FVec Ideal S8x8192 .f32) (n : Fin 16384) (t : Fin 8192) :
    gates s1 s2 e1 e2 tau (ix2 n t) = gate (fun h i => s1 (ix3 h i t)) (fun h i => s2 (ix3 h i t)) (fun h i => e1 (ix3 h i t)) (fun h i => e2 (ix3 h i t))
      (fun h => tau (ix2 h t)) ⟨n.val / 128, by omega⟩ ⟨n.val % 128, by omega⟩ := by
  pointwise [gates, gate, chosen]
  have z : id (constant (F := Ideal) S_ FTy.f32 0#32) ix0 = 0 := by
    show constant (F := Ideal) S_ FTy.f32 0#32 ix0 = 0
    pointwise
  rw [z]

/-- A product of the reference. -/
theorem dots_at (u : FVec Ideal S1x16384x2048 .f32) (h2 : FVec Ideal S8192x2048 .bf16) (n : Fin 16384) (t : Fin 8192) :
    dots u h2 (ix2 n t) = ∑ k : Fin 2048, u (ix3 0 n k) * h2 (ix2 t k) := by
  pointwise [dots]

/-- The complementary error function at the negated argument is one more than the error function. -/
theorem acts_at (s : FVec Ideal S16384x8192 .f32) (n : Fin 16384) (t : Fin 8192) : acts s (ix2 n t) = gelu (s (ix2 n t)) := by
  pointwise [acts, gelu]
  rw [neg_mul, Ideal.erfc_neg]

/-- An entry of the stream after the experts. -/
theorem stream_at (x1 : FVec Ideal S8192x2048 .f32) (w : FVec Ideal S16384x8192 .f32) (v : FVec Ideal S1x16384x2048 .f32) (t : Fin 8192) (d : Fin 2048) :
    stream x1 w v (ix2 t d) = x1 (ix2 t d) + ∑ n : Fin 16384, w (ix2 n t) * v (ix3 0 n d) := by
  pointwise [stream]

/-- A normalised entry. -/
theorem norms_at (X : FVec Ideal S8192x2048 .f32) (w : FVec Ideal S2048 .f32) (t : Fin 8192) (d : Fin 2048) :
    norms X w (ix2 t d) = normed (fun k => X (ix2 t k)) (fun k => w (ix1 k)) d := by
  pointwise [norms, normed]

/-- The whole reference in its parts. -/
theorem parts (m : (ℓ : Loc nD τ sig) → Buf (Elt Ideal) ℓ) (c : Dev nD) :
    Cert.ExpertsRefIdeal.Value.res_out0 m c = norms (stream (m ((c.tc : Thread nD τ).loc main_arg6))
      (mulf (gates (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
        (acts (dots (m ((c.tc : Thread nD τ).loc main_arg7)) (m ((c.tc : Thread nD τ).loc main_arg0)))))
      (m ((c.tc : Thread nD τ).loc main_arg8))) (m ((c.tc : Thread nD τ).loc main_arg9)) := rfl

end Cert.ExpertsRefIdeal.RefValue
end
-- ==== Proof.ExpertsPay.lean ====
module

public import proofs.«01_k».proof.Proof.Gen.ExpertsIdeal.Value
public import proofs.«01_k».proof.Proof.ExpertsSpec
public import Idealize.ShloMosaic.Lib.Pipeline.ValueKit
public import Idealize.ShloMosaic.Lib.Pointwise
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.ExpertsIdeal.RefValue

open Cert.ExpertsIdeal Cert.ExpertsIdeal.Gen
open Cert.ExpertsRefIdeal.RefValue (chosen gate gelu normed)

/-- The accumulating product at an entry. -/
theorem pay111 (acc : Vec Ideal S2048x512 .f32) (vt : Vec Ideal S2048x512 .bf16) (w : Vec Ideal S512x512 .bf16) (d : Fin 2048) (k : Fin 512) :
    k0_pay111 (F := Ideal) acc vt w (ix2 d k) = acc (ix2 d k) + ∑ n : Fin 512, vt (ix2 d n) * w (ix2 n k) := by
  pointwise [k0_pay111]

/-- The product of the block's expert rows and the tokens' rows. -/
theorem pay3 (u : Vec Ideal S512x2048 .bf16) (h : Vec Ideal S512x2048 .bf16) (n k : Fin 512) :
    k0_pay3 (F := Ideal) u h (ix2 n k) = ∑ l : Fin 2048, u (ix2 n l) * h (ix2 k l) := by
  pointwise [k0_pay3]

/-- The last norm at an entry: the stream with the accumulated sum added, normalised. -/
theorem pay1 (x : Vec Ideal S512x2048 .f32) (acc : Vec Ideal S2048x512 .f32) (w : Vec Ideal S1x2048 .f32) (r : Fin 512) (d : Fin 2048) :
    k0_pay1 (F := Ideal) x acc w (ix2 r d) = normed (fun l => x (ix2 r l) + acc (ix2 l r)) (fun l => w (ix2 0 l)) d := by
  pointwise [k0_pay1, normed]

/-- The block of experts a point works on. -/
theorem coords1 : ∀ t : Fin cfg0.N, ((grid0.coords t) 1).val = t.val % 32 := (by decide +kernel : ∀ t : Fin grid0.N, ((grid0.coords t) 1).val = t.val % 32)

/-- The first key of a row of the block, as the point computes it. -/
theorem key (t : Fin cfg0.N) (b : BitVec 32) (hb : b.toNat < 4) :
    (Scalar.indexCast (Scalar.addi (Scalar.muli (BitVec.ofNat 32 ((grid0.coords t) 1).val) 4#32) b)).toNat = 4 * (t.val % 32) + b.toNat := by
  rw [coords1]
  show ((BitVec.ofNat 32 (t.val % 32) * 4#32) + b).toNat = _
  simp only [BitVec.toNat_add, BitVec.toNat_mul, BitVec.toNat_ofNat]
  omega

/-- What the point writes at place `(n, k)` of its weights. -/
def wAt (x0 x1 : Vec Ideal S512x2048 .bf16) (x3 x4 x5 x6 : Vec Ideal S8x128x512 .f32) (x7 : Vec Ideal S8x512 .f32) (e : Fin 32) (n k : Fin 512) : EReal :=
  gate (fun h i => x3 (ix3 h i k)) (fun h i => x4 (ix3 h i k)) (fun h i => x5 (ix3 h i k)) (fun h i => x6 (ix3 h i k)) (fun h => x7 (ix2 h k))
    ⟨4 * e.val + n.val / 128, by omega⟩ ⟨n.val % 128, by omega⟩ * gelu (∑ l : Fin 2048, x1 (ix2 n l) * x0 (ix2 k l))

/-- The sum over the heads, written out as the point adds them up, times the activation: the weight at the place `(n, k)`, whose first key is `I` and whose second is `J`. -/
theorem core (x0 x1 : Vec Ideal S512x2048 .bf16) (x3 x4 x5 x6 : Vec Ideal S8x128x512 .f32) (x7 : Vec Ideal S8x512 .f32) (e : Fin 32) (n k N K : Fin 512) (I J : Fin 128)
    (hn : N.val = n.val) (hk : K.val = k.val) (hI : I.val = 4 * e.val + n.val / 128) (hJ : J.val = n.val % 128) :
    ((((((((if x7 (ix2 0 K) ≤ x4 (ix3 0 J K) + x3 (ix3 0 I K) then x6 (ix3 0 J K) * x5 (ix3 0 I K) else 0) + (if x7 (ix2 1 K) ≤ x4 (ix3 1 J K) + x3 (ix3 1 I K) then x6 (ix3 1 J K) * x5 (ix3 1 I K) else 0)) + (if x7 (ix2 2 K) ≤ x4 (ix3 2 J K) + x3 (ix3 2 I K) then x6 (ix3 2 J K) * x5 (ix3 2 I K) else 0)) + (if x7 (ix2 3 K) ≤ x4 (ix3 3 J K) + x3 (ix3 3 I K) then x6 (ix3 3 J K) * x5 (ix3 3 I K) else 0)) + (if x7 (ix2 4 K) ≤ x4 (ix3 4 J K) + x3 (ix3 4 I K) then x6 (ix3 4 J K) * x5 (ix3 4 I K) else 0)) + (if x7 (ix2 5 K) ≤ x4 (ix3 5 J K) + x3 (ix3 5 I K) then x6 (ix3 5 J K) * x5 (ix3 5 I K) else 0)) + (if x7 (ix2 6 K) ≤ x4 (ix3 6 J K) + x3 (ix3 6 I K) then x6 (ix3 6 J K) * x5 (ix3 6 I K) else 0)) + (if x7 (ix2 7 K) ≤ x4 (ix3 7 J K) + x3 (ix3 7 I K) then x6 (ix3 7 J K) * x5 (ix3 7 I K) else 0))
      * (Ideal.ofBits .f32 0x3F000000#32 * (∑ l : Fin 2048, x1 (ix2 N l) * x0 (ix2 K l)) * (1 + FloatOps.erf (F := Ideal) (φ := .f32) ((∑ l : Fin 2048, x1 (ix2 N l) * x0 (ix2 K l)) * Ideal.ofBits .f32 0x3F3504F3#32)))
      = wAt x0 x1 x3 x4 x5 x6 x7 e n k := by
  obtain rfl : N = n := Fin.ext hn
  obtain rfl : K = k := Fin.ext hk
  have hI' : (⟨4 * e.val + N.val / 128, by omega⟩ : Fin 128) = I := Fin.ext hI.symm
  have hJ' : (⟨N.val % 128, by omega⟩ : Fin 128) = J := Fin.ext hJ.symm
  unfold wAt gate chosen
  rw [hI', hJ']
  rw [Fin.sum_univ_eight]
  simp only [add_comm (x3 _), mul_comm (x5 _)]
  rfl

/-- One block of 512 experts' part of the sum at lane `d` and token `k`. -/
def part (x0 x1 : Vec Ideal S512x2048 .bf16) (x2 : Vec Ideal S2048x512 .bf16) (x3 x4 x5 x6 : Vec Ideal S8x128x512 .f32) (x7 : Vec Ideal S8x512 .f32) (e : Fin 32)
    (d : Fin 2048) (k : Fin 512) : EReal :=
  ∑ n : Fin 512, x2 (ix2 d n) * wAt x0 x1 x3 x4 x5 x6 x7 e n k

/-- The accumulated sum after a point: what it held before and the block's part. -/
theorem acc_step (acc acc' : Vec Ideal S2048x512 .f32) (x0 x1 : Vec Ideal S512x2048 .bf16) (x2 : Vec Ideal S2048x512 .bf16) (x3 x4 x5 x6 : Vec Ideal S8x128x512 .f32) (x7 : Vec Ideal S8x512 .f32)
    (e : Fin 32) (w : Vec Ideal S512x512 .bf16) (ha : acc = acc') (hw : ∀ n k : Fin 512, w (ix2 n k) = wAt x0 x1 x3 x4 x5 x6 x7 e n k) (d : Fin 2048) (k : Fin 512) :
    k0_pay111 (F := Ideal) acc x2 w (ix2 d k) = acc' (ix2 d k) + part x0 x1 x2 x3 x4 x5 x6 x7 e d k := by
  rw [pay111, ha]
  exact congrArg _ (Finset.sum_congr rfl fun n _ => by rw [hw n k])

end Cert.ExpertsIdeal.RefValue
end
-- ==== Proof.ExpertsStep.lean ====
module

public import proofs.«01_k».proof.Proof.Gen.ExpertsIdeal.Value
public import proofs.«01_k».proof.Proof.ExpertsPay
public import Idealize.ShloMosaic.Lib.Pipeline.ValueKit
public import Idealize.ShloMosaic.Lib.Pointwise
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.ExpertsIdeal.RefValue

open Cert.ExpertsIdeal Cert.ExpertsIdeal.Gen
open Cert.ExpertsRefIdeal.RefValue (chosen gate gelu normed)

variable (m : (ℓ : Loc nD τ sig) → Buf (Elt Ideal) ℓ)

/-- What the accumulated sum holds when a point begins to add: nothing at a run's first point, and what the point before left at the others. -/
def before (c : Dev nD) (t : Fin cfg0.N) : Vec Ideal S2048x512 .f32 :=
  if t.val % 32 = 0 then fun _ => 0 else (outsAt0 m c (t.val - 1) (Nat.lt_of_le_of_lt (Nat.sub_le _ _) t.isLt)).2

/-- The zero fill. -/
theorem pay2 : k0_pay2 (F := Ideal) = fun _ => 0 := by
  funext j
  pointwise [k0_pay2]

set_option maxHeartbeats 4000000 in
/-- The accumulated sum after point `t`: its eight pieces of weights read back as one block, times the block of the second table. -/
theorem step (c : Dev nD) (t : Fin cfg0.N) (d : Fin 2048) (k : Fin 512) :
    (outsAt0 m c t.val t.isLt).2 (ix2 d k) = before m c t (ix2 d k)
      + part (iblk m c 0 t) (iblk m c 1 t) (iblk m c 2 t) (iblk m c 3 t) (iblk m c 4 t) (iblk m c 5 t) (iblk m c 6 t) (iblk m c 7 t) ⟨t.val % 32, by omega⟩ d k := by
  have hB : ∀ h0 : ¬t.val % 32 = 0, before m c t = (outsAt0 m c (t.val - 1) (Nat.lt_of_le_of_lt (Nat.sub_le _ _) t.isLt)).2 := fun h0 => if_neg h0
  have hA : ∀ h0 : t.val % 32 = 0, before m c t = fun _ => 0 := fun h0 => if_pos h0
  have h : (t.val % 32 = 0 ∧ ¬t.val % 32 = 31) ∨ (¬t.val % 32 = 0 ∧ t.val % 32 = 31) ∨ (¬t.val % 32 = 0 ∧ ¬t.val % 32 = 31) := by omega
  rcases h with ⟨h0, h1⟩ | ⟨h0, h1⟩ | ⟨h0, h1⟩
  case' inl =>
    rw [outsAt0_A m c t h0 h1]
    frame_out
    refine acc_step _ _ _ _ _ _ _ _ _ _ _ _ (pay2.trans (hA h0).symm) ?_ d k
  case' inr.inl =>
    rw [outsAt0_C m c t h0 h1]
    frame_out
    refine acc_step _ _ _ _ _ _ _ _ _ _ _ _ (((Memref.isWhole_whole cc0_scratch0).read_unread _).trans (hB h0).symm) ?_ d k
  case' inr.inr =>
    rw [outsAt0_B m c t h0 h1]
    frame_out
    refine acc_step _ _ _ _ _ _ _ _ _ _ _ _ (((Memref.isWhole_whole cc0_scratch0).read_unread _).trans (hB h0).symm) ?_ d k
  all_goals
    clear hA hB h0 h1
    intro n k
    rw [View.readCov_eq_canon']
    canon_tiles y hh
    all_goals
      have hn := (Nat.zero_add n.val).symm.trans ((congrArg (0 + ·) (Nat.one_mul n.val)).symm.trans hh0)
      have hk := (Nat.zero_add k.val).symm.trans ((congrArg (0 + ·) (Nat.one_mul k.val)).symm.trans hh1)
      simp only [k0_off1, k0_off2, k0_off3, k0_off4, k0_off5, k0_off6, k0_off7, k0_off8, k0_off9, k0_off10, k0_off11, k0_off12, k0_off13, k0_off14, k0_off15, k0_off16]
      generalize iblk m c 3 t = x3, iblk m c 4 t = x4, iblk m c 5 t = x5, iblk m c 6 t = x6, iblk m c 7 t = x7, iblk m c 1 t = x1, iblk m c 0 t = x0
      open_payloads
      pointwise [pay3]
      refine core x0 x1 x3 x4 x5 x6 x7 _ n k _ _ _ _ ?_ ?_ ?_ ?_
      · exact hn.symm
      · exact hk.symm
      · refine (key t _ (by decide)).trans ?_
        show _ = 4 * (t.val % 32) + n.val / 128
        simp only [BitVec.reduceToNat]
        omega
      · show (y 0).val = n.val % 128
        omega

end Cert.ExpertsIdeal.RefValue
end
-- ==== Proof.ExpertsValue.lean ====
module

public import proofs.«01_k».proof.Proof.ExpertsStep

@[expose] public section

set_option maxRecDepth 16384

noncomputable section

open Idealize.ShloMosaic Idealize.ShloMosaic.TcCoe Idealize.SL.Sem
open Idealize.ShloMosaic.Pipeline (Dat)

namespace Cert.ExpertsIdeal.RefValue

open Cert.ExpertsIdeal Cert.ExpertsIdeal.Gen
open Cert.ExpertsRefIdeal.RefValue (chosen gate gelu normed)

variable (m : (ℓ : Loc nD τ sig) → Buf (Elt Ideal) ℓ)

/-- The rows the experts read. -/
def hid (c : Dev nD) : FVec Ideal S8192x2048 .bf16 := m ((c : Thread nD τ).loc main_arg0)
/-- The scores of the first keys. -/
def sc1 (c : Dev nD) : FVec Ideal S8x128x8192 .f32 := m ((c : Thread nD τ).loc main_arg1)
/-- The scores of the second keys. -/
def sc2 (c : Dev nD) : FVec Ideal S8x128x8192 .f32 := m ((c : Thread nD τ).loc main_arg2)
/-- The weights of the first keys. -/
def ex1 (c : Dev nD) : FVec Ideal S8x128x8192 .f32 := m ((c : Thread nD τ).loc main_arg3)
/-- The weights of the second keys. -/
def ex2 (c : Dev nD) : FVec Ideal S8x128x8192 .f32 := m ((c : Thread nD τ).loc main_arg4)
/-- The thresholds. -/
def thr (c : Dev nD) : FVec Ideal S8x8192 .f32 := m ((c : Thread nD τ).loc main_arg5)
/-- The stream the experts' sum is added to. -/
def str (c : Dev nD) : FVec Ideal S8192x2048 .f32 := m ((c : Thread nD τ).loc main_arg6)
/-- The experts' first table. -/
def tabU (c : Dev nD) : FVec Ideal S1x16384x2048 .f32 := m ((c : Thread nD τ).loc main_arg7)
/-- The experts' second table. -/
def tabV (c : Dev nD) : FVec Ideal S1x16384x2048 .f32 := m ((c : Thread nD τ).loc main_arg8)
/-- The last norm's weights. -/
def fin (c : Dev nD) : FVec Ideal S2048 .f32 := m ((c : Thread nD τ).loc main_arg9)

/-- What expert `n` adds to token `t` at lane `d`: its weight, times its activation, times its row of the second table. -/
def term (c : Dev nD) (t : Fin 8192) (d : Fin 2048) (n : Fin 16384) : EReal :=
  gate (fun h i => sc1 m c (ix3 h i t)) (fun h i => sc2 m c (ix3 h i t)) (fun h i => ex1 m c (ix3 h i t)) (fun h i => ex2 m c (ix3 h i t)) (fun h => thr m c (ix2 h t))
    ⟨n.val / 128, by omega⟩ ⟨n.val % 128, by omega⟩ * gelu (∑ k : Fin 2048, tabU m c (ix3 0 n k) * hid m c (ix2 t k)) * tabV m c (ix3 0 n d)

/-- The array the call returns: the stream with all the experts' parts added, normalised. -/
def expertsOf (c : Dev nD) : FVec Ideal S8192x2048 .f32 := fun i =>
  normed (fun l => str m c (ix2 (i 0) l) + ∑ n : Fin 16384, term m c (i 0) l n) (fun k => fin m c (ix1 k)) (i 1)

/-- The first table as the call reads it: without its leading axis. -/
theorem vu (c : Dev nD) (n : Fin 16384) (k : Fin 2048) : V m c main_v2 (ix2 n k) = tabU m c (ix3 0 n k) := by
  have e : V m c main_v2 = truncf (F := Ideal) .bf16 (shapeCast S16384x2048 (tabU m c) shapeCasts_S1x16384x2048_S16384x2048) bitsLt_bf16_f32 := by
    simp only [V, hostOps0, List.flatten_cons, List.flatten_nil, List.append_nil, List.cons_append,
      List.nil_append, StableHlo.TRef.binary, StableHlo.TRef.unary, StableHlo.TRef.toBuf, StableHlo.TRef.ofBuf, cast_eq]
    after_results <;> rfl
  rw [e]
  pointwise

/-- The second table as the call reads it: without its leading axis, and with its rows as columns. -/
theorem vv (c : Dev nD) (d : Fin 2048) (n : Fin 16384) : V m c main_v5 (ix2 d n) = tabV m c (ix3 0 n d) := by
  have e : V m c main_v5 = transpose S2048x16384 [1, 0] (truncf (F := Ideal) .bf16 (shapeCast S16384x2048 (tabV m c) shapeCasts_S1x16384x2048_S16384x2048) bitsLt_bf16_f32)
      transposes_S16384x2048_S2048x16384_1_0 := by
    simp only [V, hostOps0, List.flatten_cons, List.flatten_nil, List.append_nil, List.cons_append,
      List.nil_append, StableHlo.TRef.binary, StableHlo.TRef.unary, StableHlo.TRef.toBuf, StableHlo.TRef.ofBuf, cast_eq]
    after_results <;> rfl
  rw [e]
  pointwise

/-- The last norm's weights as the call reads them: one row. -/
theorem vw (c : Dev nD) (k : Fin 2048) : V m c main_v0 (ix2 0 k) = fin m c (ix1 k) := by
  have e : V m c main_v0 = shapeCast S1x2048 (m ((c : Thread nD τ).loc main_arg9)) shapeCasts_S2048_S1x2048 := by
    simp only [V, hostOps0, List.flatten_cons, List.flatten_nil, List.append_nil, List.cons_append,
      List.nil_append, StableHlo.TRef.binary, StableHlo.TRef.unary, StableHlo.TRef.toBuf, StableHlo.TRef.ofBuf, cast_eq]
    after_results <;> rfl
  rw [e]
  pointwise [fin]

/-- The blocks the points read and write: block `t / 32` of the tokens and block `t % 32` of the experts. -/
theorem idx : ∀ t : Fin cfg0.N, win0_0.index t = ![t.val / 32, 0] ∧ win0_1.index t = ![t.val % 32, 0] ∧ win0_2.index t = ![0, t.val % 32]
    ∧ win0_3.index t = ![0, 0, t.val / 32] ∧ win0_4.index t = ![0, 0, t.val / 32] ∧ win0_5.index t = ![0, 0, t.val / 32] ∧ win0_6.index t = ![0, 0, t.val / 32]
    ∧ win0_7.index t = ![0, t.val / 32] ∧ win0_8.index t = ![t.val / 32, 0] ∧ win0_9.index t = ![0, 0] ∧ win0_10.index t = ![t.val / 32, 0] :=
  (by decide +kernel : ∀ t : Fin grid0.N, _)

/-- A block of the rows. -/
theorem b0 (c : Dev nD) (t : Fin cfg0.N) (k : Fin 512) (l : Fin 2048) (T : Fin 8192) (hT : T.val = 512 * (t.val / 32) + k.val) :
    iblk m c 0 t (ix2 k l) = hid m c (ix2 T l) := by
  have e : V m c main_arg0 = hid m c := V_main_arg0 m c
  rw [← e]
  blk_ext [iblk, idx t]

/-- A block of the first table. -/
theorem b1 (c : Dev nD) (t : Fin cfg0.N) (n : Fin 512) (l : Fin 2048) (E : Fin 16384) (hE : E.val = t.val % 32 * 512 + n.val) :
    iblk m c 1 t (ix2 n l) = tabU m c (ix3 0 E l) := by
  rw [← vu m c E l]
  blk_ext [iblk, idx t]

/-- A block of the second table. -/
theorem b2 (c : Dev nD) (t : Fin cfg0.N) (d : Fin 2048) (n : Fin 512) (E : Fin 16384) (hE : E.val = t.val % 32 * 512 + n.val) :
    iblk m c 2 t (ix2 d n) = tabV m c (ix3 0 E d) := by
  rw [← vv m c d E]
  blk_ext [iblk, idx t]

/-- Blocks of the scores and of the weights of the keys. -/
theorem b3 (c : Dev nD) (t : Fin cfg0.N) (h : Fin 8) (i : Fin 128) (k : Fin 512) (T : Fin 8192) (hT : T.val = 512 * (t.val / 32) + k.val) :
    iblk m c 3 t (ix3 h i k) = sc1 m c (ix3 h i T) ∧ iblk m c 4 t (ix3 h i k) = sc2 m c (ix3 h i T)
    ∧ iblk m c 5 t (ix3 h i k) = ex1 m c (ix3 h i T) ∧ iblk m c 6 t (ix3 h i k) = ex2 m c (ix3 h i T) := by
  have e1 : V m c main_arg1 = sc1 m c := V_main_arg1 m c
  have e2 : V m c main_arg2 = sc2 m c := V_main_arg2 m c
  have e3 : V m c main_arg3 = ex1 m c := V_main_arg3 m c
  have e4 : V m c main_arg4 = ex2 m c := V_main_arg4 m c
  rw [← e1, ← e2, ← e3, ← e4]
  refine ⟨?_, ?_, ?_, ?_⟩ <;> blk_ext [iblk, idx t]

/-- A block of the thresholds. -/
theorem b7 (c : Dev nD) (t : Fin cfg0.N) (h : Fin 8) (k : Fin 512) (T : Fin 8192) (hT : T.val = 512 * (t.val / 32) + k.val) :
    iblk m c 7 t (ix2 h k) = thr m c (ix2 h T) := by
  have e : V m c main_arg5 = thr m c := V_main_arg5 m c
  rw [← e]
  blk_ext [iblk, idx t]

/-- A block of the stream. -/
theorem b8 (c : Dev nD) (t : Fin cfg0.N) (k : Fin 512) (l : Fin 2048) (T : Fin 8192) (hT : T.val = 512 * (t.val / 32) + k.val) :
    iblk m c 8 t (ix2 k l) = str m c (ix2 T l) := by
  have e : V m c main_arg6 = str m c := V_main_arg6 m c
  rw [← e]
  blk_ext [iblk, idx t]

/-- The block of the last norm's weights. -/
theorem b9 (c : Dev nD) (t : Fin cfg0.N) (l : Fin 2048) : iblk m c 9 t (ix2 0 l) = fin m c (ix1 l) := by
  rw [← vw m c l]
  blk_ext [iblk, idx t]

/-- A block's part of the sum, from what its blocks hold. -/
theorem part_congr (x0 x1 : Vec Ideal S512x2048 .bf16) (x2 : Vec Ideal S2048x512 .bf16) (x3 x4 x5 x6 : Vec Ideal S8x128x512 .f32) (x7 : Vec Ideal S8x512 .f32) (e : Fin 32)
    (d : Fin 2048) (k : Fin 512) (H : Fin 2048 → EReal) (U : Fin 512 → Fin 2048 → EReal) (W : Fin 512 → EReal) (S1 S2 E1 E2 : Fin 8 → Fin 128 → EReal) (T : Fin 8 → EReal)
    (h0 : ∀ l, x0 (ix2 k l) = H l) (h1 : ∀ n l, x1 (ix2 n l) = U n l) (h2 : ∀ n, x2 (ix2 d n) = W n)
    (h3 : ∀ h i, x3 (ix3 h i k) = S1 h i) (h4 : ∀ h i, x4 (ix3 h i k) = S2 h i) (h5 : ∀ h i, x5 (ix3 h i k) = E1 h i) (h6 : ∀ h i, x6 (ix3 h i k) = E2 h i)
    (h7 : ∀ h, x7 (ix2 h k) = T h) :
    part x0 x1 x2 x3 x4 x5 x6 x7 e d k
      = ∑ n : Fin 512, gate S1 S2 E1 E2 T ⟨4 * e.val + n.val / 128, by omega⟩ ⟨n.val % 128, by omega⟩ * gelu (∑ l : Fin 2048, U n l * H l) * W n := by
  unfold part wAt
  refine Finset.sum_congr rfl fun n _ => ?_
  simp only [h0, h1, h2, h3, h4, h5, h6, h7]
  exact mul_comm _ _

/-- A point's part of the sum: the 512 experts of its block. -/
theorem part_eq (c : Dev nD) (t : Fin cfg0.N) (d : Fin 2048) (k : Fin 512) (T : Fin 8192) (hT : T.val = 512 * (t.val / 32) + k.val) :
    part (iblk m c 0 t) (iblk m c 1 t) (iblk m c 2 t) (iblk m c 3 t) (iblk m c 4 t) (iblk m c 5 t) (iblk m c 6 t) (iblk m c 7 t) ⟨t.val % 32, by omega⟩ d k
      = ∑ n : Fin 512, term m c T d ⟨t.val % 32 * 512 + n.val, by omega⟩ := by
  refine (part_congr _ _ _ _ _ _ _ _ _ d k (fun l => hid m c (ix2 T l)) (fun n l => tabU m c (ix3 0 ⟨t.val % 32 * 512 + n.val, by omega⟩ l))
    (fun n => tabV m c (ix3 0 ⟨t.val % 32 * 512 + n.val, by omega⟩ d)) (fun h i => sc1 m c (ix3 h i T)) (fun h i => sc2 m c (ix3 h i T)) (fun h i => ex1 m c (ix3 h i T))
    (fun h i => ex2 m c (ix3 h i T)) (fun h => thr m c (ix2 h T)) (fun l => b0 m c t k l T hT) (fun n l => b1 m c t n l _ rfl) (fun n => b2 m c t d n _ rfl)
    (fun h i => (b3 m c t h i k T hT).1) (fun h i => (b3 m c t h i k T hT).2.1) (fun h i => (b3 m c t h i k T hT).2.2.1) (fun h i => (b3 m c t h i k T hT).2.2.2)
    (fun h => b7 m c t h k T hT)).trans (Finset.sum_congr rfl fun n _ => ?_)
  unfold term
  have hI : (⟨4 * (t.val % 32) + n.val / 128, by omega⟩ : Fin 128) = ⟨(t.val % 32 * 512 + n.val) / 128, by omega⟩ := Fin.ext (by show 4 * (t.val % 32) + n.val / 128 = (t.val % 32 * 512 + n.val) / 128; omega)
  have hJ : (⟨n.val % 128, by omega⟩ : Fin 128) = ⟨(t.val % 32 * 512 + n.val) % 128, by omega⟩ := Fin.ext (by show n.val % 128 = (t.val % 32 * 512 + n.val) % 128; omega)
  exact congrArg₂ (fun i j => gate (fun h i => sc1 m c (ix3 h i T)) (fun h i => sc2 m c (ix3 h i T)) (fun h i => ex1 m c (ix3 h i T)) (fun h i => ex2 m c (ix3 h i T)) (fun h => thr m c (ix2 h T)) i j
    * gelu (∑ k : Fin 2048, tabU m c (ix3 0 ⟨t.val % 32 * 512 + n.val, by omega⟩ k) * hid m c (ix2 T k)) * tabV m c (ix3 0 ⟨t.val % 32 * 512 + n.val, by omega⟩ d)) hI hJ

/-- The token of column `k` of a point's block. -/
def tok (t : Fin cfg0.N) (k : Fin 512) : Fin 8192 := ⟨512 * (t.val / 32) + k.val, by have := lt_of_lt_of_eq t.isLt N_0; omega⟩

/-- What a point adds to the accumulated sum at an entry. -/
def adds (c : Dev nD) (t : Fin cfg0.N) (p : Fin 2048 × Fin 512) : EReal := ∑ n : Fin 512, term m c (tok t p.2) p.1 ⟨t.val % 32 * 512 + n.val, by omega⟩

/-- The accumulated sum at an entry. -/
def acc (c : Dev nD) (n : ℕ) (h : n < cfg0.N) (p : Fin 2048 × Fin 512) : EReal := (outsAt0 m c n h).2 (ix2 p.1 p.2)

/-- A run's first point begins from nothing. -/
theorem acc_first (c : Dev nD) (t : Fin cfg0.N) (h0 : t.val % 32 = 0) (p : Fin 2048 × Fin 512) : acc m c t.val t.isLt p = 0 + adds m c t p := by
  unfold acc adds
  refine (step m c t p.1 p.2).trans (congrArg₂ (fun a b : EReal => a + b) ?_ (part_eq m c t p.1 p.2 (tok t p.2) rfl))
  unfold before
  rw [if_pos h0]

/-- Every other point adds to what the point before left. -/
theorem acc_next (c : Dev nD) (t : Fin cfg0.N) (h0 : ¬t.val % 32 = 0) (p : Fin 2048 × Fin 512) :
    acc m c t.val t.isLt p = acc m c (t.val - 1) (Nat.lt_of_le_of_lt (Nat.sub_le _ _) t.isLt) p + adds m c t p := by
  unfold acc adds
  refine (step m c t p.1 p.2).trans (congrArg₂ (fun a b : EReal => a + b) ?_ (part_eq m c t p.1 p.2 (tok t p.2) rfl))
  unfold before
  rw [if_neg h0]

/-- After a run's last point the accumulated sum is the sum over all the experts. -/
theorem acc_last (c : Dev nD) (t : Fin cfg0.N) (h : t.val % 32 = 31) (d : Fin 2048) (k : Fin 512) :
    (outsAt0 m c t.val t.isLt).2 (ix2 d k) = ∑ n : Fin 16384, term m c (tok t k) d n := by
  refine (Pipeline.eq_sum_fin_of_reset_step_apply_of_flush (acc m c) 32 (fun _ => 0) (adds m c) (acc_first m c) (acc_next m c) t h (d, k)).trans ?_
  rw [zero_add]
  refine Fin.sum_mul_add_congr fun s n hl => ?_
  have hs : (32 * (t.val / 32) + s.val) % 32 = s.val := by omega
  have ht : (32 * (t.val / 32) + s.val) / 32 = t.val / 32 := by omega
  have e1 : tok ⟨32 * (t.val / 32) + s.val, Pipeline.run_point_lt_of_flush t h s⟩ k = tok t k := Fin.ext (by show 512 * ((32 * (t.val / 32) + s.val) / 32) + k.val = 512 * (t.val / 32) + k.val; rw [ht])
  have e2 : (⟨(32 * (t.val / 32) + s.val) % 32 * 512 + n.val, by omega⟩ : Fin 16384) = ⟨s.val * 512 + n.val, hl⟩ := Fin.ext (by show (32 * (t.val / 32) + s.val) % 32 * 512 + n.val = s.val * 512 + n.val; rw [hs])
  exact congrArg₂ (fun a b => term m c a d b) e1 e2

/-- What a run's last point writes out. -/
theorem out_eq (c : Dev nD) (t : Fin cfg0.N) (h1 : t.val % 32 = 31) :
    (outsAt0 m c t.val t.isLt).1 = k0_pay1 (F := Ideal) (iblk m c 8 t) (outsAt0 m c t.val t.isLt).2 (iblk m c 9 t) := by
  rw [outsAt0_C m c t (by omega) h1]
  frame_out

/-- The last norm of a block, from what its blocks hold. -/
theorem pay1_congr (x : Vec Ideal S512x2048 .f32) (a : Vec Ideal S2048x512 .f32) (w : Vec Ideal S1x2048 .f32) (r : Fin 512) (d : Fin 2048) (X A W : Fin 2048 → EReal)
    (hx : ∀ l, x (ix2 r l) = X l) (ha : ∀ l, a (ix2 l r) = A l) (hw : ∀ l, w (ix2 0 l) = W l) :
    k0_pay1 (F := Ideal) x a w (ix2 r d) = normed (fun l => X l + A l) W d := by
  rw [pay1]
  simp only [hx, ha, hw]

/-- What a run's last point writes out, at the array index its place lands on. -/
theorem point (c : Dev nD) (t : Fin cfg0.N) (h1 : t.val % 32 = 31) (r : Fin 512) (d : Fin 2048) (i : S8192x2048.Idx)
    (hi0 : (i 0).val = 512 * (t.val / 32) + r.val) (hi1 : (i 1).val = d.val) : (outsAt0 m c t.val t.isLt).1 (ix2 r d) = expertsOf m c i := by
  have e0 : tok t r = i 0 := Fin.ext hi0.symm
  have e1 : d = i 1 := Fin.ext hi1.symm
  rw [out_eq m c t h1]
  refine (pay1_congr _ _ _ r d (fun l => str m c (ix2 (i 0) l)) (fun l => ∑ n : Fin 16384, term m c (i 0) l n) (fun l => fin m c (ix1 l))
    (fun l => b8 m c t r l (i 0) hi0) (fun l => (acc_last m c t h1 l r).trans ?_) (fun l => b9 m c t l)).trans ?_
  · rw [e0]
  · rw [e1]
    rfl

/-- The whole array after the last point. -/
theorem final (c : Dev nD) : (dats m 0 c).arrAt 10 (cfgs 0).N = expertsOf m c := by
  refine (dats m 0 c).arrAt_eq_of_covers 10 _ (by decide +kernel) fun t hf y => ?_
  blk_simp
  rw [after0_10]
  have hy : y = ix2 (y 0) (y 1) := by idx_ext
  rw [hy]
  refine point m c t ((flush0_10 t).mp hf) (y 0) (y 1) _ ?_ ?_ <;> (blk_simp [idx t]; try omega)

end Cert.ExpertsIdeal.RefValue
end
-- ==== Proof.ExpertsClaim.lean ====
module

public import proofs.«01_k».proof.Defs
public import proofs.«01_k».proof.Proof.ExpertsValue

@[expose] public section

set_option maxRecDepth 16384

noncomputable section

open Idealize.ShloMosaic Idealize.ShloMosaic.TcCoe Idealize.SL.Sem

namespace Cert.ExpertsRefIdeal.RefValue

open Cert.ExpertsRefIdeal Cert.ExpertsRefIdeal.Gen
open Cert.ExpertsIdeal.RefValue (expertsOf hid sc1 sc2 ex1 ex2 thr str tabU tabV fin term)

variable (m : (ℓ : Loc Cert.ExpertsIdeal.nD Cert.ExpertsIdeal.τ Cert.ExpertsIdeal.sig) → Buf (Elt Ideal) ℓ) (c : Dev Cert.ExpertsIdeal.nD)

/-- The reference of the call's own arguments is the array the call returns. -/
theorem experts_eq : norms (stream (str m c) (mulf (gates (sc1 m c) (sc2 m c) (ex1 m c) (ex2 m c) (thr m c)) (acts (dots (tabU m c) (hid m c)))) (tabV m c)) (fin m c)
    = expertsOf m c := by
  funext i
  have hi : i = ix2 (i 0) (i 1) := by idx_ext
  suffices h : ∀ (t : Fin 8192) (d : Fin 2048), norms (stream (str m c) (mulf (gates (sc1 m c) (sc2 m c) (ex1 m c) (ex2 m c) (thr m c)) (acts (dots (tabU m c) (hid m c)))) (tabV m c)) (fin m c) (ix2 t d)
      = normed (fun l => str m c (ix2 t l) + ∑ n : Fin 16384, term m c t l n) (fun k => fin m c (ix1 k)) d by
    rw [hi]
    exact h (i 0) (i 1)
  intro t d
  rw [norms_at]
  refine congrArg (fun f => normed f _ d) (funext fun l => ?_)
  rw [stream_at]
  refine congrArg (str m c (ix2 t l) + ·) (Finset.sum_congr rfl fun n _ => ?_)
  unfold term
  rw [mulf_apply, gates_at, acts_at, dots_at]
  rfl

end Cert.ExpertsRefIdeal.RefValue

namespace Cert.Proof

/-- The plain experts run to their end and leave their arguments as they were. -/
theorem experts_ref_frame : Cert.quiescent_ExpertsRefIdeal := fun m ρ _ =>
  (θ_run _ _ _).mono (fun r h => ⟨fun c => (h c).2, Idealize.ShloMosaic.sem_eq_zero_of_no_sems (by decide) r.2⟩)
    (Cert.ExpertsRefIdeal.Value.run (F := Ideal) m ρ)

/-- The tiled experts and the last norm give the same array as the plain ones. -/
theorem experts_algebraic : Cert.algebraic_ExpertsIdeal_ExpertsRefIdeal := by
  intro m g m' g' _ hagree
  refine ⟨fun c => Cert.ExpertsIdeal.RefValue.expertsOf m c, ?_, ?_⟩
  · exact (θ_run _ _ _).mono (fun r h c => ⟨(h c).1.trans (Cert.ExpertsIdeal.RefValue.final m c), (h c).2⟩)
      (Cert.ExpertsIdeal.Value.run_blocks (F := Ideal) m g)
  · refine (θ_run _ _ _).mono (fun r h c => ⟨(h c).1.trans ?_, (h c).2⟩)
      (Cert.ExpertsRefIdeal.Value.run (F := Ideal) m' g')
    obtain ⟨h0, h1, h2, h3, h4, h5, h6, h7, h8, h9⟩ := hagree c
    refine (Cert.ExpertsRefIdeal.RefValue.parts m' c).trans ?_
    rw [h0, h1, h2, h3, h4, h5, h6, h7, h8, h9]
    exact Cert.ExpertsRefIdeal.RefValue.experts_eq m c

end Cert.Proof
end
-- ==== Proof.RouteSpec.lean ====
module

public import proofs.«01_k».proof.Proof.Gen.RouteIdeal.Value
public import Idealize.ShloMosaic.Lib.Pointwise

@[expose] public section

set_option maxRecDepth 65536

noncomputable section

open Idealize.ShloMosaic Idealize.ShloMosaic.TcCoe Idealize.SL.Sem
open Idealize.ShloMosaic.Pipeline (Dat)

/-! One head's rounds of maxima, candidate sums, threshold and normaliser, named once for all the heads. -/
namespace Cert.RouteIdeal.RefValue

open Cert.RouteIdeal Cert.RouteIdeal.Gen

/-- The greatest score of each column. -/
def mx (s : FVec Ideal S128x256 .f32) : FVec Ideal S1x256 .f32 :=
  shapeCast S1x256 (multiReduction .maximumf [0] S256 s 0xFF800000#32 reduces_S128x256_S256 (.inl rfl) rfl) shapeCasts_S256_S1x256

/-- The scores with each column's greatest taken out. -/
def cut (s : FVec Ideal S128x256 .f32) : FVec Ideal S128x256 .f32 :=
  select (cmpf .oeq s (broadcastTo S128x256 (mx s) broadcasts_S1x256_S128x256)) (broadcast S128x256 (Scalar.ofBits .f32 0xFF800000#32)) s

/-- The scores after some rounds. -/
def cuts (s : FVec Ideal S128x256 .f32) : Nat → FVec Ideal S128x256 .f32
  | 0 => s
  | n + 1 => cut (cuts s n)

/-- The greatest candidate of each column. -/
def mxC (s : FVec Ideal S56x256 .f32) : FVec Ideal S1x256 .f32 :=
  shapeCast S1x256 (multiReduction .maximumf [0] S256 s 0xFF800000#32 reduces_S56x256_S256 (.inl rfl) rfl) shapeCasts_S256_S1x256

/-- The candidates with each column's greatest taken out. -/
def cutC (s : FVec Ideal S56x256 .f32) : FVec Ideal S56x256 .f32 :=
  select (cmpf .oeq s (broadcastTo S56x256 (mxC s) broadcasts_S1x256_S56x256)) (broadcast S56x256 (Scalar.ofBits .f32 0xFF800000#32)) s

/-- The candidates after some rounds. -/
def cutsC (s : FVec Ideal S56x256 .f32) : Nat → FVec Ideal S56x256 .f32
  | 0 => s
  | n + 1 => cutC (cutsC s n)

/-- The pairs of ranks whose sums are candidates, last first, with their rows. -/
def pairs : List (Nat × Nat × Nat) :=
  [(49, 15, 0), (48, 14, 0), (47, 13, 0), (46, 12, 0), (45, 11, 0), (44, 10, 0), (43, 9, 0), (42, 8, 0), (41, 7, 1), (40, 7, 0), (39, 6, 1), (38, 6, 0), (37, 5, 1), (36, 5, 0), (35, 4, 2), (34, 4, 1), (33, 4, 0), (32, 3, 3), (31, 3, 2), (30, 3, 1), (29, 3, 0), (28, 2, 4), (27, 2, 3), (26, 2, 2), (25, 2, 1), (24, 2, 0), (23, 1, 7), (22, 1, 6), (21, 1, 5), (20, 1, 4), (19, 1, 3), (18, 1, 2), (17, 1, 1), (16, 1, 0), (15, 0, 15), (14, 0, 14), (13, 0, 13), (12, 0, 12), (11, 0, 11), (10, 0, 10), (9, 0, 9), (8, 0, 8), (7, 0, 7), (6, 0, 6), (5, 0, 5), (4, 0, 4), (3, 0, 3), (2, 0, 2), (1, 0, 1), (0, 0, 0)]

/-- The candidate rows: each pair's sum in its row, infinitely low elsewhere. -/
def cands (v w : Nat → FVec Ideal S1x256 .f32) : List (Nat × Nat × Nat) → FVec Ideal S56x256 .f32
  | [] => broadcast S56x256 (Scalar.ofBits .f32 0xFF800000#32)
  | (r, a, b) :: l => select (cmpi .eq (iota .tc S56x256 32 [0] iota_S56x256_d0_w32) (broadcast S56x256 (BitVec.ofNat 32 r)))
      (broadcastTo S56x256 (shapeCast S1x256 (addf (v a) (w b)) shapeCasts_S1x256_S1x256) broadcasts_S1x256_S56x256) (cands v w l)

/-- A head's candidates. -/
def cnd (s s' : FVec Ideal S128x256 .f32) : FVec Ideal S56x256 .f32 :=
  cands (fun n => mx (cuts s n)) (fun n => mx (cuts s' n)) pairs

/-- A head's thresholds. -/
def tauK (s s' : FVec Ideal S128x256 .f32) : FVec Ideal S1x256 .f32 := mxC (cutsC (cnd s s') 15)

/-- A head's normalisers. -/
def zK (s s' : FVec Ideal S128x256 .f32) : FVec Ideal S1x256 .f32 :=
  shapeCast S1x256 (multiReduction .add [0] S256
    (select (cmpf .oge (cnd s s') (broadcastTo S56x256 (tauK s s') broadcasts_S1x256_S56x256))
      (exp (subf (cnd s s') (broadcastTo S56x256 (addf (mx s) (mx s')) broadcasts_S1x256_S56x256)))
      (broadcast S56x256 (Scalar.ofBits .f32 0x00000000#32))) 0x00000000#32 reduces_S56x256_S256 (.inl rfl) rfl) shapeCasts_S256_S1x256

/-- A head's first weights. -/
def e1K (s s' : FVec Ideal S128x256 .f32) : FVec Ideal S1x128x256 .f32 :=
  shapeCast S1x128x256 (divf (exp (subf s (broadcastTo S128x256 (mx s) broadcasts_S1x256_S128x256)))
    (broadcastTo S128x256 (zK s s') broadcasts_S1x256_S128x256)) shapeCasts_S128x256_S1x128x256

/-- A head's second weights. -/
def e2K (s' : FVec Ideal S128x256 .f32) : FVec Ideal S1x128x256 .f32 :=
  shapeCast S1x128x256 (exp (subf s' (broadcastTo S128x256 (mx s') broadcasts_S1x256_S128x256))) shapeCasts_S128x256_S1x128x256

/-- A head's block of scores as columns of keys. -/
def hd (x : Vec Ideal S1x128x256 .f32) : FVec Ideal S128x256 .f32 := shapeCast S128x256 x shapeCasts_S1x128x256_S128x256

end Cert.RouteIdeal.RefValue

end
-- ==== Proof.RouteHeads.lean ====
module

public import proofs.«01_k».proof.Proof.RouteSpec
public import Idealize.ShloMosaic.Lib.Pointwise

@[expose] public section

set_option maxRecDepth 65536

noncomputable section

open Idealize.ShloMosaic Idealize.ShloMosaic.TcCoe Idealize.SL.Sem
open Idealize.ShloMosaic.Pipeline (Dat)

/-! Each head stores the same functions of its own two blocks of scores. -/
namespace Cert.RouteIdeal.RefValue

open Cert.RouteIdeal Cert.RouteIdeal.Gen

variable (x0 x1 : Vec Ideal S8x128x256 .f32)

/-- Head 0's thresholds. -/
theorem tau_h0 : k0_pay86 (k0_pay715 x0 x1) (k0_pay716 x0 x1) (Scalar.ofBits .f32 0xFF800000#32) = tauK (hd (View.ld x0 r0_0)) (hd (View.ld x1 r0_0)) := rfl

/-- Head 1's thresholds. -/
theorem tau_h1 : k0_pay169 (k0_pay732 x0 x1) = tauK (hd (View.ld x0 r0_2)) (hd (View.ld x1 r0_2)) := rfl

/-- Head 2's thresholds. -/
theorem tau_h2 : k0_pay254 (k0_pay762 x0 x1) = tauK (hd (View.ld x0 r0_4)) (hd (View.ld x1 r0_4)) := rfl

/-- Head 3's thresholds. -/
theorem tau_h3 : k0_pay342 (k0_pay793 x0 x1) (k0_pay794 x0 x1) = tauK (hd (View.ld x0 r0_6)) (hd (View.ld x1 r0_6)) := rfl

/-- Head 4's thresholds. -/
theorem tau_h4 : k0_pay428 (k0_pay821 x0 x1) (k0_pay822 x0 x1) (Scalar.ofBits .f32 0xFF800000#32) = tauK (hd (View.ld x0 r0_8)) (hd (View.ld x1 r0_8)) := rfl

/-- Head 5's thresholds. -/
theorem tau_h5 : k0_pay514 (k0_pay849 x0 x1) = tauK (hd (View.ld x0 r0_10)) (hd (View.ld x1 r0_10)) := rfl

/-- Head 6's thresholds. -/
theorem tau_h6 : k0_pay601 (k0_pay874 x0 x1) (k0_pay875 x0 x1) = tauK (hd (View.ld x0 r0_12)) (hd (View.ld x1 r0_12)) := rfl

/-- Head 7's thresholds. -/
theorem tau_h7 : k0_pay686 (k0_pay908 x0 x1) (k0_pay909 x0 x1) = tauK (hd (View.ld x0 r0_14)) (hd (View.ld x1 r0_14)) := rfl

/-- The block of thresholds, head by head. -/
theorem out_tau : out0_2 x0 x1 = View.canon [⟨r0_15, tauK (hd (View.ld x0 r0_14)) (hd (View.ld x1 r0_14))⟩,
    ⟨r0_13, tauK (hd (View.ld x0 r0_12)) (hd (View.ld x1 r0_12))⟩,
    ⟨r0_11, tauK (hd (View.ld x0 r0_10)) (hd (View.ld x1 r0_10))⟩,
    ⟨r0_9, tauK (hd (View.ld x0 r0_8)) (hd (View.ld x1 r0_8))⟩,
    ⟨r0_7, tauK (hd (View.ld x0 r0_6)) (hd (View.ld x1 r0_6))⟩,
    ⟨r0_5, tauK (hd (View.ld x0 r0_4)) (hd (View.ld x1 r0_4))⟩,
    ⟨r0_3, tauK (hd (View.ld x0 r0_2)) (hd (View.ld x1 r0_2))⟩,
    ⟨r0_1, tauK (hd (View.ld x0 r0_0)) (hd (View.ld x1 r0_0))⟩] := by
  unfold out0_2
  rw [tau_h0, tau_h1, tau_h2, tau_h3, tau_h4, tau_h5, tau_h6, tau_h7]

/-- Head 0's first weights. -/
theorem e1_h0 : k0_pay87 (k0_pay3 (View.ld x0 r0_0)) (k0_pay692 x0 x1) (k0_pay699 x0 x1) (k0_pay81 (k0_pay690 x0 x1) (k0_pay698 x0 x1) (k0_pay699 x0 x1) (k0_pay710 x0 x1) (k0_pay711 x0 x1) (k0_pay712 x0 x1)) (k0_pay715 x0 x1) (k0_pay716 x0 x1) (Scalar.ofBits .f32 0xFF800000#32) = e1K (hd (View.ld x0 r0_0)) (hd (View.ld x1 r0_0)) := rfl

/-- Head 1's first weights. -/
theorem e1_h1 : k0_pay170 (k0_pay717 x0 x1) (k0_pay719 x0 x1) (k0_pay722 x0 x1) (k0_pay731 x0 x1) (k0_pay732 x0 x1) = e1K (hd (View.ld x0 r0_2)) (hd (View.ld x1 r0_2)) := rfl

/-- Head 2's first weights. -/
theorem e1_h2 : k0_pay256 (k0_pay172 (View.ld x0 r0_4)) (k0_pay734 x0 x1) (k0_pay255 (k0_pay734 x0 x1) (k0_pay749 x0 x1) (k0_pay250 (k0_pay690 x0 x1) (k0_pay742 x0 x1) (k0_pay743 x0 x1) (k0_pay744 x0 x1) (k0_pay745 x0 x1) (k0_pay746 x0 x1) (k0_pay747 x0 x1) (k0_pay748 x0 x1) (k0_pay749 x0 x1) (k0_pay761 x0 x1) 43#32) (k0_pay762 x0 x1)) = e1K (hd (View.ld x0 r0_4)) (hd (View.ld x1 r0_4)) := rfl

/-- Head 3's first weights. -/
theorem e1_h3 : k0_pay345 (k0_pay343 (k0_pay258 (View.ld x0 r0_6)) (k0_pay764 x0 x1)) (k0_pay344 (k0_pay764 x0 x1) (k0_pay775 x0 x1) (k0_pay336 (k0_pay690 x0 x1) (k0_pay770 x0 x1) (k0_pay771 x0 x1) (k0_pay772 x0 x1) (k0_pay773 x0 x1) (k0_pay774 x0 x1) (k0_pay775 x0 x1) (k0_pay787 x0 x1) (k0_pay788 x0 x1) (k0_pay789 x0 x1)) (k0_pay793 x0 x1) (k0_pay794 x0 x1)) = e1K (hd (View.ld x0 r0_6)) (hd (View.ld x1 r0_6)) := rfl

/-- Head 4's first weights. -/
theorem e1_h4 : k0_pay429 (k0_pay347 (View.ld x0 r0_8)) (k0_pay796 x0 x1) (k0_pay806 x0 x1) (k0_pay423 (k0_pay690 x0 x1) (k0_pay802 x0 x1) (k0_pay803 x0 x1) (k0_pay804 x0 x1) (k0_pay805 x0 x1) (k0_pay806 x0 x1) (k0_pay817 x0 x1) (k0_pay818 x0 x1)) (k0_pay821 x0 x1) (k0_pay822 x0 x1) (Scalar.ofBits .f32 0xFF800000#32) = e1K (hd (View.ld x0 r0_8)) (hd (View.ld x1 r0_8)) := rfl

/-- Head 5's first weights. -/
theorem e1_h5 : k0_pay515 (k0_pay432 (View.ld x0 r0_10)) (k0_pay824 x0 x1) (k0_pay835 x0 x1) (k0_pay510 (k0_pay690 x0 x1) (k0_pay833 x0 x1) (k0_pay834 x0 x1) (k0_pay835 x0 x1) (k0_pay846 x0 x1) (k0_pay847 x0 x1) (k0_pay848 x0 x1)) (k0_pay849 x0 x1) = e1K (hd (View.ld x0 r0_10)) (hd (View.ld x1 r0_10)) := rfl

/-- Head 6's first weights. -/
theorem e1_h6 : k0_pay602 (k0_pay517 (View.ld x0 r0_12)) (k0_pay851 x0 x1) (k0_pay859 x0 x1) (k0_pay597 (k0_pay858 x0 x1) (k0_pay859 x0 x1) (k0_pay871 x0 x1) (k0_pay872 x0 x1)) (k0_pay874 x0 x1) (k0_pay875 x0 x1) = e1K (hd (View.ld x0 r0_12)) (hd (View.ld x1 r0_12)) := rfl

/-- Head 7's first weights. -/
theorem e1_h7 : k0_pay1 (k0_pay689 (k0_pay876 x0 x1) (k0_pay878 x0 x1) (k0_pay905 x0 x1) (k0_pay687 (k0_pay905 x0 x1) (k0_pay908 x0 x1) (k0_pay909 x0 x1)) (k0_pay688 (k0_pay878 x0 x1) (k0_pay893 x0 x1))) = e1K (hd (View.ld x0 r0_14)) (hd (View.ld x1 r0_14)) := rfl

/-- The block of first weights, head by head. -/
theorem out_e1 : out0_3 x0 x1 = View.canon [⟨r0_14, e1K (hd (View.ld x0 r0_14)) (hd (View.ld x1 r0_14))⟩,
    ⟨r0_12, e1K (hd (View.ld x0 r0_12)) (hd (View.ld x1 r0_12))⟩,
    ⟨r0_10, e1K (hd (View.ld x0 r0_10)) (hd (View.ld x1 r0_10))⟩,
    ⟨r0_8, e1K (hd (View.ld x0 r0_8)) (hd (View.ld x1 r0_8))⟩,
    ⟨r0_6, e1K (hd (View.ld x0 r0_6)) (hd (View.ld x1 r0_6))⟩,
    ⟨r0_4, e1K (hd (View.ld x0 r0_4)) (hd (View.ld x1 r0_4))⟩,
    ⟨r0_2, e1K (hd (View.ld x0 r0_2)) (hd (View.ld x1 r0_2))⟩,
    ⟨r0_0, e1K (hd (View.ld x0 r0_0)) (hd (View.ld x1 r0_0))⟩] := by
  unfold out0_3
  rw [e1_h0, e1_h1, e1_h2, e1_h3, e1_h4, e1_h5, e1_h6, e1_h7]

/-- Head 0's second weights. -/
theorem e2_h0 : k0_pay88 (k0_pay691 x0 x1) (k0_pay699 x0 x1) = e2K (hd (View.ld x1 r0_0)) := rfl

/-- Head 1's second weights. -/
theorem e2_h1 : k0_pay171 (k0_pay718 x0 x1) (k0_pay722 x0 x1) = e2K (hd (View.ld x1 r0_2)) := rfl

/-- Head 2's second weights. -/
theorem e2_h2 : k0_pay257 (k0_pay733 x0 x1) (k0_pay749 x0 x1) = e2K (hd (View.ld x1 r0_4)) := rfl

/-- Head 3's second weights. -/
theorem e2_h3 : k0_pay346 (k0_pay763 x0 x1) (k0_pay775 x0 x1) = e2K (hd (View.ld x1 r0_6)) := rfl

/-- Head 4's second weights. -/
theorem e2_h4 : k0_pay431 (k0_pay430 (k0_pay795 x0 x1) (k0_pay806 x0 x1)) = e2K (hd (View.ld x1 r0_8)) := rfl

/-- Head 5's second weights. -/
theorem e2_h5 : k0_pay516 (k0_pay823 x0 x1) (k0_pay835 x0 x1) = e2K (hd (View.ld x1 r0_10)) := rfl

/-- Head 6's second weights. -/
theorem e2_h6 : k0_pay603 (k0_pay850 x0 x1) (k0_pay859 x0 x1) = e2K (hd (View.ld x1 r0_12)) := rfl

/-- Head 7's second weights. -/
theorem e2_h7 : k0_pay2 (k0_pay877 x0 x1) (k0_pay893 x0 x1) = e2K (hd (View.ld x1 r0_14)) := rfl

/-- The block of second weights, head by head. -/
theorem out_e2 : out0_4 x0 x1 = View.canon [⟨r0_14, e2K (hd (View.ld x1 r0_14))⟩,
    ⟨r0_12, e2K (hd (View.ld x1 r0_12))⟩,
    ⟨r0_10, e2K (hd (View.ld x1 r0_10))⟩,
    ⟨r0_8, e2K (hd (View.ld x1 r0_8))⟩,
    ⟨r0_6, e2K (hd (View.ld x1 r0_6))⟩,
    ⟨r0_4, e2K (hd (View.ld x1 r0_4))⟩,
    ⟨r0_2, e2K (hd (View.ld x1 r0_2))⟩,
    ⟨r0_0, e2K (hd (View.ld x1 r0_0))⟩] := by
  unfold out0_4
  rw [e2_h0, e2_h1, e2_h2, e2_h3, e2_h4, e2_h5, e2_h6, e2_h7]

end Cert.RouteIdeal.RefValue

end
-- ==== Proof.RouteTop.lean ====
module

public import Idealize.ShloMosaic.Lib.SortFacts
public import Idealize.ShloMosaic.Lib.Pointwise

@[expose] public section

set_option maxRecDepth 16384

noncomputable section

open Idealize.ShloMosaic

/-! The greatest values of a list, in falling order: found by a sort, and found by rounds that take out the maximum. -/
namespace Cert.RouteIdeal.Top

section sorting
variable {n : Nat} (f : Fin n → EReal)

/-- Which of two places comes first in falling order. -/
def bef (k k' : Fin n) : Bool := FloatOps.cmpfTotal (F := Ideal) (φ := .f32) .gt (f k) (f k') == 1#1

/-- The earlier place is that of the greater value. -/
theorem bef_iff (k k' : Fin n) : bef f k k' = decide (f k' < f k) := by
  have e : FloatOps.cmpfTotal (F := Ideal) (φ := .f32) .gt (f k) (f k') = BitVec.ofBool (decide (f k' < f k)) := rfl
  unfold bef
  rw [e]
  by_cases h : f k' < f k <;> simp [h]

/-- The place of the `i`-th greatest value. -/
def srt (i : Fin n) : Fin n := sortedFrom (bef f) i

/-- The `i`-th greatest value. -/
def top (i : Fin n) : EReal := f (srt f i)

/-- The values fall along the order. -/
theorem top_anti {i j : Fin n} (h : i ≤ j) : top f j ≤ top f i := by
  rcases h.eq_or_lt with rfl | h
  · exact le_rfl
  have := sortedFrom_noInversion (bef f) (bef f) (fun a b h => by
      rw [bef_iff, decide_eq_true_eq] at h
      rw [bef_iff, decide_eq_false_iff_not]; exact h.not_gt) (fun a b h => h) (fun a b c h h' => by
      rw [bef_iff, decide_eq_false_iff_not, not_lt] at h h' ⊢
      exact le_trans h h') i j h
  rw [bef_iff, decide_eq_false_iff_not, not_lt] at this
  exact this

/-- Each place is that of some rank. -/
theorem srt_surj (p : Fin n) : ∃ i, srt f i = p := sortedFrom_surjective (bef f) p

/-- Each rank has its own place. -/
theorem srt_inj : Function.Injective (srt f) := sortedFrom_injective (bef f)

end sorting

section rounds
variable {n : Nat}

/-- The values after some rounds, each taking out what equals the maximum. -/
def peel (x : Fin n → EReal) : Nat → Fin n → EReal
  | 0 => x
  | r + 1 => fun j => if peel x r j = Finset.univ.sup (peel x r) then ⊥ else peel x r j

/-- Rounds on equal values. -/
theorem peel_max (x : Fin n → EReal) (v : Fin 16 → EReal) (hs : ∀ i j, i < j → v j < v i) (hin : ∀ i, ∃ j, x j = v i)
    (hout : ∀ j, x j ≤ v 15 ∨ ∃ i, x j = v i) (r : Nat) (hr : r < 16)
    (ih : ∀ j, peel x r j = if ∃ i : Fin 16, i.val < r ∧ x j = v i then ⊥ else x j) :
    Finset.univ.sup (peel x r) = v ⟨r, hr⟩ := by
  have hle : ∀ i j : Fin 16, i ≤ j → v j ≤ v i := fun i j h => by
    rcases h.eq_or_lt with rfl | h
    · exact le_rfl
    · exact (hs i j h).le
  refine le_antisymm (Finset.sup_le fun j _ => ?_) ?_
  · rw [ih]
    split_ifs with h
    · exact bot_le
    · rcases hout j with h' | ⟨i, h'⟩
      · exact h'.trans (hle _ _ (by rw [Fin.le_def]; show r ≤ 15; omega))
      · rw [h']
        refine hle _ _ ?_
        by_contra hlt
        exact h ⟨i, by rw [Fin.le_def] at hlt; exact not_le.mp hlt, h'⟩
  · obtain ⟨j, hj⟩ := hin ⟨r, hr⟩
    have : peel x r j = v ⟨r, hr⟩ := by
      rw [ih, if_neg, hj]
      rintro ⟨i, hi, h⟩
      exact absurd (hj.symm.trans h) (hs i ⟨r, hr⟩ hi).ne
    rw [← this]
    exact Finset.le_sup (Finset.mem_univ j)

/-- What the rounds take out. -/
theorem peel_eq (x : Fin n → EReal) (v : Fin 16 → EReal) (hs : ∀ i j, i < j → v j < v i) (hin : ∀ i, ∃ j, x j = v i)
    (hout : ∀ j, x j ≤ v 15 ∨ ∃ i, x j = v i) : ∀ r : Nat, r ≤ 16 → ∀ j,
      peel x r j = if ∃ i : Fin 16, i.val < r ∧ x j = v i then ⊥ else x j
  | 0, _, j => by simp [peel]
  | r + 1, hr, j => by
    have ih := peel_eq x v hs hin hout r (by omega)
    show (if peel x r j = Finset.univ.sup (peel x r) then ⊥ else peel x r j) = _
    rw [peel_max x v hs hin hout r (by omega) ih, ih]
    by_cases h : ∃ i : Fin 16, i.val < r ∧ x j = v i
    · rw [if_pos h, ite_self, if_pos (by obtain ⟨i, hi, h⟩ := h; exact ⟨i, by omega, h⟩)]
    · rw [if_neg h]
      by_cases h' : x j = v ⟨r, by omega⟩
      · rw [if_pos h', if_pos ⟨⟨r, by omega⟩, by simp, h'⟩]
      · rw [if_neg h', if_neg]
        rintro ⟨i, hi, hv⟩
        rcases Nat.lt_succ_iff_lt_or_eq.mp hi with hi | hi
        · exact h ⟨i, hi, hv⟩
        · exact h' (by rw [hv]; congr 1; exact Fin.ext hi)

/-- The maximum after `r` rounds is the value of rank `r`, where the first sixteen values differ. -/
theorem peel_top (x : Fin n → EReal) (v : Fin 16 → EReal) (hs : ∀ i j, i < j → v j < v i) (hin : ∀ i, ∃ j, x j = v i)
    (hout : ∀ j, x j ≤ v 15 ∨ ∃ i, x j = v i) (r : Nat) (hr : r < 16) : Finset.univ.sup (peel x r) = v ⟨r, hr⟩ :=
  peel_max x v hs hin hout r hr (peel_eq x v hs hin hout r hr.le)

/-- Each value is above the next. -/
def Falling {N : Nat} (v : Fin N → EReal) : Prop := ∀ (i : Nat) (hi : i + 1 < N), v ⟨i + 1, hi⟩ < v ⟨i, Nat.lt_of_succ_lt hi⟩

/-- The sixteen greatest values of a list. -/
def vals (f : Fin 128 → EReal) (i : Fin 16) : EReal := top f ⟨i.val, by omega⟩

/-- They fall. -/
theorem vals_anti (f : Fin 128 → EReal) (i j : Fin 16) (h : i ≤ j) : vals f j ≤ vals f i := top_anti f h

/-- Neighbours falling, all fall. -/
theorem falls {N : Nat} (v : Fin N → EReal) (h : Falling v) :
    ∀ i j, i < j → v j < v i := by
  have : ∀ d i (hi : i + d + 1 < N), v ⟨i + d + 1, hi⟩ < v ⟨i, by omega⟩ := by
    intro d
    induction d with
    | zero => intro i hi; exact h i hi
    | succ d ih => intro i hi; exact (h (i + d + 1) (by omega)).trans (ih i (by omega))
  intro i j hij
  have hj := j.isLt
  have e : i.val + (j.val - i.val - 1) + 1 = j.val := by have : i.val < j.val := hij; omega
  have := this (j.val - i.val - 1) i.val (by omega)
  simpa only [e] using this

/-- The maximum after `r` rounds on a list is its value of rank `r`. -/
theorem peel_list (f : Fin 128 → EReal) (h : Falling (vals f)) (r : Fin 16) :
    Finset.univ.sup (peel f r.val) = vals f r :=
  peel_top f (vals f) (falls _ fun i hi => h i hi) (fun i => ⟨_, rfl⟩) (fun j => by
    obtain ⟨k, rfl⟩ := srt_surj f j
    by_cases hk : k.val < 16
    · exact .inr ⟨⟨k.val, hk⟩, rfl⟩
    · have h15 : top f k ≤ vals f 15 := top_anti f (by rw [Fin.le_def]; show 15 ≤ k.val; omega)
      exact .inl h15) r.val r.isLt

end rounds

section stair

/-- The places of the candidate sums among all the sums of one value of each list. -/
def pos : Fin 50 → Fin 256 := ![0, 1, 2, 3, 4, 5, 6, 7, 8, 9, 10, 11, 12, 13, 14, 15, 16, 17, 18, 19, 20, 21, 22, 23, 32, 33, 34, 35, 36, 48, 49, 50, 51, 64, 65, 66, 80, 81, 96, 97, 112, 113, 128, 144, 160, 176, 192, 208, 224, 240]

/-- Each candidate has its own place. -/
theorem pos_inj : ∀ r r' : Fin 50, pos r = pos r' → r = r' := by decide +kernel

/-- The places that are candidates. -/
theorem pos_surj : ∀ a b : Fin 16, (a.val + 1) * (b.val + 1) ≤ 16 → ∃ r : Fin 50, (pos r).val = 16 * a.val + b.val := by decide +kernel

/-- A rank below seventeen among the sums. -/
def up17 (i : Fin 17) : Fin 256 := ⟨i.val, by omega⟩

/-- A rank below sixteen among the sums. -/
def up (i : Fin 16) : Fin 256 := ⟨i.val, by omega⟩

variable (v w : Fin 16 → EReal)

/-- The sums of one value of each list. -/
def sums (p : Fin 256) : EReal := v ⟨p.val / 16, by omega⟩ + w ⟨p.val % 16, by omega⟩

/-- The candidates: the sums at their places, infinitely low past them. -/
def cand (r : Fin 56) : EReal := if h : r.val < 50 then sums v w (pos ⟨r.val, h⟩) else ⊥

variable (hv : ∀ i j : Fin 16, i ≤ j → v j ≤ v i) (hw : ∀ i j : Fin 16, i ≤ j → w j ≤ w i)
  (hs : Falling (fun i : Fin 17 => top (sums v w) (up17 i)))

include hs in
/-- A sum not below the sixteenth greatest is one of the sixteen greatest. -/
theorem rank_lt (k : Fin 256) (h : top (sums v w) 15 ≤ top (sums v w) k) : k.val < 16 := by
  by_contra hk
  have h1 : top (sums v w) k ≤ top (sums v w) ⟨16, by omega⟩ := top_anti _ (by rw [Fin.le_def]; show 16 ≤ k.val; omega)
  exact absurd (h.trans h1) (not_le.mpr (hs 15 (by omega)))

include hv hw hs in
/-- The sixteen greatest sums are among the candidates: a sum past them has sixteen others at least as great. -/
theorem stair (i : Fin 16) : ∃ r : Fin 50, pos r = srt (sums v w) (up i) := by
  set p := srt (sums v w) (up i) with hp
  have ha : p.val / 16 < 16 := by omega
  have hb : p.val % 16 < 16 := by omega
  by_cases hab : (p.val / 16 + 1) * (p.val % 16 + 1) ≤ 16
  · obtain ⟨r, hr⟩ := pos_surj ⟨p.val / 16, ha⟩ ⟨p.val % 16, hb⟩ hab
    exact ⟨r, Fin.ext (by rw [hr]; show 16 * (p.val / 16) + p.val % 16 = p.val; omega)⟩
  exfalso
  let g : Fin (p.val / 16 + 1) × Fin (p.val % 16 + 1) → Fin 256 := fun q => ⟨16 * q.1.val + q.2.val, by omega⟩
  have key : ∀ q, ∃ k : Fin 16, srt (sums v w) ⟨k.val, by omega⟩ = g q := fun q => by
    obtain ⟨k, hk⟩ := srt_surj (sums v w) (g q)
    have h1 : top (sums v w) (up i) ≤ sums v w (g q) := by
      show sums v w p ≤ _
      unfold sums
      have q1 := q.1.isLt
      have q2 := q.2.isLt
      refine add_le_add (hv _ _ ?_) (hw _ _ ?_)
      · rw [Fin.le_def]; show (16 * q.1.val + q.2.val) / 16 ≤ p.val / 16; omega
      · rw [Fin.le_def]; show (16 * q.1.val + q.2.val) % 16 ≤ p.val % 16; omega
    have h2 : top (sums v w) 15 ≤ top (sums v w) (up i) := top_anti _ (by rw [Fin.le_def]; show i.val ≤ 15; omega)
    have h3 := rank_lt v w hs k (by show _ ≤ sums v w (srt (sums v w) k); rw [hk]; exact h2.trans h1)
    exact ⟨⟨k.val, h3⟩, hk⟩
  choose K hK using key
  have inj : Function.Injective K := fun q q' h => by
    have e : g q = g q' := by rw [← hK q, ← hK q', h]
    have e' : 16 * q.1.val + q.2.val = 16 * q'.1.val + q'.2.val := congrArg Fin.val e
    have := q.2.isLt
    have := q'.2.isLt
    exact Prod.ext (Fin.ext (by omega)) (Fin.ext (by omega))
  have := Fintype.card_le_of_injective K inj
  rw [Fintype.card_prod, Fintype.card_fin, Fintype.card_fin, Fintype.card_fin] at this
  exact hab this

include hv hw hs in
/-- The maximum of the candidates after `r` rounds is the sum of rank `r`. -/
theorem peel_cand (r : Fin 16) : Finset.univ.sup (peel (cand v w) r.val) = top (sums v w) (up r) :=
  peel_top (cand v w) (fun i => top (sums v w) (up i)) (falls _ fun i hi => hs i (by omega))
    (fun i => by
      obtain ⟨r, h⟩ := stair v w hv hw hs i
      refine ⟨⟨r.val, by omega⟩, ?_⟩
      unfold cand
      rw [dif_pos (show r.val < 50 from r.isLt)]
      show sums v w (pos r) = _
      rw [h]
      rfl)
    (fun j => by
      unfold cand
      split_ifs with h
      · obtain ⟨k, hk⟩ := srt_surj (sums v w) (pos ⟨j.val, h⟩)
        rw [← hk]
        by_cases hk : k.val < 16
        · exact .inr ⟨⟨k.val, hk⟩, rfl⟩
        · have h15 : top (sums v w) k ≤ top (sums v w) 15 := top_anti _ (by rw [Fin.le_def]; show 15 ≤ k.val; omega)
          exact .inl h15
      · exact .inl bot_le) r.val r.isLt

include hv hw hs in
/-- A sum over the candidates not below the threshold is the sum over the sixteen greatest. -/
theorem sum_cand (g : EReal → EReal) :
    ∑ r : Fin 56, (if top (sums v w) 15 ≤ cand v w r then g (cand v w r) else 0) = ∑ i : Fin 16, g (top (sums v w) (up i)) := by
  choose ρ hρ using stair v w hv hw hs
  have hc : ∀ i, cand v w ⟨(ρ i).val, by omega⟩ = top (sums v w) (up i) := fun i => by
    unfold cand
    rw [dif_pos (show (ρ i).val < 50 from (ρ i).isLt)]
    show sums v w (pos (ρ i)) = _
    rw [hρ]
    rfl
  rw [← Finset.sum_filter]
  symm
  refine Finset.sum_bij (fun i _ => (⟨(ρ i).val, by omega⟩ : Fin 56)) ?_ ?_ ?_ ?_
  · intro i _
    rw [Finset.mem_filter]
    refine ⟨Finset.mem_univ _, ?_⟩
    rw [hc]
    exact top_anti _ (by rw [Fin.le_def]; show i.val ≤ 15; omega)
  · intro i _ i' _ h
    have e : ρ i = ρ i' := Fin.ext (congrArg (fun z : Fin 56 => z.val) h)
    have e' := srt_inj _ ((hρ i).symm.trans ((congrArg pos e).trans (hρ i')))
    exact Fin.ext (congrArg (fun z : Fin 256 => z.val) e')
  · intro r hr
    rw [Finset.mem_filter] at hr
    have h50 : r.val < 50 := by
      by_contra h
      have h1 := hr.2
      unfold cand at h1
      rw [dif_neg h] at h1
      exact absurd (h1.trans bot_le) (not_le.mpr (hs 15 (by omega)))
    obtain ⟨k, hk⟩ := srt_surj (sums v w) (pos ⟨r.val, h50⟩)
    have h1 := hr.2
    unfold cand at h1
    rw [dif_pos h50, ← hk] at h1
    have h3 := rank_lt v w hs k h1
    refine ⟨⟨k.val, h3⟩, Finset.mem_univ _, ?_⟩
    have := pos_inj _ _ ((hρ ⟨k.val, h3⟩).trans hk)
    exact Fin.ext (congrArg (fun z : Fin 50 => z.val) this)
  · intro i _
    rw [hc]

include hv hw in
/-- The greatest sum is that of the two greatest values. -/
theorem top_zero : top (sums v w) 0 = v 0 + w 0 := by
  refine le_antisymm ?_ ?_
  · show sums v w (srt (sums v w) 0) ≤ _
    exact add_le_add (hv _ _ (Fin.zero_le _)) (hw _ _ (Fin.zero_le _))
  · obtain ⟨k, hk⟩ := srt_surj (sums v w) 0
    have : top (sums v w) k ≤ top (sums v w) 0 := top_anti _ (Fin.zero_le _)
    unfold top at this
    rw [hk] at this
    exact this

end stair

end Cert.RouteIdeal.Top

end
-- ==== Proof.RouteCol.lean ====
module

public import proofs.«01_k».proof.Proof.RouteHeads
public import proofs.«01_k».proof.Proof.RouteTop

@[expose] public section

set_option maxRecDepth 65536

noncomputable section

open Idealize.ShloMosaic Idealize.ShloMosaic.TcCoe Idealize.SL.Sem

/-! A head's threshold, normaliser and weights at one token, in terms of its greatest scores and sums. -/
namespace Cert.RouteIdeal.RefValue

open Cert.RouteIdeal Cert.RouteIdeal.Gen Cert.RouteIdeal.Top

/-- The word of minus infinity. -/
theorem low : Ideal.ofBits .f32 0xFF800000#32 = (⊥ : EReal) := by simp [Ideal.ofBits, Ideal.ieee]

/-- The maximum of a column. -/
theorem mx_at (s : FVec Ideal S128x256 .f32) (k : Fin 256) : mx s (ix2 0 k) = Finset.univ.sup fun n : Fin 128 => s (ix2 n k) := by
  pointwise [mx]
  rw [low]
  rfl

/-- A round on a column. -/
theorem cut_at (s : FVec Ideal S128x256 .f32) (n : Fin 128) (k : Fin 256) : cut s (ix2 n k) = if s (ix2 n k) = mx s (ix2 0 k) then ⊥ else s (ix2 n k) := by
  pointwise [cut]
  rw [low]

/-- Rounds on a column. -/
theorem cuts_at (s : FVec Ideal S128x256 .f32) (k : Fin 256) : ∀ (r : Nat) (n : Fin 128), cuts s r (ix2 n k) = peel (fun n => s (ix2 n k)) r n
  | 0, n => rfl
  | r + 1, n => by
    show cut (cuts s r) (ix2 n k) = _
    rw [cut_at, mx_at, funext (cuts_at s k r), cuts_at s k r]
    rfl

/-- The maximum of a column after some rounds. -/
theorem mx_cuts (s : FVec Ideal S128x256 .f32) (k : Fin 256) (r : Nat) :
    mx (cuts s r) (ix2 0 k) = Finset.univ.sup (peel (fun n => s (ix2 n k)) r) := by
  rw [mx_at, funext (cuts_at s k r)]

/-- The maximum of a column of candidates. -/
theorem mxC_at (s : FVec Ideal S56x256 .f32) (k : Fin 256) : mxC s (ix2 0 k) = Finset.univ.sup fun n : Fin 56 => s (ix2 n k) := by
  pointwise [mxC]
  rw [low]
  rfl

/-- A round on a column of candidates. -/
theorem cutC_at (s : FVec Ideal S56x256 .f32) (n : Fin 56) (k : Fin 256) : cutC s (ix2 n k) = if s (ix2 n k) = mxC s (ix2 0 k) then ⊥ else s (ix2 n k) := by
  pointwise [cutC]
  rw [low]

/-- Rounds on a column of candidates. -/
theorem cutsC_at (s : FVec Ideal S56x256 .f32) (k : Fin 256) : ∀ (r : Nat) (n : Fin 56), cutsC s r (ix2 n k) = peel (fun n => s (ix2 n k)) r n
  | 0, n => rfl
  | r + 1, n => by
    show cutC (cutsC s r) (ix2 n k) = _
    rw [cutC_at, mxC_at, funext (cutsC_at s k r), cutsC_at s k r]
    rfl

/-- The maximum of a column of candidates after some rounds. -/
theorem mxC_cuts (s : FVec Ideal S56x256 .f32) (k : Fin 256) (r : Nat) :
    mxC (cutsC s r) (ix2 0 k) = Finset.univ.sup (peel (fun n => s (ix2 n k)) r) := by
  rw [mxC_at, funext (cutsC_at s k r)]

/-- The pair whose sum a row holds. -/
def look (l : List (Nat × Nat × Nat)) (r : Fin 56) : Option (Nat × Nat) :=
  match l with
  | [] => none
  | (p, a, b) :: l => if BitVec.ofNat 32 r.val = BitVec.ofNat 32 p then some (a, b) else look l r

/-- The first fifty rows hold the candidate pairs. -/
theorem look_pairs : ∀ r : Fin 56, look pairs r = if h : r.val < 50 then some ((pos ⟨r.val, h⟩).val / 16, (pos ⟨r.val, h⟩).val % 16) else none := by
  decide +kernel

/-- An entry of a head's candidates, by the row's pair. -/
theorem cands_at (v w : Nat → FVec Ideal S1x256 .f32) (r : Fin 56) (k : Fin 256) : ∀ l : List (Nat × Nat × Nat),
    cands v w l (ix2 r k) = match look l r with
      | none => ⊥
      | some (a, b) => v a (ix2 0 k) + w b (ix2 0 k)
  | [] => by
    show Ideal.ofBits .f32 0xFF800000#32 = ⊥
    exact low
  | (p, a, b) :: l => by
    have e : cands v w ((p, a, b) :: l) (ix2 r k) = if BitVec.ofNat 32 r.val = BitVec.ofNat 32 p then v a (ix2 0 k) + w b (ix2 0 k) else cands v w l (ix2 r k) := by
      rw [cands]
      generalize cands v w l = c
      pointwise
      generalize BitVec.ofNat 32 r.val = i, BitVec.ofNat 32 p = j
      by_cases h : i = j
      · simp [Scalar.select, IntOp.cmpi, h]
      · have h' : (i == j) = false := by simpa using h
        simp [Scalar.select, IntOp.cmpi, h, h']
    rw [e, cands_at v w r k l, look]
    split_ifs <;> rfl

section column
variable (s s' : FVec Ideal S128x256 .f32) (k : Fin 256)

/-- The column of first scores of a token. -/
def col (n : Fin 128) : EReal := s (ix2 n k)

variable (h1 : Falling (vals (col s k))) (h2 : Falling (vals (col s' k)))
  (h3 : Falling (fun i : Fin 17 => top (sums (vals (col s k)) (vals (col s' k))) (up17 i)))

include h1 h2 in
/-- A head's candidates at a token. -/
theorem cnd_at (r : Fin 56) : cnd s s' (ix2 r k) = cand (vals (col s k)) (vals (col s' k)) r := by
  unfold cnd cand
  rw [cands_at, look_pairs]
  split_ifs with h
  · show mx (cuts s _) (ix2 0 k) + mx (cuts s' _) (ix2 0 k) = sums _ _ _
    rw [mx_cuts, mx_cuts]
    unfold sums
    congr 1
    · exact peel_list (col s k) h1 ⟨(pos ⟨r.val, h⟩).val / 16, by have := (pos ⟨r.val, h⟩).isLt; omega⟩
    · exact peel_list (col s' k) h2 ⟨(pos ⟨r.val, h⟩).val % 16, by omega⟩
  · rfl

/-- The greatest first score of a token. -/
theorem mx_col : mx s (ix2 0 k) = top (col s k) 0 := by
  rw [mx_at]
  refine le_antisymm (Finset.sup_le fun n _ => ?_) (Finset.le_sup (f := fun n : Fin 128 => s (ix2 n k)) (Finset.mem_univ _))
  obtain ⟨i, rfl⟩ := srt_surj (col s k) n
  exact top_anti (col s k) (Fin.zero_le i)

include h1 h2 h3 in
/-- The threshold is the sixteenth greatest sum. -/
theorem tauK_at : tauK s s' (ix2 0 k) = top (sums (vals (col s k)) (vals (col s' k))) 15 := by
  unfold tauK
  rw [mxC_cuts, funext (cnd_at s s' k h1 h2)]
  exact peel_cand _ _ (vals_anti _) (vals_anti _) h3 15

include h1 h2 h3 in
/-- The normaliser is the sum over the sixteen greatest sums of the exponential of what they fall short of the greatest. -/
theorem zK_at : zK s s' (ix2 0 k) = ∑ i : Fin 16, Ideal.exp (top (sums (vals (col s k)) (vals (col s' k))) (up i)
      - top (sums (vals (col s k)) (vals (col s' k))) 0) := by
  have e : zK s s' (ix2 0 k) = ∑ r : Fin 56, if tauK s s' (ix2 0 k) ≤ cnd s s' (ix2 r k)
      then Ideal.exp (cnd s s' (ix2 r k) - (mx s (ix2 0 k) + mx s' (ix2 0 k))) else 0 := by
    unfold zK
    generalize tauK s s' = t
    generalize cnd s s' = c
    generalize mx s = a
    generalize mx s' = b
    pointwise
  rw [e, tauK_at s s' k h1 h2 h3, mx_col, mx_col, show top (col s k) 0 + top (col s' k) 0 = _ from (top_zero (vals (col s k)) (vals (col s' k)) (vals_anti _) (vals_anti _)).symm]
  simp only [cnd_at s s' k h1 h2]
  exact sum_cand (vals (col s k)) (vals (col s' k)) (vals_anti _) (vals_anti _) h3 fun x => Ideal.exp (x - top (sums (vals (col s k)) (vals (col s' k))) 0)

include h1 h2 h3 in
/-- A head's first weights at a token. -/
theorem e1K_at (n : Fin 128) : e1K s s' (ix3 0 n k) = Ideal.div (Ideal.exp (col s k n - top (col s k) 0))
      (∑ i : Fin 16, Ideal.exp (top (sums (vals (col s k)) (vals (col s' k))) (up i) - top (sums (vals (col s k)) (vals (col s' k))) 0)) := by
  rw [← zK_at s s' k h1 h2 h3, ← mx_col]
  unfold e1K
  generalize zK s s' = z
  generalize mx s = a
  pointwise
  rfl

/-- A head's second weights at a token. -/
theorem e2K_at (n : Fin 128) : e2K s' (ix3 0 n k) = Ideal.exp (col s' k n - top (col s' k) 0) := by
  rw [← mx_col]
  unfold e2K
  generalize mx s' = a
  pointwise
  rfl

end column

end Cert.RouteIdeal.RefValue

end
-- ==== Proof.RouteValue.lean ====
module

public import proofs.«01_k».proof.Proof.RouteCol
public import Idealize.ShloMosaic.Lib.Pipeline.ValueKit
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

/-! The routing statistics' arrays after the last point, from the score arrays. -/
namespace Cert.RouteIdeal.RefValue

open Cert.RouteIdeal Cert.RouteIdeal.Gen Cert.RouteIdeal.Top

/-- A head's scores in a block. -/
def head (h : Fin 8) (x : Vec Ideal S8x128x256 .f32) : FVec Ideal S128x256 .f32 := fun i => x (ix3 h (i 0) (i 1))

/-- The load of head 0. -/
theorem hd0 (x : Vec Ideal S8x128x256 .f32) : hd (View.ld x r0_0) = head 0 x := by
  funext i
  have hi : i = ix2 (i 0) (i 1) := by idx_ext
  rw [hi]
  pointwise [hd, head]
  first | done | (blk_ext [r0_0])

/-- The load of head 1. -/
theorem hd1 (x : Vec Ideal S8x128x256 .f32) : hd (View.ld x r0_2) = head 1 x := by
  funext i
  have hi : i = ix2 (i 0) (i 1) := by idx_ext
  rw [hi]
  pointwise [hd, head]
  first | done | (blk_ext [r0_2])

/-- The load of head 2. -/
theorem hd2 (x : Vec Ideal S8x128x256 .f32) : hd (View.ld x r0_4) = head 2 x := by
  funext i
  have hi : i = ix2 (i 0) (i 1) := by idx_ext
  rw [hi]
  pointwise [hd, head]
  first | done | (blk_ext [r0_4])

/-- The load of head 3. -/
theorem hd3 (x : Vec Ideal S8x128x256 .f32) : hd (View.ld x r0_6) = head 3 x := by
  funext i
  have hi : i = ix2 (i 0) (i 1) := by idx_ext
  rw [hi]
  pointwise [hd, head]
  first | done | (blk_ext [r0_6])

/-- The load of head 4. -/
theorem hd4 (x : Vec Ideal S8x128x256 .f32) : hd (View.ld x r0_8) = head 4 x := by
  funext i
  have hi : i = ix2 (i 0) (i 1) := by idx_ext
  rw [hi]
  pointwise [hd, head]
  first | done | (blk_ext [r0_8])

/-- The load of head 5. -/
theorem hd5 (x : Vec Ideal S8x128x256 .f32) : hd (View.ld x r0_10) = head 5 x := by
  funext i
  have hi : i = ix2 (i 0) (i 1) := by idx_ext
  rw [hi]
  pointwise [hd, head]
  first | done | (blk_ext [r0_10])

/-- The load of head 6. -/
theorem hd6 (x : Vec Ideal S8x128x256 .f32) : hd (View.ld x r0_12) = head 6 x := by
  funext i
  have hi : i = ix2 (i 0) (i 1) := by idx_ext
  rw [hi]
  pointwise [hd, head]
  first | done | (blk_ext [r0_12])

/-- The load of head 7. -/
theorem hd7 (x : Vec Ideal S8x128x256 .f32) : hd (View.ld x r0_14) = head 7 x := by
  funext i
  have hi : i = ix2 (i 0) (i 1) := by idx_ext
  rw [hi]
  pointwise [hd, head]
  first | done | (blk_ext [r0_14])

/-- A head's thresholds depend on its coordinates only through their values. -/
theorem tau_congr (x0 x1 : Vec Ideal S8x128x256 .f32) {h h' : Fin 8} {j : S1x256.Idx} {k : Fin 256} (hh : h.val = h'.val) (hj : (j 1).val = k.val) :
    tauK (head h x0) (head h x1) j = tauK (head h' x0) (head h' x1) (ix2 0 k) := by
  obtain rfl : h = h' := Fin.ext hh
  have : j = ix2 0 k := by
    funext a
    match a with
    | 0 => exact Fin.ext (by have := (j 0).isLt; have e : (j 0).val < 1 := this; show (j 0).val = 0; omega)
    | 1 => exact Fin.ext hj
  rw [this]

/-- So do its first weights. -/
theorem e1_congr (x0 x1 : Vec Ideal S8x128x256 .f32) {h h' : Fin 8} {j : S1x128x256.Idx} {n : Fin 128} {k : Fin 256} (hh : h.val = h'.val)
    (hn : (j 1).val = n.val) (hj : (j 2).val = k.val) :
    e1K (head h x0) (head h x1) j = e1K (head h' x0) (head h' x1) (ix3 0 n k) := by
  obtain rfl : h = h' := Fin.ext hh
  have : j = ix3 0 n k := by
    funext a
    match a with
    | 0 => exact Fin.ext (by have := (j 0).isLt; have e : (j 0).val < 1 := this; show (j 0).val = 0; omega)
    | 1 => exact Fin.ext hn
    | 2 => exact Fin.ext hj
  rw [this]

/-- So do its second weights. -/
theorem e2_congr (x1 : Vec Ideal S8x128x256 .f32) {h h' : Fin 8} {j : S1x128x256.Idx} {n : Fin 128} {k : Fin 256} (hh : h.val = h'.val)
    (hn : (j 1).val = n.val) (hj : (j 2).val = k.val) :
    e2K (head h x1) j = e2K (head h' x1) (ix3 0 n k) := by
  obtain rfl : h = h' := Fin.ext hh
  have : j = ix3 0 n k := by
    funext a
    match a with
    | 0 => exact Fin.ext (by have := (j 0).isLt; have e : (j 0).val < 1 := this; show (j 0).val = 0; omega)
    | 1 => exact Fin.ext hn
    | 2 => exact Fin.ext hj
  rw [this]

/-- A threshold of a block. -/
theorem tau_block (x0 x1 : Vec Ideal S8x128x256 .f32) (h : Fin 8) (k : Fin 256) :
    out0_2 x0 x1 (ix2 h k) = tauK (head h x0) (head h x1) (ix2 0 k) := by
  rw [out_tau]
  simp only [hd0, hd1, hd2, hd3, hd4, hd5, hd6, hd7]
  generalize hy : (ix2 h k : S8x256.Idx) = y
  have k0 : (y 0).val = h.val := by rw [← hy]; rfl
  have k1 : (y 1).val = k.val := by rw [← hy]; rfl
  canon_tiles y hh
  all_goals refine tau_congr x0 x1 ?_ ?_
  all_goals try simp
  all_goals omega

/-- A first weight of a block. -/
theorem e1_block (x0 x1 : Vec Ideal S8x128x256 .f32) (h : Fin 8) (n : Fin 128) (k : Fin 256) :
    out0_3 x0 x1 (ix3 h n k) = e1K (head h x0) (head h x1) (ix3 0 n k) := by
  rw [out_e1]
  simp only [hd0, hd1, hd2, hd3, hd4, hd5, hd6, hd7]
  generalize hy : (ix3 h n k : S8x128x256.Idx) = y
  have k0 : (y 0).val = h.val := by rw [← hy]; rfl
  have k1 : (y 1).val = n.val := by rw [← hy]; rfl
  have k2 : (y 2).val = k.val := by rw [← hy]; rfl
  canon_tiles y hh
  all_goals refine e1_congr x0 x1 ?_ ?_ ?_
  all_goals try simp
  all_goals omega

/-- A second weight of a block. -/
theorem e2_block (x0 x1 : Vec Ideal S8x128x256 .f32) (h : Fin 8) (n : Fin 128) (k : Fin 256) :
    out0_4 x0 x1 (ix3 h n k) = e2K (head h x1) (ix3 0 n k) := by
  rw [out_e2]
  simp only [hd0, hd1, hd2, hd3, hd4, hd5, hd6, hd7]
  generalize hy : (ix3 h n k : S8x128x256.Idx) = y
  have k0 : (y 0).val = h.val := by rw [← hy]; rfl
  have k1 : (y 1).val = n.val := by rw [← hy]; rfl
  have k2 : (y 2).val = k.val := by rw [← hy]; rfl
  canon_tiles y hh
  all_goals refine e2_congr x1 ?_ ?_ ?_
  all_goals try simp
  all_goals omega

variable (m : (ℓ : Loc nD τ sig) → Buf (Elt Ideal) ℓ)

/-- Where each window's block lies at point `t`. -/
theorem idx : ∀ t : Fin cfg0.N, win0_0.index t = ![0, 0, t.val] ∧ win0_1.index t = ![0, 0, t.val] ∧ win0_2.index t = ![0, t.val]
    ∧ win0_3.index t = ![0, 0, t.val] ∧ win0_4.index t = ![0, 0, t.val] :=
  (by decide +kernel : ∀ t : Fin grid0.N, _)

section arrays
variable (S1 S2 : FVec Ideal S8x128x8192 .f32)

/-- The scores of a head at a token. -/
def scol (S : FVec Ideal S8x128x8192 .f32) (h : Fin 8) (T : Fin 8192) (n : Fin 128) : EReal := S (ix3 h n T)

/-- The sums of one of each of a head's sixteen greatest scores at a token. -/
def pairSums (h : Fin 8) (T : Fin 8192) : Fin 256 → EReal := sums (vals (scol S1 h T)) (vals (scol S2 h T))

/-- At each head and token the sixteen greatest scores of each kind differ, and so do the seventeen greatest sums. -/
def Distinct : Prop := ∀ (h : Fin 8) (T : Fin 8192), Falling (vals (scol S1 h T)) ∧ Falling (vals (scol S2 h T))
  ∧ Falling (fun i : Fin 17 => top (pairSums S1 S2 h T) (up17 i))

/-- The thresholds: the sixteenth greatest sum, by head and token. -/
def tauOf : FVec Ideal S8x8192 .f32 := fun i => top (pairSums S1 S2 (i 0) (i 1)) 15

/-- The normaliser of a head at a token. -/
def normOf (h : Fin 8) (T : Fin 8192) : EReal := ∑ i : Fin 16, Ideal.exp (top (pairSums S1 S2 h T) (up i) - top (pairSums S1 S2 h T) 0)

/-- The first weights, by head, key and token. -/
def e1Of : FVec Ideal S8x128x8192 .f32 := fun i =>
  Ideal.div (Ideal.exp (S1 (ix3 (i 0) (i 1) (i 2)) - top (scol S1 (i 0) (i 2)) 0)) (normOf S1 S2 (i 0) (i 2))

/-- The second weights, by head, key and token. -/
def e2Of : FVec Ideal S8x128x8192 .f32 := fun i => Ideal.exp (S2 (ix3 (i 0) (i 1) (i 2)) - top (scol S2 (i 0) (i 2)) 0)

end arrays

/-- The first score array. -/
def sA (c : Dev nD) : FVec Ideal S8x128x8192 .f32 := m ((c : Thread nD τ).loc main_arg0)

/-- The second score array. -/
def sB (c : Dev nD) : FVec Ideal S8x128x8192 .f32 := m ((c : Thread nD τ).loc main_arg1)

/-- A head's first scores at a token of the block. -/
theorem colA (c : Dev nD) (t : Fin cfg0.N) (h : Fin 8) (k : Fin 256) (T : Fin 8192) (hT : T.val = 256 * t.val + k.val) :
    col (head h (iblk m c 0 t)) k = scol (sA m c) h T := by
  funext n
  have e : V m c main_arg0 (ix3 h n T) = scol (sA m c) h T n := by rw [V_main_arg0]; rfl
  rw [← e]
  show iblk m c 0 t (ix3 h n k) = _
  blk_ext [iblk, idx t]

/-- A head's second scores at a token of the block. -/
theorem colB (c : Dev nD) (t : Fin cfg0.N) (h : Fin 8) (k : Fin 256) (T : Fin 8192) (hT : T.val = 256 * t.val + k.val) :
    col (head h (iblk m c 1 t)) k = scol (sB m c) h T := by
  funext n
  have e : V m c main_arg1 (ix3 h n T) = scol (sB m c) h T n := by rw [V_main_arg1]; rfl
  rw [← e]
  show iblk m c 1 t (ix3 h n k) = _
  blk_ext [iblk, idx t]

/-- What point `t` leaves of the thresholds at place `(h, k)` of its block. -/
theorem point2 (c : Dev nD) (H : Distinct (sA m c) (sB m c)) (t : Fin cfg0.N) (h : Fin 8) (k : Fin 256) (i : S8x8192.Idx)
    (h0 : (i 0).val = h.val) (h1 : (i 1).val = 256 * t.val + k.val) :
    out0_2 (iblk m c 0 t) (iblk m c 1 t) (ix2 h k) = tauOf (sA m c) (sB m c) i := by
  obtain ⟨T, hT⟩ : ∃ T : Fin 8192, T = i 1 := ⟨_, rfl⟩
  have hi : i = ix2 h T := by
    funext a
    match a with
    | 0 => exact Fin.ext h0
    | 1 => exact hT.symm
  have e : T.val = 256 * t.val + k.val := by rw [hT]; exact h1
  obtain ⟨d1, d2, d3⟩ := H h T
  have a := colA m c t h k T e
  have b := colB m c t h k T e
  rw [hi]
  rw [tau_block, tauK_at _ _ _ (by rw [a]; exact d1) (by rw [b]; exact d2) (by rw [a, b]; exact d3), a, b]
  rfl

/-- The whole array after the last point. -/
theorem final2 (c : Dev nD) (H : Distinct (sA m c) (sB m c)) : (dats m 0 c).arrAt 2 (cfgs 0).N = tauOf (sA m c) (sB m c) := by
  refine (dats m 0 c).arrAt_eq_of_covers 2 _ (by decide +kernel) fun t _ y => ?_
  blk_simp
  rw [after0_2]
  have hy : y = ix2 (y 0) (y 1) := by idx_ext
  rw [hy]
  refine point2 m c H t (y 0) (y 1) _ ?_ ?_ <;> (blk_simp [idx t]; try omega)

/-- What point `t` leaves of the first weights at place `(h, n, k)` of its block. -/
theorem point3 (c : Dev nD) (H : Distinct (sA m c) (sB m c)) (t : Fin cfg0.N) (h : Fin 8) (n : Fin 128) (k : Fin 256) (i : S8x128x8192.Idx)
    (h0 : (i 0).val = h.val) (h1 : (i 1).val = n.val) (h2 : (i 2).val = 256 * t.val + k.val) :
    out0_3 (iblk m c 0 t) (iblk m c 1 t) (ix3 h n k) = e1Of (sA m c) (sB m c) i := by
  obtain ⟨T, hT⟩ : ∃ T : Fin 8192, T = i 2 := ⟨_, rfl⟩
  have hi : i = ix3 h n T := by
    funext a
    match a with
    | 0 => exact Fin.ext h0
    | 1 => exact Fin.ext h1
    | 2 => exact hT.symm
  have e : T.val = 256 * t.val + k.val := by rw [hT]; exact h2
  obtain ⟨d1, d2, d3⟩ := H h T
  have a := colA m c t h k T e
  have b := colB m c t h k T e
  rw [hi]
  rw [e1_block, e1K_at _ _ _ (by rw [a]; exact d1) (by rw [b]; exact d2) (by rw [a, b]; exact d3), a, b]
  rfl

/-- The whole array after the last point. -/
theorem final3 (c : Dev nD) (H : Distinct (sA m c) (sB m c)) : (dats m 0 c).arrAt 3 (cfgs 0).N = e1Of (sA m c) (sB m c) := by
  refine (dats m 0 c).arrAt_eq_of_covers 3 _ (by decide +kernel) fun t _ y => ?_
  blk_simp
  rw [after0_3]
  have hy : y = ix3 (y 0) (y 1) (y 2) := by idx_ext
  rw [hy]
  refine point3 m c H t (y 0) (y 1) (y 2) _ ?_ ?_ ?_ <;> (blk_simp [idx t]; try omega)

/-- What point `t` leaves of the second weights at place `(h, n, k)` of its block. -/
theorem point4 (c : Dev nD) (t : Fin cfg0.N) (h : Fin 8) (n : Fin 128) (k : Fin 256) (i : S8x128x8192.Idx)
    (h0 : (i 0).val = h.val) (h1 : (i 1).val = n.val) (h2 : (i 2).val = 256 * t.val + k.val) :
    out0_4 (iblk m c 0 t) (iblk m c 1 t) (ix3 h n k) = e2Of (sB m c) i := by
  obtain ⟨T, hT⟩ : ∃ T : Fin 8192, T = i 2 := ⟨_, rfl⟩
  have hi : i = ix3 h n T := by
    funext a
    match a with
    | 0 => exact Fin.ext h0
    | 1 => exact Fin.ext h1
    | 2 => exact hT.symm
  have e : T.val = 256 * t.val + k.val := by rw [hT]; exact h2
  have b := colB m c t h k T e
  rw [hi]
  rw [e2_block, e2K_at, b]
  rfl

/-- The whole array after the last point. -/
theorem final4 (c : Dev nD) : (dats m 0 c).arrAt 4 (cfgs 0).N = e2Of (sB m c) := by
  refine (dats m 0 c).arrAt_eq_of_covers 4 _ (by decide +kernel) fun t _ y => ?_
  blk_simp
  rw [after0_4]
  have hy : y = ix3 (y 0) (y 1) (y 2) := by idx_ext
  rw [hy]
  refine point4 m c t (y 0) (y 1) (y 2) _ ?_ ?_ ?_ <;> (blk_simp [idx t]; try omega)

end Cert.RouteIdeal.RefValue

end
-- ==== Proof.RouteRef.lean ====
module

public import proofs.«01_k».proof.Proof.RouteValue
public import proofs.«01_k».proof.Proof.Gen.RouteRefIdeal.Run
public import proofs.«01_k».proof.Pre_routing_distinct
public import Idealize.ShloMosaic.Lib.ReduceAll

@[expose] public section

set_option maxRecDepth 16384

noncomputable section

open Idealize.ShloMosaic Idealize.ShloMosaic.TcCoe Idealize.SL.Sem

/-! The plain routing statistics, entry by entry. -/
namespace Cert.RouteRefIdeal.RefValue

open Cert.RouteRefIdeal Cert.RouteRefIdeal.Gen Cert.RouteIdeal.Top
open Cert.RouteIdeal.RefValue (scol pairSums Distinct tauOf normOf e1Of e2Of)

/-- A sort's leading entries along the last axis are the greatest values of the list along it. -/
theorem topK_at {a b N K : Nat} (x : FVec Ideal ⟨3, ![a, b, N]⟩ .f32) (g : (⟨3, ![a, b, N]⟩ : Shape).Slices (fun _ => 0) ⟨3, ![a, b, K]⟩)
    (t : Fin a) (h : Fin b) (i : Fin K) (j : Fin N) (hj : j.val = i.val) :
    (Host.topK ⟨3, ![a, b, K]⟩ 2 (FloatOps.cmpfTotal (F := Ideal) (φ := .f32) .gt) x g).1 (ix3 t h i) = top (fun n => x (ix3 t h n)) j := by
  have e : ∀ k : Fin N, Shape.Idx.along (s := ⟨3, ![a, b, N]⟩) (ix3 t h j) 2 k = ix3 t h k := by
    intro k
    funext d
    match d with
    | 0 => rfl
    | 1 => rfl
    | 2 => rfl
  have e2 : (fun d : Fin 3 => (⟨0 + ((ix3 t h i : (⟨3, ![a, b, K]⟩ : Shape).Idx) (d.cast g.1.symm)).val, Nat.lt_of_lt_of_le (Nat.add_lt_add_left ((ix3 t h i : (⟨3, ![a, b, K]⟩ : Shape).Idx) _).isLt _) (g.2 d)⟩ : Fin ((⟨3, ![a, b, N]⟩ : Shape).size d)))
      = (ix3 t h j : (⟨3, ![a, b, N]⟩ : Shape).Idx) := by
    funext d
    match d with
    | 0 => exact Fin.ext (Nat.zero_add _)
    | 1 => exact Fin.ext (Nat.zero_add _)
    | 2 => exact Fin.ext ((Nat.zero_add _).trans hj.symm)
  unfold Host.topK
  dsimp only
  unfold extractStridedSlice
  refine (congrArg _ e2).trans ?_
  show x (Shape.Idx.along (s := ⟨3, ![a, b, N]⟩) (ix3 t h j) 2 (sortedFrom (fun k k' =>
    FloatOps.cmpfTotal (F := Ideal) (φ := .f32) .gt (x (Shape.Idx.along (s := ⟨3, ![a, b, N]⟩) (ix3 t h j) 2 k)) (x (Shape.Idx.along (s := ⟨3, ![a, b, N]⟩) (ix3 t h j) 2 k')) == 1#1) j)) = _
  refine (congrArg x (e _)).trans (congrArg (fun p => x (ix3 t h (sortedFrom p j))) ?_)
  funext k k'
  exact congrArg₂ (fun u w => FloatOps.cmpfTotal (F := Ideal) (φ := .f32) .gt u w == 1#1) (congrArg x (e k)) (congrArg x (e k'))

/-- The sixteen greatest entries along the last axis. -/
def best (x : FVec Ideal S8192x8x128 .f32) : FVec Ideal S8192x8x16 .f32 :=
  (Host.topK S8192x8x16 2 (FloatOps.cmpfTotal (F := Ideal) (φ := .f32) .gt) x sliceFits_S8192x8x128_S8192x8x16).1

/-- The scores by token, head and key. -/
def byTok (x : FVec Ideal S8x128x8192 .f32) : FVec Ideal S8192x8x128 .f32 := transpose S8192x8x128 [2, 0, 1] x transposes_S8x128x8192_S8192x8x128_2_0_1

/-- The sums of one of each. -/
def both (v w : FVec Ideal S8192x8x16 .f32) : FVec Ideal S8192x8x256 .f32 :=
  shapeCast _ (addf (broadcastInDim S8192x8x16x16 ![0, 1, 2, 3] bcast_S8192x8x16x1_S8192x8x16x16_0_1_2_3 (broadcastInDim S8192x8x16x1 ![0, 1, 2] bcast_S8192x8x16_S8192x8x16x1_0_1_2 v)) (broadcastInDim S8192x8x16x16 ![0, 1, 2, 3] bcast_S8192x8x1x16_S8192x8x16x16_0_1_2_3 (broadcastInDim S8192x8x1x16 ![0, 1, 3] bcast_S8192x8x16_S8192x8x1x16_0_1_3 w))) shapeCasts_S8192x8x16x16_S8192x8x256

/-- The sixteen greatest sums. -/
def bestSums (x : FVec Ideal S8192x8x256 .f32) : FVec Ideal S8192x8x16 .f32 :=
  (Host.topK S8192x8x16 2 (FloatOps.cmpfTotal (F := Ideal) (φ := .f32) .gt) x sliceFits_S8192x8x256_S8192x8x16).1

/-- A score by token. -/
theorem byTok_at (x : FVec Ideal S8x128x8192 .f32) (t : Fin 8192) (h : Fin 8) (n : Fin 128) : byTok x (ix3 t h n) = scol x h t n := by
  pointwise [byTok, scol]

/-- One of the sixteen greatest scores. -/
theorem best_at (x : FVec Ideal S8x128x8192 .f32) (t : Fin 8192) (h : Fin 8) (i : Fin 16) : best (byTok x) (ix3 t h i) = vals (scol x h t) i := by
  refine (topK_at (byTok x) sliceFits_S8192x8x128_S8192x8x16 t h i ⟨i.val, by omega⟩ rfl).trans ?_
  have e : (fun n => byTok x (ix3 t h n)) = scol x h t := funext fun n => byTok_at x t h n
  rw [e]
  rfl

/-- A sum of two of the greatest. -/
theorem both_at (v w : FVec Ideal S8192x8x16 .f32) (t : Fin 8192) (h : Fin 8) (p : Fin 256) :
    both v w (ix3 t h p) = sums (fun i => v (ix3 t h i)) (fun i => w (ix3 t h i)) p := by
  pointwise [both, sums]

/-- The sums of a head's greatest scores at a token. -/
theorem both_best (a b : FVec Ideal S8x128x8192 .f32) (t : Fin 8192) (h : Fin 8) :
    (fun p => both (best (byTok a)) (best (byTok b)) (ix3 t h p)) = pairSums a b h t := by
  funext p
  rw [both_at]
  unfold pairSums
  have e1 : (fun i => best (byTok a) (ix3 t h i)) = vals (scol a h t) := funext fun i => best_at a t h i
  have e2 : (fun i => best (byTok b) (ix3 t h i)) = vals (scol b h t) := funext fun i => best_at b t h i
  rw [e1, e2]

/-- One of the sixteen greatest sums. -/
theorem bestSums_at (a b : FVec Ideal S8x128x8192 .f32) (t : Fin 8192) (h : Fin 8) (i : Fin 16) :
    bestSums (both (best (byTok a)) (best (byTok b))) (ix3 t h i) = top (pairSums a b h t) (up i) := by
  refine (topK_at _ sliceFits_S8192x8x256_S8192x8x16 t h i (up i) rfl).trans ?_
  rw [both_best]

/-- The thresholds of the greatest sums. -/
def tauR (T : FVec Ideal S8192x8x16 .f32) : FVec Ideal S8x8192 .f32 :=
  transpose S8x8192 [1, 0] (shapeCast _ (extractStridedSlice S8192x8x1 ![0, 0, 15] T slices_S8192x8x16_S8192x8x1_0_0_15) shapeCasts_S8192x8x1_S8192x8) transposes_S8192x8_S8x8192_1_0

/-- The second weights of the scores and their greatest. -/
def e2R (x : FVec Ideal S8192x8x128 .f32) (v : FVec Ideal S8192x8x16 .f32) : FVec Ideal S8x128x8192 .f32 :=
  transpose S8x128x8192 [1, 2, 0] (Host.exp (subf x (broadcastInDim S8192x8x128 ![0, 1, 2] bcast_S8192x8x1_S8192x8x128_0_1_2 (extractStridedSlice S8192x8x1 ![0, 0, 0] v slices_S8192x8x16_S8192x8x1_0_0_0)))) transposes_S8192x8x128_S8x128x8192_1_2_0

/-- The first weights of the scores, their greatest and the greatest sums. -/
def e1R (x : FVec Ideal S8192x8x128 .f32) (v T : FVec Ideal S8192x8x16 .f32) : FVec Ideal S8x128x8192 .f32 :=
  transpose S8x128x8192 [1, 2, 0] (Host.divf (Host.exp (subf x (broadcastInDim S8192x8x128 ![0, 1, 2] bcast_S8192x8x1_S8192x8x128_0_1_2 (extractStridedSlice S8192x8x1 ![0, 0, 0] v slices_S8192x8x16_S8192x8x1_0_0_0)))) (broadcastInDim S8192x8x128 ![0, 1, 2] bcast_S8192x8x1_S8192x8x128_0_1_2 (broadcastInDim S8192x8x1 ![0, 1] bcast_S8192x8_S8192x8x1_0_1 (Host.reduceAdd (Host.exp (subf T (broadcastInDim S8192x8x16 ![0, 1, 2] bcast_S8192x8x1_S8192x8x16_0_1_2 (extractStridedSlice S8192x8x1 ![0, 0, 0] T slices_S8192x8x16_S8192x8x1_0_0_0)))) (constant S_ .f32 0x00000000#32) reducesTo_S8192x8x16_S8192x8_d2 h_S_)))) transposes_S8192x8x128_S8x128x8192_1_2_0

/-- A threshold is the last of the greatest sums. -/
theorem tauR_at (T : FVec Ideal S8192x8x16 .f32) (h : Fin 8) (t : Fin 8192) : tauR T (ix2 h t) = T (ix3 t h 15) := by
  pointwise [tauR]

/-- A second weight. -/
theorem e2R_at (x : FVec Ideal S8192x8x128 .f32) (v : FVec Ideal S8192x8x16 .f32) (h : Fin 8) (n : Fin 128) (t : Fin 8192) :
    e2R x v (ix3 h n t) = Ideal.exp (x (ix3 t h n) - v (ix3 t h 0)) := by
  pointwise [e2R]

/-- A first weight. -/
theorem e1R_at (x : FVec Ideal S8192x8x128 .f32) (v T : FVec Ideal S8192x8x16 .f32) (h : Fin 8) (n : Fin 128) (t : Fin 8192) :
    e1R x v T (ix3 h n t) = Ideal.div (Ideal.exp (x (ix3 t h n) - v (ix3 t h 0))) (∑ i : Fin 16, Ideal.exp (T (ix3 t h i) - T (ix3 t h 0))) := by
  pointwise [e1R]

variable (a b : FVec Ideal S8x128x8192 .f32)

/-- The plain thresholds. -/
theorem tau_eq : tauR (bestSums (both (best (byTok a)) (best (byTok b)))) = tauOf a b := by
  funext i
  have hi : i = ix2 (i 0) (i 1) := by idx_ext
  rw [hi]
  exact (tauR_at _ (i 0) (i 1)).trans (bestSums_at a b (i 1) (i 0) 15)

/-- The plain second weights. -/
theorem e2_eq : e2R (byTok b) (best (byTok b)) = e2Of b := by
  funext i
  have hi : i = ix3 (i 0) (i 1) (i 2) := by idx_ext
  rw [hi]
  refine (e2R_at _ _ (i 0) (i 1) (i 2)).trans ?_
  exact congrArg₂ (fun u w => Ideal.exp (u - w)) (byTok_at b (i 2) (i 0) (i 1)) (best_at b (i 2) (i 0) 0)

/-- The plain first weights. -/
theorem e1_eq : e1R (byTok a) (best (byTok a)) (bestSums (both (best (byTok a)) (best (byTok b)))) = e1Of a b := by
  funext i
  have hi : i = ix3 (i 0) (i 1) (i 2) := by idx_ext
  rw [hi]
  refine (e1R_at _ _ _ (i 0) (i 1) (i 2)).trans ?_
  refine congrArg₂ Ideal.div (congrArg₂ (fun u w => Ideal.exp (u - w)) (byTok_at a (i 2) (i 0) (i 1)) (best_at a (i 2) (i 0) 0)) (Finset.sum_congr rfl fun j _ => ?_)
  exact congrArg₂ (fun u w => Ideal.exp (u - w)) (bestSums_at a b (i 2) (i 0) j) (bestSums_at a b (i 2) (i 0) 0)

end Cert.RouteRefIdeal.RefValue

/-! What the precondition says of the scores. -/
namespace Cert.Pre_routing_distinct

open Facts
open Cert.RouteIdeal.Top
open Cert.RouteIdeal.RefValue (scol pairSums Distinct)
open Cert.RouteRefIdeal.RefValue (topK_at byTok best best_at both_best)

/-- The relations of shapes the precondition's operations take. -/
theorem holds : Facts where
  transposes_S8x128x8192_S8192x8x128_2_0_1 := by decide
  sliceFits_S8192x8x128_S8192x8x16 := by decide
  bcast_S8192x8x16_S8192x8x16x1_0_1_2 := by decide
  bcast_S8192x8x16_S8192x8x1x16_0_1_3 := by decide
  bcast_S8192x8x16x1_S8192x8x16x16_0_1_2_3 := by decide
  bcast_S8192x8x1x16_S8192x8x16x16_0_1_2_3 := by decide
  shapeCasts_S8192x8x16x16_S8192x8x256 := by decide
  sliceFits_S8192x8x256_S8192x8x17 := by decide
  slices_S8192x8x16_S8192x8x15_0_0_0 := by decide
  slices_S8192x8x16_S8192x8x15_0_0_1 := by decide
  reducesTo_S8192x8x15_S_d0_1_2 := by decide
  h_S_ := by decide
  slices_S8192x8x17_S8192x8x16_0_0_0 := by decide
  slices_S8192x8x17_S8192x8x16_0_0_1 := by decide
  reducesTo_S8192x8x16_S_d0_1_2 := by decide

variable [Facts]

/-- A conjunction of two bits holds when both do. -/
theorem both {a b : BitVec 1} (h : IntOp.andi a b = 1#1) : a = 1#1 ∧ b = 1#1 := by
  revert a b
  decide

/-- A scalar has one index. -/
instance : Subsingleton S_.Idx := ⟨fun a b => funext fun k => k.elim0⟩

/-- A comparison that holds. -/
theorem gt_of {x y : EReal} (h : FloatOps.cmpf (F := Ideal) (φ := .f32) .ogt x y = 1#1) : y < x := by
  have e : FloatOps.cmpf (F := Ideal) (φ := .f32) .ogt x y = BitVec.ofBool (decide (y < x)) := rfl
  rw [e] at h
  by_contra hn
  simp [hn] at h

/-- Neighbours among sixteen values. -/
theorem nb16 (x : FVec Ideal S8192x8x16 .f32) (t : Fin 8192) (h : Fin 8) (i : Fin 15) :
    extractStridedSlice S8192x8x15 ![0, 0, 0] x slices_S8192x8x16_S8192x8x15_0_0_0 (ix3 t h i) = x (ix3 t h ⟨i.val, by omega⟩)
    ∧ extractStridedSlice S8192x8x15 ![0, 0, 1] x slices_S8192x8x16_S8192x8x15_0_0_1 (ix3 t h i) = x (ix3 t h ⟨i.val + 1, by omega⟩) := by
  constructor
  · pointwise
  · pointwise
    first | done | exact congrArg x (congrArg (ix3 t h) (Fin.ext (Nat.add_comm _ _)))

/-- Neighbours among seventeen values. -/
theorem nb17 (x : FVec Ideal S8192x8x17 .f32) (t : Fin 8192) (h : Fin 8) (i : Fin 16) :
    extractStridedSlice S8192x8x16 ![0, 0, 0] x slices_S8192x8x17_S8192x8x16_0_0_0 (ix3 t h i) = x (ix3 t h ⟨i.val, by omega⟩)
    ∧ extractStridedSlice S8192x8x16 ![0, 0, 1] x slices_S8192x8x17_S8192x8x16_0_0_1 (ix3 t h i) = x (ix3 t h ⟨i.val + 1, by omega⟩) := by
  constructor
  · pointwise
  · pointwise
    first | done | exact congrArg x (congrArg (ix3 t h) (Fin.ext (Nat.add_comm _ _)))

/-- Under the precondition the greatest scores differ, and so do the greatest sums. -/
theorem distinct (a b : FVec Ideal S8x128x8192 .f32) (H : fn (F := Ideal) a b = fun _ => 1#1) : Distinct a b := by
  have h0 := congrFun H ix0
  obtain ⟨h12, h3⟩ := both h0
  obtain ⟨h1, h2⟩ := both h12
  intro h t
  refine ⟨fun i hi => ?_, fun i hi => ?_, fun i hi => ?_⟩
  · have e := Host.reduce_andi_all _ _ _ _ _ h1 (ix3 t h ⟨i, by omega⟩)
    have e' := gt_of e
    have n := nb16 (best (byTok a)) t h ⟨i, by omega⟩
    rw [← best_at, ← best_at, ← n.1, ← n.2]
    exact e'
  · have e := Host.reduce_andi_all _ _ _ _ _ h2 (ix3 t h ⟨i, by omega⟩)
    have e' := gt_of e
    have n := nb16 (best (byTok b)) t h ⟨i, by omega⟩
    rw [← best_at, ← best_at, ← n.1, ← n.2]
    exact e'
  · have e := Host.reduce_andi_all _ _ _ _ _ h3 (ix3 t h ⟨i, by omega⟩)
    have e' := gt_of e
    have q : ∀ j : Fin 17, (Host.topK S8192x8x17 2 (FloatOps.cmpfTotal (F := Ideal) (φ := .f32) .gt) (Cert.RouteRefIdeal.RefValue.both (best (byTok a)) (best (byTok b))) sliceFits_S8192x8x256_S8192x8x17).1 (ix3 t h j)
        = top (pairSums a b h t) (up17 j) := fun j => by
      refine (topK_at _ sliceFits_S8192x8x256_S8192x8x17 t h j (up17 j) rfl).trans ?_
      rw [both_best]
    have n := nb17 (Host.topK S8192x8x17 2 (FloatOps.cmpfTotal (F := Ideal) (φ := .f32) .gt) (Cert.RouteRefIdeal.RefValue.both (best (byTok a)) (best (byTok b))) sliceFits_S8192x8x256_S8192x8x17).1 t h ⟨i, by omega⟩
    show top (pairSums a b h t) (up17 ⟨i + 1, hi⟩) < top (pairSums a b h t) (up17 ⟨i, _⟩)
    rw [← q, ← q, ← n.1, ← n.2]
    exact e'

end Cert.Pre_routing_distinct

end
-- ==== Proof.RouteClaim.lean ====
module

public import proofs.«01_k».proof.Defs
public import proofs.«01_k».proof.Proof.RouteRef
public import Idealize.ShloMosaic.Lib.Quiescent

@[expose] public section

set_option maxRecDepth 16384

noncomputable section

open Idealize.ShloMosaic Idealize.ShloMosaic.TcCoe Idealize.SL.Sem

/-! The claims about the routing statistics. -/
namespace Cert.Proof

open Cert.RouteIdeal.RefValue (sA sB tauOf e1Of e2Of Distinct final2 final3 final4)

/-- The plain routing statistics run to their end and leave their arguments as they were. -/
theorem route_ref_frame : Cert.quiescent_RouteRefIdeal := fun m ρ _ =>
  (θ_run _ _ _).mono (fun r h => ⟨fun c => (h c).2.2.2, Idealize.ShloMosaic.sem_eq_zero_of_no_sems (by decide) r.2⟩)
    (Cert.RouteRefIdeal.Value.run (F := Ideal) m ρ)

/-- So they do where the greatest scores differ. -/
theorem route_ref_frame_distinct [Cert.Pre_routing_distinct.Facts] : Cert.quiescent_RouteRefIdeal_pre_routing_distinct := fun m ρ _ => route_ref_frame m ρ trivial

/-- The routing statistics found by rounds of maxima are those of the plain sorts. -/
theorem route_algebraic [Cert.Pre_routing_distinct.Facts] : Cert.algebraic_RouteIdeal_RouteRefIdeal_pre_routing_distinct := by
  intro m g m' g' hpre hagree
  have hd : ∀ c, Distinct (sA m c) (sB m c) := fun c => Cert.Pre_routing_distinct.distinct _ _ (hpre c)
  refine ⟨fun c => tauOf (sA m c) (sB m c), fun c => e1Of (sA m c) (sB m c), fun c => e2Of (sB m c), ?_, ?_⟩
  · exact (θ_run _ _ _).mono (fun r h c => ⟨(h c).1.trans (final2 m c (hd c)), (h c).2.1.trans (final3 m c (hd c)), (h c).2.2.1.trans (final4 m c), (h c).2.2.2⟩)
      (Cert.RouteIdeal.Value.run_blocks (F := Ideal) m g)
  · refine (θ_run _ _ _).mono (fun r h c => ⟨(h c).1.trans ?_, (h c).2.1.trans ?_, (h c).2.2.1.trans ?_, (h c).2.2.2⟩)
      (Cert.RouteRefIdeal.Value.run (F := Ideal) m' g')
    all_goals obtain ⟨h0, h1⟩ := hagree c
    · rw [h0, h1]
      exact Cert.RouteRefIdeal.RefValue.tau_eq (sA m c) (sB m c)
    · rw [h0, h1]
      exact Cert.RouteRefIdeal.RefValue.e1_eq (sA m c) (sB m c)
    · rw [h1]
      exact Cert.RouteRefIdeal.RefValue.e2_eq (sB m c)

end Cert.Proof
end
-- ==== Proof.lean ====
module

public import proofs.«01_k».proof.Defs
public import proofs.«01_k».proof.Proof.Gen.Kernel.Frame
public import proofs.«01_k».proof.Proof.Gen.KernelIdeal.Frame
public import proofs.«01_k».proof.Proof.Gen.Proj.Frame
public import proofs.«01_k».proof.Proof.Gen.ProjIdeal.Frame
public import proofs.«01_k».proof.Proof.Gen.Query.Frame
public import proofs.«01_k».proof.Proof.Gen.QueryIdeal.Frame
public import proofs.«01_k».proof.Proof.Gen.Pre_gate_finite
public import proofs.«01_k».proof.Proof.Gen.KernelIdeal.Value
public import proofs.«01_k».proof.Proof.Gen.ReferenceIdeal.Run
public import proofs.«01_k».proof.Proof.Gen.ProjIdeal.Value
public import proofs.«01_k».proof.Proof.Gen.ProjRefIdeal.Run
public import proofs.«01_k».proof.Proof.Gen.QueryIdeal.Value
public import proofs.«01_k».proof.Proof.Gen.QueryRefIdeal.Run
public import proofs.«01_k».proof.Proof.MixerClaim
public import proofs.«01_k».proof.Proof.ProjClaim
public import proofs.«01_k».proof.Proof.QueryClaim
public import proofs.«01_k».proof.Proof.ExpertsClaim
public import proofs.«01_k».proof.Proof.RouteClaim
public import proofs.«01_k».proof.Proof.Gen.Experts.Frame
public import proofs.«01_k».proof.Proof.Gen.ExpertsIdeal.Frame
public import proofs.«01_k».proof.Proof.Gen.ExpertsIdeal.Value
public import proofs.«01_k».proof.Proof.Gen.ExpertsRefIdeal.Run
public import proofs.«01_k».proof.Proof.Gen.Route.Frame
public import proofs.«01_k».proof.Proof.Gen.RouteIdeal.Frame
public import proofs.«01_k».proof.Proof.Gen.RouteIdeal.Value
public import proofs.«01_k».proof.Proof.Gen.RouteRefIdeal.Run
public import Idealize.ShloMosaic.Adequacy
public import Idealize.ShloMosaic.Init

@[expose] public section

noncomputable section

namespace Cert.Proof

open Idealize.ShloMosaic Idealize.SL.Sem

/-- Every claim of the five calls. -/
theorem claim : Cert.Claim :=
  ⟨Cert.Kernel.Gen.facts, Cert.KernelIdeal.Gen.facts, Cert.ReferenceIdeal.Gen.facts, Cert.Proj.Gen.facts, Cert.ProjIdeal.Gen.facts, Cert.ProjRefIdeal.Gen.facts,
    Cert.Query.Gen.facts, Cert.QueryIdeal.Gen.facts, Cert.QueryRefIdeal.Gen.facts,
    Cert.Experts.Gen.facts, Cert.ExpertsIdeal.Gen.facts, Cert.ExpertsRefIdeal.Gen.facts,
    Cert.Route.Gen.facts, Cert.RouteIdeal.Gen.facts, Cert.RouteRefIdeal.Gen.facts, Cert.Pre_gate_finite.Gen.facts, Cert.Pre_routing_distinct.holds,
    fun m ρ _ => Cert.Kernel.Gen.frame m ρ, fun m ρ _ => Cert.KernelIdeal.Gen.frame m ρ, fun m ρ _ => Cert.KernelIdeal.Gen.frame m ρ,
    mixer_ref_frame, mixer_ref_frame_finite,
    fun m ρ _ => Cert.Proj.Gen.frame m ρ, fun m ρ _ => Cert.ProjIdeal.Gen.frame m ρ, proj_ref_frame,
    fun m ρ _ => Cert.Query.Gen.frame m ρ, fun m ρ _ => Cert.QueryIdeal.Gen.frame m ρ, query_ref_frame,
    fun m ρ _ => Cert.Experts.Gen.frame m ρ, fun m ρ _ => Cert.ExpertsIdeal.Gen.frame m ρ, experts_ref_frame,
    fun m ρ _ => Cert.Route.Gen.frame m ρ, fun m ρ _ => Cert.RouteIdeal.Gen.frame m ρ, fun m ρ _ => Cert.RouteIdeal.Gen.frame m ρ,
    route_ref_frame, @route_ref_frame_distinct Cert.Pre_routing_distinct.holds,
    trivial, mixer_algebraic, trivial, proj_algebraic, trivial, query_algebraic, trivial, experts_algebraic,
    trivial, @route_algebraic Cert.Pre_routing_distinct.holds⟩

end Cert.Proof

end
